-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  IdealRules.named_const.Statement Cert.Kernel3Ideal.κ "scale_b" .f32 0x3E16C740#32 (((Real.sqrt 96)⁻¹ * (Real.log 2)⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v58_0)) (v1 : (c : Dev Cert.Kernel3Ideal.nD) → Buf (Elt Ideal) ((c.tc : Thread Cert.Kernel3Ideal.nD Cert.Kernel3Ideal.τ).loc Cert.Kernel3Ideal.main_v58_1)) (v2 : (c : Dev Cert.Kernel3Ideal.nD) → Buf (Elt Ideal) ((c.tc : Thread Cert.Kernel3Ideal.nD Cert.Kernel3Ideal.τ).loc Cert.Kernel3Ideal.main_v58_2)) (v3 : (c : Dev Cert.Kernel3Ideal.nD) → Buf (Elt Ideal) ((c.tc : Thread Cert.Kernel3Ideal.nD Cert.Kernel3Ideal.τ).loc Cert.Kernel3Ideal.main_v58_3)) (v4 : (c : Dev Cert.Kernel3Ideal.nD) → Buf (Elt Ideal) ((c.tc : Thread Cert.Kernel3Ideal.nD Cert.Kernel3Ideal.τ).loc Cert.Kernel3Ideal.main_v58_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v58_0) = v0 c
          ∧ r.2.mem ((c.tc : Thread Cert.Kernel3Ideal.nD Cert.Kernel3Ideal.τ).loc Cert.Kernel3Ideal.main_v58_1) = v1 c
          ∧ r.2.mem ((c.tc : Thread Cert.Kernel3Ideal.nD Cert.Kernel3Ideal.τ).loc Cert.Kernel3Ideal.main_v58_2) = v2 c
          ∧ r.2.mem ((c.tc : Thread Cert.Kernel3Ideal.nD Cert.Kernel3Ideal.τ).loc Cert.Kernel3Ideal.main_v58_3) = v3 c
          ∧ r.2.mem ((c.tc : Thread Cert.Kernel3Ideal.nD Cert.Kernel3Ideal.τ).loc Cert.Kernel3Ideal.main_v58_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v152) = v1 c
          ∧ r.2.mem ((c.tc : Thread Cert.Reference3Ideal.nD Cert.Reference3Ideal.τ).loc Cert.Reference3Ideal.main_v156) = v2 c
          ∧ r.2.mem ((c.tc : Thread Cert.Reference3Ideal.nD Cert.Reference3Ideal.τ).loc Cert.Reference3Ideal.main_v160) = v3 c
          ∧ r.2.mem ((c.tc : Thread Cert.Reference3Ideal.nD Cert.Reference3Ideal.τ).loc Cert.Reference3Ideal.main_v162) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel2_Kernel2Ideal : Prop :=
  IdealRules.named_const.Statement Cert.Kernel2Ideal.κ "scale_a" .f32 0x3E0293EE#32 (((Real.sqrt 128)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v36_0)) (v1 : (c : Dev Cert.Kernel2Ideal.nD) → Buf (Elt Ideal) ((c.tc : Thread Cert.Kernel2Ideal.nD Cert.Kernel2Ideal.τ).loc Cert.Kernel2Ideal.main_v36_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v36_0) = v0 c
          ∧ r.2.mem ((c.tc : Thread Cert.Kernel2Ideal.nD Cert.Kernel2Ideal.τ).loc Cert.Kernel2Ideal.main_v36_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v96) = v0 c
          ∧ r.2.mem ((c.tc : Thread Cert.Reference2Ideal.nD Cert.Reference2Ideal.τ).loc Cert.Reference2Ideal.main_v98) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel5_Kernel5Ideal : Prop :=
  IdealRules.named_const.Statement Cert.Kernel5Ideal.κ "scale_a" .f32 0x3E0293EE#32 (((Real.sqrt 128)⁻¹ * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v36)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v36) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v96) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "scale_a" .f32 0x3E0293EE#32 (((Real.sqrt 128)⁻¹ * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v36)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v36) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v96) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel2_Kernel2Ideal
    ∧ algebraic_Kernel2Ideal_Reference2Ideal (hKernel2Ideal := hKernel2Ideal) (hReference2Ideal := hReference2Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S32x2048x16x96 : Shape := ⟨4, ![32, 2048, 16, 96]⟩
abbrev S32x2048x16x64 : Shape := ⟨4, ![32, 2048, 16, 64]⟩
abbrev S_ : Shape := ⟨0, ![]⟩

class Facts : Prop where
  bcast_S_S32x2048x16x96 : S_.BroadcastsInDim S32x2048x16x96 (![] : Fin 0 → Fin S32x2048x16x96.rank)
  reducesTo_S32x2048x16x96_S_d0_1_2_3 : S32x2048x16x96.ReducesTo [0, 1, 2, 3] S_
  h_S_ : 0 < S_.numel

variable [Facts]

def fn {F : FTy → Type} [FloatOps F] (main_arg0 : FVec F S32x2048x16x96 .f32) (main_arg1 : FVec F S32x2048x16x96 .f32) (main_arg2 : FVec F S32x2048x16x64 .f32) : IVec S_ 1 :=
  let main_v0 : FVec F S32x2048x16x96 .f32 := Host.absf main_arg0
  let main_cst : FVec F S_ .f32 := constant S_ .f32 0x7F800000#32
  let main_v1 : FVec F S32x2048x16x96 .f32 := broadcastInDim S32x2048x16x96 ![] bcast_S_S32x2048x16x96 main_cst
  let main_v2 : IVec S32x2048x16x96 1 := cmpf .olt main_v0 main_v1
  let main_c : IVec S_ 1 := constantI S_ 1 1#1
  let main_v3 : IVec S_ 1 := (fun x v => Host.reduce IntOp.andi x v reducesTo_S32x2048x16x96_S_d0_1_2_3 h_S_) main_v2 main_c
  let main_v4 : FVec F S32x2048x16x96 .f32 := Host.absf main_arg1
  let main_cst_0 : FVec F S_ .f32 := constant S_ .f32 0x7F800000#32
  let main_v5 : FVec F S32x2048x16x96 .f32 := broadcastInDim S32x2048x16x96 ![] bcast_S_S32x2048x16x96 main_cst_0
  let main_v6 : IVec S32x2048x16x96 1 := cmpf .olt main_v4 main_v5
  let main_c_1 : IVec S_ 1 := constantI S_ 1 1#1
  let main_v7 : IVec S_ 1 := (fun x v => Host.reduce IntOp.andi x v reducesTo_S32x2048x16x96_S_d0_1_2_3 h_S_) main_v6 main_c_1
  let main_v8 : IVec S_ 1 := andi main_v3 main_v7
  main_v8
-- ==== Kernel.lean ====
abbrev S32x2048x16x96 : Shape := ⟨4, ![32, 2048, 16, 96]⟩
abbrev S32x2048x16x64 : Shape := ⟨4, ![32, 2048, 16, 64]⟩
abbrev S_ : Shape := ⟨0, ![]⟩
abbrev S32x16x2048x96 : Shape := ⟨4, ![32, 16, 2048, 96]⟩
abbrev S32x16x2048x128 : Shape := ⟨4, ![32, 16, 2048, 128]⟩
abbrev S32x16x2048x64 : Shape := ⟨4, ![32, 16, 2048, 64]⟩
abbrev S32x16x2048x1 : Shape := ⟨4, ![32, 16, 2048, 1]⟩
abbrev S32x16x2048x63 : Shape := ⟨4, ![32, 16, 2048, 63]⟩
abbrev S32x8x2048x128 : Shape := ⟨4, ![32, 8, 2048, 128]⟩
abbrev S1x2x2048x128 : Shape := ⟨4, ![1, 2, 2048, 128]⟩
abbrev S1x1x2048x128 : Shape := ⟨4, ![1, 1, 2048, 128]⟩
abbrev S256x256 : Shape := ⟨2, ![256, 256]⟩
abbrev S256x128 : Shape := ⟨2, ![256, 128]⟩
abbrev S1x1x256x128 : Shape := ⟨4, ![1, 1, 256, 128]⟩
abbrev S256 : Shape := ⟨1, ![256]⟩
abbrev S256x1 : Shape := ⟨2, ![256, 1]⟩
abbrev S1x1x512x128 : Shape := ⟨4, ![1, 1, 512, 128]⟩
abbrev S512x128 : Shape := ⟨2, ![512, 128]⟩
abbrev S256x512 : Shape := ⟨2, ![256, 512]⟩
abbrev S1x1x768x128 : Shape := ⟨4, ![1, 1, 768, 128]⟩
abbrev S768x128 : Shape := ⟨2, ![768, 128]⟩
abbrev S256x768 : Shape := ⟨2, ![256, 768]⟩
abbrev S1x1x1024x128 : Shape := ⟨4, ![1, 1, 1024, 128]⟩
abbrev S1024x128 : Shape := ⟨2, ![1024, 128]⟩
abbrev S256x1024 : Shape := ⟨2, ![256, 1024]⟩
abbrev S1x1x1280x128 : Shape := ⟨4, ![1, 1, 1280, 128]⟩
abbrev S1280x128 : Shape := ⟨2, ![1280, 128]⟩
abbrev S256x1280 : Shape := ⟨2, ![256, 1280]⟩
abbrev S1x1x1536x128 : Shape := ⟨4, ![1, 1, 1536, 128]⟩
abbrev S1536x128 : Shape := ⟨2, ![1536, 128]⟩
abbrev S256x1536 : Shape := ⟨2, ![256, 1536]⟩
abbrev S1x1x1792x128 : Shape := ⟨4, ![1, 1, 1792, 128]⟩
abbrev S1792x128 : Shape := ⟨2, ![1792, 128]⟩
abbrev S256x1792 : Shape := ⟨2, ![256, 1792]⟩

abbrev nBuf : Space → Nat
  | .hbm => 28
  | .vmem => 8
  | .smem => 0
  | _ => 0

abbrev bufTy : (tb : Table) → Fin (tcTables nBuf tb) → BufTy
  | .hbm, ⟨0, _⟩ => ⟨S32x2048x16x96, .f32⟩
  | .hbm, ⟨1, _⟩ => ⟨S32x2048x16x96, .f32⟩
  | .hbm, ⟨2, _⟩ => ⟨S32x2048x16x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x2048x16x96, .f32⟩
  | .hbm, ⟨9, _⟩ => ⟨S32x2048x16x96, .f32⟩
  | .hbm, ⟨10, _⟩ => ⟨S32x16x2048x96, .f32⟩
  | .hbm, ⟨11, _⟩ => ⟨S_, .i32⟩
  | .hbm, ⟨12, _⟩ => ⟨S_, .f32⟩
  | .hbm, ⟨13, _⟩ => ⟨S32x16x2048x128, .f32⟩
  | .hbm, ⟨14, _⟩ => ⟨S32x16x2048x128, .bf16⟩
  | .hbm, ⟨15, _⟩ => ⟨S32x16x2048x96, .f32⟩
  | .hbm, ⟨16, _⟩ => ⟨S_, .i32⟩
  | .hbm, ⟨17, _⟩ => ⟨S_, .f32⟩
  | .hbm, ⟨18, _⟩ => ⟨S32x16x2048x128, .f32⟩
  | .hbm, ⟨19, _⟩ => ⟨S32x16x2048x128, .bf16⟩
  | .hbm, ⟨20, _⟩ => ⟨S32x16x2048x64, .f32⟩
  | .hbm, ⟨21, _⟩ => ⟨S_, .f32⟩
  | .hbm, ⟨22, _⟩ => ⟨S32x16x2048x1, .f32⟩
  | .hbm, ⟨23, _⟩ => ⟨S_, .f32⟩
  | .hbm, ⟨24, _⟩ => ⟨S32x16x2048x63, .f32⟩
  | .hbm, ⟨25, _⟩ => ⟨S32x16x2048x128, .f32⟩
  | .hbm, ⟨26, _⟩ => ⟨S32x16x2048x128, .bf16⟩
  | .hbm, ⟨27, _⟩ => ⟨S32x8x2048x128, .bf16⟩
  | .local _ .vmem, ⟨0, _⟩ => ⟨S1x2x2048x128, .bf16⟩
  | .local _ .vmem, ⟨1, _⟩ => ⟨S1x2x2048x128, .bf16⟩
  | .local _ .vmem, ⟨2, _⟩ => ⟨S1x2x2048x128, .bf16⟩
  | .local _ .vmem, ⟨3, _⟩ => ⟨S1x2x2048x128, .bf16⟩
  | .local _ .vmem, ⟨4, _⟩ => ⟨S1x2x2048x128, .bf16⟩
  | .local _ .vmem, ⟨5, _⟩ => ⟨S1x2x2048x128, .bf16⟩
  | .local _ .vmem, ⟨6, _⟩ => ⟨S1x1x2048x128, .bf16⟩
  | .local _ .vmem, ⟨7, _⟩ => ⟨S1x1x2048x128, .bf16⟩
  | _, _ => ⟨S32x2048x16x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32x2048x16x96 : Shape := ⟨4, ![32, 2048, 16, 96]⟩
abbrev S32x2048x16x64 : Shape := ⟨4, ![32, 2048, 16, 64]⟩
abbrev S32x16x2048x2048 : Shape := ⟨4, ![32, 16, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S32x16x2048 : Shape := ⟨3, ![32, 16, 2048]⟩
abbrev S32x16x2048x1 : Shape := ⟨4, ![32, 16, 2048, 1]⟩
abbrev S32x16x64x2048 : Shape := ⟨4, ![32, 16, 64, 2048]⟩
abbrev S32x2048x8x128 : Shape := ⟨4, ![32, 2048, 8, 128]⟩
abbrev S32x8x2048x128 : Shape := ⟨4, ![32, 8, 2048, 128]⟩

abbrev nBuf : Space → Nat
  | .hbm => 39
  | .vmem => 0
  | .smem => 0
  | _ => 0

abbrev bufTy : (tb : Table) → Fin (tcTables nBuf tb) → BufTy
  | .hbm, ⟨0, _⟩ => ⟨S32x2048x16x96, .f32⟩
  | .hbm, ⟨1, _⟩ => ⟨S32x2048x16x96, .f32⟩
  | .hbm, ⟨2, _⟩ => ⟨S32x2048x16x64, .f32⟩
  | .hbm, ⟨3, _⟩ => ⟨S32x16x2048x2048, .f32⟩
  | .hbm, ⟨4, _⟩ => ⟨S_, .f32⟩
  | .hbm, ⟨5, _⟩ => ⟨S_, .f32⟩
  | .hbm, ⟨6, _⟩ => ⟨S32x16x2048x2048, .f32⟩
  | .hbm, ⟨7, _⟩ => ⟨S32x16x2048x2048, .f32⟩
  | .hbm, ⟨8, _⟩ => ⟨S2048, .i32⟩
  | .hbm, ⟨9, _⟩ => ⟨S1x2048, .i32⟩
  | .hbm, ⟨10, _⟩ => ⟨S2048x1, .i32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S1x1x2048x2048, .i1⟩
  | .hbm, ⟨15, _⟩ => ⟨S_, .f32⟩
  | .hbm, ⟨16, _⟩ => ⟨S_, .f32⟩
  | .hbm, ⟨17, _⟩ => ⟨S32x16x2048x2048, .i1⟩
  | .hbm, ⟨18, _⟩ => ⟨S32x16x2048x2048, .f32⟩
  | .hbm, ⟨19, _⟩ => ⟨S32x16x2048x2048, .f32⟩
  | .hbm, ⟨20, _⟩ => ⟨S_, .f32⟩
  | .hbm, ⟨21, _⟩ => ⟨S32x16x2048, .f32⟩
  | .hbm, ⟨22, _⟩ => ⟨S_, .f32⟩
  | .hbm, ⟨23, _⟩ => ⟨S32x16x2048, .f32⟩
  | .hbm, ⟨24, _⟩ => ⟨S32x16x2048, .f32⟩
  | .hbm, ⟨25, _⟩ => ⟨S32x16x2048x1, .f32⟩
  | .hbm, ⟨26, _⟩ => ⟨S32x16x2048x2048, .f32⟩
  | .hbm, ⟨27, _⟩ => ⟨S32x16x2048x2048, .f32⟩
  | .hbm, ⟨28, _⟩ => ⟨S32x16x2048x2048, .f32⟩
  | .hbm, ⟨29, _⟩ => ⟨S_, .f32⟩
  | .hbm, ⟨30, _⟩ => ⟨S32x16x2048, .f32⟩
  | .hbm, ⟨31, _⟩ => ⟨S32x16x2048x1, .f32⟩
  | .hbm, ⟨32, _⟩ => ⟨S32x16x2048x2048, .f32⟩
  | .hbm, ⟨33, _⟩ => ⟨S32x16x2048x2048, .f32⟩
  | .hbm, ⟨34, _⟩ => ⟨S32x16x64x2048, .f32⟩
  | .hbm, ⟨35, _⟩ => ⟨S32x2048x16x64, .f32⟩
  | .hbm, ⟨36, _⟩ => ⟨S32x2048x8x128, .f32⟩
  | .hbm, ⟨37, _⟩ => ⟨S32x8x2048x128, .f32⟩
  | .hbm, ⟨38, _⟩ => ⟨S32x8x2048x128, .bf16⟩
  | _, _ => ⟨S32x2048x16x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel3.lean ====
abbrev S32x2048x8x128 : Shape := ⟨4, ![32, 2048, 8, 128]⟩
abbrev S32x2048x1024 : Shape := ⟨3, ![32, 2048, 1024]⟩
abbrev S32x2048 : Shape := ⟨2, ![32, 2048]⟩
abbrev S1024x1024 : Shape := ⟨2, ![1024, 1024]⟩
abbrev S1024 : Shape := ⟨1, ![1024]⟩
abbrev S1024x288 : Shape := ⟨2, ![1024, 288]⟩
abbrev S256 : Shape := ⟨1, ![256]⟩
abbrev S256x2048 : Shape := ⟨2, ![256, 2048]⟩
abbrev S1024x1408 : Shape := ⟨2, ![1024, 1408]⟩
abbrev S384 : Shape := ⟨1, ![384]⟩
abbrev S384x1536 : Shape := ⟨2, ![384, 1536]⟩
abbrev S16 : Shape := ⟨1, ![16]⟩
abbrev S_ : Shape := ⟨0, ![]⟩
abbrev S32 : Shape := ⟨1, ![32]⟩
abbrev S128 : Shape := ⟨1, ![128]⟩
abbrev S32x2048x1 : Shape := ⟨3, ![32, 2048, 1]⟩
abbrev S1x1x128 : Shape := ⟨3, ![1, 1, 128]⟩
abbrev S32x2048x128 : Shape := ⟨3, ![32, 2048, 128]⟩
abbrev S1024x256 : Shape := ⟨2, ![1024, 256]⟩
abbrev S1024x64 : Shape := ⟨2, ![1024, 64]⟩
abbrev S1024x32 : Shape := ⟨2, ![1024, 32]⟩
abbrev S1024x384 : Shape := ⟨2, ![1024, 384]⟩
abbrev S384x16x96 : Shape := ⟨3, ![384, 16, 96]⟩
abbrev S384x16x128 : Shape := ⟨3, ![384, 16, 128]⟩
abbrev S384x2048 : Shape := ⟨2, ![384, 2048]⟩
abbrev S1x1024 : Shape := ⟨2, ![1, 1024]⟩
abbrev S1x256 : Shape := ⟨2, ![1, 256]⟩
abbrev S1x384 : Shape := ⟨2, ![1, 384]⟩
abbrev S32x8x2048x128 : Shape := ⟨4, ![32, 8, 2048, 128]⟩
abbrev S32x16x2048x128 : Shape := ⟨4, ![32, 16, 2048, 128]⟩
abbrev S1x8x512x128 : Shape := ⟨4, ![1, 8, 512, 128]⟩
abbrev S1x512x1024 : Shape := ⟨3, ![1, 512, 1024]⟩
abbrev S1x512x128 : Shape := ⟨3, ![1, 512, 128]⟩
abbrev S1x16x512x128 : Shape := ⟨4, ![1, 16, 512, 128]⟩
abbrev S256x128 : Shape := ⟨2, ![256, 128]⟩
abbrev S1x1x256x128 : Shape := ⟨4, ![1, 1, 256, 128]⟩
abbrev S256x1024 : Shape := ⟨2, ![256, 1024]⟩
abbrev S1x256x1024 : Shape := ⟨3, ![1, 256, 1024]⟩
abbrev S256x1 : Shape := ⟨2, ![256, 1]⟩
abbrev S256x384 : Shape := ⟨2, ![256, 384]⟩
abbrev S256x256 : Shape := ⟨2, ![256, 256]⟩
abbrev S1x256x128 : Shape := ⟨3, ![1, 256, 128]⟩

abbrev nBuf : Space → Nat
  | .hbm => 92
  | .vmem => 31
  | .smem => 0
  | _ => 0

abbrev bufTy : (tb : Table) → Fin (tcTables nBuf tb) → BufTy
  | .hbm, ⟨0, _⟩ => ⟨S32x2048x8x128, .f32⟩
  | .hbm, ⟨1, _⟩ => ⟨S32x2048x1024, .f32⟩
  | .hbm, ⟨2, _⟩ => ⟨S32x2048x1024, .f32⟩
  | .hbm, ⟨3, _⟩ => ⟨S32x2048, .i32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x288, .f32⟩
  | .hbm, ⟨8, _⟩ => ⟨S256, .f32⟩
  | .hbm, ⟨9, _⟩ => ⟨S256x2048, .f32⟩
  | .hbm, ⟨10, _⟩ => ⟨S1024, .f32⟩
  | .hbm, ⟨11, _⟩ => ⟨S1024x1408, .f32⟩
  | .hbm, ⟨12, _⟩ => ⟨S384, .f32⟩
  | .hbm, ⟨13, _⟩ => ⟨S384x1536, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S128, .f32⟩
  | .hbm, ⟨41, _⟩ => ⟨S16, .f32⟩
  | .hbm, ⟨42, _⟩ => ⟨S_, .f32⟩
  | .hbm, ⟨43, _⟩ => ⟨S32, .f32⟩
  | .hbm, ⟨44, _⟩ => ⟨S16, .f32⟩
  | .hbm, ⟨45, _⟩ => ⟨S_, .f32⟩
  | .hbm, ⟨46, _⟩ => ⟨S32, .f32⟩
  | .hbm, ⟨47, _⟩ => ⟨S128, .f32⟩
  | .hbm, ⟨48, _⟩ => ⟨S32x2048, .f32⟩
  | .hbm, ⟨49, _⟩ => ⟨S32x2048x1, .f32⟩
  | .hbm, ⟨50, _⟩ => ⟨S1x1x128, .f32⟩
  | .hbm, ⟨51, _⟩ => ⟨S32x2048x128, .f32⟩
  | .hbm, ⟨52, _⟩ => ⟨S32x2048x128, .f32⟩
  | .hbm, ⟨53, _⟩ => ⟨S32x2048x128, .f32⟩
  | .hbm, ⟨54, _⟩ => ⟨S32x2048x128, .f32⟩
  | .hbm, ⟨55, _⟩ => ⟨S32x2048x128, .f32⟩
  | .hbm, ⟨56, _⟩ => ⟨S1x1x128, .f32⟩
  | .hbm, ⟨57, _⟩ => ⟨S32x2048x128, .f32⟩
  | .hbm, ⟨58, _⟩ => ⟨S32x2048x128, .f32⟩
  | .hbm, ⟨59, _⟩ => ⟨S1024x288, .bf16⟩
  | .hbm, ⟨60, _⟩ => ⟨S1024x256, .bf16⟩
  | .hbm, ⟨61, _⟩ => ⟨S_, .bf16⟩
  | .hbm, ⟨62, _⟩ => ⟨S1024x64, .bf16⟩
  | .hbm, ⟨63, _⟩ => ⟨S1024x32, .bf16⟩
  | .hbm, ⟨64, _⟩ => ⟨S_, .bf16⟩
  | .hbm, ⟨65, _⟩ => ⟨S1024x32, .bf16⟩
  | .hbm, ⟨66, _⟩ => ⟨S1024x384, .bf16⟩
  | .hbm, ⟨67, _⟩ => ⟨S384x16x96, .f32⟩
  | .hbm, ⟨68, _⟩ => ⟨S_, .i32⟩
  | .hbm, ⟨69, _⟩ => ⟨S_, .f32⟩
  | .hbm, ⟨70, _⟩ => ⟨S384x16x128, .f32⟩
  | .hbm, ⟨71, _⟩ => ⟨S384x2048, .f32⟩
  | .hbm, ⟨72, _⟩ => ⟨S1024x1024, .bf16⟩
  | .hbm, ⟨73, _⟩ => ⟨S1x1024, .f32⟩
  | .hbm, ⟨74, _⟩ => ⟨S1x1024, .f32⟩
  | .hbm, ⟨75, _⟩ => ⟨S1x256, .f32⟩
  | .hbm, ⟨76, _⟩ => ⟨S256x2048, .bf16⟩
  | .hbm, ⟨77, _⟩ => ⟨S1x1024, .f32⟩
  | .hbm, ⟨78, _⟩ => ⟨S1024x384, .f32⟩
  | .hbm, ⟨79, _⟩ => ⟨S1024x384, .bf16⟩
  | .hbm, ⟨80, _⟩ => ⟨S1024x1024, .f32⟩
  | .hbm, ⟨81, _⟩ => ⟨S1024x1024, .bf16⟩
  | .hbm, ⟨82, _⟩ => ⟨S1x384, .f32⟩
  | .hbm, ⟨83, _⟩ => ⟨S384x2048, .bf16⟩
  | .hbm, ⟨84, _⟩ => ⟨S32x8x2048x128, .f32⟩
  | .hbm, ⟨85, _⟩ => ⟨S32x8x2048x128, .bf16⟩
  | .hbm, ⟨86, _⟩ => ⟨S32x2048x1024, .bf16⟩
  | .hbm, ⟨87, _⟩ => ⟨S32x2048x1024, .f32⟩
  | .hbm, ⟨88, _⟩ => ⟨S32x16x2048x128, .bf16⟩
  | .hbm, ⟨89, _⟩ => ⟨S32x16x2048x128, .bf16⟩
  | .hbm, ⟨90, _⟩ => ⟨S32x16x2048x128, .bf16⟩
  | .hbm, ⟨91, _⟩ => ⟨S32x2048x1024, .bf16⟩
  | .local _ .vmem, ⟨0, _⟩ => ⟨S1x8x512x128, .bf16⟩
  | .local _ .vmem, ⟨1, _⟩ => ⟨S1x8x512x128, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .f32⟩
  | .local _ .vmem, ⟨5, _⟩ => ⟨S1x512x1024, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x384, .bf16⟩
  | .local _ .vmem, ⟨14, _⟩ => ⟨S1x256, .f32⟩
  | .local _ .vmem, ⟨15, _⟩ => ⟨S256x2048, .bf16⟩
  | .local _ .vmem, ⟨16, _⟩ => ⟨S1x1024, .f32⟩
  | .local _ .vmem, ⟨17, _⟩ => ⟨S1024x384, .bf16⟩
  | .local _ .vmem, ⟨18, _⟩ => ⟨S1024x1024, .bf16⟩
  | .local _ .vmem, ⟨19, _⟩ => ⟨S1x384, .f32⟩
  | .local _ .vmem, ⟨20, _⟩ => ⟨S384x2048, .bf16⟩
  | .local _ .vmem, ⟨21, _⟩ => ⟨S1x512x1024, .f32⟩
  | .local _ .vmem, ⟨22, _⟩ => ⟨S1x512x1024, .f32⟩
  | .local _ .vmem, ⟨23, _⟩ => ⟨S1x16x512x128, .bf16⟩
  | .local _ .vmem, ⟨24, _⟩ => ⟨S1x16x512x128, .bf16⟩
  | .local _ .vmem, ⟨25, _⟩ => ⟨S1x16x512x128, .bf16⟩
  | .local _ .vmem, ⟨26, _⟩ => ⟨S1x16x512x128, .bf16⟩
  | .local _ .vmem, ⟨27, _⟩ => ⟨S1x16x512x128, .bf16⟩
  | .local _ .vmem, ⟨28, _⟩ => ⟨S1x16x512x128, .bf16⟩
  | .local _ .vmem, ⟨29, _⟩ => ⟨S1x512x1024, .bf16⟩
  | .local _ .vmem, ⟨30, _⟩ => ⟨S1x512x1024, .bf16⟩
  | _, _ => ⟨S32x2048x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_cst_4 : Ref sig .tc := ⟨.hbm, 31, rfl⟩
abbrev main_v12 : Ref sig .tc := ⟨.hbm, 32, rfl⟩
abbrev main_v13 : Ref sig .tc := ⟨.hbm, 33, rfl⟩
abbrev main_cst_5 : Ref sig .tc := ⟨.hbm, 34, rfl⟩
abbrev main_v14 : Ref sig .tc := ⟨.hbm, 35, rfl⟩
abbrev main_cst_6 : Ref sig .tc := ⟨.hbm, 36, rfl⟩
abbrev main_v15 : Ref sig .tc := ⟨.hbm, 37, rfl⟩
abbrev main_cst_7 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_8 : Ref sig .tc := ⟨.hbm, 42, rfl⟩
abbrev main_v19 : Ref sig .tc := ⟨.hbm, 43, rfl⟩
abbrev main_v20 : Ref sig .tc := ⟨.hbm, 44, rfl⟩
abbrev main_cst_9 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c : Ref sig .tc := ⟨.hbm, 68, rfl⟩
abbrev main_call0_v0 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58_0 : Ref sig .tc := ⟨.hbm, 87, rfl⟩
abbrev main_v58_1 : Ref sig .tc := ⟨.hbm, 88, rfl⟩
abbrev main_v58_2 : Ref sig .tc := ⟨.hbm, 89, rfl⟩
abbrev main_v58_3 : Ref sig .tc := ⟨.hbm, 90, rfl⟩
abbrev main_v58_4 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x384 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S384x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x16x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Kernel3Ideal.lean ====
variable {F : FTy → Type} [FloatOps F] [Named F]
def κ : String → Option EReal := fun
  | "scale_b" => some (((Real.sqrt 96)⁻¹ * (Real.log 2)⁻¹ : ℝ) : EReal)
  | _ => none
-- ==== Reference3Ideal.lean ====
abbrev S32x2048x8x128 : Shape := ⟨4, ![32, 2048, 8, 128]⟩
abbrev S32x2048x1024 : Shape := ⟨3, ![32, 2048, 1024]⟩
abbrev S32x2048 : Shape := ⟨2, ![32, 2048]⟩
abbrev S1024x1024 : Shape := ⟨2, ![1024, 1024]⟩
abbrev S1024 : Shape := ⟨1, ![1024]⟩
abbrev S1024x288 : Shape := ⟨2, ![1024, 288]⟩
abbrev S256 : Shape := ⟨1, ![256]⟩
abbrev S256x2048 : Shape := ⟨2, ![256, 2048]⟩
abbrev S1024x1408 : Shape := ⟨2, ![1024, 1408]⟩
abbrev S384 : Shape := ⟨1, ![384]⟩
abbrev S384x1536 : Shape := ⟨2, ![384, 1536]⟩
abbrev S_ : Shape := ⟨0, ![]⟩
abbrev S32x2048x1 : Shape := ⟨3, ![32, 2048, 1]⟩
abbrev S1x1x1024 : Shape := ⟨3, ![1, 1, 1024]⟩
abbrev S32x2048x288 : Shape := ⟨3, ![32, 2048, 288]⟩
abbrev S32x2048x256 : Shape := ⟨3, ![32, 2048, 256]⟩
abbrev S1x1x256 : Shape := ⟨3, ![1, 1, 256]⟩
abbrev S32x2048x32 : Shape := ⟨3, ![32, 2048, 32]⟩
abbrev S32x2048x1x32 : Shape := ⟨4, ![32, 2048, 1, 32]⟩
abbrev S16 : Shape := ⟨1, ![16]⟩
abbrev S1x1x16 : Shape := ⟨3, ![1, 1, 16]⟩
abbrev S32x2048x16 : Shape := ⟨3, ![32, 2048, 16]⟩
abbrev S32x2048x1x16 : Shape := ⟨4, ![32, 2048, 1, 16]⟩
abbrev S32x2048x2048 : Shape := ⟨3, ![32, 2048, 2048]⟩
abbrev S32x2048x16x128 : Shape := ⟨4, ![32, 2048, 16, 128]⟩
abbrev S32x2048x16x64 : Shape := ⟨4, ![32, 2048, 16, 64]⟩
abbrev S32x2048x16x32 : Shape := ⟨4, ![32, 2048, 16, 32]⟩
abbrev S32x2048x16x96 : Shape := ⟨4, ![32, 2048, 16, 96]⟩
abbrev S32x2048x1408 : Shape := ⟨3, ![32, 2048, 1408]⟩
abbrev S32x2048x384 : Shape := ⟨3, ![32, 2048, 384]⟩
abbrev S1x1x384 : Shape := ⟨3, ![1, 1, 384]⟩
abbrev S32x2048x1536 : Shape := ⟨3, ![32, 2048, 1536]⟩
abbrev S32x2048x16x16 : Shape := ⟨4, ![32, 2048, 16, 16]⟩
abbrev S32x2048x16x1 : Shape := ⟨4, ![32, 2048, 16, 1]⟩
abbrev S32x16x2048x128 : Shape := ⟨4, ![32, 16, 2048, 128]⟩
abbrev S32x2048x16x63 : Shape := ⟨4, ![32, 2048, 16, 63]⟩

abbrev nBuf : Space → Nat
  | .hbm => 212
  | .vmem => 0
  | .smem => 0
  | _ => 0

abbrev hbmTy0_0 (i : Nat) : BufTy := match i % 128 with
  | 0 => ⟨S32x2048x8x128, .f32⟩
  | 1 => ⟨S32x2048x1024, .f32⟩
  | 2 => ⟨S32x2048x1024, .f32⟩
  | 3 => ⟨S32x2048, .i32⟩
  | 4 => ⟨S1024x1024, .f32⟩
  | 5 => ⟨S1024, .f32⟩
  | 6 => ⟨S1024, .f32⟩
  | 7 => ⟨S1024x288, .f32⟩
  | 8 => ⟨S256, .f32⟩
  | 9 => ⟨S256x2048, .f32⟩
  | 10 => ⟨S1024, .f32⟩
  | 11 => ⟨S1024x1408, .f32⟩
  | 12 => ⟨S384, .f32⟩
  | 13 => ⟨S384x1536, .f32⟩
  | 14 => ⟨S32x2048x1024, .f32⟩
  | 15 => ⟨S32x2048x1024, .f32⟩
  | 16 => ⟨S32x2048x1024, .f32⟩
  | 17 => ⟨S_, .f32⟩
  | 18 => ⟨S32x2048x1024, .f32⟩
  | 19 => ⟨S32x2048x1024, .f32⟩
  | 20 => ⟨S_, .f32⟩
  | 21 => ⟨S32x2048x1024, .f32⟩
  | 22 => ⟨S32x2048x1024, .f32⟩
  | 23 => ⟨S32x2048x1024, .f32⟩
  | 24 => ⟨S32x2048x1024, .f32⟩
  | 25 => ⟨S32x2048x1024, .f32⟩
  | 26 => ⟨S32x2048x1024, .f32⟩
  | 27 => ⟨S_, .f32⟩
  | 28 => ⟨S32x2048, .f32⟩
  | 29 => ⟨S32x2048x1, .f32⟩
  | 30 => ⟨S_, .f32⟩
  | 31 => ⟨S32x2048x1, .f32⟩
  | 32 => ⟨S32x2048x1, .f32⟩
  | 33 => ⟨S_, .f32⟩
  | 34 => ⟨S32x2048x1, .f32⟩
  | 35 => ⟨S32x2048x1, .f32⟩
  | 36 => ⟨S32x2048x1, .f32⟩
  | 37 => ⟨S32x2048x1024, .f32⟩
  | 38 => ⟨S32x2048x1024, .f32⟩
  | 39 => ⟨S1x1x1024, .f32⟩
  | 40 => ⟨S32x2048x1024, .f32⟩
  | 41 => ⟨S32x2048x1024, .f32⟩
  | 42 => ⟨S32x2048x1024, .f32⟩
  | 43 => ⟨S32x2048x1024, .f32⟩
  | 44 => ⟨S_, .f32⟩
  | 45 => ⟨S32x2048, .f32⟩
  | 46 => ⟨S32x2048x1, .f32⟩
  | 47 => ⟨S_, .f32⟩
  | 48 => ⟨S32x2048x1, .f32⟩
  | 49 => ⟨S32x2048x1, .f32⟩
  | 50 => ⟨S_, .f32⟩
  | 51 => ⟨S32x2048x1, .f32⟩
  | 52 => ⟨S32x2048x1, .f32⟩
  | 53 => ⟨S32x2048x1, .f32⟩
  | 54 => ⟨S32x2048x1024, .f32⟩
  | 55 => ⟨S32x2048x1024, .f32⟩
  | 56 => ⟨S1x1x1024, .f32⟩
  | 57 => ⟨S32x2048x1024, .f32⟩
  | 58 => ⟨S32x2048x1024, .f32⟩
  | 59 => ⟨S32x2048x288, .f32⟩
  | 60 => ⟨S32x2048x256, .f32⟩
  | 61 => ⟨S32x2048x256, .f32⟩
  | 62 => ⟨S_, .f32⟩
  | 63 => ⟨S32x2048, .f32⟩
  | 64 => ⟨S32x2048x1, .f32⟩
  | 65 => ⟨S_, .f32⟩
  | 66 => ⟨S32x2048x1, .f32⟩
  | 67 => ⟨S32x2048x1, .f32⟩
  | 68 => ⟨S_, .f32⟩
  | 69 => ⟨S32x2048x1, .f32⟩
  | 70 => ⟨S32x2048x1, .f32⟩
  | 71 => ⟨S32x2048x1, .f32⟩
  | 72 => ⟨S32x2048x256, .f32⟩
  | 73 => ⟨S32x2048x256, .f32⟩
  | 74 => ⟨S1x1x256, .f32⟩
  | 75 => ⟨S32x2048x256, .f32⟩
  | 76 => ⟨S32x2048x256, .f32⟩
  | 77 => ⟨S32x2048x32, .f32⟩
  | 78 => ⟨S32x2048x1x32, .f32⟩
  | 79 => ⟨S16, .f32⟩
  | 80 => ⟨S_, .f32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S32x2048, .f32⟩
  | 90 => ⟨S32x2048x1, .f32⟩
  | 91 => ⟨S1x1x16, .f32⟩
  | 92 => ⟨S32x2048x16, .f32⟩
  | 93 => ⟨S32x2048x16, .f32⟩
  | 94 => ⟨S32x2048x16, .f32⟩
  | 95 => ⟨S32x2048x16, .f32⟩
  | 96 => ⟨S32x2048x1x16, .f32⟩
  | 97 => ⟨S32x2048x16, .f32⟩
  | 98 => ⟨S32x2048x1x16, .f32⟩
  | 99 => ⟨S32x2048x1x16, .f32⟩
  | 100 => ⟨S32x2048x1x16, .f32⟩
  | 101 => ⟨S32x2048x1x16, .f32⟩
  | 102 => ⟨S32x2048x1x16, .f32⟩
  | 103 => ⟨S32x2048x1x16, .f32⟩
  | 104 => ⟨S32x2048x1x16, .f32⟩
  | 105 => ⟨S32x2048x1x16, .f32⟩
  | 106 => ⟨S32x2048x1x16, .f32⟩
  | 107 => ⟨S32x2048x1x32, .f32⟩
  | 108 => ⟨S32x2048x2048, .f32⟩
  | 109 => ⟨S32x2048x16x128, .f32⟩
  | 110 => ⟨S32x2048x16x64, .f32⟩
  | 111 => ⟨S32x2048x16x32, .f32⟩
  | 112 => ⟨S32x2048x16x96, .f32⟩
  | 113 => ⟨S32x2048x16x64, .f32⟩
  | 114 => ⟨S32x2048x1024, .f32⟩
  | 115 => ⟨S_, .f32⟩
  | 116 => ⟨S32x2048, .f32⟩
  | 117 => ⟨S32x2048x1, .f32⟩
  | 118 => ⟨S_, .f32⟩
  | 119 => ⟨S32x2048x1, .f32⟩
  | 120 => ⟨S32x2048x1, .f32⟩
  | 121 => ⟨S_, .f32⟩
  | 122 => ⟨S32x2048x1, .f32⟩
  | 123 => ⟨S32x2048x1, .f32⟩
  | 124 => ⟨S32x2048x1, .f32⟩
  | 125 => ⟨S32x2048x1024, .f32⟩
  | 126 => ⟨S32x2048x1024, .f32⟩
  | 127 => ⟨S1x1x1024, .f32⟩
  | _ => ⟨S32x2048x8x128, .f32⟩

abbrev hbmTy0_1 (i : Nat) : BufTy := match i % 128 with
  | 0 => ⟨S32x2048x1024, .f32⟩
  | 1 => ⟨S32x2048x1024, .f32⟩
  | 2 => ⟨S32x2048x1408, .f32⟩
  | 3 => ⟨S32x2048x384, .f32⟩
  | 4 => ⟨S32x2048x384, .f32⟩
  | 5 => ⟨S_, .f32⟩
  | 6 => ⟨S32x2048, .f32⟩
  | 7 => ⟨S32x2048x1, .f32⟩
  | 8 => ⟨S_, .f32⟩
  | 9 => ⟨S32x2048x1, .f32⟩
  | 10 => ⟨S32x2048x1, .f32⟩
  | 11 => ⟨S_, .f32⟩
  | 12 => ⟨S32x2048x1, .f32⟩
  | 13 => ⟨S32x2048x1, .f32⟩
  | 14 => ⟨S32x2048x1, .f32⟩
  | 15 => ⟨S32x2048x384, .f32⟩
  | 16 => ⟨S32x2048x384, .f32⟩
  | 17 => ⟨S1x1x384, .f32⟩
  | 18 => ⟨S32x2048x384, .f32⟩
  | 19 => ⟨S32x2048x384, .f32⟩
  | 20 => ⟨S32x2048x1536, .f32⟩
  | 21 => ⟨S32x2048x16x96, .f32⟩
  | 22 => ⟨S32x2048x16x64, .f32⟩
  | 23 => ⟨S32x2048x16x32, .f32⟩
  | 24 => ⟨S16, .f32⟩
  | 25 => ⟨S_, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S32x2048, .f32⟩
  | 35 => ⟨S32x2048x1, .f32⟩
  | 36 => ⟨S1x1x16, .f32⟩
  | 37 => ⟨S32x2048x16, .f32⟩
  | 38 => ⟨S32x2048x16, .f32⟩
  | 39 => ⟨S32x2048x16, .f32⟩
  | 40 => ⟨S32x2048x16, .f32⟩
  | 41 => ⟨S32x2048x1x16, .f32⟩
  | 42 => ⟨S32x2048x16, .f32⟩
  | 43 => ⟨S32x2048x1x16, .f32⟩
  | 44 => ⟨S32x2048x16x16, .f32⟩
  | 45 => ⟨S32x2048x16x16, .f32⟩
  | 46 => ⟨S32x2048x16x16, .f32⟩
  | 47 => ⟨S32x2048x16x16, .f32⟩
  | 48 => ⟨S32x2048x16x16, .f32⟩
  | 49 => ⟨S32x2048x16x16, .f32⟩
  | 50 => ⟨S32x2048x16x16, .f32⟩
  | 51 => ⟨S32x2048x16x16, .f32⟩
  | 52 => ⟨S32x2048x16x16, .f32⟩
  | 53 => ⟨S32x2048x16x16, .f32⟩
  | 54 => ⟨S32x2048x16x16, .f32⟩
  | 55 => ⟨S32x2048x16x16, .f32⟩
  | 56 => ⟨S32x2048x16x32, .f32⟩
  | 57 => ⟨S32x2048x16x96, .f32⟩
  | 58 => ⟨S_, .f32⟩
  | 59 => ⟨S_, .f32⟩
  | 60 => ⟨S_, .f32⟩
  | 61 => ⟨S_, .f32⟩
  | 62 => ⟨S_, .f32⟩
  | 63 => ⟨S32x2048x16x96, .f32⟩
  | 64 => ⟨S32x2048x16x96, .f32⟩
  | 65 => ⟨S_, .f32⟩
  | 66 => ⟨S32x2048x16x1, .f32⟩
  | 67 => ⟨S_, .f32⟩
  | 68 => ⟨S32x2048x16x32, .f32⟩
  | 69 => ⟨S32x2048x16x128, .f32⟩
  | 70 => ⟨S32x16x2048x128, .f32⟩
  | 71 => ⟨S32x16x2048x128, .bf16⟩
  | 72 => ⟨S_, .f32⟩
  | 73 => ⟨S32x2048x16x63, .f32⟩
  | 74 => ⟨S32x2048x16x128, .f32⟩
  | 75 => ⟨S32x16x2048x128, .f32⟩
  | 76 => ⟨S32x16x2048x128, .bf16⟩
  | 77 => ⟨S_, .f32⟩
  | 78 => ⟨S32x2048x16x32, .f32⟩
  | 79 => ⟨S32x2048x16x128, .f32⟩
  | 80 => ⟨S32x16x2048x128, .f32⟩
  | 81 => ⟨S32x16x2048x128, .bf16⟩
  | 82 => ⟨S32x2048x1024, .f32⟩
  | 83 => ⟨S32x2048x1024, .bf16⟩
  | _ => ⟨S32x2048x8x128, .f32⟩

abbrev hbmTy (i : Nat) : BufTy := match i / 128 with
  | 0 => hbmTy0_0 i
  | 1 => hbmTy0_1 i
  | _ => ⟨S32x2048x8x128, .f32⟩

abbrev bufTy : (tb : Table) → Fin (tcTables nBuf tb) → BufTy
  | .hbm, ⟨i, _⟩ => hbmTy i
  | _, _ => ⟨S32x2048x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_cst : Ref sig .tc := ⟨.hbm, 27, rfl⟩
abbrev main_v5 : Ref sig .tc := ⟨.hbm, 28, rfl⟩
abbrev main_v6 : Ref sig .tc := ⟨.hbm, 29, rfl⟩
abbrev main_cst_0 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_5 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_v50 : Ref sig .tc := ⟨.hbm, 82, rfl⟩
abbrev main_cst_9 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_11 : Ref sig .tc := ⟨.hbm, 115, rfl⟩
abbrev main_v81 : Ref sig .tc := ⟨.hbm, 116, rfl⟩
abbrev main_v82 : Ref sig .tc := ⟨.hbm, 117, rfl⟩
abbrev main_cst_12 : Ref sig .tc := ⟨.hbm, 118, rfl⟩
abbrev main_v83 : Ref sig .tc := ⟨.hbm, 119, rfl⟩
abbrev main_v84 : Ref sig .tc := ⟨.hbm, 120, rfl⟩
abbrev main_cst_13 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_14 : Ref sig .tc := ⟨.hbm, 133, rfl⟩
abbrev main_v96 : Ref sig .tc := ⟨.hbm, 134, rfl⟩
abbrev main_v97 : Ref sig .tc := ⟨.hbm, 135, rfl⟩
abbrev main_cst_15 : Ref sig .tc := ⟨.hbm, 136, rfl⟩
abbrev main_v98 : Ref sig .tc := ⟨.hbm, 137, rfl⟩
abbrev main_v99 : Ref sig .tc := ⟨.hbm, 138, rfl⟩
abbrev main_cst_16 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_17 : Ref sig .tc := ⟨.hbm, 153, rfl⟩
abbrev main_v113 : Ref sig .tc := ⟨.hbm, 154, rfl⟩
abbrev main_v114 : Ref sig .tc := ⟨.hbm, 155, rfl⟩
abbrev main_cst_18 : Ref sig .tc := ⟨.hbm, 156, rfl⟩
abbrev main_v115 : Ref sig .tc := ⟨.hbm, 157, rfl⟩
abbrev main_v116 : Ref sig .tc := ⟨.hbm, 158, rfl⟩
abbrev main_cst_19 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_20 : Ref sig .tc := ⟨.hbm, 186, rfl⟩
abbrev main_v143 : Ref sig .tc := ⟨.hbm, 187, rfl⟩
abbrev main_cst_21 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_22 : Ref sig .tc := ⟨.hbm, 193, rfl⟩
abbrev main_v148 : Ref sig .tc := ⟨.hbm, 194, rfl⟩
abbrev main_cst_23 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_24 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_cst_25 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩

abbrev nD : Nat := 1
abbrev τ : Topo := Topo.v7x

variable {F : FTy → Type} [FloatOps F]
-- ==== Kernel4.lean ====
abbrev S32x2048x16x64 : Shape := ⟨4, ![32, 2048, 16, 64]⟩
abbrev S32x2048x1024 : Shape := ⟨3, ![32, 2048, 1024]⟩
abbrev S1024x1024 : Shape := ⟨2, ![1024, 1024]⟩
abbrev S1024 : Shape := ⟨1, ![1024]⟩
abbrev S32x2048x8x128 : Shape := ⟨4, ![32, 2048, 8, 128]⟩
abbrev S32x8x2048x128 : Shape := ⟨4, ![32, 8, 2048, 128]⟩
abbrev S1x1024 : Shape := ⟨2, ![1, 1024]⟩
abbrev S1x8x1024x128 : Shape := ⟨4, ![1, 8, 1024, 128]⟩
abbrev S1x1024x1024 : Shape := ⟨3, ![1, 1024, 1024]⟩
abbrev S1x1x1024x128 : Shape := ⟨4, ![1, 1, 1024, 128]⟩
abbrev S1024x128 : Shape := ⟨2, ![1024, 128]⟩
abbrev S1024x1 : Shape := ⟨2, ![1024, 1]⟩

abbrev nBuf : Space → Nat
  | .hbm => 12
  | .vmem => 10
  | .smem => 0
  | _ => 0

abbrev bufTy : (tb : Table) → Fin (tcTables nBuf tb) → BufTy
  | .hbm, ⟨0, _⟩ => ⟨S32x2048x16x64, .f32⟩
  | .hbm, ⟨1, _⟩ => ⟨S32x2048x1024, .f32⟩
  | .hbm, ⟨2, _⟩ => ⟨S32x2048x1024, .f32⟩
  | .hbm, ⟨3, _⟩ => ⟨S1024x1024, .f32⟩
  | .hbm, ⟨4, _⟩ => ⟨S1024, .f32⟩
  | .hbm, ⟨5, _⟩ => ⟨S32x2048x8x128, .f32⟩
  | .hbm, ⟨6, _⟩ => ⟨S32x8x2048x128, .f32⟩
  | .hbm, ⟨7, _⟩ => ⟨S32x8x2048x128, .bf16⟩
  | .hbm, ⟨8, _⟩ => ⟨S32x2048x1024, .bf16⟩
  | .hbm, ⟨9, _⟩ => ⟨S1024x1024, .bf16⟩
  | .hbm, ⟨10, _⟩ => ⟨S1x1024, .f32⟩
  | .hbm, ⟨11, _⟩ => ⟨S32x2048x1024, .f32⟩
  | .local _ .vmem, ⟨0, _⟩ => ⟨S1x8x1024x128, .bf16⟩
  | .local _ .vmem, ⟨1, _⟩ => ⟨S1x8x1024x128, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | _, _ => ⟨S32x2048x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S32x2048x16x64 : Shape := ⟨4, ![32, 2048, 16, 64]⟩
abbrev S32x2048x1024 : Shape := ⟨3, ![32, 2048, 1024]⟩
abbrev S1024x1024 : Shape := ⟨2, ![1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 34
  | .vmem => 0
  | .smem => 0
  | _ => 0

abbrev bufTy : (tb : Table) → Fin (tcTables nBuf tb) → BufTy
  | .hbm, ⟨0, _⟩ => ⟨S32x2048x16x64, .f32⟩
  | .hbm, ⟨1, _⟩ => ⟨S32x2048x1024, .f32⟩
  | .hbm, ⟨2, _⟩ => ⟨S32x2048x1024, .f32⟩
  | .hbm, ⟨3, _⟩ => ⟨S1024x1024, .f32⟩
  | .hbm, ⟨4, _⟩ => ⟨S1024, .f32⟩
  | .hbm, ⟨5, _⟩ => ⟨S32x2048x1024, .f32⟩
  | .hbm, ⟨6, _⟩ => ⟨S32x2048x1024, .f32⟩
  | .hbm, ⟨7, _⟩ => ⟨S32x2048x1024, .f32⟩
  | .hbm, ⟨8, _⟩ => ⟨S_, .f32⟩
  | .hbm, ⟨9, _⟩ => ⟨S32x2048x1024, .f32⟩
  | .hbm, ⟨10, _⟩ => ⟨S32x2048x1024, .f32⟩
  | .hbm, ⟨11, _⟩ => ⟨S_, .f32⟩
  | .hbm, ⟨12, _⟩ => ⟨S32x2048x1024, .f32⟩
  | .hbm, ⟨13, _⟩ => ⟨S32x2048x1024, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S_, .f32⟩
  | .hbm, ⟨19, _⟩ => ⟨S32x2048, .f32⟩
  | .hbm, ⟨20, _⟩ => ⟨S32x2048x1, .f32⟩
  | .hbm, ⟨21, _⟩ => ⟨S_, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S32x2048x1, .f32⟩
  | .hbm, ⟨28, _⟩ => ⟨S32x2048x1024, .f32⟩
  | .hbm, ⟨29, _⟩ => ⟨S32x2048x1024, .f32⟩
  | .hbm, ⟨30, _⟩ => ⟨S1x1x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | _, _ => ⟨S32x2048x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x2048 : Shape := ⟨2, ![32, 2048]⟩
abbrev S1024 : Shape := ⟨1, ![1024]⟩
abbrev S1024x10240 : Shape := ⟨2, ![1024, 10240]⟩
abbrev S16 : Shape := ⟨1, ![16]⟩
abbrev S_ : Shape := ⟨0, ![]⟩
abbrev S32 : Shape := ⟨1, ![32]⟩
abbrev S128 : Shape := ⟨1, ![128]⟩
abbrev S32x2048x1 : Shape := ⟨3, ![32, 2048, 1]⟩
abbrev S1x1x128 : Shape := ⟨3, ![1, 1, 128]⟩
abbrev S32x2048x128 : Shape := ⟨3, ![32, 2048, 128]⟩
abbrev S1x1024 : Shape := ⟨2, ![1, 1024]⟩
abbrev S32x24x1x2048x128 : Shape := ⟨5, ![32, 24, 1, 2048, 128]⟩
abbrev S1x1024x1024 : Shape := ⟨3, ![1, 1024, 1024]⟩
abbrev S1x1024x128 : Shape := ⟨3, ![1, 1024, 128]⟩
abbrev S1024x3072 : Shape := ⟨2, ![1024, 3072]⟩
abbrev S1024x1024 : Shape := ⟨2, ![1024, 1024]⟩
abbrev S1x24x1x1024x128 : Shape := ⟨5, ![1, 24, 1, 1024, 128]⟩
abbrev S512x128 : Shape := ⟨2, ![512, 128]⟩
abbrev S1x512x1024 : Shape := ⟨3, ![1, 512, 1024]⟩
abbrev S512x1024 : Shape := ⟨2, ![512, 1024]⟩
abbrev S1x512x128 : Shape := ⟨3, ![1, 512, 128]⟩
abbrev S512 : Shape := ⟨1, ![512]⟩
abbrev S512x1 : Shape := ⟨2, ![512, 1]⟩
abbrev S1x1x1x512x128 : Shape := ⟨5, ![1, 1, 1, 512, 128]⟩

abbrev nBuf : Space → Nat
  | .hbm => 53
  | .vmem => 13
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1024, .f32⟩
  | .hbm, ⟨3, _⟩ => ⟨S1024x10240, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S_, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S128, .f32⟩
  | .hbm, ⟨31, _⟩ => ⟨S16, .f32⟩
  | .hbm, ⟨32, _⟩ => ⟨S_, .f32⟩
  | .hbm, ⟨33, _⟩ => ⟨S32, .f32⟩
  | .hbm, ⟨34, _⟩ => ⟨S16, .f32⟩
  | .hbm, ⟨35, _⟩ => ⟨S_, .f32⟩
  | .hbm, ⟨36, _⟩ => ⟨S32, .f32⟩
  | .hbm, ⟨37, _⟩ => ⟨S128, .f32⟩
  | .hbm, ⟨38, _⟩ => ⟨S32x2048, .f32⟩
  | .hbm, ⟨39, _⟩ => ⟨S32x2048x1, .f32⟩
  | .hbm, ⟨40, _⟩ => ⟨S1x1x128, .f32⟩
  | .hbm, ⟨41, _⟩ => ⟨S32x2048x128, .f32⟩
  | .hbm, ⟨42, _⟩ => ⟨S32x2048x128, .f32⟩
  | .hbm, ⟨43, _⟩ => ⟨S32x2048x128, .f32⟩
  | .hbm, ⟨44, _⟩ => ⟨S32x2048x128, .f32⟩
  | .hbm, ⟨45, _⟩ => ⟨S32x2048x128, .f32⟩
  | .hbm, ⟨46, _⟩ => ⟨S1x1x128, .f32⟩
  | .hbm, ⟨47, _⟩ => ⟨S32x2048x128, .f32⟩
  | .hbm, ⟨48, _⟩ => ⟨S32x2048x128, .f32⟩
  | .hbm, ⟨49, _⟩ => ⟨S1024x10240, .bf16⟩
  | .hbm, ⟨50, _⟩ => ⟨S1x1024, .f32⟩
  | .hbm, ⟨51, _⟩ => ⟨S32x24x1x2048x128, .bf16⟩
  | .hbm, ⟨52, _⟩ => ⟨S32x2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024, .f32⟩
  | .local _ .vmem, ⟨7, _⟩ => ⟨S1024x3072, .bf16⟩
  | .local _ .vmem, ⟨8, _⟩ => ⟨S1024x1024, .bf16⟩
  | .local _ .vmem, ⟨9, _⟩ => ⟨S1x24x1x1024x128, .bf16⟩
  | .local _ .vmem, ⟨10, _⟩ => ⟨S1x24x1x1024x128, .bf16⟩
  | .local _ .vmem, ⟨11, _⟩ => ⟨S1x1024x1024, .bf16⟩
  | .local _ .vmem, ⟨12, _⟩ => ⟨S1x1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_cst_9 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36_0 : Ref sig .tc := ⟨.hbm, 51, rfl⟩
abbrev main_v36_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c9_i32 : BitVec 32 := 9#32
  let c0_i32_0 : BitVec 32 := 0#32
  ![c0_i32.toNat, c9_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x24x1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "scale_a" => some (((Real.sqrt 128)⁻¹ * (Real.log 2)⁻¹ : ℝ) : EReal)
  | _ => none
-- ==== Reference2Ideal.lean ====
abbrev S32x2048x1024 : Shape := ⟨3, ![32, 2048, 1024]⟩
abbrev S32x2048 : Shape := ⟨2, ![32, 2048]⟩
abbrev S1024 : Shape := ⟨1, ![1024]⟩
abbrev S1024x10240 : Shape := ⟨2, ![1024, 10240]⟩
abbrev S_ : Shape := ⟨0, ![]⟩
abbrev S32x2048x1 : Shape := ⟨3, ![32, 2048, 1]⟩
abbrev S1x1x1024 : Shape := ⟨3, ![1, 1, 1024]⟩
abbrev S32x2048x10240 : Shape := ⟨3, ![32, 2048, 10240]⟩
abbrev S32x2048x9216 : Shape := ⟨3, ![32, 2048, 9216]⟩
abbrev S32x2048x3x3x8x128 : Shape := ⟨6, ![32, 2048, 3, 3, 8, 128]⟩
abbrev S32x2048x1x1x8x128 : Shape := ⟨6, ![32, 2048, 1, 1, 8, 128]⟩
abbrev S32x2048x8x128 : Shape := ⟨4, ![32, 2048, 8, 128]⟩
abbrev S32x2048x8x32 : Shape := ⟨4, ![32, 2048, 8, 32]⟩
abbrev S16 : Shape := ⟨1, ![16]⟩
abbrev S1x1x16 : Shape := ⟨3, ![1, 1, 16]⟩
abbrev S32x2048x16 : Shape := ⟨3, ![32, 2048, 16]⟩
abbrev S32x2048x1x16 : Shape := ⟨4, ![32, 2048, 1, 16]⟩
abbrev S32x2048x8x16 : Shape := ⟨4, ![32, 2048, 8, 16]⟩
abbrev S32x2048x8x96 : Shape := ⟨4, ![32, 2048, 8, 96]⟩
abbrev S32x2048x24x128 : Shape := ⟨4, ![32, 2048, 24, 128]⟩
abbrev S32x24x2048x128 : Shape := ⟨4, ![32, 24, 2048, 128]⟩
abbrev S32x24x1x2048x128 : Shape := ⟨5, ![32, 24, 1, 2048, 128]⟩

abbrev nBuf : Space → Nat
  | .hbm => 114
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1024, .f32⟩
  | .hbm, ⟨3, _⟩ => ⟨S1024x10240, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S32x2048x10240, .f32⟩
  | .hbm, ⟨21, _⟩ => ⟨S32x2048x9216, .f32⟩
  | .hbm, ⟨22, _⟩ => ⟨S32x2048x3x3x8x128, .f32⟩
  | .hbm, ⟨23, _⟩ => ⟨S32x2048x1x1x8x128, .f32⟩
  | .hbm, ⟨24, _⟩ => ⟨S32x2048x8x128, .f32⟩
  | .hbm, ⟨25, _⟩ => ⟨S32x2048x8x32, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S32x2048, .f32⟩
  | .hbm, ⟨37, _⟩ => ⟨S32x2048x1, .f32⟩
  | .hbm, ⟨38, _⟩ => ⟨S1x1x16, .f32⟩
  | .hbm, ⟨39, _⟩ => ⟨S32x2048x16, .f32⟩
  | .hbm, ⟨40, _⟩ => ⟨S32x2048x16, .f32⟩
  | .hbm, ⟨41, _⟩ => ⟨S32x2048x16, .f32⟩
  | .hbm, ⟨42, _⟩ => ⟨S32x2048x16, .f32⟩
  | .hbm, ⟨43, _⟩ => ⟨S32x2048x1x16, .f32⟩
  | .hbm, ⟨44, _⟩ => ⟨S32x2048x16, .f32⟩
  | .hbm, ⟨45, _⟩ => ⟨S32x2048x1x16, .f32⟩
  | .hbm, ⟨46, _⟩ => ⟨S32x2048x8x16, .f32⟩
  | .hbm, ⟨47, _⟩ => ⟨S32x2048x8x16, .f32⟩
  | .hbm, ⟨48, _⟩ => ⟨S32x2048x8x16, .f32⟩
  | .hbm, ⟨49, _⟩ => ⟨S32x2048x8x16, .f32⟩
  | .hbm, ⟨50, _⟩ => ⟨S32x2048x8x16, .f32⟩
  | .hbm, ⟨51, _⟩ => ⟨S32x2048x8x16, .f32⟩
  | .hbm, ⟨52, _⟩ => ⟨S32x2048x8x16, .f32⟩
  | .hbm, ⟨53, _⟩ => ⟨S32x2048x8x16, .f32⟩
  | .hbm, ⟨54, _⟩ => ⟨S32x2048x8x16, .f32⟩
  | .hbm, ⟨55, _⟩ => ⟨S32x2048x8x16, .f32⟩
  | .hbm, ⟨56, _⟩ => ⟨S32x2048x8x16, .f32⟩
  | .hbm, ⟨57, _⟩ => ⟨S32x2048x8x16, .f32⟩
  | .hbm, ⟨58, _⟩ => ⟨S32x2048x8x32, .f32⟩
  | .hbm, ⟨59, _⟩ => ⟨S32x2048x8x96, .f32⟩
  | .hbm, ⟨60, _⟩ => ⟨S32x2048x8x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S32x2048x8x128, .f32⟩
  | .hbm, ⟨67, _⟩ => ⟨S32x2048x8x128, .f32⟩
  | .hbm, ⟨68, _⟩ => ⟨S32x2048x1x1x8x128, .f32⟩
  | .hbm, ⟨69, _⟩ => ⟨S32x2048x8x128, .f32⟩
  | .hbm, ⟨70, _⟩ => ⟨S32x2048x8x32, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S32x2048, .f32⟩
  | .hbm, ⟨82, _⟩ => ⟨S32x2048x1, .f32⟩
  | .hbm, ⟨83, _⟩ => ⟨S1x1x16, .f32⟩
  | .hbm, ⟨84, _⟩ => ⟨S32x2048x16, .f32⟩
  | .hbm, ⟨85, _⟩ => ⟨S32x2048x16, .f32⟩
  | .hbm, ⟨86, _⟩ => ⟨S32x2048x16, .f32⟩
  | .hbm, ⟨87, _⟩ => ⟨S32x2048x16, .f32⟩
  | .hbm, ⟨88, _⟩ => ⟨S32x2048x1x16, .f32⟩
  | .hbm, ⟨89, _⟩ => ⟨S32x2048x16, .f32⟩
  | .hbm, ⟨90, _⟩ => ⟨S32x2048x1x16, .f32⟩
  | .hbm, ⟨91, _⟩ => ⟨S32x2048x8x16, .f32⟩
  | .hbm, ⟨92, _⟩ => ⟨S32x2048x8x16, .f32⟩
  | .hbm, ⟨93, _⟩ => ⟨S32x2048x8x16, .f32⟩
  | .hbm, ⟨94, _⟩ => ⟨S32x2048x8x16, .f32⟩
  | .hbm, ⟨95, _⟩ => ⟨S32x2048x8x16, .f32⟩
  | .hbm, ⟨96, _⟩ => ⟨S32x2048x8x16, .f32⟩
  | .hbm, ⟨97, _⟩ => ⟨S32x2048x8x16, .f32⟩
  | .hbm, ⟨98, _⟩ => ⟨S32x2048x8x16, .f32⟩
  | .hbm, ⟨99, _⟩ => ⟨S32x2048x8x16, .f32⟩
  | .hbm, ⟨100, _⟩ => ⟨S32x2048x8x16, .f32⟩
  | .hbm, ⟨101, _⟩ => ⟨S32x2048x8x16, .f32⟩
  | .hbm, ⟨102, _⟩ => ⟨S32x2048x8x16, .f32⟩
  | .hbm, ⟨103, _⟩ => ⟨S32x2048x8x32, .f32⟩
  | .hbm, ⟨104, _⟩ => ⟨S32x2048x8x96, .f32⟩
  | .hbm, ⟨105, _⟩ => ⟨S32x2048x8x128, .f32⟩
  | .hbm, ⟨106, _⟩ => ⟨S32x2048x1x1x8x128, .f32⟩
  | .hbm, ⟨107, _⟩ => ⟨S32x2048x8x128, .f32⟩
  | .hbm, ⟨108, _⟩ => ⟨S32x2048x24x128, .f32⟩
  | .hbm, ⟨109, _⟩ => ⟨S32x24x2048x128, .f32⟩
  | .hbm, ⟨110, _⟩ => ⟨S32x24x1x2048x128, .f32⟩
  | .hbm, ⟨111, _⟩ => ⟨S32x24x1x2048x128, .bf16⟩
  | .hbm, ⟨112, _⟩ => ⟨S32x2048x1024, .f32⟩
  | .hbm, ⟨113, _⟩ => ⟨S32x2048x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_cst_8 : Ref sig .tc := ⟨.hbm, 75, rfl⟩
abbrev main_v62 : Ref sig .tc := ⟨.hbm, 76, rfl⟩
abbrev main_v63 : Ref sig .tc := ⟨.hbm, 77, rfl⟩
abbrev main_cst_9 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩

abbrev nD : Nat := 1
abbrev τ : Topo := Topo.v7x

variable {F : FTy → Type} [FloatOps F]
-- ==== Kernel5.lean ====
abbrev S32x2048x1024 : Shape := ⟨3, ![32, 2048, 1024]⟩
abbrev S32x2048 : Shape := ⟨2, ![32, 2048]⟩
abbrev S1024 : Shape := ⟨1, ![1024]⟩
abbrev S1024x10240 : Shape := ⟨2, ![1024, 10240]⟩
abbrev S16 : Shape := ⟨1, ![16]⟩
abbrev S_ : Shape := ⟨0, ![]⟩
abbrev S32 : Shape := ⟨1, ![32]⟩
abbrev S128 : Shape := ⟨1, ![128]⟩
abbrev S32x2048x1 : Shape := ⟨3, ![32, 2048, 1]⟩
abbrev S1x1x128 : Shape := ⟨3, ![1, 1, 128]⟩
abbrev S32x2048x128 : Shape := ⟨3, ![32, 2048, 128]⟩
abbrev S1x1024 : Shape := ⟨2, ![1, 1024]⟩
abbrev S32x24x4x512x128 : Shape := ⟨5, ![32, 24, 4, 512, 128]⟩
abbrev S1x1024x1024 : Shape := ⟨3, ![1, 1024, 1024]⟩
abbrev S1x1024x128 : Shape := ⟨3, ![1, 1024, 128]⟩
abbrev S1024x3072 : Shape := ⟨2, ![1024, 3072]⟩
abbrev S1x24x4x256x128 : Shape := ⟨5, ![1, 24, 4, 256, 128]⟩
abbrev S2x10x512x128 : Shape := ⟨4, ![2, 10, 512, 128]⟩
abbrev S512x128 : Shape := ⟨2, ![512, 128]⟩
abbrev S1x512x128 : Shape := ⟨3, ![1, 512, 128]⟩
abbrev S1x10x512x128 : Shape := ⟨4, ![1, 10, 512, 128]⟩
abbrev S10x512x128 : Shape := ⟨3, ![10, 512, 128]⟩
abbrev S1x128x128 : Shape := ⟨3, ![1, 128, 128]⟩
abbrev S128x128 : Shape := ⟨2, ![128, 128]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1x1x1x128x128 : Shape := ⟨5, ![1, 1, 1, 128, 128]⟩

abbrev nBuf : Space → Nat
  | .hbm => 52
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1024, .f32⟩
  | .hbm, ⟨3, _⟩ => ⟨S1024x10240, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S_, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S128, .f32⟩
  | .hbm, ⟨31, _⟩ => ⟨S16, .f32⟩
  | .hbm, ⟨32, _⟩ => ⟨S_, .f32⟩
  | .hbm, ⟨33, _⟩ => ⟨S32, .f32⟩
  | .hbm, ⟨34, _⟩ => ⟨S16, .f32⟩
  | .hbm, ⟨35, _⟩ => ⟨S_, .f32⟩
  | .hbm, ⟨36, _⟩ => ⟨S32, .f32⟩
  | .hbm, ⟨37, _⟩ => ⟨S128, .f32⟩
  | .hbm, ⟨38, _⟩ => ⟨S32x2048, .f32⟩
  | .hbm, ⟨39, _⟩ => ⟨S32x2048x1, .f32⟩
  | .hbm, ⟨40, _⟩ => ⟨S1x1x128, .f32⟩
  | .hbm, ⟨41, _⟩ => ⟨S32x2048x128, .f32⟩
  | .hbm, ⟨42, _⟩ => ⟨S32x2048x128, .f32⟩
  | .hbm, ⟨43, _⟩ => ⟨S32x2048x128, .f32⟩
  | .hbm, ⟨44, _⟩ => ⟨S32x2048x128, .f32⟩
  | .hbm, ⟨45, _⟩ => ⟨S32x2048x128, .f32⟩
  | .hbm, ⟨46, _⟩ => ⟨S1x1x128, .f32⟩
  | .hbm, ⟨47, _⟩ => ⟨S32x2048x128, .f32⟩
  | .hbm, ⟨48, _⟩ => ⟨S32x2048x128, .f32⟩
  | .hbm, ⟨49, _⟩ => ⟨S1024x10240, .bf16⟩
  | .hbm, ⟨50, _⟩ => ⟨S1x1024, .f32⟩
  | .hbm, ⟨51, _⟩ => ⟨S32x24x4x512x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024, .f32⟩
  | .local _ .vmem, ⟨7, _⟩ => ⟨S1024x3072, .bf16⟩
  | .local _ .vmem, ⟨8, _⟩ => ⟨S1x24x4x256x128, .bf16⟩
  | .local _ .vmem, ⟨9, _⟩ => ⟨S1x24x4x256x128, .bf16⟩
  | .local _ .vmem, ⟨10, _⟩ => ⟨S2x10x512x128, .f32⟩
  | .local _ .vmem, ⟨11, _⟩ => ⟨S2x10x512x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_cst_9 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x24x4x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel5Ideal.lean ====
variable {F : FTy → Type} [FloatOps F] [Named F]
def κ : String → Option EReal := fun
  | "scale_a" => some (((Real.sqrt 128)⁻¹ * (Real.log 2)⁻¹ : ℝ) : EReal)
  | _ => none
-- ==== Reference5Ideal.lean ====
abbrev S32x2048x1024 : Shape := ⟨3, ![32, 2048, 1024]⟩
abbrev S32x2048 : Shape := ⟨2, ![32, 2048]⟩
abbrev S1024 : Shape := ⟨1, ![1024]⟩
abbrev S1024x10240 : Shape := ⟨2, ![1024, 10240]⟩
abbrev S_ : Shape := ⟨0, ![]⟩
abbrev S32x2048x1 : Shape := ⟨3, ![32, 2048, 1]⟩
abbrev S1x1x1024 : Shape := ⟨3, ![1, 1, 1024]⟩
abbrev S32x2048x10240 : Shape := ⟨3, ![32, 2048, 10240]⟩
abbrev S32x2048x9216 : Shape := ⟨3, ![32, 2048, 9216]⟩
abbrev S32x2048x3x3x8x128 : Shape := ⟨6, ![32, 2048, 3, 3, 8, 128]⟩
abbrev S32x2048x1x1x8x128 : Shape := ⟨6, ![32, 2048, 1, 1, 8, 128]⟩
abbrev S32x2048x8x128 : Shape := ⟨4, ![32, 2048, 8, 128]⟩
abbrev S32x2048x8x32 : Shape := ⟨4, ![32, 2048, 8, 32]⟩
abbrev S16 : Shape := ⟨1, ![16]⟩
abbrev S1x1x16 : Shape := ⟨3, ![1, 1, 16]⟩
abbrev S32x2048x16 : Shape := ⟨3, ![32, 2048, 16]⟩
abbrev S32x2048x1x16 : Shape := ⟨4, ![32, 2048, 1, 16]⟩
abbrev S32x2048x8x16 : Shape := ⟨4, ![32, 2048, 8, 16]⟩
abbrev S32x2048x8x96 : Shape := ⟨4, ![32, 2048, 8, 96]⟩
abbrev S32x2048x24x128 : Shape := ⟨4, ![32, 2048, 24, 128]⟩
abbrev S32x512x4x24x128 : Shape := ⟨5, ![32, 512, 4, 24, 128]⟩
abbrev S32x24x4x512x128 : Shape := ⟨5, ![32, 24, 4, 512, 128]⟩

abbrev nBuf : Space → Nat
  | .hbm => 112
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1024, .f32⟩
  | .hbm, ⟨3, _⟩ => ⟨S1024x10240, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S32x2048x10240, .f32⟩
  | .hbm, ⟨21, _⟩ => ⟨S32x2048x9216, .f32⟩
  | .hbm, ⟨22, _⟩ => ⟨S32x2048x3x3x8x128, .f32⟩
  | .hbm, ⟨23, _⟩ => ⟨S32x2048x1x1x8x128, .f32⟩
  | .hbm, ⟨24, _⟩ => ⟨S32x2048x8x128, .f32⟩
  | .hbm, ⟨25, _⟩ => ⟨S32x2048x8x32, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S32x2048, .f32⟩
  | .hbm, ⟨37, _⟩ => ⟨S32x2048x1, .f32⟩
  | .hbm, ⟨38, _⟩ => ⟨S1x1x16, .f32⟩
  | .hbm, ⟨39, _⟩ => ⟨S32x2048x16, .f32⟩
  | .hbm, ⟨40, _⟩ => ⟨S32x2048x16, .f32⟩
  | .hbm, ⟨41, _⟩ => ⟨S32x2048x16, .f32⟩
  | .hbm, ⟨42, _⟩ => ⟨S32x2048x16, .f32⟩
  | .hbm, ⟨43, _⟩ => ⟨S32x2048x1x16, .f32⟩
  | .hbm, ⟨44, _⟩ => ⟨S32x2048x16, .f32⟩
  | .hbm, ⟨45, _⟩ => ⟨S32x2048x1x16, .f32⟩
  | .hbm, ⟨46, _⟩ => ⟨S32x2048x8x16, .f32⟩
  | .hbm, ⟨47, _⟩ => ⟨S32x2048x8x16, .f32⟩
  | .hbm, ⟨48, _⟩ => ⟨S32x2048x8x16, .f32⟩
  | .hbm, ⟨49, _⟩ => ⟨S32x2048x8x16, .f32⟩
  | .hbm, ⟨50, _⟩ => ⟨S32x2048x8x16, .f32⟩
  | .hbm, ⟨51, _⟩ => ⟨S32x2048x8x16, .f32⟩
  | .hbm, ⟨52, _⟩ => ⟨S32x2048x8x16, .f32⟩
  | .hbm, ⟨53, _⟩ => ⟨S32x2048x8x16, .f32⟩
  | .hbm, ⟨54, _⟩ => ⟨S32x2048x8x16, .f32⟩
  | .hbm, ⟨55, _⟩ => ⟨S32x2048x8x16, .f32⟩
  | .hbm, ⟨56, _⟩ => ⟨S32x2048x8x16, .f32⟩
  | .hbm, ⟨57, _⟩ => ⟨S32x2048x8x16, .f32⟩
  | .hbm, ⟨58, _⟩ => ⟨S32x2048x8x32, .f32⟩
  | .hbm, ⟨59, _⟩ => ⟨S32x2048x8x96, .f32⟩
  | .hbm, ⟨60, _⟩ => ⟨S32x2048x8x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S32x2048x8x128, .f32⟩
  | .hbm, ⟨67, _⟩ => ⟨S32x2048x8x128, .f32⟩
  | .hbm, ⟨68, _⟩ => ⟨S32x2048x1x1x8x128, .f32⟩
  | .hbm, ⟨69, _⟩ => ⟨S32x2048x8x128, .f32⟩
  | .hbm, ⟨70, _⟩ => ⟨S32x2048x8x32, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S32x2048, .f32⟩
  | .hbm, ⟨82, _⟩ => ⟨S32x2048x1, .f32⟩
  | .hbm, ⟨83, _⟩ => ⟨S1x1x16, .f32⟩
  | .hbm, ⟨84, _⟩ => ⟨S32x2048x16, .f32⟩
  | .hbm, ⟨85, _⟩ => ⟨S32x2048x16, .f32⟩
  | .hbm, ⟨86, _⟩ => ⟨S32x2048x16, .f32⟩
  | .hbm, ⟨87, _⟩ => ⟨S32x2048x16, .f32⟩
  | .hbm, ⟨88, _⟩ => ⟨S32x2048x1x16, .f32⟩
  | .hbm, ⟨89, _⟩ => ⟨S32x2048x16, .f32⟩
  | .hbm, ⟨90, _⟩ => ⟨S32x2048x1x16, .f32⟩
  | .hbm, ⟨91, _⟩ => ⟨S32x2048x8x16, .f32⟩
  | .hbm, ⟨92, _⟩ => ⟨S32x2048x8x16, .f32⟩
  | .hbm, ⟨93, _⟩ => ⟨S32x2048x8x16, .f32⟩
  | .hbm, ⟨94, _⟩ => ⟨S32x2048x8x16, .f32⟩
  | .hbm, ⟨95, _⟩ => ⟨S32x2048x8x16, .f32⟩
  | .hbm, ⟨96, _⟩ => ⟨S32x2048x8x16, .f32⟩
  | .hbm, ⟨97, _⟩ => ⟨S32x2048x8x16, .f32⟩
  | .hbm, ⟨98, _⟩ => ⟨S32x2048x8x16, .f32⟩
  | .hbm, ⟨99, _⟩ => ⟨S32x2048x8x16, .f32⟩
  | .hbm, ⟨100, _⟩ => ⟨S32x2048x8x16, .f32⟩
  | .hbm, ⟨101, _⟩ => ⟨S32x2048x8x16, .f32⟩
  | .hbm, ⟨102, _⟩ => ⟨S32x2048x8x16, .f32⟩
  | .hbm, ⟨103, _⟩ => ⟨S32x2048x8x32, .f32⟩
  | .hbm, ⟨104, _⟩ => ⟨S32x2048x8x96, .f32⟩
  | .hbm, ⟨105, _⟩ => ⟨S32x2048x8x128, .f32⟩
  | .hbm, ⟨106, _⟩ => ⟨S32x2048x1x1x8x128, .f32⟩
  | .hbm, ⟨107, _⟩ => ⟨S32x2048x8x128, .f32⟩
  | .hbm, ⟨108, _⟩ => ⟨S32x2048x24x128, .f32⟩
  | .hbm, ⟨109, _⟩ => ⟨S32x512x4x24x128, .f32⟩
  | .hbm, ⟨110, _⟩ => ⟨S32x24x4x512x128, .f32⟩
  | .hbm, ⟨111, _⟩ => ⟨S32x24x4x512x128, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_cst_8 : Ref sig .tc := ⟨.hbm, 75, rfl⟩
abbrev main_v62 : Ref sig .tc := ⟨.hbm, 76, rfl⟩
abbrev main_v63 : Ref sig .tc := ⟨.hbm, 77, rfl⟩
abbrev main_cst_9 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩

abbrev nD : Nat := 1
abbrev τ : Topo := Topo.v7x

variable {F : FTy → Type} [FloatOps F]
-- ==== Kernel6.lean ====
abbrev S32x2048x1024 : Shape := ⟨3, ![32, 2048, 1024]⟩
abbrev S32x2048 : Shape := ⟨2, ![32, 2048]⟩
abbrev S1024 : Shape := ⟨1, ![1024]⟩
abbrev S1024x10240 : Shape := ⟨2, ![1024, 10240]⟩
abbrev S16 : Shape := ⟨1, ![16]⟩
abbrev S_ : Shape := ⟨0, ![]⟩
abbrev S32 : Shape := ⟨1, ![32]⟩
abbrev S128 : Shape := ⟨1, ![128]⟩
abbrev S32x2048x1 : Shape := ⟨3, ![32, 2048, 1]⟩
abbrev S1x1x128 : Shape := ⟨3, ![1, 1, 128]⟩
abbrev S32x2048x128 : Shape := ⟨3, ![32, 2048, 128]⟩
abbrev S1x1024 : Shape := ⟨2, ![1, 1024]⟩
abbrev S32x24x16x128x128 : Shape := ⟨5, ![32, 24, 16, 128, 128]⟩
abbrev S1x1024x1024 : Shape := ⟨3, ![1, 1024, 1024]⟩
abbrev S1x1024x128 : Shape := ⟨3, ![1, 1024, 128]⟩
abbrev S1024x3072 : Shape := ⟨2, ![1024, 3072]⟩
abbrev S1x24x16x64x128 : Shape := ⟨5, ![1, 24, 16, 64, 128]⟩
abbrev S2x10x512x128 : Shape := ⟨4, ![2, 10, 512, 128]⟩
abbrev S512x128 : Shape := ⟨2, ![512, 128]⟩
abbrev S1x512x128 : Shape := ⟨3, ![1, 512, 128]⟩
abbrev S1x10x512x128 : Shape := ⟨4, ![1, 10, 512, 128]⟩
abbrev S10x512x128 : Shape := ⟨3, ![10, 512, 128]⟩
abbrev S1x128x128 : Shape := ⟨3, ![1, 128, 128]⟩
abbrev S128x128 : Shape := ⟨2, ![128, 128]⟩
abbrev S32x128 : Shape := ⟨2, ![32, 128]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S16x32x128 : Shape := ⟨3, ![16, 32, 128]⟩
abbrev S1x1x16x32x128 : Shape := ⟨5, ![1, 1, 16, 32, 128]⟩

abbrev nBuf : Space → Nat
  | .hbm => 52
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1024, .f32⟩
  | .hbm, ⟨3, _⟩ => ⟨S1024x10240, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S_, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S128, .f32⟩
  | .hbm, ⟨31, _⟩ => ⟨S16, .f32⟩
  | .hbm, ⟨32, _⟩ => ⟨S_, .f32⟩
  | .hbm, ⟨33, _⟩ => ⟨S32, .f32⟩
  | .hbm, ⟨34, _⟩ => ⟨S16, .f32⟩
  | .hbm, ⟨35, _⟩ => ⟨S_, .f32⟩
  | .hbm, ⟨36, _⟩ => ⟨S32, .f32⟩
  | .hbm, ⟨37, _⟩ => ⟨S128, .f32⟩
  | .hbm, ⟨38, _⟩ => ⟨S32x2048, .f32⟩
  | .hbm, ⟨39, _⟩ => ⟨S32x2048x1, .f32⟩
  | .hbm, ⟨40, _⟩ => ⟨S1x1x128, .f32⟩
  | .hbm, ⟨41, _⟩ => ⟨S32x2048x128, .f32⟩
  | .hbm, ⟨42, _⟩ => ⟨S32x2048x128, .f32⟩
  | .hbm, ⟨43, _⟩ => ⟨S32x2048x128, .f32⟩
  | .hbm, ⟨44, _⟩ => ⟨S32x2048x128, .f32⟩
  | .hbm, ⟨45, _⟩ => ⟨S32x2048x128, .f32⟩
  | .hbm, ⟨46, _⟩ => ⟨S1x1x128, .f32⟩
  | .hbm, ⟨47, _⟩ => ⟨S32x2048x128, .f32⟩
  | .hbm, ⟨48, _⟩ => ⟨S32x2048x128, .f32⟩
  | .hbm, ⟨49, _⟩ => ⟨S1024x10240, .bf16⟩
  | .hbm, ⟨50, _⟩ => ⟨S1x1024, .f32⟩
  | .hbm, ⟨51, _⟩ => ⟨S32x24x16x128x128, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024, .f32⟩
  | .local _ .vmem, ⟨7, _⟩ => ⟨S1024x3072, .bf16⟩
  | .local _ .vmem, ⟨8, _⟩ => ⟨S1x24x16x64x128, .bf16⟩
  | .local _ .vmem, ⟨9, _⟩ => ⟨S1x24x16x64x128, .bf16⟩
  | .local _ .vmem, ⟨10, _⟩ => ⟨S2x10x512x128, .f32⟩
  | .local _ .vmem, ⟨11, _⟩ => ⟨S2x10x512x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_cst_7 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_cst_9 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x24x16x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel6Ideal.lean ====
variable {F : FTy → Type} [FloatOps F] [Named F]
def κ : String → Option EReal := fun
  | "scale_a" => some (((Real.sqrt 128)⁻¹ * (Real.log 2)⁻¹ : ℝ) : EReal)
  | _ => none
-- ==== Reference6Ideal.lean ====
abbrev S32x2048x1024 : Shape := ⟨3, ![32, 2048, 1024]⟩
abbrev S32x2048 : Shape := ⟨2, ![32, 2048]⟩
abbrev S1024 : Shape := ⟨1, ![1024]⟩
abbrev S1024x10240 : Shape := ⟨2, ![1024, 10240]⟩
abbrev S_ : Shape := ⟨0, ![]⟩
abbrev S32x2048x1 : Shape := ⟨3, ![32, 2048, 1]⟩
abbrev S1x1x1024 : Shape := ⟨3, ![1, 1, 1024]⟩
abbrev S32x2048x10240 : Shape := ⟨3, ![32, 2048, 10240]⟩
abbrev S32x2048x9216 : Shape := ⟨3, ![32, 2048, 9216]⟩
abbrev S32x2048x3x3x8x128 : Shape := ⟨6, ![32, 2048, 3, 3, 8, 128]⟩
abbrev S32x2048x1x1x8x128 : Shape := ⟨6, ![32, 2048, 1, 1, 8, 128]⟩
abbrev S32x2048x8x128 : Shape := ⟨4, ![32, 2048, 8, 128]⟩
abbrev S32x2048x8x32 : Shape := ⟨4, ![32, 2048, 8, 32]⟩
abbrev S16 : Shape := ⟨1, ![16]⟩
abbrev S1x1x16 : Shape := ⟨3, ![1, 1, 16]⟩
abbrev S32x2048x16 : Shape := ⟨3, ![32, 2048, 16]⟩
abbrev S32x2048x1x16 : Shape := ⟨4, ![32, 2048, 1, 16]⟩
abbrev S32x2048x8x16 : Shape := ⟨4, ![32, 2048, 8, 16]⟩
abbrev S32x2048x8x96 : Shape := ⟨4, ![32, 2048, 8, 96]⟩
abbrev S32x2048x24x128 : Shape := ⟨4, ![32, 2048, 24, 128]⟩
abbrev S32x128x16x24x128 : Shape := ⟨5, ![32, 128, 16, 24, 128]⟩
abbrev S32x24x16x128x128 : Shape := ⟨5, ![32, 24, 16, 128, 128]⟩

abbrev nBuf : Space → Nat
  | .hbm => 112
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048, .i32⟩
  | .hbm, ⟨2, _⟩ => ⟨S1024, .f32⟩
  | .hbm, ⟨3, _⟩ => ⟨S1024x10240, .f32⟩
  | .hbm, ⟨4, _⟩ => ⟨S32x2048x1024, .f32⟩
  | .hbm, ⟨5, _⟩ => ⟨S_, .f32⟩
  | .hbm, ⟨6, _⟩ => ⟨S32x2048, .f32⟩
  | .hbm, ⟨7, _⟩ => ⟨S32x2048x1, .f32⟩
  | .hbm, ⟨8, _⟩ => ⟨S_, .f32⟩
  | .hbm, ⟨9, _⟩ => ⟨S32x2048x1, .f32⟩
  | .hbm, ⟨10, _⟩ => ⟨S32x2048x1, .f32⟩
  | .hbm, ⟨11, _⟩ => ⟨S_, .f32⟩
  | .hbm, ⟨12, _⟩ => ⟨S32x2048x1, .f32⟩
  | .hbm, ⟨13, _⟩ => ⟨S32x2048x1, .f32⟩
  | .hbm, ⟨14, _⟩ => ⟨S32x2048x1, .f32⟩
  | .hbm, ⟨15, _⟩ => ⟨S32x2048x1024, .f32⟩
  | .hbm, ⟨16, _⟩ => ⟨S32x2048x1024, .f32⟩
  | .hbm, ⟨17, _⟩ => ⟨S1x1x1024, .f32⟩
  | .hbm, ⟨18, _⟩ => ⟨S32x2048x1024, .f32⟩
  | .hbm, ⟨19, _⟩ => ⟨S32x2048x1024, .f32⟩
  | .hbm, ⟨20, _⟩ => ⟨S32x2048x10240, .f32⟩
  | .hbm, ⟨21, _⟩ => ⟨S32x2048x9216, .f32⟩
  | .hbm, ⟨22, _⟩ => ⟨S32x2048x3x3x8x128, .f32⟩
  | .hbm, ⟨23, _⟩ => ⟨S32x2048x1x1x8x128, .f32⟩
  | .hbm, ⟨24, _⟩ => ⟨S32x2048x8x128, .f32⟩
  | .hbm, ⟨25, _⟩ => ⟨S32x2048x8x32, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S16, .f32⟩
  | .hbm, ⟨35, _⟩ => ⟨S16, .f32⟩
  | .hbm, ⟨36, _⟩ => ⟨S32x2048, .f32⟩
  | .hbm, ⟨37, _⟩ => ⟨S32x2048x1, .f32⟩
  | .hbm, ⟨38, _⟩ => ⟨S1x1x16, .f32⟩
  | .hbm, ⟨39, _⟩ => ⟨S32x2048x16, .f32⟩
  | .hbm, ⟨40, _⟩ => ⟨S32x2048x16, .f32⟩
  | .hbm, ⟨41, _⟩ => ⟨S32x2048x16, .f32⟩
  | .hbm, ⟨42, _⟩ => ⟨S32x2048x16, .f32⟩
  | .hbm, ⟨43, _⟩ => ⟨S32x2048x1x16, .f32⟩
  | .hbm, ⟨44, _⟩ => ⟨S32x2048x16, .f32⟩
  | .hbm, ⟨45, _⟩ => ⟨S32x2048x1x16, .f32⟩
  | .hbm, ⟨46, _⟩ => ⟨S32x2048x8x16, .f32⟩
  | .hbm, ⟨47, _⟩ => ⟨S32x2048x8x16, .f32⟩
  | .hbm, ⟨48, _⟩ => ⟨S32x2048x8x16, .f32⟩
  | .hbm, ⟨49, _⟩ => ⟨S32x2048x8x16, .f32⟩
  | .hbm, ⟨50, _⟩ => ⟨S32x2048x8x16, .f32⟩
  | .hbm, ⟨51, _⟩ => ⟨S32x2048x8x16, .f32⟩
  | .hbm, ⟨52, _⟩ => ⟨S32x2048x8x16, .f32⟩
  | .hbm, ⟨53, _⟩ => ⟨S32x2048x8x16, .f32⟩
  | .hbm, ⟨54, _⟩ => ⟨S32x2048x8x16, .f32⟩
  | .hbm, ⟨55, _⟩ => ⟨S32x2048x8x16, .f32⟩
  | .hbm, ⟨56, _⟩ => ⟨S32x2048x8x16, .f32⟩
  | .hbm, ⟨57, _⟩ => ⟨S32x2048x8x16, .f32⟩
  | .hbm, ⟨58, _⟩ => ⟨S32x2048x8x32, .f32⟩
  | .hbm, ⟨59, _⟩ => ⟨S32x2048x8x96, .f32⟩
  | .hbm, ⟨60, _⟩ => ⟨S32x2048x8x128, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S32x2048x8x128, .f32⟩
  | .hbm, ⟨67, _⟩ => ⟨S32x2048x8x128, .f32⟩
  | .hbm, ⟨68, _⟩ => ⟨S32x2048x1x1x8x128, .f32⟩
  | .hbm, ⟨69, _⟩ => ⟨S32x2048x8x128, .f32⟩
  | .hbm, ⟨70, _⟩ => ⟨S32x2048x8x32, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S32x2048, .f32⟩
  | .hbm, ⟨82, _⟩ => ⟨S32x2048x1, .f32⟩
  | .hbm, ⟨83, _⟩ => ⟨S1x1x16, .f32⟩
  | .hbm, ⟨84, _⟩ => ⟨S32x2048x16, .f32⟩
  | .hbm, ⟨85, _⟩ => ⟨S32x2048x16, .f32⟩
  | .hbm, ⟨86, _⟩ => ⟨S32x2048x16, .f32⟩
  | .hbm, ⟨87, _⟩ => ⟨S32x2048x16, .f32⟩
  | .hbm, ⟨88, _⟩ => ⟨S32x2048x1x16, .f32⟩
  | .hbm, ⟨89, _⟩ => ⟨S32x2048x16, .f32⟩
  | .hbm, ⟨90, _⟩ => ⟨S32x2048x1x16, .f32⟩
  | .hbm, ⟨91, _⟩ => ⟨S32x2048x8x16, .f32⟩
  | .hbm, ⟨92, _⟩ => ⟨S32x2048x8x16, .f32⟩
  | .hbm, ⟨93, _⟩ => ⟨S32x2048x8x16, .f32⟩
  | .hbm, ⟨94, _⟩ => ⟨S32x2048x8x16, .f32⟩
  | .hbm, ⟨95, _⟩ => ⟨S32x2048x8x16, .f32⟩
  | .hbm, ⟨96, _⟩ => ⟨S32x2048x8x16, .f32⟩
  | .hbm, ⟨97, _⟩ => ⟨S32x2048x8x16, .f32⟩
  | .hbm, ⟨98, _⟩ => ⟨S32x2048x8x16, .f32⟩
  | .hbm, ⟨99, _⟩ => ⟨S32x2048x8x16, .f32⟩
  | .hbm, ⟨100, _⟩ => ⟨S32x2048x8x16, .f32⟩
  | .hbm, ⟨101, _⟩ => ⟨S32x2048x8x16, .f32⟩
  | .hbm, ⟨102, _⟩ => ⟨S32x2048x8x16, .f32⟩
  | .hbm, ⟨103, _⟩ => ⟨S32x2048x8x32, .f32⟩
  | .hbm, ⟨104, _⟩ => ⟨S32x2048x8x96, .f32⟩
  | .hbm, ⟨105, _⟩ => ⟨S32x2048x8x128, .f32⟩
  | .hbm, ⟨106, _⟩ => ⟨S32x2048x1x1x8x128, .f32⟩
  | .hbm, ⟨107, _⟩ => ⟨S32x2048x8x128, .f32⟩
  | .hbm, ⟨108, _⟩ => ⟨S32x2048x24x128, .f32⟩
  | .hbm, ⟨109, _⟩ => ⟨S32x128x16x24x128, .f32⟩
  | .hbm, ⟨110, _⟩ => ⟨S32x24x16x128x128, .f32⟩
  | .hbm, ⟨111, _⟩ => ⟨S32x24x16x128x128, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_5 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_7 : Ref sig .tc := ⟨.hbm, 72, rfl⟩
abbrev main_v60 : Ref sig .tc := ⟨.hbm, 73, rfl⟩
abbrev main_v61 : Ref sig .tc := ⟨.hbm, 74, rfl⟩
abbrev main_cst_8 : Ref sig .tc := ⟨.hbm, 75, rfl⟩
abbrev main_v62 : Ref sig .tc := ⟨.hbm, 76, rfl⟩
abbrev main_v63 : Ref sig .tc := ⟨.hbm, 77, rfl⟩
abbrev main_cst_9 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩

abbrev nD : Nat := 1
abbrev τ : Topo := Topo.v7x

variable {F : FTy → Type} [FloatOps F]
-- ==== Proof.AttnTile.lean ====
module

public import proofs.«01_k».proof.Proof.Gen.KernelIdeal.Value
public import Idealize.ShloMosaic.Lib.Pointwise
public import Idealize.ShloMosaic.Lib.Pointwise.IndexVar
public import Idealize.ShloMosaic.Lib.MatmulPlain
public import Idealize.ShloMosaic.Lib.WordCmp

@[expose] public section

set_option maxRecDepth 16384

noncomputable section

/-!
What one tile of 256 query rows computes, with the number of its unmasked keys a variable: the operations of the
kernel's body (scores, row maxima, powers of two, weighted sums of values, division), each read at an index.
-/

namespace Cert.AttnTile

open Cert.KernelIdeal Cert.KernelIdeal.Gen Idealize.ShloMosaic Idealize.ShloMosaic.TcCoe

/-- The shape of a matrix with `a` rows and `b` columns. -/
abbrev Mat (a b : ℕ) : Shape := ⟨2, ![a, b]⟩

/-- The shape of `n` rows of one head of one sequence, as they are loaded. -/
abbrev Rows (n : ℕ) : Shape := ⟨4, ![1, 1, n, 128]⟩

/-- What the operations over `n` keys need to be known of their shapes. -/
structure Fits (n : ℕ) : Prop where
  cast : (Rows n).ShapeCasts (Mat n 128)
  red : (Mat 256 n).Reduces [1] S256
  bcast : S256x1.Broadcasts (Mat 256 n)

/-- The dot products of 256 queries with `n` keys. -/
def scores {n : ℕ} (f : Fits n) (q : Vec Ideal S1x1x256x128 .bf16) (k : Vec Ideal (Rows n) .bf16) :
    FVec Ideal (Mat 256 n) .f32 :=
  matmul (F := Ideal) (DotDims.transposedRhs 256 128 n) none
    (shapeCast S256x128 q shapeCasts_S1x1x256x128_S256x128 : FVec Ideal S256x128 .bf16)
    (shapeCast (Mat n 128) k f.cast : FVec Ideal (Mat n 128) .bf16) (constant (Mat 256 n) .f32 0x00000000#32)

/-- The scores of the tile's own keys, those after the query's position replaced by minus infinity. -/
def masked (x : FVec Ideal S256x256 .f32) : FVec Ideal S256x256 .f32 :=
  select k0_pay2 x (broadcast S256x256 (Scalar.ofBits (F := Ideal) .f32 0xFF800000#32))

/-- The largest score of each query. -/
def rowMax {n : ℕ} (f : Fits n) (x : FVec Ideal (Mat 256 n) .f32) : FVec Ideal S256x1 .f32 :=
  shapeCast S256x1 (multiReduction (F := Ideal) .maximumf [1] S256 x 0xFF800000#32 f.red (.inl rfl) rfl)
    shapeCasts_S256_S256x1

/-- Two to the power of the score less the query's maximum. -/
def weights {n : ℕ} (f : Fits n) (x : FVec Ideal (Mat 256 n) .f32) (m : FVec Ideal S256x1 .f32) :
    FVec Ideal (Mat 256 n) .bf16 :=
  truncf .bf16 (exp2 (subf x (broadcastTo (Mat 256 n) m f.bcast))) bitsLt_bf16_f32

/-- The weighted sums of the values. -/
def mix {n : ℕ} (f : Fits n) (w : FVec Ideal (Mat 256 n) .bf16) (v : Vec Ideal (Rows n) .bf16) :
    FVec Ideal S256x128 .f32 :=
  matmul (F := Ideal) (DotDims.plain 256 n 128) none w
    (shapeCast (Mat n 128) v f.cast : FVec Ideal (Mat n 128) .bf16) (constant S256x128 .f32 0x00000000#32)

/-- The numbers of the lanes. -/
def lanes : IVec S256x128 32 := iota .tc S256x128 32 [1] iota_S256x128_d1_w32

/-- Every row divided by its lane 0. -/
def divided (o : FVec Ideal S256x128 .f32) : FVec Ideal S256x128 .f32 :=
  divf o (broadcastTo S256x128 (shapeCast S256x1
    (multiReduction (F := Ideal) .add [1] S256
      (select (cmpi .eq lanes (broadcast S256x128 0#32)) o
        (broadcast S256x128 (Scalar.ofBits (F := Ideal) .f32 0x00000000#32)))
      0x00000000#32 reduces_S256x128_S256 (.inl rfl) rfl)
    shapeCasts_S256_S256x1) broadcasts_S256x1_S256x128)

/-- Two heads side by side: lanes 64 to 127 of the first, then lanes 64 to 127 of the second. -/
def joined (o₀ o₁ : FVec Ideal S256x128 .f32) : FVec Ideal S1x1x256x128 .bf16 :=
  shapeCast S1x1x256x128 (truncf .bf16 (select (cmpi .slt lanes (broadcast S256x128 64#32))
    (dynamicRotate 1 64#32 none o₀ rotates_S256x128_d1) o₁) bitsLt_bf16_f32 : FVec Ideal S256x128 .bf16)
    shapeCasts_S256x128_S1x1x256x128

/-- One head of the first tile: its own 256 keys only. -/
def first (f : Fits 256) (q k v : Vec Ideal S1x1x256x128 .bf16) : FVec Ideal S256x128 .f32 :=
  divided (mix f (weights f (masked (scores f q k)) (rowMax f (masked (scores f q k)))) v)

/-- The query's maximum over the tile's own keys and the `n` keys before the tile. -/
def bothMax {n : ℕ} (f : Fits 256) (g : Fits n) (q k : Vec Ideal S1x1x256x128 .bf16)
    (k' : Vec Ideal (Rows n) .bf16) : FVec Ideal S256x1 .f32 :=
  maximumf (rowMax f (masked (scores f q k))) (rowMax g (scores g q k'))

/-- One head of a later tile: its own 256 keys and the `n` keys before it. -/
def later {n : ℕ} (f : Fits 256) (g : Fits n) (q k v : Vec Ideal S1x1x256x128 .bf16)
    (k' v' : Vec Ideal (Rows n) .bf16) : FVec Ideal S256x128 .f32 :=
  divided (addf (mix f (weights f (masked (scores f q k)) (bothMax f g q k k')) v)
    (mix g (weights g (scores g q k') (bothMax f g q k k')) v'))

/-- The word of minus infinity. -/
theorem negInf : Ideal.ofBits .f32 4286578688#32 = ⊥ := by
  simp [Ideal.ofBits, Ideal.ieee]

/-- Loading rows drops two axes of one element. -/
theorem rows_apply {n : ℕ} (f : Fits n) (x : Vec Ideal (Rows n) .bf16) (r : Fin n) (d : Fin 128) :
    (shapeCast (Mat n 128) x f.cast : FVec Ideal (Mat n 128) .bf16) (ix2 r d) = x (ix4 0 0 r d) := by
  refine congrArg x (Shape.reshapeEquiv_eq_of_rowMajor f.cast ?_)
  rw [Shape.rowMajor_val_two, Shape.rowMajor_val_four]
  simp

/-- A score at an index. -/
theorem scores_apply {n : ℕ} (f : Fits n) (q : Vec Ideal S1x1x256x128 .bf16) (k : Vec Ideal (Rows n) .bf16)
    (r : Fin 256) (c : Fin n) :
    scores f q k (ix2 r c) = ∑ d : Fin 128, q (ix4 0 0 r d) * k (ix4 0 0 c d) := by
  refine (Ideal.matmul_transposedRhs_apply (M := 256) (K := 128) (N := n) none _ _ _ r c).trans ?_
  simp only [← ix2_eq_valueIdx, rows_apply f]
  pointwise

/-- A masked score at an index. -/
theorem masked_apply (x : FVec Ideal S256x256 .f32) (r c : Fin 256) :
    masked x (ix2 r c) = if c ≤ r then x (ix2 r c) else ⊥ := by
  have hc := c.isLt
  have hr := r.isLt
  pointwise [masked, k0_pay2]
  simp (disch := omega) only [hlo_ix, negInf]
  rfl

/-- The largest score of a row. -/
theorem rowMax_apply {n : ℕ} (f : Fits n) (x : FVec Ideal (Mat 256 n) .f32) (r : Fin 256) (c : Fin 1) :
    rowMax f x (ix2 r c) = Finset.univ.sup fun c : Fin n => x (ix2 r c) := by
  pointwise [rowMax]
  rw [negInf]
  rfl

/-- A weight at an index. -/
theorem weights_apply {n : ℕ} (f : Fits n) (x : FVec Ideal (Mat 256 n) .f32) (m : FVec Ideal S256x1 .f32)
    (r : Fin 256) (c : Fin n) :
    weights f x m (ix2 r c) = Ideal.exp2 (x (ix2 r c) - m (ix2 r 0)) := by
  pointwise [weights]
  rfl

/-- The weighted sum of the values at an index. -/
theorem mix_apply {n : ℕ} (f : Fits n) (w : FVec Ideal (Mat 256 n) .bf16) (v : Vec Ideal (Rows n) .bf16)
    (r : Fin 256) (l : Fin 128) :
    mix f w v (ix2 r l) = ∑ c : Fin n, w (ix2 r c) * v (ix4 0 0 c l) := by
  refine (Ideal.matmul_plain_apply (M := 256) (K := n) (N := 128) none _ _ _ r l).trans ?_
  simp only [← ix2_eq_valueIdx, rows_apply f]
  pointwise

/-- The divided sums at an index. -/
theorem divided_apply (o : FVec Ideal S256x128 .f32) (r : Fin 256) (l : Fin 128) :
    divided o (ix2 r l) = Ideal.div (o (ix2 r l)) (o (ix2 r 0)) := by
  pointwise [divided, lanes]
  congr 1
  rw [Finset.sum_eq_single (0 : Fin 128)]
  · rfl
  · intro b _ hb
    have h0 : (b : ℕ) ≠ 0 := fun h => hb (Fin.ext h)
    have hb := b.isLt
    simp (disch := omega) only [hlo_ix]
    rw [if_neg h0]
  · intro h
    exact absurd (Finset.mem_univ _) h

/-- The two heads of a pair side by side, at an index. -/
theorem joined_apply (o₀ o₁ : FVec Ideal S256x128 .f32) (r : Fin 256) (l : Fin 128) (a b : Fin 1) :
    joined o₀ o₁ (ix4 a b r l) =
      if h : (l : ℕ) < 64 then o₀ (ix2 r ⟨l + 64, by omega⟩) else o₁ (ix2 r l) := by
  have hl := l.isLt
  pointwise [joined, lanes]
  simp (disch := omega) only [hlo_ix]
  by_cases h : (l : ℕ) < 64
  · rw [if_pos h, dif_pos h]
    congr 2
    apply Fin.ext
    show ((l : ℕ) + 128 - 64) % 128 = l + 64
    omega
  · rw [if_neg h, dif_neg h]

end Cert.AttnTile
-- ==== Proof.AttnRow.lean ====
module

public import proofs.«01_k».proof.Proof.AttnTile

@[expose] public section

set_option maxRecDepth 16384

noncomputable section

/-!
One row of causal attention in powers of two, over all 2048 keys at once, and the proof that a tile, which runs over
its own 256 keys and the keys before it, computes that row.
-/

namespace Cert.AttnTile

open Cert.KernelIdeal Cert.KernelIdeal.Gen Idealize.ShloMosaic Idealize.ShloMosaic.TcCoe
open scoped BigOperators

/-- One head of one sequence: 2048 rows of 128 lanes. -/
abbrev Head := Fin 2048 → Fin 128 → EReal

/-- The score of a query and a key, minus infinity where the key comes after the query. -/
def score (Q K : Head) (t c : Fin 2048) : EReal := if c ≤ t then ∑ d, Q t d * K c d else ⊥

/-- The largest score of a query. -/
def top (Q K : Head) (t : Fin 2048) : EReal := Finset.univ.sup (score Q K t)

/-- The sum of the values, weighted by two to the power of score less maximum. -/
def weighted (Q K V : Head) (t : Fin 2048) (l : Fin 128) : EReal :=
  ∑ c, Ideal.exp2 (score Q K t c - top Q K t) * V c l

/-- The weighted sum divided by that of lane 0. -/
def attn (Q K V : Head) (t : Fin 2048) (l : Fin 128) : EReal :=
  Ideal.div (weighted Q K V t l) (weighted Q K V t 0)

/-- A sum over 2048 places whose terms from `n + 256` on are zero, cut at `n`. -/
theorem sum_cut {n : ℕ} (hn : n + 256 ≤ 2048) (f : Fin 2048 → EReal)
    (hf : ∀ c : Fin 2048, n + 256 ≤ (c : ℕ) → f c = 0) :
    ∑ c, f c = (∑ c : Fin 256, f ⟨n + c, by omega⟩) + ∑ c : Fin n, f ⟨c, by omega⟩ := by
  let F : ℕ → EReal := fun k => if h : k < 2048 then f ⟨k, h⟩ else 0
  have e1 : ∑ c, f c = ∑ k ∈ Finset.range 2048, F k := by
    rw [Finset.sum_range]
    exact Finset.sum_congr rfl fun c _ => by simp [F]
  have e2 : ∑ c : Fin 256, f ⟨n + c, by omega⟩ = ∑ k ∈ Finset.range 256, F (n + k) := by
    rw [Finset.sum_range]
    exact Finset.sum_congr rfl fun c _ => by simp [F, show n + (c : ℕ) < 2048 by omega]
  have e3 : ∑ c : Fin n, f ⟨c, by omega⟩ = ∑ k ∈ Finset.range n, F k := by
    rw [Finset.sum_range]
    exact Finset.sum_congr rfl fun c _ => by simp [F, show (c : ℕ) < 2048 by omega]
  obtain ⟨m, hm⟩ := Nat.exists_eq_add_of_le hn
  have e4 : ∑ k ∈ Finset.range m, F (n + 256 + k) = 0 := Finset.sum_eq_zero fun k hk => by
    have := Finset.mem_range.1 hk
    simp only [F]
    rw [dif_pos (by omega)]
    exact hf _ (by simp)
  rw [e1, e2, e3, hm, Finset.sum_range_add, Finset.sum_range_add, e4, add_zero, add_comm]

/-- The largest of 2048 scores, those after the query at `n + r` being minus infinity, from the two parts of a tile. -/
theorem top_cut {n : ℕ} (hn : n + 256 ≤ 2048) (Q K : Head) (r : Fin 256) :
    top Q K ⟨n + r, by omega⟩ =
      max (Finset.univ.sup fun c : Fin 256 =>
          if c ≤ r then ∑ d, Q ⟨n + r, by omega⟩ d * K ⟨n + c, by omega⟩ d else ⊥)
        (Finset.univ.sup fun c : Fin n => ∑ d, Q ⟨n + r, by omega⟩ d * K ⟨c, by omega⟩ d) := by
  apply le_antisymm
  · refine Finset.sup_le fun c _ => ?_
    unfold score
    split
    · rename_i h
      have h' : (c : ℕ) ≤ n + r := h
      by_cases hc : (c : ℕ) < n
      · exact le_max_of_le_right (Finset.le_sup (f := fun c : Fin n => ∑ d, Q ⟨n + r, by omega⟩ d * K ⟨c, by omega⟩ d)
          (Finset.mem_univ (⟨c, hc⟩ : Fin n)))
      · refine le_max_of_le_left ?_
        have e := Finset.le_sup (f := fun c : Fin 256 =>
          if c ≤ r then ∑ d, Q ⟨n + r, by omega⟩ d * K ⟨n + c, by omega⟩ d else ⊥)
          (Finset.mem_univ (⟨c - n, by omega⟩ : Fin 256))
        have hle : (⟨(c : ℕ) - n, by omega⟩ : Fin 256) ≤ r := by
          show (c : ℕ) - n ≤ r
          omega
        have hk : (⟨n + ((c : ℕ) - n), by omega⟩ : Fin 2048) = c := Fin.ext (by show n + ((c : ℕ) - n) = c; omega)
        simp only [hle, if_true, hk] at e
        exact e
    · exact bot_le
  · refine max_le (Finset.sup_le fun c _ => ?_) (Finset.sup_le fun c _ => ?_)
    · split
      · rename_i h
        have h' : (c : ℕ) ≤ r := h
        have e := Finset.le_sup (f := score Q K ⟨n + r, by omega⟩) (Finset.mem_univ (⟨n + c, by omega⟩ : Fin 2048))
        unfold score at e
        rw [if_pos (by show n + (c : ℕ) ≤ n + r; omega)] at e
        exact e
      · exact bot_le
    · have e := Finset.le_sup (f := score Q K ⟨n + r, by omega⟩) (Finset.mem_univ (⟨c, by omega⟩ : Fin 2048))
      unfold score at e
      rw [if_pos (by show (c : ℕ) ≤ n + r; omega)] at e
      exact e

/-- Minus infinity less anything weighs nothing. -/
theorem exp2_bot_sub (m : EReal) : Ideal.exp2 (⊥ - m) = 0 := by
  rw [sub_eq_add_neg, EReal.bot_add]
  rfl

/-- The weighted sum of a row from the two parts of a tile. -/
theorem weighted_cut {n : ℕ} (hn : n + 256 ≤ 2048) (Q K V : Head) (r : Fin 256) (l : Fin 128) :
    weighted Q K V ⟨n + r, by omega⟩ l =
      (∑ c : Fin 256, Ideal.exp2 ((if c ≤ r then ∑ d, Q ⟨n + r, by omega⟩ d * K ⟨n + c, by omega⟩ d else ⊥)
          - top Q K ⟨n + r, by omega⟩) * V ⟨n + c, by omega⟩ l)
        + ∑ c : Fin n, Ideal.exp2 ((∑ d, Q ⟨n + r, by omega⟩ d * K ⟨c, by omega⟩ d) - top Q K ⟨n + r, by omega⟩)
          * V ⟨c, by omega⟩ l := by
  unfold weighted
  rw [sum_cut hn]
  · congr 1
    · refine Finset.sum_congr rfl fun c _ => ?_
      unfold score
      simp only [Fin.mk_le_mk, Nat.add_le_add_iff_left, Fin.val_fin_le]
    · refine Finset.sum_congr rfl fun c _ => ?_
      unfold score
      rw [if_pos (by show (c : ℕ) ≤ n + r; omega)]
  · intro c hc
    unfold score
    rw [if_neg (by show ¬ (c : ℕ) ≤ n + r; omega), exp2_bot_sub, zero_mul]

/-- A later tile computes rows of causal attention. -/
theorem later_apply {n : ℕ} (hn : n + 256 ≤ 2048) (f : Fits 256) (g : Fits n) (Q K V : Head)
    (q k v : Vec Ideal S1x1x256x128 .bf16) (k' v' : Vec Ideal (Rows n) .bf16)
    (hq : ∀ (r : Fin 256) d, q (ix4 0 0 r d) = Q ⟨n + r, by omega⟩ d)
    (hk : ∀ (r : Fin 256) d, k (ix4 0 0 r d) = K ⟨n + r, by omega⟩ d)
    (hv : ∀ (r : Fin 256) d, v (ix4 0 0 r d) = V ⟨n + r, by omega⟩ d)
    (hk' : ∀ (r : Fin n) d, k' (ix4 0 0 r d) = K ⟨r, by omega⟩ d)
    (hv' : ∀ (r : Fin n) d, v' (ix4 0 0 r d) = V ⟨r, by omega⟩ d) (r : Fin 256) (l : Fin 128) :
    later f g q k v k' v' (ix2 r l) = attn Q K V ⟨n + r, by omega⟩ l := by
  have hm : bothMax f g q k k' (ix2 r 0) = top Q K ⟨n + r, by omega⟩ := by
    rw [top_cut hn]
    show max _ _ = _
    rw [rowMax_apply, rowMax_apply]
    simp only [masked_apply, scores_apply, hq, hk, hk']
  unfold later attn
  rw [divided_apply]
  show Ideal.div (_ + _) (_ + _) = _
  simp only [mix_apply, weights_apply, masked_apply, scores_apply, hm, hq, hk, hv, hk', hv', weighted_cut hn]

/-- The first tile computes rows of causal attention. -/
theorem first_apply (f : Fits 256) (Q K V : Head) (q k v : Vec Ideal S1x1x256x128 .bf16)
    (hq : ∀ (r : Fin 256) d, q (ix4 0 0 r d) = Q ⟨0 + r, by omega⟩ d)
    (hk : ∀ (r : Fin 256) d, k (ix4 0 0 r d) = K ⟨0 + r, by omega⟩ d)
    (hv : ∀ (r : Fin 256) d, v (ix4 0 0 r d) = V ⟨0 + r, by omega⟩ d) (r : Fin 256) (l : Fin 128) :
    first f q k v (ix2 r l) = attn Q K V ⟨0 + r, by omega⟩ l := by
  have hm : rowMax f (masked (scores f q k)) (ix2 r 0) = top Q K ⟨0 + r, by omega⟩ := by
    rw [top_cut (n := 0) (by omega), rowMax_apply]
    simp only [masked_apply, scores_apply, hq, hk]
    rw [show (Finset.univ : Finset (Fin 0)) = ∅ from rfl, Finset.sup_empty, max_eq_left bot_le]
  unfold first attn
  rw [divided_apply]
  simp only [mix_apply, weights_apply, masked_apply, scores_apply, hm, hq, hk, hv,
    weighted_cut (n := 0) (by omega), Finset.univ_eq_empty, Finset.sum_empty, add_zero]

/-! ## The block -/

/-- One head of a block of two heads. -/
def head (x : Vec Ideal S1x2x2048x128 .bf16) (h : Fin 2) : Head := fun t d => x (ix4 0 h t d)

/-- What the body leaves in the output block: at lane `l` the value lane `64 + l % 64` of head `l / 64`. -/
def block (x0 x1 x2 : Vec Ideal S1x2x2048x128 .bf16) : Vec Ideal S1x1x2048x128 .bf16 := fun y =>
  if h : ((y 3 : Fin 128) : ℕ) < 64 then
    attn (head x0 0) (head x1 0) (head x2 0) (y 2) ⟨((y 3 : Fin 128) : ℕ) + 64, by omega⟩
  else attn (head x0 1) (head x1 1) (head x2 1) (y 2) (y 3)

/-- Loading `n` rows of one head from row `lo` on. -/
theorem load_apply {h lo n : ℕ} (hh : h < 2)
    (inb : ∀ a, (![0, h, lo, 0] : Fin 4 → ℕ) a + (Rows n).size a ≤ S1x2x2048x128.size a)
    (x : Vec Ideal S1x2x2048x128 .bf16) (r : Fin n) (d : Fin 128) (hr : lo + r < 2048) :
    View.ld x (Rect.unit (s := S1x2x2048x128) ![0, h, lo, 0] (Rows n).size inb) (ix4 0 0 r d)
      = head x ⟨h, hh⟩ ⟨lo + r, hr⟩ d := by
  refine congrArg x (funext fun a => Fin.ext ?_)
  match a with
  | ⟨0, _⟩ => rfl
  | ⟨1, _⟩ => show h + 1 * 0 = h; omega
  | ⟨2, _⟩ => show lo + 1 * (r : ℕ) = lo + r; omega
  | ⟨3, _⟩ => show 0 + 1 * (d : ℕ) = d; omega

end Cert.AttnTile
-- ==== Proof.AttnBlock.lean ====
module

public import proofs.«01_k».proof.Proof.AttnRow

@[expose] public section

set_option maxRecDepth 16384

noncomputable section

/-!
The body's eight stores are the eight tiles of one function of the output block, the rows of causal attention.
-/

namespace Cert.AttnTile

open Cert.KernelIdeal Cert.KernelIdeal.Gen Idealize.ShloMosaic Idealize.ShloMosaic.TcCoe

/-- A load of `n` rows of head `h` from row `lo` on. -/
abbrev rows (h lo n : ℕ) (inb : ∀ a, (![0, h, lo, 0] : Fin 4 → ℕ) a + (Rows n).size a ≤ S1x2x2048x128.size a)
    (x : Vec Ideal S1x2x2048x128 .bf16) : Vec Ideal (Rows n) .bf16 :=
  View.ld x (Rect.unit (s := S1x2x2048x128) ![0, h, lo, 0] (Rows n).size inb)

/-- The block function at the place of a tile's element. -/
theorem block_emb {lo : ℕ} (inb : ∀ a, (![0, 0, lo, 0] : Fin 4 → ℕ) a + (Rows 256).size a ≤ S1x1x2048x128.size a)
    (x0 x1 x2 : Vec Ideal S1x2x2048x128 .bf16) (a b : Fin 1) (r : Fin 256) (l : Fin 128) (hr : lo + r < 2048) :
    block x0 x1 x2 ((Rect.unit (s := S1x1x2048x128) ![0, 0, lo, 0] (Rows 256).size inb).emb (ix4 a b r l)) =
      if h : (l : ℕ) < 64 then attn (head x0 0) (head x1 0) (head x2 0) ⟨lo + r, hr⟩ ⟨l + 64, by omega⟩
      else attn (head x0 1) (head x1 1) (head x2 1) ⟨lo + r, hr⟩ l := by
  have e : (Rect.unit (s := S1x1x2048x128) ![0, 0, lo, 0] (Rows 256).size inb).emb (ix4 a b r l)
      = ix4 0 0 ⟨lo + r, hr⟩ l := by
    refine funext fun a' => Fin.ext ?_
    match a' with
    | ⟨0, _⟩ => show 0 + 1 * (a : ℕ) = 0; omega
    | ⟨1, _⟩ => show 0 + 1 * (b : ℕ) = 0; omega
    | ⟨2, _⟩ => show lo + 1 * (r : ℕ) = lo + r; omega
    | ⟨3, _⟩ => show 0 + 1 * (l : ℕ) = l; omega
  rw [e]
  rfl

/-- A later tile's store is its part of the block function. -/
theorem later_tile {n : ℕ} (hn : n + 256 ≤ 2048) (f : Fits 256) (g : Fits n)
    (i0 : ∀ a, (![0, 0, n, 0] : Fin 4 → ℕ) a + (Rows 256).size a ≤ S1x2x2048x128.size a)
    (i1 : ∀ a, (![0, 1, n, 0] : Fin 4 → ℕ) a + (Rows 256).size a ≤ S1x2x2048x128.size a)
    (j0 : ∀ a, (![0, 0, 0, 0] : Fin 4 → ℕ) a + (Rows n).size a ≤ S1x2x2048x128.size a)
    (j1 : ∀ a, (![0, 1, 0, 0] : Fin 4 → ℕ) a + (Rows n).size a ≤ S1x2x2048x128.size a)
    (o : ∀ a, (![0, 0, n, 0] : Fin 4 → ℕ) a + (Rows 256).size a ≤ S1x1x2048x128.size a)
    (x0 x1 x2 : Vec Ideal S1x2x2048x128 .bf16) (x : (Rows 256).Idx) :
    joined
        (later f g (rows 0 n 256 i0 x0) (rows 0 n 256 i0 x1) (rows 0 n 256 i0 x2) (rows 0 0 n j0 x1) (rows 0 0 n j0 x2))
        (later f g (rows 1 n 256 i1 x0) (rows 1 n 256 i1 x1) (rows 1 n 256 i1 x2) (rows 1 0 n j1 x1) (rows 1 0 n j1 x2)) x
      = block x0 x1 x2 ((Rect.unit (s := S1x1x2048x128) ![0, 0, n, 0] (Rows 256).size o).emb x) := by
  obtain ⟨a, b, r, l, rfl⟩ : ∃ (a b : Fin 1) (r : Fin 256) (l : Fin 128), x = ix4 a b r l :=
    ⟨x 0, x 1, x 2, x 3, eq_ix4 x⟩
  have low : ∀ {h : ℕ} (hh : h < 2) j (y : Vec Ideal S1x2x2048x128 .bf16) (r : Fin n) (d : Fin 128),
      rows h 0 n j y (ix4 0 0 r d) = head y ⟨h, hh⟩ ⟨r, by omega⟩ d := fun hh j y r d =>
    (load_apply hh j y r d (by omega)).trans (by simp only [Nat.zero_add])
  rw [block_emb o x0 x1 x2 a b r l (by omega), joined_apply]
  split
  · exact later_apply hn f g (head x0 0) (head x1 0) (head x2 0) _ _ _ _ _
      (fun r d => load_apply (by omega) i0 x0 r d _) (fun r d => load_apply (by omega) i0 x1 r d _)
      (fun r d => load_apply (by omega) i0 x2 r d _) (low (by omega) j0 x1) (low (by omega) j0 x2) r _
  · exact later_apply hn f g (head x0 1) (head x1 1) (head x2 1) _ _ _ _ _
      (fun r d => load_apply (by omega) i1 x0 r d _) (fun r d => load_apply (by omega) i1 x1 r d _)
      (fun r d => load_apply (by omega) i1 x2 r d _) (low (by omega) j1 x1) (low (by omega) j1 x2) r _

/-- The first tile's store is its part of the block function. -/
theorem first_tile (f : Fits 256)
    (i0 : ∀ a, (![0, 0, 0, 0] : Fin 4 → ℕ) a + (Rows 256).size a ≤ S1x2x2048x128.size a)
    (i1 : ∀ a, (![0, 1, 0, 0] : Fin 4 → ℕ) a + (Rows 256).size a ≤ S1x2x2048x128.size a)
    (o : ∀ a, (![0, 0, 0, 0] : Fin 4 → ℕ) a + (Rows 256).size a ≤ S1x1x2048x128.size a)
    (x0 x1 x2 : Vec Ideal S1x2x2048x128 .bf16) (x : (Rows 256).Idx) :
    joined (first f (rows 0 0 256 i0 x0) (rows 0 0 256 i0 x1) (rows 0 0 256 i0 x2))
        (first f (rows 1 0 256 i1 x0) (rows 1 0 256 i1 x1) (rows 1 0 256 i1 x2)) x
      = block x0 x1 x2 ((Rect.unit (s := S1x1x2048x128) ![0, 0, 0, 0] (Rows 256).size o).emb x) := by
  obtain ⟨a, b, r, l, rfl⟩ : ∃ (a b : Fin 1) (r : Fin 256) (l : Fin 128), x = ix4 a b r l :=
    ⟨x 0, x 1, x 2, x 3, eq_ix4 x⟩
  rw [block_emb o x0 x1 x2 a b r l (by omega), joined_apply]
  split
  · exact first_apply f (head x0 0) (head x1 0) (head x2 0) _ _ _
      (fun r d => load_apply (by omega) i0 x0 r d _) (fun r d => load_apply (by omega) i0 x1 r d _)
      (fun r d => load_apply (by omega) i0 x2 r d _) r _
  · exact first_apply f (head x0 1) (head x1 1) (head x2 1) _ _ _
      (fun r d => load_apply (by omega) i1 x0 r d _) (fun r d => load_apply (by omega) i1 x1 r d _)
      (fun r d => load_apply (by omega) i1 x2 r d _) r _

/-- The operations over 256 keys fit. -/
theorem fits256 : Fits 256 := ⟨shapeCasts_S1x1x256x128_S256x128, reduces_S256x256_S256, broadcasts_S256x1_S256x256⟩

/-- The operations over 512 keys fit. -/
theorem fits512 : Fits 512 := ⟨shapeCasts_S1x1x512x128_S512x128, reduces_S256x512_S256, broadcasts_S256x1_S256x512⟩

/-- The operations over 768 keys fit. -/
theorem fits768 : Fits 768 := ⟨shapeCasts_S1x1x768x128_S768x128, reduces_S256x768_S256, broadcasts_S256x1_S256x768⟩

/-- The operations over 1024 keys fit. -/
theorem fits1024 : Fits 1024 := ⟨shapeCasts_S1x1x1024x128_S1024x128, reduces_S256x1024_S256, broadcasts_S256x1_S256x1024⟩

/-- The operations over 1280 keys fit. -/
theorem fits1280 : Fits 1280 := ⟨shapeCasts_S1x1x1280x128_S1280x128, reduces_S256x1280_S256, broadcasts_S256x1_S256x1280⟩

/-- The operations over 1536 keys fit. -/
theorem fits1536 : Fits 1536 := ⟨shapeCasts_S1x1x1536x128_S1536x128, reduces_S256x1536_S256, broadcasts_S256x1_S256x1536⟩

/-- The operations over 1792 keys fit. -/
theorem fits1792 : Fits 1792 := ⟨shapeCasts_S1x1x1792x128_S1792x128, reduces_S256x1792_S256, broadcasts_S256x1_S256x1792⟩

/-- What the body leaves in the output block, as one function of its three input blocks. -/
theorem out_eq (x0 x1 x2 : Vec Ideal S1x2x2048x128 .bf16) : out0_3 x0 x1 x2 = block x0 x1 x2 := by
  funext y
  unfold_out out0_3
  refine View.canon_apply_of_pieces (block x0 x1 x2) _ ?_ y (cover0_3 _ _ _ _ _ _ _ _ y)
  simp only [List.forall_mem_cons, List.not_mem_nil, false_imp_iff, implies_true, and_true]
  refine ⟨fun x => ?_, fun x => ?_, fun x => ?_, fun x => ?_, fun x => ?_, fun x => ?_, fun x => ?_, fun x => ?_⟩
  · exact later_tile (n := 1792) (by omega) fits256 fits1792 _ _ _ _ _ x0 x1 x2 x
  · exact later_tile (n := 1536) (by omega) fits256 fits1536 _ _ _ _ _ x0 x1 x2 x
  · exact later_tile (n := 1280) (by omega) fits256 fits1280 _ _ _ _ _ x0 x1 x2 x
  · exact later_tile (n := 1024) (by omega) fits256 fits1024 _ _ _ _ _ x0 x1 x2 x
  · exact later_tile (n := 768) (by omega) fits256 fits768 _ _ _ _ _ x0 x1 x2 x
  · exact later_tile (n := 512) (by omega) fits256 fits512 _ _ _ _ _ x0 x1 x2 x
  · exact later_tile (n := 256) (by omega) fits256 fits256 _ _ _ _ _ x0 x1 x2 x
  · exact first_tile fits256 _ _ _ x0 x1 x2 x

end Cert.AttnTile
-- ==== Proof.AttnArray.lean ====
module

public import proofs.«01_k».proof.Proof.AttnBlock
public import Idealize.ShloMosaic.Lib.Pipeline.ValueKit

@[expose] public section

set_option maxRecDepth 16384

noncomputable section

/-!
The result array after the run, as one function of the three arrays the kernel is handed.
-/

namespace Cert.AttnTile

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- One head of one sequence of an array of 16 heads. -/
def headOf (x : Vec Ideal S32x16x2048x128 .bf16) (b : Fin 32) (h : Fin 16) : Head := fun t d => x (ix4 b h t d)

/-- The first head of pair `p`. -/
def even (p : Fin 8) : Fin 16 := ⟨2 * p, by omega⟩

/-- The second head of pair `p`. -/
def odd (p : Fin 8) : Fin 16 := ⟨2 * p + 1, by omega⟩

/-- The result at sequence `b`, pair of heads `p`, row `t` and lane `l`. -/
def resultAt (q k v : Vec Ideal S32x16x2048x128 .bf16) (b : Fin 32) (p : Fin 8) (t : Fin 2048) (l : Fin 128) : EReal :=
  if h : (l : ℕ) < 64 then
    attn (headOf q b (even p)) (headOf k b (even p)) (headOf v b (even p)) t ⟨l + 64, by omega⟩
  else attn (headOf q b (odd p)) (headOf k b (odd p)) (headOf v b (odd p)) t l

/-- The result array. -/
def result (q k v : Vec Ideal S32x16x2048x128 .bf16) : Vec Ideal S32x8x2048x128 .bf16 :=
  fun y => resultAt q k v (y 0) (y 1) (y 2) (y 3)

/-- The block index of array 0 at a grid point: sequence and pair of heads. -/
theorem idx0 : ∀ t : Fin grid0.N, win0_0.index t = ![(grid0.coords t 0).val, (grid0.coords t 1).val, 0, 0] := by
  decide +kernel
/-- The block index of array 1 at a grid point: sequence and pair of heads. -/
theorem idx1 : ∀ t : Fin grid0.N, win0_1.index t = ![(grid0.coords t 0).val, (grid0.coords t 1).val, 0, 0] := by
  decide +kernel
/-- The block index of array 2 at a grid point: sequence and pair of heads. -/
theorem idx2 : ∀ t : Fin grid0.N, win0_2.index t = ![(grid0.coords t 0).val, (grid0.coords t 1).val, 0, 0] := by
  decide +kernel
/-- The block index of array 3 at a grid point: sequence and pair of heads. -/
theorem idx3 : ∀ t : Fin grid0.N, win0_3.index t = ![(grid0.coords t 0).val, (grid0.coords t 1).val, 0, 0] := by
  decide +kernel

/-- The heads of an input block are heads of the array: block `(b, p)` holds heads `2 p` and `2 p + 1` of sequence `b`. -/
theorem head0 (c : Dev nD) (t : Fin cfg0.N) (h : Fin 2) (g : Fin 16)
    (hg : (g : ℕ) = 2 * (grid0.coords t 1 : ℕ) + h) :
    head (iblk m c 0 t) h = headOf (V m c main_v7) (grid0.coords t 0) g := by
  funext r d
  unfold head headOf
  blk_simp [iblk]
  refine congrArg _ ?_
  blk_ext [idx0, hg]

/-- The same of the keys. -/
theorem head1 (c : Dev nD) (t : Fin cfg0.N) (h : Fin 2) (g : Fin 16)
    (hg : (g : ℕ) = 2 * (grid0.coords t 1 : ℕ) + h) :
    head (iblk m c 1 t) h = headOf (V m c main_v10) (grid0.coords t 0) g := by
  funext r d
  unfold head headOf
  blk_simp [iblk]
  refine congrArg _ ?_
  blk_ext [idx1, hg]

/-- The same of the values. -/
theorem head2 (c : Dev nD) (t : Fin cfg0.N) (h : Fin 2) (g : Fin 16)
    (hg : (g : ℕ) = 2 * (grid0.coords t 1 : ℕ) + h) :
    head (iblk m c 2 t) h = headOf (V m c main_v15) (grid0.coords t 0) g := by
  funext r d
  unfold head headOf
  blk_simp [iblk]
  refine congrArg _ ?_
  blk_ext [idx2, hg]

/-- The result array after the run. -/
theorem final (c : Dev nD) : (dats m 0 c).arrAt 3 cfg0.N =
    result (V m c main_v7) (V m c main_v10) (V m c main_v15) := by
  refine (dats m 0 c).arrAt_eq_of_covers 3 _ (by decide +kernel) fun t hf y => ?_
  blk_simp
  rw [after0_3, out_eq]
  have e : (win0_3.blk t).view.emb y = ix4 (grid0.coords t 0 : Fin 32) (grid0.coords t 1 : Fin 8) (y 2 : Fin 2048) (y 3 : Fin 128) := by
    blk_ext [idx3]
  rw [e]
  show (if h : ((y 3 : Fin 128) : ℕ) < 64 then _ else _) = (if h : ((y 3 : Fin 128) : ℕ) < 64 then _ else _)
  rw [head0 m c t 0 (even (grid0.coords t 1)) rfl, head0 m c t 1 (odd (grid0.coords t 1)) rfl,
    head1 m c t 0 (even (grid0.coords t 1)) rfl, head1 m c t 1 (odd (grid0.coords t 1)) rfl,
    head2 m c t 0 (even (grid0.coords t 1)) rfl, head2 m c t 1 (odd (grid0.coords t 1)) rfl]
  rfl

end Cert.AttnTile
-- ==== Proof.AttnHost.lean ====
module

public import proofs.«01_k».proof.Proof.AttnArray
public import Idealize.ShloMosaic.Lib.StableHlo.ReadAt

@[expose] public section

set_option maxRecDepth 16384

noncomputable section

/-!
The three arrays the kernel is handed, as the host operations before it leave them, at an index.
-/

namespace Cert.AttnTile

open Cert.KernelIdeal Cert.KernelIdeal.Gen Idealize.ShloMosaic Idealize.ShloMosaic.TcCoe Idealize.SL.Sem

variable (m : (ℓ : Loc nD τ sig) → Buf (Elt Ideal) ℓ)

/-- The queries: heads before rows, scaled, zeros in the last 32 lanes. -/
theorem q_apply (c : Dev nD) (b : Fin 32) (h : Fin 16) (t : Fin 2048) (d : Fin 128) :
    V m c main_v7 (ix4 b h t d) = if e : (d : ℕ) < 96 then
      Ideal.div ((m ((c.tc : Thread nD τ).loc main_arg0) : Vec Ideal S32x2048x16x96 .f32) (ix4 b t h ⟨d, e⟩))
        (Ideal.sqrt (Ideal.ofBits .f32 0x42C00000#32) * Ideal.log (Ideal.ofBits .f32 0x40000000#32)) else (0 : EReal) := by
  unfold V
  after_reads_at
  split
  · rfl
  · simp [FloatOps.sitofp]

/-- The keys: heads before rows, zeros in the last 32 lanes. -/
theorem k_apply (c : Dev nD) (b : Fin 32) (h : Fin 16) (t : Fin 2048) (d : Fin 128) :
    V m c main_v10 (ix4 b h t d) = if e : (d : ℕ) < 96 then
      (m ((c.tc : Thread nD τ).loc main_arg1) : Vec Ideal S32x2048x16x96 .f32) (ix4 b t h ⟨d, e⟩) else (0 : EReal) := by
  unfold V
  after_reads_at
  split
  · rfl
  · simp [FloatOps.sitofp]

/-- The values: heads before rows, a one in the first lane, the values in the last 64. -/
theorem v_apply (c : Dev nD) (b : Fin 32) (h : Fin 16) (t : Fin 2048) (d : Fin 128) :
    V m c main_v15 (ix4 b h t d) = if (d : ℕ) < 1 then (1 : EReal) else
      if e : (d : ℕ) - 1 < 63 then 0 else
        (m ((c.tc : Thread nD τ).loc main_arg2) : Vec Ideal S32x2048x16x64 .f32) (ix4 b t h ⟨d - 1 - 63, by omega⟩) := by
  unfold V
  after_reads_at
  after_reads_at
  rfl

end Cert.AttnTile
-- ==== Proof.AttnRef.lean ====
module

public import proofs.«01_k».proof.Proof.Gen.ReferenceIdeal.Run
public import Idealize.ShloMosaic.Lib.Pointwise
public import Idealize.ShloMosaic.Lib.WordCmp

@[expose] public section

set_option maxRecDepth 16384

noncomputable section

/-!
The reference's result at an index: softmax of the masked, scaled scores, then the weighted sum of the values.
-/

namespace Cert.AttnRef

open Cert.ReferenceIdeal Cert.ReferenceIdeal.Gen Idealize.ShloMosaic Idealize.ShloMosaic.TcCoe Idealize.SL.Sem
open Cert.ReferenceIdeal.Value

variable (q k : FVec Ideal S32x2048x16x96 .f32) (v : FVec Ideal S32x2048x16x64 .f32)

/-- The mask, key position at most query position, over every sequence and head. -/
def mask : IVec S32x16x2048x2048 1 :=
  broadcastInDim S32x16x2048x2048 ![0, 1, 2, 3] bcast_S1x1x2048x2048_S32x16x2048x2048_0_1_2_3
    (broadcastInDim S1x1x2048x2048 ![2, 3] bcast_S2048x2048_S1x1x2048x2048_2_3
      (cmpi .sle
        (broadcastInDim S2048x2048 ![0, 1] bcast_S1x2048_S2048x2048_0_1
          (broadcastInDim S1x2048 ![1] bcast_S2048_S1x2048_1 (iotaInDim S2048 32 0)))
        (broadcastInDim S2048x2048 ![0, 1] bcast_S2048x1_S2048x2048_0_1
          (broadcastInDim S2048x1 ![0] bcast_S2048_S2048x1_0 (iotaInDim S2048 32 0)))))

/-- The scaled scores, minus infinity where masked. -/
def scores : FVec Ideal S32x16x2048x2048 .f32 :=
  select mask
    (Host.divf (Host.dotGeneral dot_S32x2048x16x96_S32x2048x16x96_S32x16x2048x2048_3_3_1_1_02_02 none q k)
      (broadcastInDim S32x16x2048x2048 ![] bcast_S_S32x16x2048x2048 (Host.sqrt (constant S_ .f32 0x42C00000#32))))
    (broadcastInDim S32x16x2048x2048 ![] bcast_S_S32x16x2048x2048 (id (constant S_ .f32 0xFF800000#32)))

/-- The largest score of every query. -/
def top : FVec Ideal S32x16x2048 .f32 :=
  maximumf (broadcastInDim S32x16x2048 ![] bcast_S_S32x16x2048 (constant S_ .f32 0xFF800000#32))
    (Host.reduce FloatOps.maximumf (scores q k) (constant S_ .f32 0xFF800000#32)
      reducesTo_S32x16x2048x2048_S32x16x2048_d3 h_S_)

/-- The exponentials of score less maximum. -/
def exps : FVec Ideal S32x16x2048x2048 .f32 :=
  Host.exp (subf (scores q k)
    (broadcastInDim S32x16x2048x2048 ![0, 1, 2, 3] bcast_S32x16x2048x1_S32x16x2048x2048_0_1_2_3
      (broadcastInDim S32x16x2048x1 ![0, 1, 2] bcast_S32x16x2048_S32x16x2048x1_0_1_2 (top q k))))

/-- The softmax. -/
def probs : FVec Ideal S32x16x2048x2048 .f32 :=
  Host.divf (exps q k)
    (broadcastInDim S32x16x2048x2048 ![0, 1, 2, 3] bcast_S32x16x2048x1_S32x16x2048x2048_0_1_2_3
      (broadcastInDim S32x16x2048x1 ![0, 1, 2] bcast_S32x16x2048_S32x16x2048x1_0_1_2
        (Host.reduceAdd (exps q k) (constant S_ .f32 0x00000000#32)
          reducesTo_S32x16x2048x2048_S32x16x2048_d3 h_S_)))

/-- The result. -/
def out : FVec Ideal S32x8x2048x128 .bf16 :=
  truncf .bf16 (transpose S32x8x2048x128 [0, 2, 1, 3]
    (shapeCast S32x2048x8x128 (transpose S32x2048x16x64 [0, 3, 1, 2]
      (Host.dotGeneral dot_S32x2048x16x64_S32x16x2048x2048_S32x16x64x2048_1_3_3_2_02_01 none v (probs q k) :
        FVec Ideal S32x16x64x2048 .f32)
      transposes_S32x16x64x2048_S32x2048x16x64_0_3_1_2)
      shapeCasts_S32x2048x16x64_S32x2048x8x128)
    transposes_S32x2048x8x128_S32x8x2048x128_0_2_1_3) bitsLt_bf16_f32

/-- The reference's result array is that term of its arguments. -/
theorem res_eq (m : (ℓ : Loc nD τ sig) → Buf (Elt Ideal) ℓ) (c : Dev nD) :
    res_out0 m c = out (m ((c.tc : Thread nD τ).loc main_arg0)) (m ((c.tc : Thread nD τ).loc main_arg1))
      (m ((c.tc : Thread nD τ).loc main_arg2)) := rfl

/-- The mask at an index. -/
theorem mask_apply (b : Fin 32) (h : Fin 16) (t c : Fin 2048) :
    mask (ix4 b h t c) = BitVec.ofBool (decide (c ≤ t)) := by
  have ht := t.isLt
  have hc := c.isLt
  pointwise [mask]
  simp (disch := omega) only [hlo_ix]
  rfl

/-- A scaled score, minus infinity where the key comes after the query. -/
def score (b : Fin 32) (h : Fin 16) (t c : Fin 2048) : EReal :=
  if c ≤ t then Ideal.div (∑ d : Fin 96, q (ix4 b t h d) * k (ix4 b c h d)) (Ideal.sqrt (Ideal.ofBits .f32 0x42C00000#32))
  else ⊥

/-- The word of minus infinity. -/
theorem negInf : Ideal.ofBits .f32 4286578688#32 = ⊥ := by
  simp [Ideal.ofBits, Ideal.ieee]

/-- The largest element along the last of four axes, compared with minus infinity once more. -/
theorem reduceMax_apply {n₀ n₁ n₂ n₃ : ℕ} (x : FVec Ideal ⟨4, ![n₀, n₁, n₂, n₃]⟩ .f32)
    (r : (⟨4, ![n₀, n₁, n₂, n₃]⟩ : Shape).ReducesTo [3] ⟨3, ![n₀, n₁, n₂]⟩) (u : 0 < S_.numel)
    (w : S_.BroadcastsInDim ⟨3, ![n₀, n₁, n₂]⟩ (![] : Fin 0 → Fin 3)) (b : Fin n₀) (h : Fin n₁) (t : Fin n₂) :
    maximumf (broadcastInDim ⟨3, ![n₀, n₁, n₂]⟩ ![] w (constant (F := Ideal) S_ .f32 0xFF800000#32))
      (Host.reduce FloatOps.maximumf x (constant S_ .f32 0xFF800000#32) r u) (ix3 b h t)
        = Finset.univ.sup fun c : Fin n₃ => x (ix4 b h t c) := by
  pointwise
  rw [negInf, max_eq_right bot_le]
  rfl

/-- The scores at an index. -/
theorem scores_apply (b : Fin 32) (h : Fin 16) (t c : Fin 2048) : scores q k (ix4 b h t c) = score q k b h t c := by
  unfold scores
  pointwise [mask_apply]
  unfold score
  rw [← negInf]
  rfl

/-- The largest score of a query. -/
theorem top_apply (b : Fin 32) (h : Fin 16) (t : Fin 2048) :
    top q k (ix3 b h t) = Finset.univ.sup (score q k b h t) := by
  have e := reduceMax_apply (scores q k) reducesTo_S32x16x2048x2048_S32x16x2048_d3 h_S_ bcast_S_S32x16x2048 b h t
  simp only [scores_apply] at e
  exact e

/-- The exponentials at an index. -/
theorem exps_apply (b : Fin 32) (h : Fin 16) (t c : Fin 2048) :
    exps q k (ix4 b h t c) = Ideal.exp (score q k b h t c - Finset.univ.sup (score q k b h t)) := by
  unfold exps
  pointwise [scores_apply, top_apply]

/-- The softmax at an index. -/
theorem probs_apply (b : Fin 32) (h : Fin 16) (t c : Fin 2048) :
    probs q k (ix4 b h t c) = Ideal.div (exps q k (ix4 b h t c)) (∑ c, exps q k (ix4 b h t c)) := by
  unfold probs
  pointwise

/-- The result at an index: the sum of the values of the lane's head, weighted by the softmax. -/
theorem out_apply (b : Fin 32) (p : Fin 8) (t : Fin 2048) (l : Fin 128) (h : Fin 16) (j : Fin 64)
    (hh : (h : ℕ) = 2 * p + l / 64) (hj : (j : ℕ) = l % 64) :
    out q k v (ix4 b p t l) = ∑ c, probs q k (ix4 b h t c) * v (ix4 b c h j) := by
  have e : ∀ hlt, (⟨(p : ℕ) * 2 + l / 64, hlt⟩ : Fin 16) = h := fun _ => Fin.ext (by show (p : ℕ) * 2 + l / 64 = h; omega)
  have e' : ∀ hlt, (⟨(l : ℕ) % 64, hlt⟩ : Fin 64) = j := fun _ => Fin.ext hj.symm
  unfold out
  pointwise
  simp only [e, e']
  exact Finset.sum_congr rfl fun c _ => mul_comm _ _

end Cert.AttnRef
-- ==== Proof.AttnMath.lean ====
module

public import Idealize.ShloMosaic.Lib.Pointwise

@[expose] public section

noncomputable section

/-!
Extended-real facts behind softmax in powers of two: the same weights, and division by their sum before or after the
weighted sum.
-/

namespace Cert.AttnMath

open Idealize.ShloMosaic
open scoped BigOperators

/-- A finite sum of reals, as an extended real. -/
theorem coe_sum {ι : Type*} (s : Finset ι) (f : ι → ℝ) : ((∑ c ∈ s, f c : ℝ) : EReal) = ∑ c ∈ s, (f c : EReal) := by
  classical
  induction s using Finset.induction with
  | empty => simp
  | insert a s ha ih => rw [Finset.sum_insert ha, Finset.sum_insert ha, EReal.coe_add, ih]

/-- A quotient of reals. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A quotient by a positive real is a product with its inverse. -/
theorem div_pos (x : EReal) (y : ℝ) (hy : 0 < y) : Ideal.div x (y : EReal) = x * ((y⁻¹ : ℝ) : EReal) := by
  unfold Ideal.div
  rw [if_neg (by exact_mod_cast hy.ne'), ← EReal.coe_inv]

/-- Multiplication by a nonnegative real distributes over a finite sum of extended reals. -/
theorem sum_mul_coe {ι : Type*} (s : Finset ι) (f : ι → EReal) (a : ℝ) (ha : 0 ≤ a) :
    (∑ c ∈ s, f c) * (a : EReal) = ∑ c ∈ s, f c * (a : EReal) := by
  classical
  induction s using Finset.induction with
  | empty => simp
  | insert b s hb ih =>
    rw [Finset.sum_insert hb, Finset.sum_insert hb, mul_comm,
      EReal.left_distrib_of_nonneg_of_ne_top (by exact_mod_cast ha) (EReal.coe_ne_top a), mul_comm, mul_comm (a : EReal), ih]

/-- Dividing a weighted sum by a positive real is weighing by the quotients. -/
theorem div_sum {n : ℕ} (w : Fin n → ℝ) (v : Fin n → EReal) (L : ℝ) (hL : 0 < L) :
    Ideal.div (∑ c, (w c : EReal) * v c) (L : EReal) = ∑ c, Ideal.div (w c : EReal) (L : EReal) * v c := by
  rw [div_pos _ _ hL, sum_mul_coe _ _ _ (inv_nonneg.2 hL.le)]
  refine Finset.sum_congr rfl fun c _ => ?_
  rw [div_pos _ _ hL, mul_assoc, mul_assoc, mul_comm (v c)]

/-- The weights of a row of scores, some of them minus infinity and at least one finite: powers of two of the scores
over the logarithm of two are the exponentials of the scores; none is negative, and their sum is positive. -/
theorem weights {n : ℕ} (S T : Fin n → EReal)
    (h : ∀ c, (S c = ⊥ ∧ T c = ⊥) ∨ ∃ x : ℝ, S c = (x : EReal) ∧ T c = ((x / Real.log 2 : ℝ) : EReal))
    (c₁ : Fin n) (x₁ : ℝ) (h₁ : S c₁ = (x₁ : EReal)) :
    ∃ w : Fin n → ℝ, (0 < ∑ c, w c) ∧ (∀ c, Ideal.exp2 (T c - Finset.univ.sup T) = (w c : EReal))
      ∧ (∀ c, Ideal.exp (S c - Finset.univ.sup S) = (w c : EReal)) := by
  have hlog : 0 < Real.log 2 := Real.log_pos (by norm_num)
  obtain ⟨c₀, -, hc₀⟩ := Finset.exists_mem_eq_sup Finset.univ ⟨c₁, Finset.mem_univ c₁⟩ S
  have hle : ∀ c, S c ≤ S c₀ := fun c => hc₀ ▸ Finset.le_sup (f := S) (Finset.mem_univ c)
  obtain ⟨x₀, hS₀, hT₀⟩ : ∃ x : ℝ, S c₀ = (x : EReal) ∧ T c₀ = ((x / Real.log 2 : ℝ) : EReal) := by
    rcases h c₀ with ⟨hb, -⟩ | hx
    · have := hle c₁
      rw [hb, h₁] at this
      exact absurd (le_bot_iff.1 this) (EReal.coe_ne_bot x₁)
    · exact hx
  have hsupT : Finset.univ.sup T = ((x₀ / Real.log 2 : ℝ) : EReal) := by
    apply le_antisymm
    · refine Finset.sup_le fun c _ => ?_
      rcases h c with ⟨-, hb⟩ | ⟨x, hs, ht⟩
      · rw [hb]; exact bot_le
      · have := hle c
        rw [hs, hS₀, EReal.coe_le_coe_iff] at this
        rw [ht, EReal.coe_le_coe_iff]
        exact div_le_div_of_nonneg_right this hlog.le
    · rw [← hT₀]; exact Finset.le_sup (f := T) (Finset.mem_univ c₀)
  have hw : ∀ c, ∃ w : ℝ, 0 ≤ w ∧ Ideal.exp2 (T c - Finset.univ.sup T) = (w : EReal)
      ∧ Ideal.exp (S c - Finset.univ.sup S) = (w : EReal) := by
    intro c
    rw [hsupT, hc₀, hS₀]
    rcases h c with ⟨hs, ht⟩ | ⟨x, hs, ht⟩
    · refine ⟨0, le_refl _, ?_, ?_⟩
      · rw [ht, sub_eq_add_neg, EReal.bot_add]; rfl
      · rw [hs, sub_eq_add_neg, EReal.bot_add]; rfl
    · refine ⟨Real.exp (x - x₀), (Real.exp_pos _).le, ?_, ?_⟩
      · rw [ht, ← EReal.coe_sub, Ideal.exp2_coe]
        congr 1
        show (2 : ℝ) ^ (x / Real.log 2 - x₀ / Real.log 2) = _
        rw [Real.rpow_def_of_pos (by norm_num)]
        congr 1
        field_simp
      · rw [hs, ← EReal.coe_sub, Ideal.exp_coe]
  choose w hw0 hwT hwS using hw
  refine ⟨w, ?_, hwT, hwS⟩
  have h0 : w c₀ = 1 := by
    have e := hwS c₀
    rw [hc₀, hS₀, ← EReal.coe_sub, Ideal.exp_coe, sub_self, Real.exp_zero] at e
    exact_mod_cast e.symm
  exact Finset.sum_pos' (fun c _ => hw0 c) ⟨c₀, Finset.mem_univ _, by rw [h0]; norm_num⟩

/-- The constant 96. -/
theorem const96 : Ideal.ofBits .f32 0x42C00000#32 = ((96 : ℝ) : EReal) := by
  simp only [Ideal.ofBits, Ideal.ieee]
  simp
  rw [← EReal.coe_mul]
  norm_num

/-- The constant 2. -/
theorem const2 : Ideal.ofBits .f32 0x40000000#32 = ((2 : ℝ) : EReal) := by
  simp only [Ideal.ofBits, Ideal.ieee]
  simp
  rw [← EReal.coe_mul]
  norm_num

/-- The root of 96. -/
theorem root : Ideal.sqrt (Ideal.ofBits .f32 0x42C00000#32) = ((Real.sqrt 96 : ℝ) : EReal) := by
  rw [const96, Ideal.sqrt_coe, if_neg (by norm_num)]

/-- The logarithm of 2. -/
theorem log2 : Ideal.log (Ideal.ofBits .f32 0x40000000#32) = ((Real.log 2 : ℝ) : EReal) := by
  rw [const2, Ideal.log_coe, if_neg (by norm_num)]

/-- Dividing the scores by the root of 96 afterwards. -/
theorem scaled (q k : Fin 96 → ℝ) :
    Ideal.div (∑ d, (q d : EReal) * (k d : EReal)) (Ideal.sqrt (Ideal.ofBits .f32 0x42C00000#32))
      = (((∑ d, q d * k d) / Real.sqrt 96 : ℝ) : EReal) := by
  have h : Real.sqrt 96 ≠ 0 := (Real.sqrt_pos.2 (by norm_num)).ne'
  rw [root, ← div_coe _ _ h, coe_sum]
  simp only [EReal.coe_mul]

/-- Dividing the queries by the root of 96 times the logarithm of two first, in rows filled up with zeros. -/
theorem prescaled (q k : Fin 96 → ℝ) (Q K : Fin 128 → EReal)
    (hQ : ∀ d, Q d = if e : (d : ℕ) < 96 then Ideal.div (q ⟨d, e⟩ : EReal)
      (Ideal.sqrt (Ideal.ofBits .f32 0x42C00000#32) * Ideal.log (Ideal.ofBits .f32 0x40000000#32)) else 0)
    (hK : ∀ d, K d = if e : (d : ℕ) < 96 then (k ⟨d, e⟩ : EReal) else 0) :
    ∑ d, Q d * K d = (((∑ d, q d * k d) / Real.sqrt 96 / Real.log 2 : ℝ) : EReal) := by
  have h : Real.sqrt 96 * Real.log 2 ≠ 0 :=
    mul_ne_zero (Real.sqrt_pos.2 (by norm_num)).ne' (Real.log_pos (by norm_num)).ne'
  have e : ∑ d, Q d * K d = ∑ d : Fin 96, Q (Fin.castAdd 32 d) * K (Fin.castAdd 32 d) := by
    refine (Fin.sum_univ_add (a := 96) (b := 32) fun d : Fin (96 + 32) => Q d * K d).trans ?_
    rw [Finset.sum_eq_zero (s := (Finset.univ : Finset (Fin 32))), add_zero]
    intro d _
    rw [hQ, dif_neg (by simp), zero_mul]
  rw [e, div_div, Finset.sum_div, coe_sum]
  refine Finset.sum_congr rfl fun d _ => ?_
  rw [hQ, hK, dif_pos (by simp), dif_pos (by simp), root, log2, ← EReal.coe_mul, div_coe _ _ h, ← EReal.coe_mul]
  refine congrArg _ ?_
  show q d / _ * k d = _
  ring

end Cert.AttnMath
-- ==== Proof.AttnEq.lean ====
module

public import proofs.«01_k».proof.Proof.AttnHost
public import proofs.«01_k».proof.Proof.AttnRef
public import proofs.«01_k».proof.Proof.AttnMath

@[expose] public section

set_option maxRecDepth 16384

noncomputable section

/-!
The attention kernel's result is the reference's, where queries and keys are finite.
-/

namespace Cert.AttnEq

open Cert.KernelIdeal Cert.KernelIdeal.Gen Idealize.ShloMosaic Idealize.ShloMosaic.TcCoe Idealize.SL.Sem
open Cert.AttnTile (attn headOf result weighted top)
open scoped BigOperators

/-- One row of one head: the kernel's weights are the reference's, its divisor their sum. -/
theorem row (q k : FVec Ideal S32x2048x16x96 .f32) (v : FVec Ideal S32x2048x16x64 .f32)
    (Q K W : FVec Ideal S32x16x2048x128 .bf16)
    (hQ : ∀ b h t d, Q (ix4 b h t d) = if e : (d : ℕ) < 96 then Ideal.div (q (ix4 b t h ⟨d, e⟩))
      (Ideal.sqrt (Ideal.ofBits .f32 0x42C00000#32) * Ideal.log (Ideal.ofBits .f32 0x40000000#32)) else (0 : EReal))
    (hK : ∀ b h t d, K (ix4 b h t d) = if e : (d : ℕ) < 96 then k (ix4 b t h ⟨d, e⟩) else (0 : EReal))
    (hW : ∀ b h t (d : Fin 128), W (ix4 b h t d) = if (d : ℕ) < 1 then (1 : EReal) else
      if e : (d : ℕ) - 1 < 63 then 0 else v (ix4 b t h ⟨d - 1 - 63, by omega⟩))
    (fq : ∀ i, ∃ x : ℝ, q i = (x : EReal)) (fk : ∀ i, ∃ x : ℝ, k i = (x : EReal))
    (b : Fin 32) (g : Fin 16) (t : Fin 2048) (l : Fin 128) (j : Fin 64) (hl : (l : ℕ) = 64 + j) :
    attn (headOf Q b g) (headOf K b g) (headOf W b g) t l
      = ∑ c, AttnRef.probs q k (ix4 b g t c) * v (ix4 b c g j) := by
  choose qr hq using fq
  choose kr hk using fk
  have link : ∀ c, (AttnRef.score q k b g t c = ⊥ ∧ AttnTile.score (headOf Q b g) (headOf K b g) t c = ⊥) ∨
      ∃ x : ℝ, AttnRef.score q k b g t c = (x : EReal)
        ∧ AttnTile.score (headOf Q b g) (headOf K b g) t c = ((x / Real.log 2 : ℝ) : EReal) := by
    intro c
    unfold AttnRef.score AttnTile.score
    by_cases h : c ≤ t
    · rw [if_pos h, if_pos h]
      refine .inr ⟨(∑ d, qr (ix4 b t g d) * kr (ix4 b c g d)) / Real.sqrt 96, ?_, ?_⟩
      · simp only [hq, hk]
        exact AttnMath.scaled _ _
      · refine AttnMath.prescaled (fun d => qr (ix4 b t g d)) (fun d => kr (ix4 b c g d)) _ _ (fun d => ?_) (fun d => ?_)
        · simp only [headOf, hQ, hq]
        · simp only [headOf, hK, hk]
    · rw [if_neg h, if_neg h]
      exact .inl ⟨rfl, rfl⟩
  obtain ⟨x₁, h₁⟩ : ∃ x : ℝ, AttnRef.score q k b g t t = (x : EReal) := by
    refine ⟨(∑ d, qr (ix4 b t g d) * kr (ix4 b t g d)) / Real.sqrt 96, ?_⟩
    unfold AttnRef.score
    rw [if_pos le_rfl]
    simp only [hq, hk]
    exact AttnMath.scaled _ _
  obtain ⟨w, hpos, h2, he⟩ := AttnMath.weights _ _ link t x₁ h₁
  have one : ∀ c, headOf W b g c 0 = (1 : EReal) := fun c => by
    unfold headOf
    rw [hW, if_pos (by simp)]
  have val : ∀ c, headOf W b g c l = v (ix4 b c g j) := fun c => by
    have e : ∀ h, (⟨(l : ℕ) - 1 - 63, h⟩ : Fin 64) = j := fun h => Fin.ext (by show (l : ℕ) - 1 - 63 = j; omega)
    unfold headOf
    rw [hW, if_neg (by omega), dif_neg (by omega), e]
  unfold attn weighted top
  simp only [h2, one, val, mul_one, AttnRef.probs_apply, AttnRef.exps_apply, he, ← AttnMath.coe_sum]
  exact AttnMath.div_sum w _ _ hpos

/-- The kernel's result is the reference's. -/
theorem same (m : (ℓ : Loc nD τ sig) → Buf (Elt Ideal) ℓ) (c : Dev nD)
    (q k : FVec Ideal S32x2048x16x96 .f32) (v : FVec Ideal S32x2048x16x64 .f32)
    (eq : m ((c.tc : Thread nD τ).loc main_arg0) = q) (ek : m ((c.tc : Thread nD τ).loc main_arg1) = k)
    (ev : m ((c.tc : Thread nD τ).loc main_arg2) = v)
    (fq : ∀ i, ∃ x : ℝ, q i = (x : EReal)) (fk : ∀ i, ∃ x : ℝ, k i = (x : EReal)) :
    result (V m c main_v7) (V m c main_v10) (V m c main_v15) = AttnRef.out q k v := by
  subst eq ek ev
  have r := row _ _ _ _ _ _ (AttnTile.q_apply m c) (AttnTile.k_apply m c) (AttnTile.v_apply m c) fq fk
  funext y
  rw [eq_ix4 y]
  generalize (y 0 : Fin 32) = b
  generalize (y 1 : Fin 8) = p
  generalize (y 2 : Fin 2048) = t
  generalize (y 3 : Fin 128) = l
  show AttnTile.resultAt _ _ _ b p t l = _
  unfold AttnTile.resultAt
  split
  · rename_i h
    rw [r b (AttnTile.even p) t _ ⟨l, h⟩ (Nat.add_comm _ _)]
    exact (AttnRef.out_apply _ _ _ b p t l (AttnTile.even p) ⟨l, h⟩ (by show 2 * (p : ℕ) = _; omega)
      (by show (l : ℕ) = _; omega)).symm
  · rename_i h
    have hl := l.isLt
    rw [r b (AttnTile.odd p) t l ⟨l - 64, by omega⟩ (by show (l : ℕ) = 64 + (l - 64); omega)]
    exact (AttnRef.out_apply _ _ _ b p t l (AttnTile.odd p) ⟨l - 64, by omega⟩ (by show 2 * (p : ℕ) + 1 = _; omega)
      (by show (l : ℕ) - 64 = _; omega)).symm

end Cert.AttnEq
-- ==== Proof.Finite.lean ====
module

public import proofs.«01_k».proof.Pre_finite
public import Idealize.ShloMosaic.Lib.Pointwise
public import Idealize.ShloMosaic.Lib.WordCmp

@[expose] public section

noncomputable section

/-!
What the precondition says: every element of the queries and of the keys is a real number.
-/

namespace Cert.Finite

open Cert.Pre_finite Idealize.ShloMosaic

/-- A conjunction of bits is one only where every bit is. -/
theorem fold_and {ι : Type*} [DecidableEq ι] (s : Finset ι) (f : ι → BitVec 1)
    (h : s.fold IntOp.andi (1#1) f = 1#1) : ∀ i ∈ s, f i = 1#1 := by
  induction s using Finset.induction with
  | empty => simp
  | insert a s ha ih =>
    rw [Finset.fold_insert ha] at h
    have e : ∀ x y : BitVec 1, IntOp.andi x y = 1#1 → x = 1#1 ∧ y = 1#1 := by decide
    obtain ⟨h₁, h₂⟩ := e _ _ h
    intro i hi
    rcases Finset.mem_insert.1 hi with rfl | hi
    · exact h₁
    · exact ih h₂ i hi

/-- A reduction by conjunction over four axes is one only where every element is. -/
theorem reduce_and {n₀ n₁ n₂ n₃ : ℕ} (x : IVec ⟨4, ![n₀, n₁, n₂, n₃]⟩ 1)
    (r : (⟨4, ![n₀, n₁, n₂, n₃]⟩ : Shape).ReducesTo [0, 1, 2, 3] S_) (u : 0 < S_.numel) (j : S_.Idx)
    (h : Host.reduce IntOp.andi x (constantI S_ 1 1#1) r u j = 1#1) (i) : x i = 1#1 := by
  classical
  rw [Host.reduce_eq_fold] at h
  exact fold_and _ x h i (Finset.mem_filter.2 ⟨Finset.mem_univ _, funext fun a => a.elim0⟩)

/-- A number whose absolute value lies below plus infinity is real. -/
theorem real_of_abs (x : EReal) (h : BitVec.ofBool (decide (max x (-x) < Ideal.ofBits .f32 0x7F800000#32)) = 1#1) :
    ∃ y : ℝ, x = (y : EReal) := by
  have e : Ideal.ofBits .f32 0x7F800000#32 = ⊤ := by simp [Ideal.ofBits, Ideal.ieee]
  rw [e] at h
  induction x with
  | bot => simp at h
  | top => simp at h
  | coe y => exact ⟨y, rfl⟩

/-- Under the precondition every query and every key is real. -/
theorem finite [Cert.Pre_finite.Facts] (q k : FVec Ideal S32x2048x16x96 .f32) (v : FVec Ideal S32x2048x16x64 .f32)
    (h : Cert.Pre_finite.fn (F := Ideal) q k v = fun _ => 1#1) :
    (∀ i, ∃ x : ℝ, q i = (x : EReal)) ∧ ∀ i, ∃ x : ℝ, k i = (x : EReal) := by
  have e : ∀ x y : BitVec 1, IntOp.andi x y = 1#1 → x = 1#1 ∧ y = 1#1 := by decide
  obtain ⟨h₁, h₂⟩ := e _ _ (congrFun h ix0)
  exact ⟨fun i => real_of_abs _ (reduce_and _ _ _ _ h₁ i), fun i => real_of_abs _ (reduce_and _ _ _ _ h₂ i)⟩

end Cert.Finite
-- ==== Proof.AttnClaim.lean ====
module

public import proofs.«01_k».proof.Defs
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.AttnEq
public import proofs.«01_k».proof.Proof.Finite
public import Idealize.ShloMosaic.Adequacy
public import Idealize.ShloMosaic.Init

@[expose] public section

noncomputable section

/-!
The claims about the attention of the second layer.
-/

namespace Cert.AttnClaim

open Idealize.ShloMosaic Idealize.SL.Sem

/-- The side conditions the precondition states. -/
theorem finite_facts : Cert.Pre_finite.Facts :=
  ⟨by decide, by decide, by decide⟩

/-- The frame of the attention reference. -/
theorem frame_r : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The attention kernel and its reference end with equal results. -/
theorem equal [Cert.Pre_finite.Facts] : Cert.algebraic_KernelIdeal_ReferenceIdeal_pre_finite
    (hKernelIdeal := Cert.KernelIdeal.Gen.facts) (hReferenceIdeal := Cert.ReferenceIdeal.Gen.facts) := by
  intro m ρ m' ρ' hpre hagree
  refine ⟨_, Cert.KernelIdeal.Value.run_blocks m ρ, ?_⟩
  refine (θ_run Cert.ReferenceIdeal.defs _ _).mono (fun r h c => ⟨(h c).1.trans ?_, (h c).2⟩)
    (Cert.ReferenceIdeal.Value.run (F := Ideal) m' ρ')
  obtain ⟨fq, fk⟩ := Cert.Finite.finite _ _ _ (hpre c)
  obtain ⟨e₀, e₁, e₂⟩ := hagree c
  rw [Cert.AttnTile.final m c]
  refine (Cert.AttnRef.res_eq m' c).trans ?_
  rw [e₀, e₁, e₂]
  exact (Cert.AttnEq.same m c _ _ _ rfl rfl rfl fq fk).symm

end Cert.AttnClaim

end
-- ==== Proof.RowOps.lean ====
module

public import proofs.«01_k».proof.Proof.AttnMath
public import Idealize.ShloMosaic.Lib.Pointwise
public import Idealize.ShloMosaic.Lib.Pointwise.IndexVar
public import Idealize.ShloMosaic.Lib.MatmulPlain
public import Idealize.ShloMosaic.Lib.WordCmp

@[expose] public section

set_option maxRecDepth 16384

noncomputable section

/-!
The operations the kernels' bodies do on the rows of a matrix (RMS norm, product with a weight matrix, gate, rotation
of the rotary lanes), with the numbers of rows and columns variables, each read at an index.
-/

namespace Cert.Rows

open Idealize.ShloMosaic Idealize.ShloMosaic.TcCoe

/-- The shape of a vector of `a` elements. -/
abbrev Line (a : ℕ) : Shape := ⟨1, ![a]⟩

/-- The shape of a matrix with `a` rows and `b` columns. -/
abbrev Mat (a b : ℕ) : Shape := ⟨2, ![a, b]⟩

/-- The RMS norm of a row `x` of width `N` with gain `g`. -/
def rms {d : ℕ} (N : EReal) (x g : Fin d → EReal) (c : Fin d) : EReal :=
  x c * Ideal.rsqrt (Ideal.div (∑ j, x j * x j) N + Ideal.ofBits .f32 0x358637BD#32) * g c

/-- The product of a row with a matrix. -/
def dense {d e : ℕ} (x : Fin d → EReal) (w : Fin d → Fin e → EReal) (c : Fin e) : EReal := ∑ k, x k * w k c

/-- A value times its gate `z` passed through silu. -/
def gate (o z : EReal) : EReal := o * (z * Ideal.logistic z)

/-- The rotation of 128 lanes: lane times cosine, plus the lane 16 on (below lane `hi`) or 16 back times sine. -/
def rot (hi : ℕ) (a cos sin : Fin 128 → EReal) (l : Fin 128) : EReal :=
  a l * cos l + (if (l : ℕ) < hi then a ⟨((l : ℕ) + 16) % 128, Nat.mod_lt _ (by norm_num)⟩
    else a ⟨((l : ℕ) + 112) % 128, Nat.mod_lt _ (by norm_num)⟩) * sin l

/-- The narrower of the two float types has fewer bits. -/
theorem narrower : FTy.bits .bf16 < FTy.bits .f32 := by decide

/-- What the RMS norm of `n` rows of `d` columns needs to be known of its shapes. -/
structure Normal (n d : ℕ) : Prop where
  red : (Mat n d).Reduces [1] (Line n)
  col : (Line n).ShapeCasts (Mat n 1)
  wide : (Mat n 1).Broadcasts (Mat n d)
  gain : (Mat 1 d).ShapeCasts (Mat 1 d)
  tall : (Mat 1 d).Broadcasts (Mat n d)

/-- The mean of the squares of every row, `N` the word of the width. -/
def meanSq {n d : ℕ} (f : Normal n d) (N : BitVec 32) (x : FVec Ideal (Mat n d) .f32) : FVec Ideal (Mat n 1) .f32 :=
  divf (shapeCast (Mat n 1) (multiReduction (F := Ideal) .add [1] (Line n) (mulf x x) 0x00000000#32 f.red (.inl rfl) rfl)
    f.col) (broadcast (Mat n 1) (Scalar.ofBits (F := Ideal) .f32 N))

/-- The RMS norm of every row. -/
def norm {n d : ℕ} (f : Normal n d) (N : BitVec 32) (x : FVec Ideal (Mat n d) .f32) (g : Vec Ideal (Mat 1 d) .f32) :
    FVec Ideal (Mat n d) .f32 :=
  mulf (mulf x (broadcastTo (Mat n d) (rsqrt (addf (meanSq f N x)
    (broadcast (Mat n 1) (Scalar.ofBits (F := Ideal) .f32 0x358637BD#32)))) f.wide))
    (broadcastTo (Mat n d) (shapeCast (Mat 1 d) g f.gain) f.tall)

/-- A column spread over the lanes. -/
theorem wide_apply {n d : ℕ} (hn : n ≠ 1) (f : (Mat n 1).Broadcasts (Mat n d)) (x : FVec Ideal (Mat n 1) .f32)
    (r : Fin n) (c : Fin d) : broadcastTo (Mat n d) x f (ix2 r c) = x (ix2 r 0) := by
  pointwise
  exact congrArg (fun r => x (ix2 r 0)) (dif_neg hn)

/-- A row spread over the rows. -/
theorem tall_apply {n d : ℕ} (hd : d ≠ 1) (f : (Mat 1 d).Broadcasts (Mat n d)) (x : FVec Ideal (Mat 1 d) .f32)
    (r : Fin n) (c : Fin d) : broadcastTo (Mat n d) x f (ix2 r c) = x (ix2 0 c) := by
  pointwise
  exact congrArg (fun c => x (ix2 0 c)) (dif_neg hd)

/-- The mean of the squares at an index. -/
theorem meanSq_apply {n d : ℕ} (f : Normal n d) (N : BitVec 32) (x : FVec Ideal (Mat n d) .f32) (r : Fin n) :
    meanSq f N x (ix2 r 0) = Ideal.div (∑ j, x (ix2 r j) * x (ix2 r j)) (Ideal.ofBits .f32 N) := by
  have e : Shape.reshapeEquiv f.col (ix2 r 0) = ix1 r := by
    refine Shape.reshapeEquiv_eq_of_rowMajor f.col ?_
    rw [Shape.rowMajor_val_two, Shape.rowMajor_val_one]
    simp
  pointwise [meanSq]
  rw [e]
  rfl

/-- The RMS norm at an index. -/
theorem norm_apply {n d : ℕ} (hn : n ≠ 1) (hd : d ≠ 1) (f : Normal n d) (N : BitVec 32) (x : FVec Ideal (Mat n d) .f32)
    (g : Vec Ideal (Mat 1 d) .f32) (r : Fin n) (c : Fin d) :
    norm f N x g (ix2 r c) = rms (Ideal.ofBits .f32 N) (fun j => x (ix2 r j)) (fun j => g (ix2 0 j)) c := by
  show x (ix2 r c) * broadcastTo (Mat n d) _ f.wide (ix2 r c) * broadcastTo (Mat n d) _ f.tall (ix2 r c) = _
  rw [wide_apply hn, tall_apply hd]
  show x (ix2 r c) * Ideal.rsqrt (meanSq f N x (ix2 r 0) + _) * _ = _
  rw [meanSq_apply]
  unfold rms
  congr 1
  exact congrArg g (Shape.reshapeEquiv_eq_of_rowMajor f.gain rfl)

/-- The product of the rows with a weight matrix. -/
def prod {n d e : ℕ} (f : (Mat d e).ShapeCasts (Mat d e)) (x : FVec Ideal (Mat n d) .bf16) (w : Vec Ideal (Mat d e) .bf16) :
    FVec Ideal (Mat n e) .f32 :=
  matmul (F := Ideal) (DotDims.plain n d e) none x (shapeCast (Mat d e) w f : FVec Ideal (Mat d e) .bf16)
    (constant (Mat n e) .f32 0x00000000#32)

/-- The product at an index. -/
theorem prod_apply {n d e : ℕ} (f : (Mat d e).ShapeCasts (Mat d e)) (x : FVec Ideal (Mat n d) .bf16)
    (w : Vec Ideal (Mat d e) .bf16) (r : Fin n) (c : Fin e) :
    prod f x w (ix2 r c) = dense (fun k => x (ix2 r k)) (fun k c => w (ix2 k c)) c := by
  refine (Ideal.matmul_plain_apply (M := n) (K := d) (N := e) none _ _ _ r c).trans ?_
  simp only [← ix2_eq_valueIdx]
  pointwise
  rfl

/-- The rows of `o` gated by the rows of `z`. -/
def gated {n d : ℕ} (o z : FVec Ideal (Mat n d) .bf16) : FVec Ideal (Mat n d) .bf16 :=
  truncf .bf16 (mulf (extf .f32 o narrower) (mulf (extf .f32 z narrower)
    (logistic (extf .f32 z narrower)))) narrower

/-- The gated rows at an index. -/
theorem gated_apply {n d : ℕ} (o z : FVec Ideal (Mat n d) .bf16) (i : (Mat n d).Idx) :
    gated o z i = gate (o i) (z i) := rfl

/-- What the operations on the lanes of `n` rows need to be known of their shape. -/
structure Lanes (n : ℕ) : Prop where
  iota : (Mat n 128).Iotas .tc 32 [1]
  rot : (Mat n 128).Rotates 1 none

/-- The numbers of the lanes. -/
def lanes {n : ℕ} (f : Lanes n) : IVec (Mat n 128) 32 := iota .tc (Mat n 128) 32 [1] f.iota

/-- The partner of every lane, 16 lanes on below lane `hi` and 16 lanes back from there on. -/
def partner {n : ℕ} (f : Lanes n) (hi : ℕ) (a : FVec Ideal (Mat n 128) .f32) : FVec Ideal (Mat n 128) .f32 :=
  select (cmpi .slt (lanes f) (broadcast (Mat n 128) (BitVec.ofNat 32 hi)))
    (dynamicRotate 1 112#32 none a f.rot) (dynamicRotate 1 16#32 none a f.rot)

/-- The rotation of every row. -/
def turned {n : ℕ} (f : Lanes n) (hi : ℕ) (a cos sin : FVec Ideal (Mat n 128) .f32) : FVec Ideal (Mat n 128) .f32 :=
  addf (mulf a cos) (mulf (partner f hi a) sin)

/-- The rotation at an index. -/
theorem turned_apply {n : ℕ} (f : Lanes n) (hi : ℕ) (hh : hi < 128) (a cos sin : FVec Ideal (Mat n 128) .f32)
    (r : Fin n) (l : Fin 128) : turned f hi a cos sin (ix2 r l) =
      rot hi (fun l => a (ix2 r l)) (fun l => cos (ix2 r l)) (fun l => sin (ix2 r l)) l := by
  have hl := l.isLt
  pointwise [turned, partner, lanes]
  simp (disch := omega) only [hlo_ix]
  unfold rot
  congr 2

/-- The lanes below `lo` of one matrix and the other lanes of another. -/
theorem below_apply {n : ℕ} (f : Lanes n) (lo : ℕ) (hh : lo < 128) (a b : FVec Ideal (Mat n 128) .f32)
    (r : Fin n) (l : Fin 128) :
    select (cmpi .slt (lanes f) (broadcast (Mat n 128) (BitVec.ofNat 32 lo))) a b (ix2 r l) =
      if (l : ℕ) < lo then a (ix2 r l) else b (ix2 r l) := by
  have hl := l.isLt
  pointwise [lanes]
  simp (disch := omega) only [hlo_ix]

/-- The lanes from `lo` on of one matrix and the other lanes of another. -/
theorem above_apply {n : ℕ} (f : Lanes n) (lo : ℕ) (hh : lo < 128) (a b : FVec Ideal (Mat n 128) .f32)
    (r : Fin n) (l : Fin 128) :
    select (cmpi .sge (lanes f) (broadcast (Mat n 128) (BitVec.ofNat 32 lo))) a b (ix2 r l) =
      if lo ≤ (l : ℕ) then a (ix2 r l) else b (ix2 r l) := by
  have hl := l.isLt
  pointwise [lanes]
  simp (disch := omega) only [hlo_ix]

/-- Dropping an axis of one element before the rows. -/
theorem drop_apply {n d : ℕ} {e : EltTy} (f : (⟨3, ![1, n, d]⟩ : Shape).ShapeCasts (Mat n d)) (x : Vec Ideal ⟨3, ![1, n, d]⟩ e)
    (r : Fin n) (c : Fin d) : shapeCast (Mat n d) x f (ix2 r c) = x (ix3 0 r c) := by
  refine congrArg x (Shape.reshapeEquiv_eq_of_rowMajor f ?_)
  rw [Shape.rowMajor_val_two, Shape.rowMajor_val_three]
  simp

/-- Eight matrices of 128 columns side by side. -/
def sideBySide {n : ℕ} (f : Shape.Concatenates [Mat n 128, Mat n 128, Mat n 128, Mat n 128, Mat n 128, Mat n 128,
    Mat n 128, Mat n 128] (Mat n 1024) 1) (o : Fin 8 → FVec Ideal (Mat n 128) .bf16) : FVec Ideal (Mat n 1024) .bf16 :=
  concatenate (Mat n 1024) 1 [⟨Mat n 128, o 0⟩, ⟨Mat n 128, o 1⟩, ⟨Mat n 128, o 2⟩, ⟨Mat n 128, o 3⟩, ⟨Mat n 128, o 4⟩,
    ⟨Mat n 128, o 5⟩, ⟨Mat n 128, o 6⟩, ⟨Mat n 128, o 7⟩] f

/-- Eight matrices side by side, at an index. -/
theorem sideBySide_apply {n : ℕ} (f : Shape.Concatenates [Mat n 128, Mat n 128, Mat n 128, Mat n 128, Mat n 128,
    Mat n 128, Mat n 128, Mat n 128] (Mat n 1024) 1) (o : Fin 8 → FVec Ideal (Mat n 128) .bf16) (r : Fin n)
    (p : Fin 8) (l : Fin 128) (h : 128 * (p : ℕ) + l < 1024) :
    sideBySide f o (ix2 r ⟨128 * p + l, h⟩) = o p (ix2 r l) := by
  pointwise [sideBySide]
  have hl := l.isLt
  fin_cases p <;> simp <;> grind

/-- The eight groups of 128 lanes of a row of 1024. -/
def lane8 (k : Fin 1024) : Fin 8 := ⟨k / 128, by omega⟩

/-- A lane's number in its group. -/
def lane128 (k : Fin 1024) : Fin 128 := ⟨k % 128, by omega⟩

/-- Eight matrices side by side, at any index. -/
theorem sideBySide_at {n : ℕ} (f : Shape.Concatenates [Mat n 128, Mat n 128, Mat n 128, Mat n 128, Mat n 128,
    Mat n 128, Mat n 128, Mat n 128] (Mat n 1024) 1) (o : Fin 8 → FVec Ideal (Mat n 128) .bf16) (r : Fin n)
    (k : Fin 1024) : sideBySide f o (ix2 r k) = o (lane8 k) (ix2 r (lane128 k)) := by
  have e : k = ⟨128 * (lane8 k : ℕ) + lane128 k, by unfold lane8 lane128; simp; omega⟩ := by
    apply Fin.ext; unfold lane8 lane128; simp; omega
  conv_lhs => rw [e]
  exact sideBySide_apply f o r _ _ _

/-- The place of an element of a tile of `n` rows from row `lo` on. -/
theorem emb3 {N n d lo : ℕ} (inb : ∀ a, (![0, lo, 0] : Fin 3 → ℕ) a + (⟨3, ![1, n, d]⟩ : Shape).size a ≤ (⟨3, ![1, N, d]⟩ : Shape).size a)
    (a : Fin 1) (r : Fin n) (c : Fin d) (hr : lo + r < N) :
    (Rect.unit (s := ⟨3, ![1, N, d]⟩) ![0, lo, 0] (⟨3, ![1, n, d]⟩ : Shape).size inb).emb (ix3 a r c) = ix3 0 ⟨lo + r, hr⟩ c := by
  refine funext fun a' => Fin.ext ?_
  match a' with
  | ⟨0, _⟩ => show 0 + 1 * (a : ℕ) = 0; omega
  | ⟨1, _⟩ => show lo + 1 * (r : ℕ) = lo + r; omega
  | ⟨2, _⟩ => show 0 + 1 * (c : ℕ) = c; omega

/-- The place of an element of a tile of `n` rows of head `p` from row `lo` on. -/
theorem emb4 {H N n d lo p : ℕ} (inb : ∀ a, (![0, p, lo, 0] : Fin 4 → ℕ) a + (⟨4, ![1, 1, n, d]⟩ : Shape).size a ≤ (⟨4, ![1, H, N, d]⟩ : Shape).size a)
    (hp : p < H) (a b : Fin 1) (r : Fin n) (c : Fin d) (hr : lo + r < N) :
    (Rect.unit (s := ⟨4, ![1, H, N, d]⟩) ![0, p, lo, 0] (⟨4, ![1, 1, n, d]⟩ : Shape).size inb).emb (ix4 a b r c) = ix4 0 ⟨p, hp⟩ ⟨lo + r, hr⟩ c := by
  refine funext fun a' => Fin.ext ?_
  match a' with
  | ⟨0, _⟩ => show 0 + 1 * (a : ℕ) = 0; omega
  | ⟨1, _⟩ => show p + 1 * (b : ℕ) = p; omega
  | ⟨2, _⟩ => show lo + 1 * (r : ℕ) = lo + r; omega
  | ⟨3, _⟩ => show 0 + 1 * (c : ℕ) = c; omega

/-- A tile of `n` rows of a block, as a matrix. -/
def tile {N n d : ℕ} {e : EltTy} (lo : ℕ) (inb : ∀ a, (![0, lo, 0] : Fin 3 → ℕ) a + (⟨3, ![1, n, d]⟩ : Shape).size a ≤ (⟨3, ![1, N, d]⟩ : Shape).size a)
    (f : (⟨3, ![1, n, d]⟩ : Shape).ShapeCasts (Mat n d)) (x : Vec Ideal ⟨3, ![1, N, d]⟩ e) : Vec Ideal (Mat n d) e :=
  shapeCast (Mat n d) (View.ld x (Rect.unit (s := ⟨3, ![1, N, d]⟩) ![0, lo, 0] (⟨3, ![1, n, d]⟩ : Shape).size inb)) f

/-- A tile at an index. -/
theorem tile_apply {N n d : ℕ} {e : EltTy} (lo : ℕ) (inb : ∀ a, (![0, lo, 0] : Fin 3 → ℕ) a + (⟨3, ![1, n, d]⟩ : Shape).size a ≤ (⟨3, ![1, N, d]⟩ : Shape).size a)
    (f : (⟨3, ![1, n, d]⟩ : Shape).ShapeCasts (Mat n d)) (x : Vec Ideal ⟨3, ![1, N, d]⟩ e) (r : Fin n) (c : Fin d) (hr : lo + r < N) :
    tile lo inb f x (ix2 r c) = x (ix3 0 ⟨lo + r, hr⟩ c) := by
  unfold tile
  rw [drop_apply]
  exact congrArg x (emb3 inb 0 r c hr)

/-- A tile of `n` rows of one head of a block, as a matrix. -/
def headTile {H N n d : ℕ} {e : EltTy} (p lo : ℕ) (inb : ∀ a, (![0, p, lo, 0] : Fin 4 → ℕ) a + (⟨4, ![1, 1, n, d]⟩ : Shape).size a ≤ (⟨4, ![1, H, N, d]⟩ : Shape).size a)
    (f : (⟨4, ![1, 1, n, d]⟩ : Shape).ShapeCasts (Mat n d)) (x : Vec Ideal ⟨4, ![1, H, N, d]⟩ e) : Vec Ideal (Mat n d) e :=
  shapeCast (Mat n d) (View.ld x (Rect.unit (s := ⟨4, ![1, H, N, d]⟩) ![0, p, lo, 0] (⟨4, ![1, 1, n, d]⟩ : Shape).size inb)) f

/-- A head's tile at an index. -/
theorem headTile_apply {H N n d : ℕ} {e : EltTy} (p lo : ℕ) (inb : ∀ a, (![0, p, lo, 0] : Fin 4 → ℕ) a + (⟨4, ![1, 1, n, d]⟩ : Shape).size a ≤ (⟨4, ![1, H, N, d]⟩ : Shape).size a)
    (f : (⟨4, ![1, 1, n, d]⟩ : Shape).ShapeCasts (Mat n d)) (x : Vec Ideal ⟨4, ![1, H, N, d]⟩ e) (hp : p < H) (r : Fin n) (c : Fin d) (hr : lo + r < N) :
    headTile p lo inb f x (ix2 r c) = x (ix4 0 ⟨p, hp⟩ ⟨lo + r, hr⟩ c) := by
  have e : Shape.reshapeEquiv f (ix2 r c) = ix4 0 0 r c := by
    refine Shape.reshapeEquiv_eq_of_rowMajor f ?_
    rw [Shape.rowMajor_val_two, Shape.rowMajor_val_four]
    simp
  show x ((Rect.unit (s := ⟨4, ![1, H, N, d]⟩) ![0, p, lo, 0] (⟨4, ![1, 1, n, d]⟩ : Shape).size inb).emb
    (Shape.reshapeEquiv f (ix2 r c))) = _
  rw [e]
  exact congrArg x (emb4 inb hp 0 0 r c hr)

/-- A matrix loaded whole. -/
def whole {a b : ℕ} {e : EltTy} (inb : ∀ i, (![0, 0] : Fin 2 → ℕ) i + (Mat a b).size i ≤ (Mat a b).size i) (x : Vec Ideal (Mat a b) e) : Vec Ideal (Mat a b) e :=
  View.ld x (Rect.unit (s := Mat a b) ![0, 0] (Mat a b).size inb)

/-- A matrix loaded whole is the matrix. -/
theorem whole_apply {a b : ℕ} {e : EltTy} (inb : ∀ i, (![0, 0] : Fin 2 → ℕ) i + (Mat a b).size i ≤ (Mat a b).size i) (x : Vec Ideal (Mat a b) e)
    (r : Fin a) (c : Fin b) : whole inb x (ix2 r c) = x (ix2 r c) := by
  refine congrArg x (funext fun a' => Fin.ext ?_)
  match a' with
  | ⟨0, _⟩ => show 0 + 1 * (r : ℕ) = r; omega
  | ⟨1, _⟩ => show 0 + 1 * (c : ℕ) = c; omega

/-- Some of the columns of a matrix. -/
theorem slice_apply {n d k lo : ℕ} (f : (Mat n d).Slices ![0, lo] (Mat n k)) (x : FVec Ideal (Mat n d) .f32) (r : Fin n)
    (h : lo + k ≤ d) (c : Fin k) : extractStridedSlice (Mat n k) ![0, lo] x f (ix2 r c) = x (ix2 r ⟨lo + c, by omega⟩) := by
  refine congrArg x (funext fun a' => Fin.ext ?_)
  match a' with
  | ⟨0, _⟩ => show 0 + (r : ℕ) = r; omega
  | ⟨1, _⟩ => rfl

/-- A row plus the RMS norm of the product of the gated row with a matrix: the last step of a branch. -/
def branch {d e : ℕ} (N : EReal) (o z : Fin d → EReal) (w : Fin d → Fin e → EReal) (x g : Fin e → EReal) (c : Fin e) :
    EReal :=
  x c + rms N (dense (fun k => gate (o k) (z k)) w) g c

end Cert.Rows
-- ==== Proof.Mid.lean ====
module

public import proofs.«01_k».proof.Proof.RowOps
public import proofs.«01_k».proof.Proof.Gen.Kernel3Ideal.Value

@[expose] public section

set_option maxRecDepth 16384

noncomputable section

/-!
What the body of the call between the two attentions computes for a tile of 256 tokens, read at an index.
-/

namespace Cert.Mid

open Cert.Kernel3Ideal Cert.Kernel3Ideal.Gen Cert.Rows Idealize.ShloMosaic Idealize.ShloMosaic.TcCoe

/-- The gains and weights of the call. -/
structure Weights where
  out : Fin 1024 → Fin 1024 → EReal
  post : Fin 1024 → EReal
  kv : Fin 1024 → EReal
  down : Fin 1024 → Fin 384 → EReal
  lat : Fin 256 → EReal
  up : Fin 256 → Fin 2048 → EReal
  pre : Fin 1024 → EReal
  cq : Fin 1024 → Fin 384 → EReal
  gate : Fin 1024 → Fin 1024 → EReal
  q : Fin 384 → EReal
  qup : Fin 384 → Fin 2048 → EReal

/-- The factor on the queries. -/
def scale : EReal := (Named.named (F := Ideal) κ "scale_b" 0x3E16C740#32 : Ideal .f32)

variable (W : Weights)

/-- The residual stream after the first branch. -/
def hRow (o z x : Fin 1024 → EReal) : Fin 1024 → EReal := branch (Ideal.ofBits .f32 0x44800000#32) o z W.out x W.post

/-- The down projection of keys and values, from the residual stream. -/
def downRow (h : Fin 1024 → EReal) : Fin 384 → EReal := dense (rms (Ideal.ofBits .f32 0x44800000#32) h W.kv) W.down

/-- Keys and values of all heads. -/
def kvRow (h : Fin 1024 → EReal) : Fin 2048 → EReal :=
  dense (rms (Ideal.ofBits .f32 0x43800000#32) (fun j : Fin 256 => downRow W h ⟨0 + j, by omega⟩) W.lat) W.up

/-- The cosines the rotation of 128 lanes uses: 1 below lane 64. -/
def cosRow (cos : Fin 128 → EReal) (l : Fin 128) : EReal := if 64 ≤ (l : ℕ) then cos l else Ideal.ofBits .f32 0x3F800000#32

/-- The sines the rotation of 128 lanes uses: 0 below lane 64. -/
def sinRow (sin : Fin 128 → EReal) (l : Fin 128) : EReal := if 64 ≤ (l : ℕ) then sin l else Ideal.ofBits .f32 0x00000000#32

/-- The rotated lanes of the keys, which all heads share. -/
def turnRow (h : Fin 1024 → EReal) (cos sin : Fin 128 → EReal) : Fin 128 → EReal :=
  rot 80 (fun l => downRow W h ⟨256 + l, by omega⟩) (cosRow cos) (sinRow sin)

/-- The keys of a head. -/
def kRow (h : Fin 1024 → EReal) (cos sin : Fin 128 → EReal) (p : Fin 16) (l : Fin 128) : EReal :=
  if (l : ℕ) < 64 then kvRow W h ⟨128 * p + l, by omega⟩ else turnRow W h cos sin l

/-- The values of a head: a one in lane 0, the values from lane 64 on. -/
def vRow (h : Fin 1024 → EReal) (p : Fin 16) (l : Fin 128) : EReal :=
  if 64 ≤ (l : ℕ) then kvRow W h ⟨128 * p + l, by omega⟩
  else if (l : ℕ) = 0 then Ideal.ofBits .f32 0x3F800000#32 else Ideal.ofBits .f32 0x00000000#32

/-- The query projection of all heads. -/
def qupRow (h : Fin 1024 → EReal) : Fin 2048 → EReal :=
  dense (rms (Ideal.ofBits .f32 0x43C00000#32) (dense (rms (Ideal.ofBits .f32 0x44800000#32) h W.pre) W.cq) W.q) W.qup

/-- The queries of a head. -/
def qRow (h : Fin 1024 → EReal) (cos sin : Fin 128 → EReal) (p : Fin 16) (l : Fin 128) : EReal :=
  rot 80 (fun l => qupRow W h ⟨128 * p + l, by omega⟩) (fun l => cosRow cos l * scale) (fun l => sinRow sin l * scale) l

/-- The second branch's gate. -/
def gateRow (h : Fin 1024 → EReal) : Fin 1024 → EReal := dense (rms (Ideal.ofBits .f32 0x44800000#32) h W.pre) W.gate

/-- What the norms over 1024 columns need of their shapes. -/
theorem n1024 : Normal 256 1024 := ⟨reduces_S256x1024_S256, shapeCasts_S256_S256x1, broadcasts_S256x1_S256x1024,
  shapeCasts_S1x1024_S1x1024, broadcasts_S1x1024_S256x1024⟩

/-- What the norms over 256 columns need of their shapes. -/
theorem n256 : Normal 256 256 := ⟨reduces_S256x256_S256, shapeCasts_S256_S256x1, broadcasts_S256x1_S256x256,
  shapeCasts_S1x256_S1x256, broadcasts_S1x256_S256x256⟩

/-- What the norms over 384 columns need of their shapes. -/
theorem n384 : Normal 256 384 := ⟨reduces_S256x384_S256, shapeCasts_S256_S256x1, broadcasts_S256x1_S256x384,
  shapeCasts_S1x384_S1x384, broadcasts_S1x384_S256x384⟩

/-- What the operations on lanes need of their shape. -/
theorem l256 : Lanes 256 := ⟨iota_S256x128_d1_w32, rotates_S256x128_d1⟩

/-- A tile of 256 tokens lies in the block of 512. -/
theorem in3 {d lo : ℕ} (h : lo + 256 ≤ 512) (a : Fin 3) :
    (![0, lo, 0] : Fin 3 → ℕ) a + (⟨3, ![1, 256, d]⟩ : Shape).size a ≤ (⟨3, ![1, 512, d]⟩ : Shape).size a := by
  match a with
  | ⟨0, _⟩ => show 0 + 1 ≤ 1; omega
  | ⟨1, _⟩ => exact h
  | ⟨2, _⟩ => show 0 + d ≤ d; omega

/-- A head's tile of 256 tokens lies in the block of 512. -/
theorem in4 {H p lo : ℕ} (hp : p < H) (h : lo + 256 ≤ 512) (a : Fin 4) :
    (![0, p, lo, 0] : Fin 4 → ℕ) a + (⟨4, ![1, 1, 256, 128]⟩ : Shape).size a ≤ (⟨4, ![1, H, 512, 128]⟩ : Shape).size a := by
  match a with
  | ⟨0, _⟩ => show 0 + 1 ≤ 1; omega
  | ⟨1, _⟩ => exact hp
  | ⟨2, _⟩ => exact h
  | ⟨3, _⟩ => show 0 + 128 ≤ 128; omega

/-- A matrix lies in itself. -/
theorem in2 {a b : ℕ} (i : Fin 2) : (![0, 0] : Fin 2 → ℕ) i + (Mat a b).size i ≤ (Mat a b).size i := by
  match i with
  | ⟨0, _⟩ => show 0 + a ≤ a; omega
  | ⟨1, _⟩ => show 0 + b ≤ b; omega

section
variable {lo : ℕ} (hlo : lo + 256 ≤ 512)

/-- The residual stream of a tile. -/
def hTile (x0 : Vec Ideal S1x8x512x128 .bf16) (x1 : Vec Ideal S1x512x1024 .bf16) (x2 : Vec Ideal S1x512x1024 .f32)
    (x5 : Vec Ideal S1024x1024 .bf16) (x6 : Vec Ideal S1x1024 .f32) : FVec Ideal S256x1024 .f32 :=
  addf (tile lo (in3 hlo) shapeCasts_S1x256x1024_S256x1024 x2)
    (norm n1024 0x44800000#32 (prod shapeCasts_S1024x1024_S1024x1024
      (gated (sideBySide concatenates_S256x128_S256x128_S256x128_S256x128_S256x128_S256x128_S256x128_S256x128_S256x1024_d1
        fun p => headTile (H := 8) p lo (in4 p.isLt hlo) shapeCasts_S1x1x256x128_S256x128 x0)
        (tile lo (in3 hlo) shapeCasts_S1x256x1024_S256x1024 x1)) (whole in2 x5)) (whole in2 x6))

/-- The down projection of a tile. -/
def downTile (h : FVec Ideal S256x1024 .f32) (x7 : Vec Ideal S1x1024 .f32) (x8 : Vec Ideal S1024x384 .bf16) :
    FVec Ideal S256x384 .f32 :=
  prod shapeCasts_S1024x384_S1024x384 (truncf .bf16 (norm n1024 0x44800000#32 h (whole in2 x7)) bitsLt_bf16_f32)
    (whole in2 x8)

/-- Keys and values of a tile. -/
def kvTile (d : FVec Ideal S256x384 .f32) (x9 : Vec Ideal S1x256 .f32) (x10 : Vec Ideal S256x2048 .bf16) :
    FVec Ideal S256x2048 .f32 :=
  prod shapeCasts_S256x2048_S256x2048 (truncf .bf16 (norm n256 0x43800000#32
    (extractStridedSlice S256x256 ![0, 0] d slices_S256x384_o0_0_S256x256) (whole in2 x9)) bitsLt_bf16_f32) (whole in2 x10)

/-- The query projection of a tile. -/
def qupTile (h : FVec Ideal S256x1024 .f32) (x11 : Vec Ideal S1x1024 .f32) (x12 : Vec Ideal S1024x384 .bf16)
    (x14 : Vec Ideal S1x384 .f32) (x15 : Vec Ideal S384x2048 .bf16) : FVec Ideal S256x2048 .f32 :=
  prod shapeCasts_S384x2048_S384x2048 (truncf .bf16 (norm n384 0x43C00000#32 (downTile h x11 x12) (whole in2 x14))
    bitsLt_bf16_f32) (whole in2 x15)

/-- The gate of a tile. -/
def gateTile (h : FVec Ideal S256x1024 .f32) (x11 : Vec Ideal S1x1024 .f32) (x13 : Vec Ideal S1024x1024 .bf16) :
    FVec Ideal S256x1024 .f32 :=
  prod shapeCasts_S1024x1024_S1024x1024 (truncf .bf16 (norm n1024 0x44800000#32 h (whole in2 x11)) bitsLt_bf16_f32)
    (whole in2 x13)

/-- The cosines of a tile. -/
def cosTile (x3 : Vec Ideal S1x512x128 .f32) : FVec Ideal S256x128 .f32 :=
  select (cmpi .sge (lanes l256) (broadcast S256x128 64#32)) (tile lo (in3 hlo) shapeCasts_S1x256x128_S256x128 x3)
    (broadcast S256x128 (Scalar.ofBits (F := Ideal) .f32 0x3F800000#32))

/-- The sines of a tile. -/
def sinTile (x4 : Vec Ideal S1x512x128 .f32) : FVec Ideal S256x128 .f32 :=
  select (cmpi .sge (lanes l256) (broadcast S256x128 64#32)) (tile lo (in3 hlo) shapeCasts_S1x256x128_S256x128 x4)
    (broadcast S256x128 (Scalar.ofBits (F := Ideal) .f32 0x00000000#32))
end

/-- The rotated lanes of a tile's keys. -/
def turnTile (d : FVec Ideal S256x384 .f32) (cos sin : FVec Ideal S256x128 .f32) : FVec Ideal S256x128 .f32 :=
  turned l256 80 (extractStridedSlice S256x128 ![0, 256] d slices_S256x384_o0_256_S256x128) cos sin

/-- A table times the factor on the queries. -/
def scaled (t : FVec Ideal S256x128 .f32) : FVec Ideal S256x128 .f32 :=
  mulf t (broadcast S256x128 (Named.named (F := Ideal) κ "scale_b" 0x3E16C740#32))

/-- A head's 128 columns of 2048. -/
theorem headSlice (p : Fin 16) : (S256x2048 : Shape).Slices ![0, 128 * (p : ℕ)] S256x128 := by
  revert p; decide

/-- The store of a head's tile. -/
def stored (x : FVec Ideal S256x128 .f32) : FVec Ideal S1x1x256x128 .bf16 :=
  shapeCast S1x1x256x128 (truncf .bf16 x bitsLt_bf16_f32 : FVec Ideal S256x128 .bf16) shapeCasts_S256x128_S1x1x256x128

/-- A head's keys of a tile. -/
def kTile (kv : FVec Ideal S256x2048 .f32) (turn : FVec Ideal S256x128 .f32) (p : Fin 16) : FVec Ideal S1x1x256x128 .bf16 :=
  stored (select (cmpi .slt (lanes l256) (broadcast S256x128 64#32))
    (extractStridedSlice S256x128 ![0, 128 * (p : ℕ)] kv (headSlice p)) turn)

/-- A head's values of a tile. -/
def vTile (kv : FVec Ideal S256x2048 .f32) (p : Fin 16) : FVec Ideal S1x1x256x128 .bf16 :=
  stored (select (cmpi .sge (lanes l256) (broadcast S256x128 64#32))
    (extractStridedSlice S256x128 ![0, 128 * (p : ℕ)] kv (headSlice p)) (k0_pay3 (F := Ideal)))

/-- A head's queries of a tile. -/
def qTile (qup : FVec Ideal S256x2048 .f32) (cos sin : FVec Ideal S256x128 .f32) (p : Fin 16) : FVec Ideal S1x1x256x128 .bf16 :=
  stored (turned l256 80 (extractStridedSlice S256x128 ![0, 128 * (p : ℕ)] qup (headSlice p)) (scaled cos) (scaled sin))

/-! Each at an index. -/

section
variable {lo : ℕ} (hlo : lo + 256 ≤ 512) (r : Fin 256) (hr : lo + r < 512)

/-- The residual stream of a tile at an index. -/
theorem hTile_apply (x0 : Vec Ideal S1x8x512x128 .bf16) (x1 : Vec Ideal S1x512x1024 .bf16) (x2 : Vec Ideal S1x512x1024 .f32)
    (x5 : Vec Ideal S1024x1024 .bf16) (x6 : Vec Ideal S1x1024 .f32) (h5 : W.out = fun k c => x5 (ix2 k c))
    (h6 : W.post = fun c => x6 (ix2 0 c)) (c : Fin 1024) :
    hTile hlo x0 x1 x2 x5 x6 (ix2 r c) = hRow W (fun k => x0 (ix4 0 (lane8 k) ⟨lo + r, hr⟩ (lane128 k)))
      (fun k => x1 (ix3 0 ⟨lo + r, hr⟩ k)) (fun k => x2 (ix3 0 ⟨lo + r, hr⟩ k)) c := by
  unfold hTile hRow branch
  rw [h5, h6]
  show tile lo _ _ x2 (ix2 r c) + norm _ _ _ _ (ix2 r c) = _
  rw [tile_apply lo _ _ x2 r c hr, norm_apply (by norm_num) (by norm_num)]
  simp only [prod_apply, gated_apply, whole_apply, sideBySide_at, headTile_apply _ lo _ _ x0 (lane8 _).isLt r _ hr,
    tile_apply lo _ _ x1 r _ hr]

/-- The cosines of a tile at an index. -/
theorem cosTile_apply (x3 : Vec Ideal S1x512x128 .f32) (l : Fin 128) :
    cosTile hlo x3 (ix2 r l) = cosRow (fun l => x3 (ix3 0 ⟨lo + r, hr⟩ l)) l := by
  unfold cosTile cosRow
  refine (above_apply l256 64 (by norm_num) _ _ r l).trans ?_
  rw [tile_apply lo _ _ x3 r l hr]
  rfl

/-- The sines of a tile at an index. -/
theorem sinTile_apply (x4 : Vec Ideal S1x512x128 .f32) (l : Fin 128) :
    sinTile hlo x4 (ix2 r l) = sinRow (fun l => x4 (ix3 0 ⟨lo + r, hr⟩ l)) l := by
  unfold sinTile sinRow
  refine (above_apply l256 64 (by norm_num) _ _ r l).trans ?_
  rw [tile_apply lo _ _ x4 r l hr]
  rfl

end

section
variable (r : Fin 256)

/-- The down projection of a tile at an index. -/
theorem downTile_apply (h : FVec Ideal S256x1024 .f32) (x7 : Vec Ideal S1x1024 .f32) (x8 : Vec Ideal S1024x384 .bf16)
    (c : Fin 384) : downTile h x7 x8 (ix2 r c) =
      dense (rms (Ideal.ofBits .f32 0x44800000#32) (fun k => h (ix2 r k)) (fun k => x7 (ix2 0 k))) (fun k c => x8 (ix2 k c)) c := by
  unfold downTile
  rw [prod_apply]
  simp only [whole_apply]
  congr 1
  funext k
  refine (norm_apply (by norm_num) (by norm_num) n1024 _ h _ r k).trans ?_
  simp only [whole_apply]

/-- Keys and values of a tile at an index. -/
theorem kvTile_apply (d : FVec Ideal S256x384 .f32) (x9 : Vec Ideal S1x256 .f32) (x10 : Vec Ideal S256x2048 .bf16)
    (c : Fin 2048) : kvTile d x9 x10 (ix2 r c) =
      dense (rms (Ideal.ofBits .f32 0x43800000#32) (fun k : Fin 256 => d (ix2 r ⟨0 + k, by omega⟩)) (fun k => x9 (ix2 0 k)))
        (fun k c => x10 (ix2 k c)) c := by
  unfold kvTile
  rw [prod_apply]
  simp only [whole_apply]
  congr 1
  funext k
  refine (norm_apply (by norm_num) (by norm_num) n256 _ _ _ r k).trans ?_
  simp only [whole_apply, slice_apply slices_S256x384_o0_0_S256x256 d r (by norm_num)]

/-- The query projection of a tile at an index. -/
theorem qupTile_apply (h : FVec Ideal S256x1024 .f32) (x11 : Vec Ideal S1x1024 .f32) (x12 : Vec Ideal S1024x384 .bf16)
    (x14 : Vec Ideal S1x384 .f32) (x15 : Vec Ideal S384x2048 .bf16) (c : Fin 2048) : qupTile h x11 x12 x14 x15 (ix2 r c) =
      dense (rms (Ideal.ofBits .f32 0x43C00000#32) (dense (rms (Ideal.ofBits .f32 0x44800000#32) (fun k => h (ix2 r k))
        (fun k => x11 (ix2 0 k))) (fun k c => x12 (ix2 k c))) (fun k => x14 (ix2 0 k))) (fun k c => x15 (ix2 k c)) c := by
  unfold qupTile
  rw [prod_apply]
  simp only [whole_apply]
  congr 1
  funext k
  refine (norm_apply (by norm_num) (by norm_num) n384 _ _ _ r k).trans ?_
  simp only [whole_apply, downTile_apply]

/-- The gate of a tile at an index. -/
theorem gateTile_apply (h : FVec Ideal S256x1024 .f32) (x11 : Vec Ideal S1x1024 .f32) (x13 : Vec Ideal S1024x1024 .bf16)
    (c : Fin 1024) : gateTile h x11 x13 (ix2 r c) =
      dense (rms (Ideal.ofBits .f32 0x44800000#32) (fun k => h (ix2 r k)) (fun k => x11 (ix2 0 k))) (fun k c => x13 (ix2 k c)) c := by
  unfold gateTile
  rw [prod_apply]
  simp only [whole_apply]
  congr 1
  funext k
  refine (norm_apply (by norm_num) (by norm_num) n1024 _ h _ r k).trans ?_
  simp only [whole_apply]

/-- The rotated lanes of a tile at an index. -/
theorem turnTile_apply (d : FVec Ideal S256x384 .f32) (cos sin : FVec Ideal S256x128 .f32) (l : Fin 128) :
    turnTile d cos sin (ix2 r l) = rot 80 (fun l : Fin 128 => d (ix2 r ⟨256 + l, by omega⟩)) (fun l => cos (ix2 r l))
      (fun l => sin (ix2 r l)) l := by
  unfold turnTile
  rw [turned_apply l256 80 (by norm_num)]
  simp only [slice_apply slices_S256x384_o0_256_S256x128 d r (by norm_num)]

/-- A stored tile at an index. -/
theorem stored_apply (x : FVec Ideal S256x128 .f32) (a b : Fin 1) (l : Fin 128) : stored x (ix4 a b r l) = x (ix2 r l) := by
  unfold stored
  pointwise

/-- A head's keys at an index. -/
theorem kTile_apply (kv : FVec Ideal S256x2048 .f32) (turn : FVec Ideal S256x128 .f32) (p : Fin 16) (a b : Fin 1) (l : Fin 128) :
    kTile kv turn p (ix4 a b r l) = if (l : ℕ) < 64 then kv (ix2 r ⟨128 * p + l, by omega⟩) else turn (ix2 r l) := by
  unfold kTile
  rw [stored_apply]
  refine (below_apply l256 64 (by norm_num) _ _ r l).trans ?_
  rw [slice_apply (headSlice p) kv r (by omega) l]

/-- A head's values at an index. -/
theorem vTile_apply (kv : FVec Ideal S256x2048 .f32) (p : Fin 16) (a b : Fin 1) (l : Fin 128) :
    vTile kv p (ix4 a b r l) = if 64 ≤ (l : ℕ) then kv (ix2 r ⟨128 * p + l, by omega⟩) else
      if (l : ℕ) = 0 then Ideal.ofBits .f32 0x3F800000#32 else Ideal.ofBits .f32 0x00000000#32 := by
  unfold vTile
  rw [stored_apply]
  refine (above_apply l256 64 (by norm_num) _ _ r l).trans ?_
  rw [slice_apply (headSlice p) kv r (by omega) l]
  congr 1
  have hl := l.isLt
  pointwise [k0_pay3]
  simp (disch := omega) only [hlo_ix]

/-- A head's queries at an index. -/
theorem qTile_apply (qup : FVec Ideal S256x2048 .f32) (cos sin : FVec Ideal S256x128 .f32) (p : Fin 16) (a b : Fin 1) (l : Fin 128) :
    qTile qup cos sin p (ix4 a b r l) = rot 80 (fun l : Fin 128 => qup (ix2 r ⟨128 * p + l, by omega⟩))
      (fun l => cos (ix2 r l) * scale) (fun l => sin (ix2 r l) * scale) l := by
  unfold qTile
  rw [stored_apply, turned_apply l256 80 (by norm_num)]
  simp only [slice_apply (headSlice p) qup r (by omega)]
  rfl
end

end Cert.Mid
-- ==== Proof.MidBlock.lean ====
module

public import proofs.«01_k».proof.Proof.Mid

@[expose] public section

set_option maxRecDepth 16384

noncomputable section

/-!
The body's stores are the tiles of one function of each output block.
-/

namespace Cert.Mid

open Cert.Kernel3Ideal Cert.Kernel3Ideal.Gen Cert.Rows Idealize.ShloMosaic Idealize.ShloMosaic.TcCoe

variable (x0 : Vec Ideal S1x8x512x128 .bf16) (x1 : Vec Ideal S1x512x1024 .bf16) (x2 : Vec Ideal S1x512x1024 .f32)
  (x3 x4 : Vec Ideal S1x512x128 .f32) (x5 : Vec Ideal S1024x1024 .bf16) (x6 x7 : Vec Ideal S1x1024 .f32)
  (x8 : Vec Ideal S1024x384 .bf16) (x9 : Vec Ideal S1x256 .f32) (x10 : Vec Ideal S256x2048 .bf16)
  (x11 : Vec Ideal S1x1024 .f32) (x12 : Vec Ideal S1024x384 .bf16) (x13 : Vec Ideal S1024x1024 .bf16)
  (x14 : Vec Ideal S1x384 .f32) (x15 : Vec Ideal S384x2048 .bf16)

/-- The gains and weights, from the blocks that hold them. -/
def wOf (x5 : Vec Ideal S1024x1024 .bf16) (x6 x7 : Vec Ideal S1x1024 .f32)
    (x8 : Vec Ideal S1024x384 .bf16) (x9 : Vec Ideal S1x256 .f32) (x10 : Vec Ideal S256x2048 .bf16)
    (x11 : Vec Ideal S1x1024 .f32) (x12 : Vec Ideal S1024x384 .bf16) (x13 : Vec Ideal S1024x1024 .bf16)
    (x14 : Vec Ideal S1x384 .f32) (x15 : Vec Ideal S384x2048 .bf16) : Weights :=
  ⟨fun k c => x5 (ix2 k c), fun c => x6 (ix2 0 c), fun c => x7 (ix2 0 c), fun k c => x8 (ix2 k c), fun c => x9 (ix2 0 c),
    fun k c => x10 (ix2 k c), fun c => x11 (ix2 0 c), fun k c => x12 (ix2 k c), fun k c => x13 (ix2 k c),
    fun c => x14 (ix2 0 c), fun k c => x15 (ix2 k c)⟩

/-- The residual stream of token `t` of a block. -/
def hBlk (x0 : Vec Ideal S1x8x512x128 .bf16) (x1 : Vec Ideal S1x512x1024 .bf16) (x2 : Vec Ideal S1x512x1024 .f32)
    (W : Weights) (t : Fin 512) : Fin 1024 → EReal :=
  hRow W (fun k => x0 (ix4 0 (lane8 k) t (lane128 k))) (fun k => x1 (ix3 0 t k)) (fun k => x2 (ix3 0 t k))

local notation "WW" => wOf x5 x6 x7 x8 x9 x10 x11 x12 x13 x14 x15

/-- The block of the residual stream. -/
def block16 : Vec Ideal S1x512x1024 .f32 := fun y => hBlk x0 x1 x2 WW (y 1) (y 2)

/-- The block of the keys. -/
def block17 : Vec Ideal S1x16x512x128 .bf16 := fun y =>
  kRow WW (hBlk x0 x1 x2 WW (y 2)) (fun l => x3 (ix3 0 (y 2 : Fin 512) l)) (fun l => x4 (ix3 0 (y 2 : Fin 512) l)) (y 1) (y 3)

/-- The block of the values. -/
def block18 : Vec Ideal S1x16x512x128 .bf16 := fun y => vRow WW (hBlk x0 x1 x2 WW (y 2)) (y 1) (y 3)

/-- The block of the queries. -/
def block19 : Vec Ideal S1x16x512x128 .bf16 := fun y =>
  qRow WW (hBlk x0 x1 x2 WW (y 2)) (fun l => x3 (ix3 0 (y 2 : Fin 512) l)) (fun l => x4 (ix3 0 (y 2 : Fin 512) l)) (y 1) (y 3)

/-- The block of the second branch's gate. -/
def block20 : Vec Ideal S1x512x1024 .bf16 := fun y => gateRow WW (hBlk x0 x1 x2 WW (y 1)) (y 2)

section
variable {lo : ℕ} (hlo : lo + 256 ≤ 512)

/-- The residual stream of a tile is that of its tokens. -/
theorem hTile_row (r : Fin 256) : (fun c => hTile hlo x0 x1 x2 x5 x6 (ix2 r c)) =
    hBlk x0 x1 x2 WW ⟨lo + r, by omega⟩ := by
  funext c
  exact hTile_apply WW hlo r (by omega) x0 x1 x2 x5 x6 rfl rfl c

/-- The store of the residual stream. -/
def hStore : FVec Ideal S1x256x1024 .f32 :=
  shapeCast S1x256x1024 (hTile hlo x0 x1 x2 x5 x6) shapeCasts_S256x1024_S1x256x1024

/-- The store of the gate. -/
def gateStore : FVec Ideal S1x256x1024 .bf16 :=
  shapeCast S1x256x1024 (truncf .bf16 (gateTile (hTile hlo x0 x1 x2 x5 x6) x11 x13) bitsLt_bf16_f32 :
    FVec Ideal S256x1024 .bf16) shapeCasts_S256x1024_S1x256x1024

/-- The store of the residual stream is its tile of the block function. -/
theorem h_piece (x : S1x256x1024.Idx) : hStore x0 x1 x2 x5 x6 hlo x = block16 x0 x1 x2 x5 x6 x7 x8 x9 x10 x11 x12 x13 x14 x15
    ((Rect.unit (s := S1x512x1024) ![0, lo, 0] S1x256x1024.size (in3 hlo)).emb x) := by
  obtain ⟨a, r, c, rfl⟩ : ∃ (a : Fin 1) (r : Fin 256) (c : Fin 1024), x = ix3 a r c := ⟨x 0, x 1, x 2, eq_ix3 x⟩
  rw [emb3 (in3 hlo) a r c (by omega)]
  refine Eq.trans ?_ (congrFun (hTile_row x0 x1 x2 x5 x6 x7 x8 x9 x10 x11 x12 x13 x14 x15 hlo r) c)
  unfold hStore
  pointwise

/-- The store of the gate is its tile of the block function. -/
theorem gate_piece (x : S1x256x1024.Idx) : gateStore x0 x1 x2 x5 x6 x11 x13 hlo x = block20 x0 x1 x2 x5 x6 x7 x8 x9 x10 x11 x12 x13 x14 x15
    ((Rect.unit (s := S1x512x1024) ![0, lo, 0] S1x256x1024.size (in3 hlo)).emb x) := by
  obtain ⟨a, r, c, rfl⟩ : ∃ (a : Fin 1) (r : Fin 256) (c : Fin 1024), x = ix3 a r c := ⟨x 0, x 1, x 2, eq_ix3 x⟩
  rw [emb3 (in3 hlo) a r c (by omega)]
  have e : gateStore x0 x1 x2 x5 x6 x11 x13 hlo (ix3 a r c) = gateTile (hTile hlo x0 x1 x2 x5 x6) x11 x13 (ix2 r c) := by
    unfold gateStore
    pointwise
  rw [e, gateTile_apply, hTile_row x0 x1 x2 x5 x6 x7 x8 x9 x10 x11 x12 x13 x14 x15 hlo r]
  rfl

/-- The store of a head's keys. -/
def kStore (p : Fin 16) : FVec Ideal S1x1x256x128 .bf16 :=
  kTile (kvTile (downTile (hTile hlo x0 x1 x2 x5 x6) x7 x8) x9 x10)
    (turnTile (downTile (hTile hlo x0 x1 x2 x5 x6) x7 x8) (cosTile hlo x3) (sinTile hlo x4)) p

/-- The store of a head's values. -/
def vStore (p : Fin 16) : FVec Ideal S1x1x256x128 .bf16 :=
  vTile (kvTile (downTile (hTile hlo x0 x1 x2 x5 x6) x7 x8) x9 x10) p

/-- The store of a head's queries. -/
def qStore (p : Fin 16) : FVec Ideal S1x1x256x128 .bf16 :=
  qTile (qupTile (hTile hlo x0 x1 x2 x5 x6) x11 x12 x14 x15) (cosTile hlo x3) (sinTile hlo x4) p

/-- The store of a head's keys is its tile of the block function. -/
theorem k_piece (p : Fin 16) (x : S1x1x256x128.Idx) : kStore x0 x1 x2 x3 x4 x5 x6 x7 x8 x9 x10 hlo p x =
    block17 x0 x1 x2 x3 x4 x5 x6 x7 x8 x9 x10 x11 x12 x13 x14 x15
    ((Rect.unit (s := S1x16x512x128) ![0, (p : ℕ), lo, 0] S1x1x256x128.size (in4 p.isLt hlo)).emb x) := by
  obtain ⟨a, b, r, l, rfl⟩ : ∃ (a b : Fin 1) (r : Fin 256) (l : Fin 128), x = ix4 a b r l := ⟨x 0, x 1, x 2, x 3, eq_ix4 x⟩
  rw [emb4 (in4 p.isLt hlo) p.isLt a b r l (by omega)]
  unfold kStore
  rw [kTile_apply, kvTile_apply, turnTile_apply]
  simp only [downTile_apply, hTile_row x0 x1 x2 x5 x6 x7 x8 x9 x10 x11 x12 x13 x14 x15 hlo r,
    cosTile_apply hlo r (by omega), sinTile_apply hlo r (by omega)]
  rfl

/-- The store of a head's values is its tile of the block function. -/
theorem v_piece (p : Fin 16) (x : S1x1x256x128.Idx) : vStore x0 x1 x2 x5 x6 x7 x8 x9 x10 hlo p x =
    block18 x0 x1 x2 x5 x6 x7 x8 x9 x10 x11 x12 x13 x14 x15
    ((Rect.unit (s := S1x16x512x128) ![0, (p : ℕ), lo, 0] S1x1x256x128.size (in4 p.isLt hlo)).emb x) := by
  obtain ⟨a, b, r, l, rfl⟩ : ∃ (a b : Fin 1) (r : Fin 256) (l : Fin 128), x = ix4 a b r l := ⟨x 0, x 1, x 2, x 3, eq_ix4 x⟩
  rw [emb4 (in4 p.isLt hlo) p.isLt a b r l (by omega)]
  unfold vStore
  rw [vTile_apply, kvTile_apply]
  simp only [downTile_apply, hTile_row x0 x1 x2 x5 x6 x7 x8 x9 x10 x11 x12 x13 x14 x15 hlo r]
  rfl

/-- The store of a head's queries is its tile of the block function. -/
theorem q_piece (p : Fin 16) (x : S1x1x256x128.Idx) : qStore x0 x1 x2 x3 x4 x5 x6 x11 x12 x14 x15 hlo p x =
    block19 x0 x1 x2 x3 x4 x5 x6 x7 x8 x9 x10 x11 x12 x13 x14 x15
    ((Rect.unit (s := S1x16x512x128) ![0, (p : ℕ), lo, 0] S1x1x256x128.size (in4 p.isLt hlo)).emb x) := by
  obtain ⟨a, b, r, l, rfl⟩ : ∃ (a b : Fin 1) (r : Fin 256) (l : Fin 128), x = ix4 a b r l := ⟨x 0, x 1, x 2, x 3, eq_ix4 x⟩
  rw [emb4 (in4 p.isLt hlo) p.isLt a b r l (by omega)]
  unfold qStore
  rw [qTile_apply]
  simp only [qupTile_apply, hTile_row x0 x1 x2 x5 x6 x7 x8 x9 x10 x11 x12 x13 x14 x15 hlo r,
    cosTile_apply hlo r (by omega), sinTile_apply hlo r (by omega)]
  rfl
end

/-- The first tile of a block. -/
theorem low : 0 + 256 ≤ 512 := by norm_num

/-- The second tile of a block. -/
theorem high : 256 + 256 ≤ 512 := by norm_num

/-- What the body leaves in the block of the residual stream. -/
theorem out16_eq : out0_16 x0 x1 x2 x3 x4 x5 x6 x7 x8 x9 x10 x11 x12 x13 x14 x15 = block16 x0 x1 x2 x5 x6 x7 x8 x9 x10 x11 x12 x13 x14 x15 := by
  funext y
  unfold out0_16
  refine View.canon_apply_of_pieces (block16 x0 x1 x2 x5 x6 x7 x8 x9 x10 x11 x12 x13 x14 x15) _ ?_ y (cover0_16 _ _ y)
  simp only [List.forall_mem_cons, List.not_mem_nil, false_imp_iff, implies_true, and_true]
  refine ⟨fun x => ?_, fun x => ?_⟩
  · exact h_piece x0 x1 x2 x5 x6 x7 x8 x9 x10 x11 x12 x13 x14 x15 high x
  · exact h_piece x0 x1 x2 x5 x6 x7 x8 x9 x10 x11 x12 x13 x14 x15 low x

/-- What the body leaves in the block of the gate. -/
theorem out20_eq : out0_20 x0 x1 x2 x3 x4 x5 x6 x7 x8 x9 x10 x11 x12 x13 x14 x15 = block20 x0 x1 x2 x5 x6 x7 x8 x9 x10 x11 x12 x13 x14 x15 := by
  funext y
  unfold out0_20
  refine View.canon_apply_of_pieces (block20 x0 x1 x2 x5 x6 x7 x8 x9 x10 x11 x12 x13 x14 x15) _ ?_ y (cover0_20 _ _ y)
  simp only [List.forall_mem_cons, List.not_mem_nil, false_imp_iff, implies_true, and_true]
  refine ⟨fun x => ?_, fun x => ?_⟩
  · exact gate_piece x0 x1 x2 x5 x6 x7 x8 x9 x10 x11 x12 x13 x14 x15 high x
  · exact gate_piece x0 x1 x2 x5 x6 x7 x8 x9 x10 x11 x12 x13 x14 x15 low x

/-- What the body leaves in the block of the keys. -/
theorem out17_eq : out0_17 x0 x1 x2 x3 x4 x5 x6 x7 x8 x9 x10 x11 x12 x13 x14 x15 = block17 x0 x1 x2 x3 x4 x5 x6 x7 x8 x9 x10 x11 x12 x13 x14 x15 := by
  funext y
  unfold out0_17
  refine View.canon_apply_of_pieces (block17 x0 x1 x2 x3 x4 x5 x6 x7 x8 x9 x10 x11 x12 x13 x14 x15) _ ?_ y (cover0_17 _ _ _ _ _ _ _ _ _ _ _ _ _ _ _ _ _ _ _ _ _ _ _ _ _ _ _ _ _ _ _ _ y)
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · exact k_piece x0 x1 x2 x3 x4 x5 x6 x7 x8 x9 x10 x11 x12 x13 x14 x15 high 15 x
  · exact k_piece x0 x1 x2 x3 x4 x5 x6 x7 x8 x9 x10 x11 x12 x13 x14 x15 high 14 x
  · exact k_piece x0 x1 x2 x3 x4 x5 x6 x7 x8 x9 x10 x11 x12 x13 x14 x15 high 13 x
  · exact k_piece x0 x1 x2 x3 x4 x5 x6 x7 x8 x9 x10 x11 x12 x13 x14 x15 high 12 x
  · exact k_piece x0 x1 x2 x3 x4 x5 x6 x7 x8 x9 x10 x11 x12 x13 x14 x15 high 11 x
  · exact k_piece x0 x1 x2 x3 x4 x5 x6 x7 x8 x9 x10 x11 x12 x13 x14 x15 high 10 x
  · exact k_piece x0 x1 x2 x3 x4 x5 x6 x7 x8 x9 x10 x11 x12 x13 x14 x15 high 9 x
  · exact k_piece x0 x1 x2 x3 x4 x5 x6 x7 x8 x9 x10 x11 x12 x13 x14 x15 high 8 x
  · exact k_piece x0 x1 x2 x3 x4 x5 x6 x7 x8 x9 x10 x11 x12 x13 x14 x15 high 7 x
  · exact k_piece x0 x1 x2 x3 x4 x5 x6 x7 x8 x9 x10 x11 x12 x13 x14 x15 high 6 x
  · exact k_piece x0 x1 x2 x3 x4 x5 x6 x7 x8 x9 x10 x11 x12 x13 x14 x15 high 5 x
  · exact k_piece x0 x1 x2 x3 x4 x5 x6 x7 x8 x9 x10 x11 x12 x13 x14 x15 high 4 x
  · exact k_piece x0 x1 x2 x3 x4 x5 x6 x7 x8 x9 x10 x11 x12 x13 x14 x15 high 3 x
  · exact k_piece x0 x1 x2 x3 x4 x5 x6 x7 x8 x9 x10 x11 x12 x13 x14 x15 high 2 x
  · exact k_piece x0 x1 x2 x3 x4 x5 x6 x7 x8 x9 x10 x11 x12 x13 x14 x15 high 1 x
  · exact k_piece x0 x1 x2 x3 x4 x5 x6 x7 x8 x9 x10 x11 x12 x13 x14 x15 high 0 x
  · exact k_piece x0 x1 x2 x3 x4 x5 x6 x7 x8 x9 x10 x11 x12 x13 x14 x15 low 15 x
  · exact k_piece x0 x1 x2 x3 x4 x5 x6 x7 x8 x9 x10 x11 x12 x13 x14 x15 low 14 x
  · exact k_piece x0 x1 x2 x3 x4 x5 x6 x7 x8 x9 x10 x11 x12 x13 x14 x15 low 13 x
  · exact k_piece x0 x1 x2 x3 x4 x5 x6 x7 x8 x9 x10 x11 x12 x13 x14 x15 low 12 x
  · exact k_piece x0 x1 x2 x3 x4 x5 x6 x7 x8 x9 x10 x11 x12 x13 x14 x15 low 11 x
  · exact k_piece x0 x1 x2 x3 x4 x5 x6 x7 x8 x9 x10 x11 x12 x13 x14 x15 low 10 x
  · exact k_piece x0 x1 x2 x3 x4 x5 x6 x7 x8 x9 x10 x11 x12 x13 x14 x15 low 9 x
  · exact k_piece x0 x1 x2 x3 x4 x5 x6 x7 x8 x9 x10 x11 x12 x13 x14 x15 low 8 x
  · exact k_piece x0 x1 x2 x3 x4 x5 x6 x7 x8 x9 x10 x11 x12 x13 x14 x15 low 7 x
  · exact k_piece x0 x1 x2 x3 x4 x5 x6 x7 x8 x9 x10 x11 x12 x13 x14 x15 low 6 x
  · exact k_piece x0 x1 x2 x3 x4 x5 x6 x7 x8 x9 x10 x11 x12 x13 x14 x15 low 5 x
  · exact k_piece x0 x1 x2 x3 x4 x5 x6 x7 x8 x9 x10 x11 x12 x13 x14 x15 low 4 x
  · exact k_piece x0 x1 x2 x3 x4 x5 x6 x7 x8 x9 x10 x11 x12 x13 x14 x15 low 3 x
  · exact k_piece x0 x1 x2 x3 x4 x5 x6 x7 x8 x9 x10 x11 x12 x13 x14 x15 low 2 x
  · exact k_piece x0 x1 x2 x3 x4 x5 x6 x7 x8 x9 x10 x11 x12 x13 x14 x15 low 1 x
  · exact k_piece x0 x1 x2 x3 x4 x5 x6 x7 x8 x9 x10 x11 x12 x13 x14 x15 low 0 x

/-- What the body leaves in the block of the values. -/
theorem out18_eq : out0_18 x0 x1 x2 x3 x4 x5 x6 x7 x8 x9 x10 x11 x12 x13 x14 x15 = block18 x0 x1 x2 x5 x6 x7 x8 x9 x10 x11 x12 x13 x14 x15 := by
  funext y
  unfold out0_18
  refine View.canon_apply_of_pieces (block18 x0 x1 x2 x5 x6 x7 x8 x9 x10 x11 x12 x13 x14 x15) _ ?_ y (cover0_18 _ _ _ _ _ _ _ _ _ _ _ _ _ _ _ _ _ _ _ _ _ _ _ _ _ _ _ _ _ _ _ _ y)
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · exact v_piece x0 x1 x2 x5 x6 x7 x8 x9 x10 x11 x12 x13 x14 x15 high 15 x
  · exact v_piece x0 x1 x2 x5 x6 x7 x8 x9 x10 x11 x12 x13 x14 x15 high 14 x
  · exact v_piece x0 x1 x2 x5 x6 x7 x8 x9 x10 x11 x12 x13 x14 x15 high 13 x
  · exact v_piece x0 x1 x2 x5 x6 x7 x8 x9 x10 x11 x12 x13 x14 x15 high 12 x
  · exact v_piece x0 x1 x2 x5 x6 x7 x8 x9 x10 x11 x12 x13 x14 x15 high 11 x
  · exact v_piece x0 x1 x2 x5 x6 x7 x8 x9 x10 x11 x12 x13 x14 x15 high 10 x
  · exact v_piece x0 x1 x2 x5 x6 x7 x8 x9 x10 x11 x12 x13 x14 x15 high 9 x
  · exact v_piece x0 x1 x2 x5 x6 x7 x8 x9 x10 x11 x12 x13 x14 x15 high 8 x
  · exact v_piece x0 x1 x2 x5 x6 x7 x8 x9 x10 x11 x12 x13 x14 x15 high 7 x
  · exact v_piece x0 x1 x2 x5 x6 x7 x8 x9 x10 x11 x12 x13 x14 x15 high 6 x
  · exact v_piece x0 x1 x2 x5 x6 x7 x8 x9 x10 x11 x12 x13 x14 x15 high 5 x
  · exact v_piece x0 x1 x2 x5 x6 x7 x8 x9 x10 x11 x12 x13 x14 x15 high 4 x
  · exact v_piece x0 x1 x2 x5 x6 x7 x8 x9 x10 x11 x12 x13 x14 x15 high 3 x
  · exact v_piece x0 x1 x2 x5 x6 x7 x8 x9 x10 x11 x12 x13 x14 x15 high 2 x
  · exact v_piece x0 x1 x2 x5 x6 x7 x8 x9 x10 x11 x12 x13 x14 x15 high 1 x
  · exact v_piece x0 x1 x2 x5 x6 x7 x8 x9 x10 x11 x12 x13 x14 x15 high 0 x
  · exact v_piece x0 x1 x2 x5 x6 x7 x8 x9 x10 x11 x12 x13 x14 x15 low 15 x
  · exact v_piece x0 x1 x2 x5 x6 x7 x8 x9 x10 x11 x12 x13 x14 x15 low 14 x
  · exact v_piece x0 x1 x2 x5 x6 x7 x8 x9 x10 x11 x12 x13 x14 x15 low 13 x
  · exact v_piece x0 x1 x2 x5 x6 x7 x8 x9 x10 x11 x12 x13 x14 x15 low 12 x
  · exact v_piece x0 x1 x2 x5 x6 x7 x8 x9 x10 x11 x12 x13 x14 x15 low 11 x
  · exact v_piece x0 x1 x2 x5 x6 x7 x8 x9 x10 x11 x12 x13 x14 x15 low 10 x
  · exact v_piece x0 x1 x2 x5 x6 x7 x8 x9 x10 x11 x12 x13 x14 x15 low 9 x
  · exact v_piece x0 x1 x2 x5 x6 x7 x8 x9 x10 x11 x12 x13 x14 x15 low 8 x
  · exact v_piece x0 x1 x2 x5 x6 x7 x8 x9 x10 x11 x12 x13 x14 x15 low 7 x
  · exact v_piece x0 x1 x2 x5 x6 x7 x8 x9 x10 x11 x12 x13 x14 x15 low 6 x
  · exact v_piece x0 x1 x2 x5 x6 x7 x8 x9 x10 x11 x12 x13 x14 x15 low 5 x
  · exact v_piece x0 x1 x2 x5 x6 x7 x8 x9 x10 x11 x12 x13 x14 x15 low 4 x
  · exact v_piece x0 x1 x2 x5 x6 x7 x8 x9 x10 x11 x12 x13 x14 x15 low 3 x
  · exact v_piece x0 x1 x2 x5 x6 x7 x8 x9 x10 x11 x12 x13 x14 x15 low 2 x
  · exact v_piece x0 x1 x2 x5 x6 x7 x8 x9 x10 x11 x12 x13 x14 x15 low 1 x
  · exact v_piece x0 x1 x2 x5 x6 x7 x8 x9 x10 x11 x12 x13 x14 x15 low 0 x

/-- What the body leaves in the block of the queries. -/
theorem out19_eq : out0_19 x0 x1 x2 x3 x4 x5 x6 x7 x8 x9 x10 x11 x12 x13 x14 x15 = block19 x0 x1 x2 x3 x4 x5 x6 x7 x8 x9 x10 x11 x12 x13 x14 x15 := by
  funext y
  unfold out0_19
  refine View.canon_apply_of_pieces (block19 x0 x1 x2 x3 x4 x5 x6 x7 x8 x9 x10 x11 x12 x13 x14 x15) _ ?_ y (cover0_19 _ _ _ _ _ _ _ _ _ _ _ _ _ _ _ _ _ _ _ _ _ _ _ _ _ _ _ _ _ _ _ _ y)
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · exact q_piece x0 x1 x2 x3 x4 x5 x6 x7 x8 x9 x10 x11 x12 x13 x14 x15 high 15 x
  · exact q_piece x0 x1 x2 x3 x4 x5 x6 x7 x8 x9 x10 x11 x12 x13 x14 x15 high 14 x
  · exact q_piece x0 x1 x2 x3 x4 x5 x6 x7 x8 x9 x10 x11 x12 x13 x14 x15 high 13 x
  · exact q_piece x0 x1 x2 x3 x4 x5 x6 x7 x8 x9 x10 x11 x12 x13 x14 x15 high 12 x
  · exact q_piece x0 x1 x2 x3 x4 x5 x6 x7 x8 x9 x10 x11 x12 x13 x14 x15 high 11 x
  · exact q_piece x0 x1 x2 x3 x4 x5 x6 x7 x8 x9 x10 x11 x12 x13 x14 x15 high 10 x
  · exact q_piece x0 x1 x2 x3 x4 x5 x6 x7 x8 x9 x10 x11 x12 x13 x14 x15 high 9 x
  · exact q_piece x0 x1 x2 x3 x4 x5 x6 x7 x8 x9 x10 x11 x12 x13 x14 x15 high 8 x
  · exact q_piece x0 x1 x2 x3 x4 x5 x6 x7 x8 x9 x10 x11 x12 x13 x14 x15 high 7 x
  · exact q_piece x0 x1 x2 x3 x4 x5 x6 x7 x8 x9 x10 x11 x12 x13 x14 x15 high 6 x
  · exact q_piece x0 x1 x2 x3 x4 x5 x6 x7 x8 x9 x10 x11 x12 x13 x14 x15 high 5 x
  · exact q_piece x0 x1 x2 x3 x4 x5 x6 x7 x8 x9 x10 x11 x12 x13 x14 x15 high 4 x
  · exact q_piece x0 x1 x2 x3 x4 x5 x6 x7 x8 x9 x10 x11 x12 x13 x14 x15 high 3 x
  · exact q_piece x0 x1 x2 x3 x4 x5 x6 x7 x8 x9 x10 x11 x12 x13 x14 x15 high 2 x
  · exact q_piece x0 x1 x2 x3 x4 x5 x6 x7 x8 x9 x10 x11 x12 x13 x14 x15 high 1 x
  · exact q_piece x0 x1 x2 x3 x4 x5 x6 x7 x8 x9 x10 x11 x12 x13 x14 x15 high 0 x
  · exact q_piece x0 x1 x2 x3 x4 x5 x6 x7 x8 x9 x10 x11 x12 x13 x14 x15 low 15 x
  · exact q_piece x0 x1 x2 x3 x4 x5 x6 x7 x8 x9 x10 x11 x12 x13 x14 x15 low 14 x
  · exact q_piece x0 x1 x2 x3 x4 x5 x6 x7 x8 x9 x10 x11 x12 x13 x14 x15 low 13 x
  · exact q_piece x0 x1 x2 x3 x4 x5 x6 x7 x8 x9 x10 x11 x12 x13 x14 x15 low 12 x
  · exact q_piece x0 x1 x2 x3 x4 x5 x6 x7 x8 x9 x10 x11 x12 x13 x14 x15 low 11 x
  · exact q_piece x0 x1 x2 x3 x4 x5 x6 x7 x8 x9 x10 x11 x12 x13 x14 x15 low 10 x
  · exact q_piece x0 x1 x2 x3 x4 x5 x6 x7 x8 x9 x10 x11 x12 x13 x14 x15 low 9 x
  · exact q_piece x0 x1 x2 x3 x4 x5 x6 x7 x8 x9 x10 x11 x12 x13 x14 x15 low 8 x
  · exact q_piece x0 x1 x2 x3 x4 x5 x6 x7 x8 x9 x10 x11 x12 x13 x14 x15 low 7 x
  · exact q_piece x0 x1 x2 x3 x4 x5 x6 x7 x8 x9 x10 x11 x12 x13 x14 x15 low 6 x
  · exact q_piece x0 x1 x2 x3 x4 x5 x6 x7 x8 x9 x10 x11 x12 x13 x14 x15 low 5 x
  · exact q_piece x0 x1 x2 x3 x4 x5 x6 x7 x8 x9 x10 x11 x12 x13 x14 x15 low 4 x
  · exact q_piece x0 x1 x2 x3 x4 x5 x6 x7 x8 x9 x10 x11 x12 x13 x14 x15 low 3 x
  · exact q_piece x0 x1 x2 x3 x4 x5 x6 x7 x8 x9 x10 x11 x12 x13 x14 x15 low 2 x
  · exact q_piece x0 x1 x2 x3 x4 x5 x6 x7 x8 x9 x10 x11 x12 x13 x14 x15 low 1 x
  · exact q_piece x0 x1 x2 x3 x4 x5 x6 x7 x8 x9 x10 x11 x12 x13 x14 x15 low 0 x

end Cert.Mid
-- ==== Proof.MidArray.lean ====
module

public import proofs.«01_k».proof.Proof.MidBlock
public import Idealize.ShloMosaic.Lib.Pipeline.ValueKit

@[expose] public section

set_option maxRecDepth 16384

noncomputable section

/-!
The five result arrays after the run, as functions of the arrays the kernel is handed.
-/

namespace Cert.Mid

open Cert.Kernel3Ideal Cert.Kernel3Ideal.Gen Cert.Rows Idealize.ShloMosaic Idealize.ShloMosaic.TcCoe Idealize.SL.Sem
open Idealize.ShloMosaic.Pipeline (Dat)

variable (m : (ℓ : Loc nD τ sig) → Buf (Elt Ideal) ℓ)

/-- Token `r` of block `i`. -/
def tok (i : Fin 4) (r : Fin 512) : Fin 2048 := ⟨512 * i + r, by omega⟩

/-- The gains and weights, as the kernel is handed them. -/
def wArr (c : Dev nD) : Weights := wOf (V m c main_v43) (V m c main_v44) (V m c main_v45) (V m c main_v39) (V m c main_v46)
  (V m c main_v47) (V m c main_v48) (V m c main_v50) (V m c main_v52) (V m c main_v53) (V m c main_v54)

/-- The residual stream of token `t` of sequence `b`. -/
def hArr (c : Dev nD) (b : Fin 32) (t : Fin 2048) : Fin 1024 → EReal :=
  hRow (wArr m c) (fun k => (V m c main_v56 : Vec Ideal S32x8x2048x128 .bf16) (ix4 b (lane8 k) t (lane128 k)))
    (fun k => (V m c main_v57 : Vec Ideal S32x2048x1024 .bf16) (ix3 b t k))
    (fun k => (V m c main_arg2 : Vec Ideal S32x2048x1024 .f32) (ix3 b t k))

/-- The cosines of token `t` of sequence `b`. -/
def cosArr (c : Dev nD) (b : Fin 32) (t : Fin 2048) (l : Fin 128) : EReal :=
  (V m c main_v29 : Vec Ideal S32x2048x128 .f32) (ix3 b t l)

/-- The signed sines of token `t` of sequence `b`. -/
def sinArr (c : Dev nD) (b : Fin 32) (t : Fin 2048) (l : Fin 128) : EReal :=
  (V m c main_v33 : Vec Ideal S32x2048x128 .f32) (ix3 b t l)

/-- The block index of array 0 at a grid point. -/
theorem idx0 : ∀ t : Fin grid0.N, win0_0.index t = ![(grid0.coords t 0).val, 0, (grid0.coords t 1).val, 0] := by
  decide +kernel
/-- The block index of array 1 at a grid point. -/
theorem idx1 : ∀ t : Fin grid0.N, win0_1.index t = ![(grid0.coords t 0).val, (grid0.coords t 1).val, 0] := by
  decide +kernel
/-- The block index of array 2 at a grid point. -/
theorem idx2 : ∀ t : Fin grid0.N, win0_2.index t = ![(grid0.coords t 0).val, (grid0.coords t 1).val, 0] := by
  decide +kernel
/-- The block index of array 3 at a grid point. -/
theorem idx3 : ∀ t : Fin grid0.N, win0_3.index t = ![(grid0.coords t 0).val, (grid0.coords t 1).val, 0] := by
  decide +kernel
/-- The block index of array 4 at a grid point. -/
theorem idx4 : ∀ t : Fin grid0.N, win0_4.index t = ![(grid0.coords t 0).val, (grid0.coords t 1).val, 0] := by
  decide +kernel
/-- The block index of array 16 at a grid point. -/
theorem idx16 : ∀ t : Fin grid0.N, win0_16.index t = ![(grid0.coords t 0).val, (grid0.coords t 1).val, 0] := by
  decide +kernel
/-- The block index of array 17 at a grid point. -/
theorem idx17 : ∀ t : Fin grid0.N, win0_17.index t = ![(grid0.coords t 0).val, 0, (grid0.coords t 1).val, 0] := by
  decide +kernel
/-- The block index of array 18 at a grid point. -/
theorem idx18 : ∀ t : Fin grid0.N, win0_18.index t = ![(grid0.coords t 0).val, 0, (grid0.coords t 1).val, 0] := by
  decide +kernel
/-- The block index of array 19 at a grid point. -/
theorem idx19 : ∀ t : Fin grid0.N, win0_19.index t = ![(grid0.coords t 0).val, 0, (grid0.coords t 1).val, 0] := by
  decide +kernel
/-- The block index of array 20 at a grid point. -/
theorem idx20 : ∀ t : Fin grid0.N, win0_20.index t = ![(grid0.coords t 0).val, (grid0.coords t 1).val, 0] := by
  decide +kernel
/-- The block index of array 5 at a grid point. -/
theorem idx5 : ∀ t : Fin grid0.N, win0_5.index t = ![0, 0] := by
  decide +kernel
/-- The block index of array 6 at a grid point. -/
theorem idx6 : ∀ t : Fin grid0.N, win0_6.index t = ![0, 0] := by
  decide +kernel
/-- The block index of array 7 at a grid point. -/
theorem idx7 : ∀ t : Fin grid0.N, win0_7.index t = ![0, 0] := by
  decide +kernel
/-- The block index of array 8 at a grid point. -/
theorem idx8 : ∀ t : Fin grid0.N, win0_8.index t = ![0, 0] := by
  decide +kernel
/-- The block index of array 9 at a grid point. -/
theorem idx9 : ∀ t : Fin grid0.N, win0_9.index t = ![0, 0] := by
  decide +kernel
/-- The block index of array 10 at a grid point. -/
theorem idx10 : ∀ t : Fin grid0.N, win0_10.index t = ![0, 0] := by
  decide +kernel
/-- The block index of array 11 at a grid point. -/
theorem idx11 : ∀ t : Fin grid0.N, win0_11.index t = ![0, 0] := by
  decide +kernel
/-- The block index of array 12 at a grid point. -/
theorem idx12 : ∀ t : Fin grid0.N, win0_12.index t = ![0, 0] := by
  decide +kernel
/-- The block index of array 13 at a grid point. -/
theorem idx13 : ∀ t : Fin grid0.N, win0_13.index t = ![0, 0] := by
  decide +kernel
/-- The block index of array 14 at a grid point. -/
theorem idx14 : ∀ t : Fin grid0.N, win0_14.index t = ![0, 0] := by
  decide +kernel
/-- The block index of array 15 at a grid point. -/
theorem idx15 : ∀ t : Fin grid0.N, win0_15.index t = ![0, 0] := by
  decide +kernel

/-- The block of array 5 is the array. -/
theorem blk5 (c : Dev nD) (t : Fin cfg0.N) : iblk m c 5 t = V m c main_v43 := by
  funext y
  blk_simp [iblk]
  refine congrArg _ ?_
  blk_ext [idx5]

/-- The block of array 6 is the array. -/
theorem blk6 (c : Dev nD) (t : Fin cfg0.N) : iblk m c 6 t = V m c main_v44 := by
  funext y
  blk_simp [iblk]
  refine congrArg _ ?_
  blk_ext [idx6]

/-- The block of array 7 is the array. -/
theorem blk7 (c : Dev nD) (t : Fin cfg0.N) : iblk m c 7 t = V m c main_v45 := by
  funext y
  blk_simp [iblk]
  refine congrArg _ ?_
  blk_ext [idx7]

/-- The block of array 8 is the array. -/
theorem blk8 (c : Dev nD) (t : Fin cfg0.N) : iblk m c 8 t = V m c main_v39 := by
  funext y
  blk_simp [iblk]
  refine congrArg _ ?_
  blk_ext [idx8]

/-- The block of array 9 is the array. -/
theorem blk9 (c : Dev nD) (t : Fin cfg0.N) : iblk m c 9 t = V m c main_v46 := by
  funext y
  blk_simp [iblk]
  refine congrArg _ ?_
  blk_ext [idx9]

/-- The block of array 10 is the array. -/
theorem blk10 (c : Dev nD) (t : Fin cfg0.N) : iblk m c 10 t = V m c main_v47 := by
  funext y
  blk_simp [iblk]
  refine congrArg _ ?_
  blk_ext [idx10]

/-- The block of array 11 is the array. -/
theorem blk11 (c : Dev nD) (t : Fin cfg0.N) : iblk m c 11 t = V m c main_v48 := by
  funext y
  blk_simp [iblk]
  refine congrArg _ ?_
  blk_ext [idx11]

/-- The block of array 12 is the array. -/
theorem blk12 (c : Dev nD) (t : Fin cfg0.N) : iblk m c 12 t = V m c main_v50 := by
  funext y
  blk_simp [iblk]
  refine congrArg _ ?_
  blk_ext [idx12]

/-- The block of array 13 is the array. -/
theorem blk13 (c : Dev nD) (t : Fin cfg0.N) : iblk m c 13 t = V m c main_v52 := by
  funext y
  blk_simp [iblk]
  refine congrArg _ ?_
  blk_ext [idx13]

/-- The block of array 14 is the array. -/
theorem blk14 (c : Dev nD) (t : Fin cfg0.N) : iblk m c 14 t = V m c main_v53 := by
  funext y
  blk_simp [iblk]
  refine congrArg _ ?_
  blk_ext [idx14]

/-- The block of array 15 is the array. -/
theorem blk15 (c : Dev nD) (t : Fin cfg0.N) : iblk m c 15 t = V m c main_v54 := by
  funext y
  blk_simp [iblk]
  refine congrArg _ ?_
  blk_ext [idx15]

/-- The attention's output in a block. -/
theorem blk0 (c : Dev nD) (t : Fin cfg0.N) (p : Fin 8) (r : Fin 512) (l : Fin 128) :
    (iblk m c 0 t : Vec Ideal S1x8x512x128 .bf16) (ix4 0 p r l) = (V m c main_v56 : Vec Ideal S32x8x2048x128 .bf16)
      (ix4 (grid0.coords t 0 : Fin 32) p (tok (grid0.coords t 1) r) l) := by
  blk_simp [iblk]
  refine congrArg _ ?_
  blk_ext [idx0, tok]

/-- Array 1 in a block. -/
theorem blk1 (c : Dev nD) (t : Fin cfg0.N) (r : Fin 512) (k : Fin 1024) :
    (iblk m c 1 t : Vec Ideal S1x512x1024 .bf16) (ix3 0 r k) = (V m c main_v57 : Vec Ideal S32x2048x1024 .bf16)
      (ix3 (grid0.coords t 0 : Fin 32) (tok (grid0.coords t 1) r) k) := by
  blk_simp [iblk]
  refine congrArg _ ?_
  blk_ext [idx1, tok]

/-- Array 2 in a block. -/
theorem blk2 (c : Dev nD) (t : Fin cfg0.N) (r : Fin 512) (k : Fin 1024) :
    (iblk m c 2 t : Vec Ideal S1x512x1024 .f32) (ix3 0 r k) = (V m c main_arg2 : Vec Ideal S32x2048x1024 .f32)
      (ix3 (grid0.coords t 0 : Fin 32) (tok (grid0.coords t 1) r) k) := by
  blk_simp [iblk]
  refine congrArg _ ?_
  blk_ext [idx2, tok]

/-- Array 3 in a block. -/
theorem blk3 (c : Dev nD) (t : Fin cfg0.N) (r : Fin 512) (k : Fin 128) :
    (iblk m c 3 t : Vec Ideal S1x512x128 .f32) (ix3 0 r k) = (V m c main_v29 : Vec Ideal S32x2048x128 .f32)
      (ix3 (grid0.coords t 0 : Fin 32) (tok (grid0.coords t 1) r) k) := by
  blk_simp [iblk]
  refine congrArg _ ?_
  blk_ext [idx3, tok]

/-- Array 4 in a block. -/
theorem blk4 (c : Dev nD) (t : Fin cfg0.N) (r : Fin 512) (k : Fin 128) :
    (iblk m c 4 t : Vec Ideal S1x512x128 .f32) (ix3 0 r k) = (V m c main_v33 : Vec Ideal S32x2048x128 .f32)
      (ix3 (grid0.coords t 0 : Fin 32) (tok (grid0.coords t 1) r) k) := by
  blk_simp [iblk]
  refine congrArg _ ?_
  blk_ext [idx4, tok]

/-- The weights' blocks are the weights. -/
theorem w_blk (c : Dev nD) (t : Fin cfg0.N) : wOf (iblk m c 5 t) (iblk m c 6 t) (iblk m c 7 t) (iblk m c 8 t) (iblk m c 9 t)
    (iblk m c 10 t) (iblk m c 11 t) (iblk m c 12 t) (iblk m c 13 t) (iblk m c 14 t) (iblk m c 15 t) = wArr m c := by
  unfold wArr
  rw [blk5, blk6, blk7, blk8, blk9, blk10, blk11, blk12, blk13, blk14, blk15]

/-- The residual stream of a block's token. -/
theorem h_blk (c : Dev nD) (t : Fin cfg0.N) (r : Fin 512) :
    hBlk (iblk m c 0 t) (iblk m c 1 t) (iblk m c 2 t) (wArr m c) r =
      hArr m c (grid0.coords t 0) (tok (grid0.coords t 1) r) := by
  unfold hBlk hArr
  simp only [blk0, blk1, blk2]

/-- The cosines of a block's token. -/
theorem cos_blk (c : Dev nD) (t : Fin cfg0.N) (r : Fin 512) :
    (fun l => (iblk m c 3 t : Vec Ideal S1x512x128 .f32) (ix3 0 r l)) = cosArr m c (grid0.coords t 0) (tok (grid0.coords t 1) r) := by
  funext l
  exact blk3 m c t r l

/-- The sines of a block's token. -/
theorem sin_blk (c : Dev nD) (t : Fin cfg0.N) (r : Fin 512) :
    (fun l => (iblk m c 4 t : Vec Ideal S1x512x128 .f32) (ix3 0 r l)) = sinArr m c (grid0.coords t 0) (tok (grid0.coords t 1) r) := by
  funext l
  exact blk4 m c t r l

/-- The residual stream. -/
def out16 (c : Dev nD) : Vec Ideal S32x2048x1024 .f32 := fun y => hArr m c (y 0) (y 1) (y 2)

/-- The keys. -/
def out17 (c : Dev nD) : Vec Ideal S32x16x2048x128 .bf16 := fun y =>
  kRow (wArr m c) (hArr m c (y 0) (y 2)) (cosArr m c (y 0) (y 2)) (sinArr m c (y 0) (y 2)) (y 1) (y 3)

/-- The values. -/
def out18 (c : Dev nD) : Vec Ideal S32x16x2048x128 .bf16 := fun y => vRow (wArr m c) (hArr m c (y 0) (y 2)) (y 1) (y 3)

/-- The queries. -/
def out19 (c : Dev nD) : Vec Ideal S32x16x2048x128 .bf16 := fun y =>
  qRow (wArr m c) (hArr m c (y 0) (y 2)) (cosArr m c (y 0) (y 2)) (sinArr m c (y 0) (y 2)) (y 1) (y 3)

/-- The second branch's gate. -/
def out20 (c : Dev nD) : Vec Ideal S32x2048x1024 .bf16 := fun y => gateRow (wArr m c) (hArr m c (y 0) (y 1)) (y 2)

/-- The array of the residual stream after the run. -/
theorem final16 (c : Dev nD) : (dats m 0 c).arrAt 16 cfg0.N = out16 m c := by
  refine (dats m 0 c).arrAt_eq_of_covers 16 _ (by decide +kernel) fun t hf y => ?_
  blk_simp
  rw [after0_16, out16_eq]
  have e : (win0_16.blk t).view.emb y = ix3 (grid0.coords t 0 : Fin 32) (tok (grid0.coords t 1) (y 1 : Fin 512)) (y 2 : Fin 1024) := by
    blk_ext [idx16, tok]
  rw [e]
  unfold block16 out16
  rw [w_blk, h_blk m c t (y 1)]
  rfl

/-- The array of the gate after the run. -/
theorem final20 (c : Dev nD) : (dats m 0 c).arrAt 20 cfg0.N = out20 m c := by
  refine (dats m 0 c).arrAt_eq_of_covers 20 _ (by decide +kernel) fun t hf y => ?_
  blk_simp
  rw [after0_20, out20_eq]
  have e : (win0_20.blk t).view.emb y = ix3 (grid0.coords t 0 : Fin 32) (tok (grid0.coords t 1) (y 1 : Fin 512)) (y 2 : Fin 1024) := by
    blk_ext [idx20, tok]
  rw [e]
  unfold block20 out20
  rw [w_blk, h_blk m c t (y 1)]
  rfl

/-- The array of the keys after the run. -/
theorem final17 (c : Dev nD) : (dats m 0 c).arrAt 17 cfg0.N = out17 m c := by
  refine (dats m 0 c).arrAt_eq_of_covers 17 _ (by decide +kernel) fun t hf y => ?_
  blk_simp
  rw [after0_17, out17_eq]
  have e : (win0_17.blk t).view.emb y = ix4 (grid0.coords t 0 : Fin 32) (y 1 : Fin 16) (tok (grid0.coords t 1) (y 2 : Fin 512)) (y 3 : Fin 128) := by
    blk_ext [idx17, tok]
  rw [e]
  unfold block17 out17
  rw [w_blk, h_blk m c t (y 2), cos_blk m c t (y 2), sin_blk m c t (y 2)]
  rfl

/-- The array of the values after the run. -/
theorem final18 (c : Dev nD) : (dats m 0 c).arrAt 18 cfg0.N = out18 m c := by
  refine (dats m 0 c).arrAt_eq_of_covers 18 _ (by decide +kernel) fun t hf y => ?_
  blk_simp
  rw [after0_18, out18_eq]
  have e : (win0_18.blk t).view.emb y = ix4 (grid0.coords t 0 : Fin 32) (y 1 : Fin 16) (tok (grid0.coords t 1) (y 2 : Fin 512)) (y 3 : Fin 128) := by
    blk_ext [idx18, tok]
  rw [e]
  unfold block18 out18
  rw [w_blk, h_blk m c t (y 2)]
  rfl

/-- The array of the queries after the run. -/
theorem final19 (c : Dev nD) : (dats m 0 c).arrAt 19 cfg0.N = out19 m c := by
  refine (dats m 0 c).arrAt_eq_of_covers 19 _ (by decide +kernel) fun t hf y => ?_
  blk_simp
  rw [after0_19, out19_eq]
  have e : (win0_19.blk t).view.emb y = ix4 (grid0.coords t 0 : Fin 32) (y 1 : Fin 16) (tok (grid0.coords t 1) (y 2 : Fin 512)) (y 3 : Fin 128) := by
    blk_ext [idx19, tok]
  rw [e]
  unfold block19 out19
  rw [w_blk, h_blk m c t (y 2), cos_blk m c t (y 2), sin_blk m c t (y 2)]
  rfl

end Cert.Mid
-- ==== Proof.RefOps.lean ====
module

public import proofs.«01_k».proof.Proof.RowOps

@[expose] public section

set_option maxRecDepth 16384

noncomputable section

/-!
The steps the references are made of, over all tokens of all sequences at once, each read at an index.
-/

namespace Cert.Rows

open Idealize.ShloMosaic Idealize.ShloMosaic.TcCoe

/-- The shape of one number. -/
abbrev Dot : Shape := ⟨0, ![]⟩

/-- The shape of `a` matrices of `b` rows and `c` columns. -/
abbrev Cube (a b c : ℕ) : Shape := ⟨3, ![a, b, c]⟩

/-- What the RMS norm of `t` tokens of `b` sequences needs to be known of its shapes. -/
structure HostNormal (b t d : ℕ) : Prop where
  red : (Cube b t d).ReducesTo [2] (Mat b t)
  col : (Mat b t).BroadcastsInDim (Cube b t 1) ![0, 1]
  one : Dot.BroadcastsInDim (Cube b t 1) (![] : Fin 0 → Fin 3)
  wide : (Cube b t 1).BroadcastsInDim (Cube b t d) ![0, 1, 2]
  gain : (Line d).BroadcastsInDim (Cube 1 1 d) ![2]
  tall : (Cube 1 1 d).BroadcastsInDim (Cube b t d) ![0, 1, 2]
  some : 0 < Dot.numel

/-- The mean of the squares of every token. -/
def hostMeanSq {b t d : ℕ} (f : HostNormal b t d) (N : BitVec 32) (x : FVec Ideal (Cube b t d) .f32) :
    FVec Ideal (Cube b t 1) .f32 :=
  Host.divf (broadcastInDim (Cube b t 1) ![0, 1] f.col
    (Host.reduceAdd (mulf x x) (constant Dot .f32 0x00000000#32) f.red f.some))
    (broadcastInDim (Cube b t 1) ![] f.one (constant Dot .f32 N))

/-- A column spread over the lanes of its tokens. -/
def hostWide {b t d : ℕ} (f : (Cube b t 1).BroadcastsInDim (Cube b t d) ![0, 1, 2]) (x : FVec Ideal (Cube b t 1) .f32) :
    FVec Ideal (Cube b t d) .f32 := broadcastInDim (Cube b t d) ![0, 1, 2] f x

/-- A row spread over all tokens. -/
def hostTall {b t d : ℕ} (f : (Line d).BroadcastsInDim (Cube 1 1 d) ![2])
    (f' : (Cube 1 1 d).BroadcastsInDim (Cube b t d) ![0, 1, 2]) (g : FVec Ideal (Line d) .f32) :
    FVec Ideal (Cube b t d) .f32 :=
  broadcastInDim (Cube b t d) ![0, 1, 2] f' (broadcastInDim (Cube 1 1 d) ![2] f g)

/-- The RMS norm of every token. -/
def hostNorm {b t d : ℕ} (f : HostNormal b t d) (N : BitVec 32) (x : FVec Ideal (Cube b t d) .f32)
    (g : FVec Ideal (Line d) .f32) : FVec Ideal (Cube b t d) .f32 :=
  mulf (mulf x (hostWide f.wide
    (Host.rsqrt (addf (hostMeanSq f N x) (broadcastInDim (Cube b t 1) ![] f.one (constant Dot .f32 0x358637BD#32))))))
    (hostTall f.gain f.tall g)

/-- The mean of the squares at an index. -/
theorem hostMeanSq_apply {b t d : ℕ} (hb : b ≠ 1) (ht : t ≠ 1) (f : HostNormal b t d) (N : BitVec 32)
    (x : FVec Ideal (Cube b t d) .f32) (i : Fin b) (j : Fin t) :
    hostMeanSq f N x (ix3 i j 0) = Ideal.div (∑ k, x (ix3 i j k) * x (ix3 i j k)) (Ideal.ofBits .f32 N) := by
  pointwise [hostMeanSq]
  exact congrArg₂ (fun i j => Ideal.div (∑ k, x (ix3 i j k) * x (ix3 i j k)) (Ideal.ofBits .f32 N)) (dif_neg hb) (dif_neg ht)

/-- A column spread over the lanes, at an index. -/
theorem hostWide_apply {b t d : ℕ} (hb : b ≠ 1) (ht : t ≠ 1) (f : (Cube b t 1).BroadcastsInDim (Cube b t d) ![0, 1, 2])
    (x : FVec Ideal (Cube b t 1) .f32) (i : Fin b) (j : Fin t) (k : Fin d) : hostWide f x (ix3 i j k) = x (ix3 i j 0) := by
  pointwise [hostWide]
  exact congrArg₂ (fun i j => x (ix3 i j 0)) (dif_neg hb) (dif_neg ht)

/-- A row spread over the tokens, at an index. -/
theorem hostTall_apply {b t d : ℕ} (hd : d ≠ 1) (f : (Line d).BroadcastsInDim (Cube 1 1 d) ![2])
    (f' : (Cube 1 1 d).BroadcastsInDim (Cube b t d) ![0, 1, 2]) (g : FVec Ideal (Line d) .f32)
    (i : Fin b) (j : Fin t) (k : Fin d) : hostTall f f' g (ix3 i j k) = g (ix1 k) := by
  pointwise [hostTall]
  exact congrArg (fun k => g (ix1 k)) ((dif_neg hd).trans (dif_neg hd))

/-- The RMS norm at an index. -/
theorem hostNorm_apply {b t d : ℕ} (hb : b ≠ 1) (ht : t ≠ 1) (hd : d ≠ 1) (f : HostNormal b t d) (N : BitVec 32)
    (x : FVec Ideal (Cube b t d) .f32) (g : FVec Ideal (Line d) .f32) (i : Fin b) (j : Fin t) (k : Fin d) :
    hostNorm f N x g (ix3 i j k) = rms (Ideal.ofBits .f32 N) (fun k => x (ix3 i j k)) (fun k => g (ix1 k)) k := by
  show x (ix3 i j k) * hostWide f.wide _ (ix3 i j k) * hostTall f.gain f.tall g (ix3 i j k) = _
  rw [hostWide_apply hb ht, hostTall_apply hd]
  show x (ix3 i j k) * Ideal.rsqrt (hostMeanSq f N x (ix3 i j 0) + _) * _ = _
  rw [hostMeanSq_apply hb ht]
  rfl

/-- The angle of position `p` at the `j`-th of the 16 frequencies of base `θ`. -/
def angle (θ p : BitVec 32) (j : ℕ) : EReal :=
  FloatOps.sitofp (F := Ideal) .f32 p * Ideal.div 1 (Ideal.pow (Ideal.ofBits .f32 θ)
    (FloatOps.sitofp (F := Ideal) .f32 (BitVec.ofNat 32 j) * Ideal.ofBits .f32 0x3D800000#32))

/-- The rotation of 32 lanes, each of the first 16 paired with the one 16 on. -/
def rope (a : Fin 32 → EReal) (ang : ℕ → EReal) (j : Fin 32) : EReal :=
  if h : (j : ℕ) < 16 then a j * Ideal.cos (ang j) - a ⟨j + 16, by omega⟩ * Ideal.sin (ang j)
  else a j * Ideal.cos (ang (j - 16)) + a ⟨j - 16, by omega⟩ * Ideal.sin (ang (j - 16))

end Cert.Rows
-- ==== Proof.MidMath.lean ====
module

public import proofs.«01_k».proof.Proof.Mid
public import proofs.«01_k».proof.Proof.RefOps
public import proofs.«01_k».proof.Proof.AttnMath

@[expose] public section

set_option maxRecDepth 16384

noncomputable section

/-!
Why the padded, rotated and prescaled rows of the kernel are those of the reference.
-/

namespace Cert.Mid

open Cert.Kernel3Ideal Cert.Rows Idealize.ShloMosaic Idealize.ShloMosaic.TcCoe

/-- The gains and weights as the caller holds them. -/
structure Raw where
  out : Fin 1024 → Fin 1024 → EReal
  post : Fin 1024 → EReal
  kv : Fin 1024 → EReal
  down : Fin 1024 → Fin 288 → EReal
  lat : Fin 256 → EReal
  up : Fin 256 → Fin 2048 → EReal
  pre : Fin 1024 → EReal
  into : Fin 1024 → Fin 1408 → EReal
  q : Fin 384 → EReal
  qup : Fin 384 → Fin 1536 → EReal

/-- The gains and weights, from the arrays that hold them. -/
def rawOf (out : FVec Ideal (Mat 1024 1024) .f32) (post kv : FVec Ideal (Line 1024) .f32)
    (down : FVec Ideal (Mat 1024 288) .f32) (lat : FVec Ideal (Line 256) .f32) (up : FVec Ideal (Mat 256 2048) .f32)
    (pre : FVec Ideal (Line 1024) .f32) (into : FVec Ideal (Mat 1024 1408) .f32) (q : FVec Ideal (Line 384) .f32)
    (qup : FVec Ideal (Mat 384 1536) .f32) : Raw :=
  ⟨fun k c => out (ix2 k c), fun c => post (ix1 c), fun c => kv (ix1 c), fun k c => down (ix2 k c), fun c => lat (ix1 c),
    fun k c => up (ix2 k c), fun c => pre (ix1 c), fun k c => into (ix2 k c), fun c => q (ix1 c), fun k c => qup (ix2 k c)⟩

variable (A : Raw)

/-- The residual stream after the first branch. -/
def rawH (o z x : Fin 1024 → EReal) : Fin 1024 → EReal := branch (Ideal.ofBits .f32 0x44800000#32) o z A.out x A.post

/-- The down projection of keys and values. -/
def rawDown (h : Fin 1024 → EReal) : Fin 288 → EReal := dense (rms (Ideal.ofBits .f32 0x44800000#32) h A.kv) A.down

/-- Keys and values of all heads. -/
def rawKv (h : Fin 1024 → EReal) : Fin 2048 → EReal :=
  dense (rms (Ideal.ofBits .f32 0x43800000#32) (fun j : Fin 256 => rawDown A h ⟨j, by omega⟩) A.lat) A.up

/-- The second branch's input projection. -/
def rawIn (h : Fin 1024 → EReal) : Fin 1408 → EReal := dense (rms (Ideal.ofBits .f32 0x44800000#32) h A.pre) A.into

/-- The queries of all heads. -/
def rawQ (h : Fin 1024 → EReal) : Fin 1536 → EReal :=
  dense (rms (Ideal.ofBits .f32 0x43C00000#32) (fun j : Fin 384 => rawIn A h ⟨j, by omega⟩) A.q) A.qup

/-- The keys of a head at position `s`, zeros after 96 lanes. -/
def rawKHead (h : Fin 1024 → EReal) (s : BitVec 32) (p : Fin 16) (l : Fin 128) : EReal :=
  if e : (l : ℕ) < 96 then
    (if (l : ℕ) < 64 then rawKv A h ⟨128 * p + l, by omega⟩
    else rope (fun j => rawDown A h ⟨256 + j, by omega⟩) (angle 0x461C4000#32 s) ⟨l - 64, by omega⟩)
  else 0

/-- The values of a head: a one in lane 0, the values from lane 64 on. -/
def rawVHead (h : Fin 1024 → EReal) (p : Fin 16) (l : Fin 128) : EReal :=
  if (l : ℕ) < 1 then 1 else if (l : ℕ) < 64 then 0 else rawKv A h ⟨128 * p + l, by omega⟩

/-- The queries of a head at position `s`, divided, zeros after 96 lanes. -/
def rawQHead (h : Fin 1024 → EReal) (s : BitVec 32) (p : Fin 16) (l : Fin 128) : EReal :=
  if e : (l : ℕ) < 96 then
    Ideal.div (if g : (l : ℕ) < 64 then rawQ A h ⟨96 * p + l, by omega⟩
      else rope (fun j => rawQ A h ⟨96 * p + 64 + j, by omega⟩) (angle 0x461C4000#32 s) ⟨l - 64, by omega⟩)
      (Ideal.sqrt (Ideal.ofBits .f32 0x42C00000#32) * Ideal.log (Ideal.ofBits .f32 0x40000000#32))
  else 0

/-- The second branch's gate. -/
def rawGate (h : Fin 1024 → EReal) (c : Fin 1024) : EReal := rawIn A h ⟨384 + c, by omega⟩

/-- How the kernel's weights hold the caller's: zeros between and after the columns it keeps. -/
structure Pads (W : Weights) : Prop where
  out : W.out = A.out
  post : W.post = A.post
  kv : W.kv = A.kv
  downLow : ∀ k (j : Fin 384) (h : (j : ℕ) < 256), W.down k j = A.down k ⟨j, by omega⟩
  downMid : ∀ k (j : Fin 384) (h : 320 ≤ (j : ℕ)) (h' : (j : ℕ) < 352), W.down k j = A.down k ⟨j - 64, by omega⟩
  downTop : ∀ k (j : Fin 384), 352 ≤ (j : ℕ) → W.down k j = 0
  lat : W.lat = A.lat
  up : W.up = A.up
  pre : W.pre = A.pre
  cq : ∀ k (j : Fin 384), W.cq k j = A.into k ⟨j, by omega⟩
  gate : ∀ k (j : Fin 1024), W.gate k j = A.into k ⟨384 + j, by omega⟩
  q : W.q = A.q
  qup : ∀ k (j : Fin 2048) (h : (j : ℕ) % 128 < 96), W.qup k j = A.qup k ⟨96 * (j / 128) + j % 128, by omega⟩
  qupTop : ∀ k (j : Fin 2048), 96 ≤ (j : ℕ) % 128 → W.qup k j = 0

/-- What the tables hold for a token at position `s`, from lane 64 on. -/
structure Tables (cos sin : Fin 128 → EReal) (s : BitVec 32) : Prop where
  cos₁ : ∀ l : Fin 128, 64 ≤ (l : ℕ) → (l : ℕ) < 80 → cos l = Ideal.cos (angle 0x461C4000#32 s (l - 64))
  cos₂ : ∀ l : Fin 128, 80 ≤ (l : ℕ) → (l : ℕ) < 96 → cos l = Ideal.cos (angle 0x461C4000#32 s (l - 80))
  sin₁ : ∀ l : Fin 128, 64 ≤ (l : ℕ) → (l : ℕ) < 80 → sin l = -Ideal.sin (angle 0x461C4000#32 s (l - 64))
  sin₂ : ∀ l : Fin 128, 80 ≤ (l : ℕ) → (l : ℕ) < 96 → sin l = Ideal.sin (angle 0x461C4000#32 s (l - 80))
  sin₃ : ∀ l : Fin 128, 96 ≤ (l : ℕ) → sin l = 0

/-- The word of one. -/
theorem one : Ideal.ofBits .f32 0x3F800000#32 = 1 := by
  simp only [Ideal.ofBits, Ideal.ieee]
  simp
  rw [← EReal.coe_mul]
  norm_num

/-- The word of zero. -/
theorem zero : Ideal.ofBits .f32 0x00000000#32 = 0 := by
  simp [Ideal.ofBits, Ideal.ieee]

/-- The real factor on the queries. -/
def factor : ℝ := (Real.sqrt 96)⁻¹ * (Real.log 2)⁻¹

/-- The factor is positive. -/
theorem factor_pos : 0 < factor := by
  unfold factor
  have := Real.log_pos (show (1 : ℝ) < 2 by norm_num)
  positivity

/-- The named factor is that real. -/
theorem scale_eq : scale = ((factor : ℝ) : EReal) := IdealRules.named_const.ideal_named_scalar _ _ _ _ rfl

/-- Dividing by the two roots is multiplying with the factor. -/
theorem div_eq (x : EReal) : Ideal.div x (Ideal.sqrt (Ideal.ofBits .f32 0x42C00000#32) *
    Ideal.log (Ideal.ofBits .f32 0x40000000#32)) = x * ((factor : ℝ) : EReal) := by
  have h := Real.log_pos (show (1 : ℝ) < 2 by norm_num)
  rw [Cert.AttnMath.root, Cert.AttnMath.log2, ← EReal.coe_mul, Cert.AttnMath.div_pos _ _ (by positivity), mul_inv]
  rfl

/-- A sum times the factor. -/
theorem add_factor (x y : EReal) : (x + y) * ((factor : ℝ) : EReal) = x * ((factor : ℝ) : EReal) + y * ((factor : ℝ) : EReal) :=
  EReal.right_distrib_of_nonneg_of_ne_top (EReal.coe_nonneg.mpr factor_pos.le) (EReal.coe_ne_top _) _ _

variable {A} {W : Weights} (P : Pads A W)

include P in
/-- The residual streams agree. -/
theorem h_eq (o z x : Fin 1024 → EReal) : hRow W o z x = rawH A o z x := by
  unfold hRow rawH
  rw [P.out, P.post]

include P in
/-- The down projection, below lane 256. -/
theorem down_low (h : Fin 1024 → EReal) (j : Fin 384) (e : (j : ℕ) < 256) : downRow W h j = rawDown A h ⟨j, by omega⟩ := by
  unfold downRow rawDown dense
  rw [P.kv]
  simp only [P.downLow _ j e]

include P in
/-- The down projection, in the rotated lanes. -/
theorem down_mid (h : Fin 1024 → EReal) (j : Fin 384) (e : 320 ≤ (j : ℕ)) (e' : (j : ℕ) < 352) :
    downRow W h j = rawDown A h ⟨j - 64, by omega⟩ := by
  unfold downRow rawDown dense
  rw [P.kv]
  simp only [P.downMid _ j e e']

include P in
/-- The down projection, in the padding. -/
theorem down_top (h : Fin 1024 → EReal) (j : Fin 384) (e : 352 ≤ (j : ℕ)) : downRow W h j = 0 := by
  unfold downRow dense
  simp only [P.downTop _ j e, mul_zero, Finset.sum_const_zero]

include P in
/-- Keys and values of all heads agree. -/
theorem kv_eq (h : Fin 1024 → EReal) : kvRow W h = rawKv A h := by
  unfold kvRow rawKv
  rw [P.lat, P.up]
  congr 2
  funext j
  rw [down_low P h ⟨0 + j, by omega⟩ (by simp)]
  congr 1
  exact Fin.ext (zero_add _)

include P in
/-- The gates agree. -/
theorem gate_eq (h : Fin 1024 → EReal) (c : Fin 1024) : gateRow W h c = rawGate A h c := by
  unfold gateRow rawGate rawIn dense
  rw [P.pre]
  simp only [P.gate]

include P in
/-- The query projections agree off the padding. -/
theorem qup_low (h : Fin 1024 → EReal) (j : Fin 2048) (e : (j : ℕ) % 128 < 96) :
    qupRow W h j = rawQ A h ⟨96 * (j / 128) + j % 128, by omega⟩ := by
  unfold qupRow rawQ rawIn
  rw [P.pre, P.q]
  have : dense (rms (Ideal.ofBits .f32 0x44800000#32) h A.pre) W.cq =
      fun j : Fin 384 => dense (rms (Ideal.ofBits .f32 0x44800000#32) h A.pre) A.into ⟨j, by omega⟩ := by
    funext c
    unfold dense
    simp only [P.cq]
  rw [this]
  unfold dense
  simp only [P.qup _ j e]

include P in
/-- The query projection in the padding. -/
theorem qup_top (h : Fin 1024 → EReal) (j : Fin 2048) (e : 96 ≤ (j : ℕ) % 128) : qupRow W h j = 0 := by
  unfold qupRow dense
  simp only [P.qupTop _ j e, mul_zero, Finset.sum_const_zero]

/-- Rotating 128 lanes whose last 32 are empty is rotating the 32 before them. -/
theorem rot_eq {cos sin : Fin 128 → EReal} {s : BitVec 32} (T : Tables cos sin s) (a : Fin 128 → EReal) (b : Fin 32 → EReal)
    (hab : ∀ j : Fin 32, a ⟨64 + j, by omega⟩ = b j) (ha : ∀ l : Fin 128, 96 ≤ (l : ℕ) → a l = 0)
    (l : Fin 128) (hl : 64 ≤ (l : ℕ)) :
    rot 80 a (cosRow cos) (sinRow sin) l = if e : (l : ℕ) < 96 then rope b (angle 0x461C4000#32 s) ⟨l - 64, by omega⟩ else 0 := by
  unfold rot cosRow sinRow
  rw [if_pos hl, if_pos hl]
  by_cases e : (l : ℕ) < 80
  · rw [if_pos e, dif_pos (by omega), T.cos₁ l hl e, T.sin₁ l hl e]
    unfold rope
    rw [dif_pos (show (l : ℕ) - 64 < 16 by omega), ← hab, ← hab, mul_neg, ← sub_eq_add_neg]
    congr 3 <;> exact Fin.ext (by simp only; omega)
  · by_cases e' : (l : ℕ) < 96
    · rw [if_neg e, dif_pos e', T.cos₂ l (by omega) e', T.sin₂ l (by omega) e']
      unfold rope
      rw [dif_neg (show ¬ (l : ℕ) - 64 < 16 by omega), ← hab, ← hab]
      have i₁ : (l : ℕ) - 64 - 16 = l - 80 := by omega
      simp only [i₁]
      congr 3 <;> exact Fin.ext (by simp only; omega)
    · rw [dif_neg e', T.sin₃ l (by omega), ha l (by omega), zero_mul, mul_zero, add_zero]

/-- A rotation with scaled tables is the scaled rotation. -/
theorem rot_scale (hi : ℕ) (a cos sin : Fin 128 → EReal) (l : Fin 128) :
    rot hi a (fun l => cos l * scale) (fun l => sin l * scale) l = rot hi a cos sin l * ((factor : ℝ) : EReal) := by
  unfold rot
  rw [add_factor, scale_eq, mul_assoc, mul_assoc]

/-- Below lane 64 the rotation does nothing. -/
theorem rot_low (hi : ℕ) (a cos sin : Fin 128 → EReal) (l : Fin 128) (hl : (l : ℕ) < 64) :
    rot hi a (cosRow cos) (sinRow sin) l = a l := by
  unfold rot cosRow sinRow
  have e : ¬ 64 ≤ (l : ℕ) := by omega
  rw [if_neg e, if_neg e, one, zero, mul_one, mul_zero, add_zero]

include P in
/-- The keys agree. -/
theorem k_eq {cos sin : Fin 128 → EReal} {s : BitVec 32} (T : Tables cos sin s) (h : Fin 1024 → EReal) (p : Fin 16)
    (l : Fin 128) : kRow W h cos sin p l = rawKHead A h s p l := by
  unfold kRow rawKHead
  by_cases e : (l : ℕ) < 64
  · rw [if_pos e, dif_pos (by omega), if_pos e, kv_eq P]
  · rw [if_neg e]
    unfold turnRow
    rw [rot_eq T _ (fun j => rawDown A h ⟨256 + j, by omega⟩) _ _ l (by omega)]
    · simp only [if_neg e]
    · intro j
      rw [down_mid P h _ (by simp only; omega) (by simp only; omega)]
      congr 1
      exact Fin.ext (by simp only; omega)
    · intro l hl
      exact down_top P h _ (by simp only; omega)

include P in
/-- The values agree. -/
theorem v_eq (h : Fin 1024 → EReal) (p : Fin 16) (l : Fin 128) : vRow W h p l = rawVHead A h p l := by
  unfold vRow rawVHead
  rw [kv_eq P, one, zero]
  split_ifs <;> first | rfl | omega

include P in
/-- The queries agree. -/
theorem q_eq {cos sin : Fin 128 → EReal} {s : BitVec 32} (T : Tables cos sin s) (h : Fin 1024 → EReal) (p : Fin 16)
    (l : Fin 128) : qRow W h cos sin p l = rawQHead A h s p l := by
  unfold qRow rawQHead
  rw [rot_scale]
  by_cases e : (l : ℕ) < 64
  · rw [rot_low _ _ _ _ _ e, dif_pos (by omega), dif_pos e, div_eq, qup_low P h _ (by simp only; omega)]
    congr 2
    exact Fin.ext (by simp only; omega)
  · rw [rot_eq T _ (fun j => rawQ A h ⟨96 * p + 64 + j, by omega⟩) _ _ l (by omega)]
    · by_cases e' : (l : ℕ) < 96
      · rw [dif_pos e', dif_pos e', dif_neg e, div_eq]
      · rw [dif_neg e', dif_neg e', zero_mul]
    · intro j
      rw [qup_low P h _ (by simp only; omega)]
      congr 1
      exact Fin.ext (by simp only; omega)
    · intro l hl
      exact qup_top P h _ (by simp only; omega)

end Cert.Mid
-- ==== Proof.MidHost.lean ====
module

public import proofs.«01_k».proof.Proof.MidArray
public import proofs.«01_k».proof.Proof.MidMath
public import Idealize.ShloMosaic.Lib.StableHlo.ReadAt

@[expose] public section

set_option maxRecDepth 16384

noncomputable section

/-!
The arrays the kernel is handed, as the host operations before it leave them, at an index.
-/

namespace Cert.Mid

open Cert.Kernel3Ideal Cert.Kernel3Ideal.Gen Cert.Rows Idealize.ShloMosaic Idealize.ShloMosaic.TcCoe Idealize.SL.Sem

variable (m : (ℓ : Loc nD τ sig) → Buf (Elt Ideal) ℓ)

/-- The `j`-th frequency of base `θ`. -/
def frequency (θ : BitVec 32) (j : ℕ) : EReal := Ideal.div 1 (Ideal.pow (Ideal.ofBits .f32 θ)
  (FloatOps.sitofp (F := Ideal) .f32 (BitVec.ofNat 32 j) * Ideal.ofBits .f32 0x3D800000#32))

/-- The frequency of a lane. -/
def laneFrequency (l : ℕ) : EReal :=
  if h : l < 16 then frequency 0x48F42400#32 l
  else if h : l - 16 < 16 then frequency 0x48F42400#32 (l - 16)
  else if h : l - 16 - 16 < 32 then 0
  else if h : l - 16 - 16 - 32 < 16 then frequency 0x461C4000#32 (l - 16 - 16 - 32)
  else if h : l - 16 - 16 - 32 - 16 < 16 then frequency 0x461C4000#32 (l - 16 - 16 - 32 - 16)
  else 0

/-- The sign of a lane's sine. -/
def laneSign (l : ℕ) : EReal :=
  if h : l < 16 then -1 else if h : l - 16 < 16 then 1 else if h : l - 16 - 16 < 32 then 0
  else if h : l - 16 - 16 - 32 < 16 then -1 else if h : l - 16 - 16 - 32 - 16 < 16 then 1 else 0

/-- The position of token `t` of sequence `b`. -/
def posAt (c : Dev nD) (b : Fin 32) (t : Fin 2048) : BitVec 32 :=
  (m ((c.tc : Thread nD τ).loc main_arg3) : IVec S32x2048 32) (ix2 b t)

/-- The cosines. -/
theorem cos_apply (c : Dev nD) (b : Fin 32) (t : Fin 2048) (l : Fin 128) :
    V m c main_v29 (ix3 b t l) = Ideal.cos (FloatOps.sitofp (F := Ideal) .f32 (posAt m c b t) * laneFrequency l) := by
  unfold V
  after_reads_at
  after_reads_at
  rfl

/-- The signed sines. -/
theorem sin_apply (c : Dev nD) (b : Fin 32) (t : Fin 2048) (l : Fin 128) :
    V m c main_v33 (ix3 b t l) =
      Ideal.sin (FloatOps.sitofp (F := Ideal) .f32 (posAt m c b t) * laneFrequency l) * laneSign l := by
  unfold V
  after_reads_at
  after_reads_at
  rfl

/-- The down projection's weights, zeros between and after. -/
theorem down_apply (c : Dev nD) (i : Fin 1024) (j : Fin 384) :
    V m c main_v39 (ix2 i j) = if h : (j : ℕ) < 256 then
        (m ((c.tc : Thread nD τ).loc main_arg7) : Vec Ideal S1024x288 .f32) (ix2 i ⟨j, by omega⟩)
      else if h : (j : ℕ) - 256 < 64 then (0 : EReal)
      else if h : (j : ℕ) - 256 - 64 < 32 then
        (m ((c.tc : Thread nD τ).loc main_arg7) : Vec Ideal S1024x288 .f32) (ix2 i ⟨256 + (j - 256 - 64), by omega⟩)
      else (0 : EReal) := by
  unfold V
  after_reads_at
  after_reads_at

/-- The up projection's weights, every head padded with zeros. -/
theorem qup_apply (c : Dev nD) (i : Fin 384) (j : Fin 2048) :
    V m c main_v54 (ix2 i j) = if h : (j : ℕ) / 128 < 16 ∧ (j : ℕ) % 128 < 96 then
        (m ((c.tc : Thread nD τ).loc main_arg13) : Vec Ideal S384x1536 .f32) (ix2 i ⟨j / 128 * 96 + j % 128, by omega⟩)
      else (0 : EReal) := by
  unfold V
  after_reads_at
  split
  · rfl
  · simp [FloatOps.sitofp]

/-- The first branch's output, heads before tokens. -/
theorem o_apply (c : Dev nD) (b : Fin 32) (h : Fin 8) (t : Fin 2048) (d : Fin 128) : V m c main_v56 (ix4 b h t d) =
    (m ((c.tc : Thread nD τ).loc main_arg0) : Vec Ideal S32x2048x8x128 .f32) (ix4 b t h d) := by
  unfold V
  after_reads_at

/-- The first branch's gate. -/
theorem z_apply (c : Dev nD) (b : Fin 32) (t : Fin 2048) (d : Fin 1024) : V m c main_v57 (ix3 b t d) =
    (m ((c.tc : Thread nD τ).loc main_arg1) : Vec Ideal S32x2048x1024 .f32) (ix3 b t d) := by
  unfold V
  after_reads_at

/-- The input. -/
theorem x_apply (c : Dev nD) : V m c main_arg2 = (m ((c.tc : Thread nD τ).loc main_arg2) : Vec Ideal S32x2048x1024 .f32) := by
  unfold V
  after_reads_at

/-- The first branch's output weights. -/
theorem out_apply (c : Dev nD) (i j : Fin 1024) : V m c main_v43 (ix2 i j) =
    (m ((c.tc : Thread nD τ).loc main_arg4) : Vec Ideal S1024x1024 .f32) (ix2 i j) := by
  unfold V
  after_reads_at

/-- The first branch's output gain. -/
theorem post_apply (c : Dev nD) (i : Fin 1) (j : Fin 1024) : V m c main_v44 (ix2 i j) =
    (m ((c.tc : Thread nD τ).loc main_arg5) : Vec Ideal S1024 .f32) (ix1 j) := by
  unfold V
  after_reads_at

/-- The gain before keys and values. -/
theorem kv_apply (c : Dev nD) (i : Fin 1) (j : Fin 1024) : V m c main_v45 (ix2 i j) =
    (m ((c.tc : Thread nD τ).loc main_arg6) : Vec Ideal S1024 .f32) (ix1 j) := by
  unfold V
  after_reads_at

/-- The gain of the latent keys and values. -/
theorem lat_apply (c : Dev nD) (i : Fin 1) (j : Fin 256) : V m c main_v46 (ix2 i j) =
    (m ((c.tc : Thread nD τ).loc main_arg8) : Vec Ideal S256 .f32) (ix1 j) := by
  unfold V
  after_reads_at

/-- The up projection's weights of keys and values. -/
theorem up_apply (c : Dev nD) (i : Fin 256) (j : Fin 2048) : V m c main_v47 (ix2 i j) =
    (m ((c.tc : Thread nD τ).loc main_arg9) : Vec Ideal S256x2048 .f32) (ix2 i j) := by
  unfold V
  after_reads_at

/-- The gain before the second branch. -/
theorem pre_apply (c : Dev nD) (i : Fin 1) (j : Fin 1024) : V m c main_v48 (ix2 i j) =
    (m ((c.tc : Thread nD τ).loc main_arg10) : Vec Ideal S1024 .f32) (ix1 j) := by
  unfold V
  after_reads_at

/-- The latent queries' weights. -/
theorem cq_apply (c : Dev nD) (i : Fin 1024) (j : Fin 384) : V m c main_v50 (ix2 i j) =
    (m ((c.tc : Thread nD τ).loc main_arg11) : Vec Ideal S1024x1408 .f32) (ix2 i ⟨j, by omega⟩) := by
  unfold V
  after_reads_at

/-- The second gate's weights. -/
theorem gate_apply (c : Dev nD) (i : Fin 1024) (j : Fin 1024) : V m c main_v52 (ix2 i j) =
    (m ((c.tc : Thread nD τ).loc main_arg11) : Vec Ideal S1024x1408 .f32) (ix2 i ⟨384 + j, by omega⟩) := by
  unfold V
  after_reads_at

/-- The gain of the latent queries. -/
theorem q_apply (c : Dev nD) (i : Fin 1) (j : Fin 384) : V m c main_v53 (ix2 i j) =
    (m ((c.tc : Thread nD τ).loc main_arg12) : Vec Ideal S384 .f32) (ix1 j) := by
  unfold V
  after_reads_at

/-- The gains and weights the caller gives. -/
def rawArg (c : Dev nD) : Raw := rawOf (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8))
  (m ((c.tc : Thread nD τ).loc main_arg9)) (m ((c.tc : Thread nD τ).loc main_arg10)) (m ((c.tc : Thread nD τ).loc main_arg11))
  (m ((c.tc : Thread nD τ).loc main_arg12)) (m ((c.tc : Thread nD τ).loc main_arg13))

set_option maxHeartbeats 2000000 in
/-- The kernel's weights hold the caller's. -/
theorem pads (c : Dev nD) : Pads (rawArg m c) (wArr m c) where
  out := by funext k j; exact out_apply m c k j
  post := by funext j; exact post_apply m c 0 j
  kv := by funext j; exact kv_apply m c 0 j
  downLow k j h := (down_apply m c k j).trans (dif_pos h)
  downMid k j h h' := by
    refine (down_apply m c k j).trans ?_
    rw [dif_neg (by omega), dif_neg (by omega), dif_pos (by omega)]
    exact congrArg (fun j => (m ((c.tc : Thread nD τ).loc main_arg7) : Vec Ideal S1024x288 .f32) (ix2 k j))
      (Fin.ext (by simp only; omega))
  downTop k j h := by
    refine (down_apply m c k j).trans ?_
    rw [dif_neg (by omega), dif_neg (by omega), dif_neg (by omega)]
  lat := by funext j; exact lat_apply m c 0 j
  up := by funext k j; exact up_apply m c k j
  pre := by funext j; exact pre_apply m c 0 j
  cq k j := cq_apply m c k j
  gate k j := gate_apply m c k j
  q := by funext j; exact q_apply m c 0 j
  qup k j h := by
    refine (qup_apply m c k j).trans ((dif_pos ⟨by omega, h⟩).trans ?_)
    exact congrArg (fun j => (m ((c.tc : Thread nD τ).loc main_arg13) : Vec Ideal S384x1536 .f32) (ix2 k j))
      (Fin.ext (by simp only; omega))
  qupTop k j h := (qup_apply m c k j).trans (dif_neg (by omega))

/-- The tables hold cosines and signed sines. -/
theorem tables (c : Dev nD) (b : Fin 32) (t : Fin 2048) : Tables (cosArr m c b t) (sinArr m c b t) (posAt m c b t) where
  cos₁ l h h' := by
    refine (cos_apply m c b t l).trans ?_
    unfold laneFrequency
    rw [dif_neg (by omega), dif_neg (by omega), dif_neg (by omega), dif_pos (by omega),
      show (l : ℕ) - 16 - 16 - 32 = l - 64 by omega]
    rfl
  cos₂ l h h' := by
    refine (cos_apply m c b t l).trans ?_
    unfold laneFrequency
    rw [dif_neg (by omega), dif_neg (by omega), dif_neg (by omega), dif_neg (by omega), dif_pos (by omega),
      show (l : ℕ) - 16 - 16 - 32 - 16 = l - 80 by omega]
    rfl
  sin₁ l h h' := by
    refine (sin_apply m c b t l).trans ?_
    unfold laneFrequency laneSign
    rw [dif_neg (by omega), dif_neg (by omega), dif_neg (by omega), dif_pos (by omega),
      dif_neg (by omega), dif_neg (by omega), dif_neg (by omega), dif_pos (by omega),
      show (l : ℕ) - 16 - 16 - 32 = l - 64 by omega, mul_neg, mul_one]
    rfl
  sin₂ l h h' := by
    refine (sin_apply m c b t l).trans ?_
    unfold laneFrequency laneSign
    rw [dif_neg (by omega), dif_neg (by omega), dif_neg (by omega), dif_neg (by omega), dif_pos (by omega),
      dif_neg (by omega), dif_neg (by omega), dif_neg (by omega), dif_neg (by omega), dif_pos (by omega),
      show (l : ℕ) - 16 - 16 - 32 - 16 = l - 80 by omega, mul_one]
    rfl
  sin₃ l h := by
    refine (sin_apply m c b t l).trans ?_
    unfold laneSign
    rw [dif_neg (show ¬ (l : ℕ) < 16 by omega), dif_neg (by omega), dif_neg (by omega), dif_neg (by omega),
      dif_neg (by omega), mul_zero]

end Cert.Mid
-- ==== Proof.MidRef.lean ====
module

public import proofs.«01_k».proof.Proof.Gen.Reference3Ideal.Run
public import proofs.«01_k».proof.Proof.MidMath
public import Idealize.ShloMosaic.Lib.Pointwise

@[expose] public section

set_option maxRecDepth 16384

noncomputable section

/-!
The results of the reference between the two attentions, at an index.
-/

namespace Cert.MidRef

open Cert.Reference3Ideal Cert.Reference3Ideal.Gen Cert.Rows Idealize.ShloMosaic Idealize.ShloMosaic.TcCoe Idealize.SL.Sem
open Cert.Reference3Ideal.Value
open Cert.Mid (rawOf rawH rawDown rawKv rawIn rawQ rawKHead rawVHead rawQHead rawGate)

/-- What the norms over 1024 columns need of their shapes. -/
theorem n1024 : HostNormal 32 2048 1024 := ⟨reducesTo_S32x2048x1024_S32x2048_d2, bcast_S32x2048_S32x2048x1_0_1,
  bcast_S_S32x2048x1, bcast_S32x2048x1_S32x2048x1024_0_1_2, bcast_S1024_S1x1x1024_2, bcast_S1x1x1024_S32x2048x1024_0_1_2, h_S_⟩

/-- What the norms over 256 columns need of their shapes. -/
theorem n256 : HostNormal 32 2048 256 := ⟨reducesTo_S32x2048x256_S32x2048_d2, bcast_S32x2048_S32x2048x1_0_1,
  bcast_S_S32x2048x1, bcast_S32x2048x1_S32x2048x256_0_1_2, bcast_S256_S1x1x256_2, bcast_S1x1x256_S32x2048x256_0_1_2, h_S_⟩

/-- What the norms over 384 columns need of their shapes. -/
theorem n384 : HostNormal 32 2048 384 := ⟨reducesTo_S32x2048x384_S32x2048_d2, bcast_S32x2048_S32x2048x1_0_1,
  bcast_S_S32x2048x1, bcast_S32x2048x1_S32x2048x384_0_1_2, bcast_S384_S1x1x384_2, bcast_S1x1x384_S32x2048x384_0_1_2, h_S_⟩

variable (o : FVec Ideal S32x2048x8x128 .f32) (z x : FVec Ideal S32x2048x1024 .f32) (s : IVec S32x2048 32)
variable (a4 : FVec Ideal S1024x1024 .f32) (a5 a6 : FVec Ideal S1024 .f32) (a7 : FVec Ideal S1024x288 .f32)
variable (a8 : FVec Ideal S256 .f32) (a9 : FVec Ideal S256x2048 .f32) (a10 : FVec Ideal S1024 .f32)
variable (a11 : FVec Ideal S1024x1408 .f32) (a12 : FVec Ideal S384 .f32) (a13 : FVec Ideal S384x1536 .f32)

/-- One everywhere. -/
def ones : FVec Ideal S32x2048x1024 .f32 := broadcastInDim S32x2048x1024 ![] bcast_S_S32x2048x1024 (constant S_ .f32 0x3F800000#32)

/-- The gated output of the first branch. -/
def gated : FVec Ideal S32x2048x1024 .f32 :=
  mulf (shapeCast S32x2048x1024 o shapeCasts_S32x2048x8x128_S32x2048x1024)
    (mulf z (Host.divf ones (addf ones (Host.exp (Host.negf z)))))

/-- Its projection. -/
def proj : FVec Ideal S32x2048x1024 .f32 :=
  Host.dotGeneral dot_S32x2048x1024_S1024x1024_S32x2048x1024_2_0_01_1_n_n none (gated o z) a4

/-- The residual stream. -/
def stream : FVec Ideal S32x2048x1024 .f32 := addf x (hostNorm n1024 0x44800000#32 (proj o z a4) a5)

variable (h : FVec Ideal S32x2048x1024 .f32)

/-- The down projection. -/
def down : FVec Ideal S32x2048x288 .f32 :=
  Host.dotGeneral dot_S32x2048x1024_S1024x288_S32x2048x288_2_0_01_1_n_n none (hostNorm n1024 0x44800000#32 h a6) a7

/-- The latent keys and values. -/
def latent (d : FVec Ideal S32x2048x288 .f32) : FVec Ideal S32x2048x256 .f32 :=
  extractStridedSlice S32x2048x256 ![0, 0, 0] d slices_S32x2048x288_S32x2048x256_0_0_0

/-- Keys and values of all heads. -/
def keysValues (d : FVec Ideal S32x2048x288 .f32) : FVec Ideal S32x2048x2048 .f32 :=
  Host.dotGeneral dot_S32x2048x256_S256x2048_S32x2048x2048_2_0_01_1_n_n none (hostNorm n256 0x43800000#32 (latent d) a8) a9

/-- The second branch's input projection. -/
def into : FVec Ideal S32x2048x1408 .f32 :=
  Host.dotGeneral dot_S32x2048x1024_S1024x1408_S32x2048x1408_2_0_01_1_n_n none (hostNorm n1024 0x44800000#32 h a10) a11

/-- The latent queries. -/
def latentQ (p : FVec Ideal S32x2048x1408 .f32) : FVec Ideal S32x2048x384 .f32 :=
  extractStridedSlice S32x2048x384 ![0, 0, 0] p slices_S32x2048x1408_S32x2048x384_0_0_0

/-- The queries of all heads. -/
def queries (p : FVec Ideal S32x2048x1408 .f32) : FVec Ideal S32x2048x1536 .f32 :=
  Host.dotGeneral dot_S32x2048x384_S384x1536_S32x2048x1536_2_0_01_1_n_n none (hostNorm n384 0x43C00000#32 (latentQ p) a12) a13

/-- The angles of every token. -/
def angles : FVec Ideal S32x2048x16 .f32 :=
  mulf (broadcastInDim S32x2048x16 ![0, 1, 2] bcast_S32x2048x1_S32x2048x16_0_1_2
      (broadcastInDim S32x2048x1 ![0, 1] bcast_S32x2048_S32x2048x1_0_1 (sitofp .f32 s)))
    (broadcastInDim S32x2048x16 ![0, 1, 2] bcast_S1x1x16_S32x2048x16_0_1_2 (broadcastInDim S1x1x16 ![2] bcast_S16_S1x1x16_2
      (Host.divf (broadcastInDim S16 ![] bcast_S_S16 (constant S_ .f32 0x3F800000#32))
        (Host.powf (broadcastInDim S16 ![] bcast_S_S16 (constant S_ .f32 0x461C4000#32))
          (mulf (sitofp .f32 (iotaInDim S16 32 0)) (broadcastInDim S16 ![] bcast_S_S16 (constant S_ .f32 0x3D800000#32)))))))

/-- The cosines. -/
def cosines : FVec Ideal S32x2048x1x16 .f32 :=
  broadcastInDim S32x2048x1x16 ![0, 1, 3] bcast_S32x2048x16_S32x2048x1x16_0_1_3 (Host.cos (angles s))

/-- The sines. -/
def sines : FVec Ideal S32x2048x1x16 .f32 :=
  broadcastInDim S32x2048x1x16 ![0, 1, 3] bcast_S32x2048x16_S32x2048x1x16_0_1_3 (Host.sin (angles s))

/-- The keys' 32 lanes to rotate. -/
def turning (d : FVec Ideal S32x2048x288 .f32) : FVec Ideal S32x2048x1x32 .f32 :=
  broadcastInDim S32x2048x1x32 ![0, 1, 3] bcast_S32x2048x32_S32x2048x1x32_0_1_3
    (extractStridedSlice S32x2048x32 ![0, 0, 256] d slices_S32x2048x288_S32x2048x32_0_0_256)

/-- The keys' 32 lanes, rotated. -/
def turned (a : FVec Ideal S32x2048x1x32 .f32) : FVec Ideal S32x2048x1x32 .f32 :=
  concatenate S32x2048x1x32 3
    [⟨S32x2048x1x16, (subf
        (mulf (extractStridedSlice S32x2048x1x16 ![0, 0, 0, 0] a slices_S32x2048x1x32_S32x2048x1x16_0_0_0_0) (cosines s))
        (mulf (extractStridedSlice S32x2048x1x16 ![0, 0, 0, 16] a slices_S32x2048x1x32_S32x2048x1x16_0_0_0_16) (sines s)))⟩,
      ⟨S32x2048x1x16, (addf
        (mulf (extractStridedSlice S32x2048x1x16 ![0, 0, 0, 16] a slices_S32x2048x1x32_S32x2048x1x16_0_0_0_16) (cosines s))
        (mulf (extractStridedSlice S32x2048x1x16 ![0, 0, 0, 0] a slices_S32x2048x1x32_S32x2048x1x16_0_0_0_0) (sines s)))⟩]
    concatenates_S32x2048x1x16_S32x2048x1x16_S32x2048x1x32_d3

/-- 32 lanes of every head, rotated. -/
def turnedAll (a : FVec Ideal S32x2048x16x32 .f32) : FVec Ideal S32x2048x16x32 .f32 :=
  concatenate S32x2048x16x32 3
    [⟨S32x2048x16x16, (subf
        (mulf (extractStridedSlice S32x2048x16x16 ![0, 0, 0, 0] a slices_S32x2048x16x32_S32x2048x16x16_0_0_0_0)
          (broadcastInDim S32x2048x16x16 ![0, 1, 2, 3] bcast_S32x2048x1x16_S32x2048x16x16_0_1_2_3 (cosines s)))
        (mulf (extractStridedSlice S32x2048x16x16 ![0, 0, 0, 16] a slices_S32x2048x16x32_S32x2048x16x16_0_0_0_16)
          (broadcastInDim S32x2048x16x16 ![0, 1, 2, 3] bcast_S32x2048x1x16_S32x2048x16x16_0_1_2_3 (sines s))))⟩,
      ⟨S32x2048x16x16, (addf
        (mulf (extractStridedSlice S32x2048x16x16 ![0, 0, 0, 16] a slices_S32x2048x16x32_S32x2048x16x16_0_0_0_16)
          (broadcastInDim S32x2048x16x16 ![0, 1, 2, 3] bcast_S32x2048x1x16_S32x2048x16x16_0_1_2_3 (cosines s)))
        (mulf (extractStridedSlice S32x2048x16x16 ![0, 0, 0, 0] a slices_S32x2048x16x32_S32x2048x16x16_0_0_0_0)
          (broadcastInDim S32x2048x16x16 ![0, 1, 2, 3] bcast_S32x2048x1x16_S32x2048x16x16_0_1_2_3 (sines s))))⟩]
    concatenates_S32x2048x16x16_S32x2048x16x16_S32x2048x16x32_d3

/-- 96 lanes of every head, padded to 128 and heads put before tokens. -/
def padded (a : FVec Ideal S32x2048x16x96 .f32) : FVec Ideal S32x16x2048x128 .bf16 :=
  truncf .bf16 (transpose S32x16x2048x128 [0, 2, 1, 3] (concatenate S32x2048x16x128 3 [⟨S32x2048x16x96, a⟩,
    ⟨S32x2048x16x32, (broadcastInDim S32x2048x16x32 ![] bcast_S_S32x2048x16x32 (constant S_ .f32 0x00000000#32))⟩]
    concatenates_S32x2048x16x96_S32x2048x16x32_S32x2048x16x128_d3) transposes_S32x2048x16x128_S32x16x2048x128_0_2_1_3)
    bitsLt_bf16_f32

/-- The keys. -/
def keys (d : FVec Ideal S32x2048x288 .f32) (kv : FVec Ideal S32x2048x2048 .f32) : FVec Ideal S32x16x2048x128 .bf16 :=
  padded (concatenate S32x2048x16x96 3
    [⟨S32x2048x16x64, (extractStridedSlice S32x2048x16x64 ![0, 0, 0, 0]
        (shapeCast S32x2048x16x128 kv shapeCasts_S32x2048x2048_S32x2048x16x128) slices_S32x2048x16x128_S32x2048x16x64_0_0_0_0)⟩,
      ⟨S32x2048x16x32, (broadcastInDim S32x2048x16x32 ![0, 1, 2, 3] bcast_S32x2048x1x32_S32x2048x16x32_0_1_2_3
        (turned s (turning d)))⟩] concatenates_S32x2048x16x64_S32x2048x16x32_S32x2048x16x96_d3)

/-- The values. -/
def values (kv : FVec Ideal S32x2048x2048 .f32) : FVec Ideal S32x16x2048x128 .bf16 :=
  truncf .bf16 (transpose S32x16x2048x128 [0, 2, 1, 3] ((concatenate S32x2048x16x128 3
    [⟨S32x2048x16x1, (broadcastInDim S32x2048x16x1 ![] bcast_S_S32x2048x16x1 (constant S_ .f32 0x3F800000#32) :
        FVec Ideal S32x2048x16x1 .f32)⟩,
      ⟨S32x2048x16x63, (broadcastInDim S32x2048x16x63 ![] bcast_S_S32x2048x16x63 (constant S_ .f32 0x00000000#32) :
        FVec Ideal S32x2048x16x63 .f32)⟩,
      ⟨S32x2048x16x64, (extractStridedSlice S32x2048x16x64 ![0, 0, 0, 64]
        (shapeCast S32x2048x16x128 kv shapeCasts_S32x2048x2048_S32x2048x16x128) slices_S32x2048x16x128_S32x2048x16x64_0_0_0_64)⟩]
    concatenates_S32x2048x16x1_S32x2048x16x63_S32x2048x16x64_S32x2048x16x128_d3 : FVec Ideal S32x2048x16x128 .f32))
    transposes_S32x2048x16x128_S32x16x2048x128_0_2_1_3) bitsLt_bf16_f32

/-- The queries of every head, the last 32 lanes rotated. -/
def rotated (q : FVec Ideal S32x2048x1536 .f32) : FVec Ideal S32x2048x16x96 .f32 :=
  concatenate S32x2048x16x96 3
    [⟨S32x2048x16x64, (extractStridedSlice S32x2048x16x64 ![0, 0, 0, 0]
        (shapeCast S32x2048x16x96 q shapeCasts_S32x2048x1536_S32x2048x16x96) slices_S32x2048x16x96_S32x2048x16x64_0_0_0_0)⟩,
      ⟨S32x2048x16x32, (turnedAll s (extractStridedSlice S32x2048x16x32 ![0, 0, 0, 64]
        (shapeCast S32x2048x16x96 q shapeCasts_S32x2048x1536_S32x2048x16x96) slices_S32x2048x16x96_S32x2048x16x32_0_0_0_64))⟩]
    concatenates_S32x2048x16x64_S32x2048x16x32_S32x2048x16x96_d3

/-- The divided queries. -/
def divided (q : FVec Ideal S32x2048x1536 .f32) : FVec Ideal S32x16x2048x128 .bf16 :=
  padded (Host.divf (rotated s q) (broadcastInDim S32x2048x16x96 ![] bcast_S_S32x2048x16x96
    (mulf (Host.sqrt (constant S_ .f32 0x42C00000#32)) (Host.log (constant S_ .f32 0x40000000#32)))))

/-- The second branch's gate. -/
def gateOut (p : FVec Ideal S32x2048x1408 .f32) : FVec Ideal S32x2048x1024 .bf16 :=
  truncf .bf16 (extractStridedSlice S32x2048x1024 ![0, 0, 384] p slices_S32x2048x1408_S32x2048x1024_0_0_384) bitsLt_bf16_f32

/-- A product with the first branch's weights, at an index. -/
theorem dot1024_apply (y : FVec Ideal S32x2048x1024 .f32) (b : Fin 32) (t : Fin 2048) (c : Fin 1024) :
    Host.dotGeneral dot_S32x2048x1024_S1024x1024_S32x2048x1024_2_0_01_1_n_n none y a4 (ix3 b t c) =
      dense (fun k => y (ix3 b t k)) (fun k c => a4 (ix2 k c)) c := by
  pointwise
  rfl

/-- A product with the down projection's weights, at an index. -/
theorem dot288_apply (y : FVec Ideal S32x2048x1024 .f32) (b : Fin 32) (t : Fin 2048) (c : Fin 288) :
    Host.dotGeneral dot_S32x2048x1024_S1024x288_S32x2048x288_2_0_01_1_n_n none y a7 (ix3 b t c) =
      dense (fun k => y (ix3 b t k)) (fun k c => a7 (ix2 k c)) c := by
  pointwise
  rfl

/-- A product with the up projection's weights, at an index. -/
theorem dot2048_apply (y : FVec Ideal S32x2048x256 .f32) (b : Fin 32) (t : Fin 2048) (c : Fin 2048) :
    Host.dotGeneral dot_S32x2048x256_S256x2048_S32x2048x2048_2_0_01_1_n_n none y a9 (ix3 b t c) =
      dense (fun k => y (ix3 b t k)) (fun k c => a9 (ix2 k c)) c := by
  pointwise
  rfl

/-- A product with the second branch's input weights, at an index. -/
theorem dot1408_apply (y : FVec Ideal S32x2048x1024 .f32) (b : Fin 32) (t : Fin 2048) (c : Fin 1408) :
    Host.dotGeneral dot_S32x2048x1024_S1024x1408_S32x2048x1408_2_0_01_1_n_n none y a11 (ix3 b t c) =
      dense (fun k => y (ix3 b t k)) (fun k c => a11 (ix2 k c)) c := by
  pointwise
  rfl

/-- A product with the queries' weights, at an index. -/
theorem dot1536_apply (y : FVec Ideal S32x2048x384 .f32) (b : Fin 32) (t : Fin 2048) (c : Fin 1536) :
    Host.dotGeneral dot_S32x2048x384_S384x1536_S32x2048x1536_2_0_01_1_n_n none y a13 (ix3 b t c) =
      dense (fun k => y (ix3 b t k)) (fun k c => a13 (ix2 k c)) c := by
  pointwise
  rfl

/-- The gated output at an index. -/
theorem gated_apply (b : Fin 32) (t : Fin 2048) (k : Fin 1024) :
    gated o z (ix3 b t k) = gate (o (ix4 b t (lane8 k) (lane128 k))) (z (ix3 b t k)) := by
  pointwise [gated, ones]
  rfl

/-- The angles at an index. -/
theorem angles_apply (b : Fin 32) (t : Fin 2048) (j : Fin 16) :
    angles s (ix3 b t j) = angle 0x461C4000#32 (s (ix2 b t)) j := by
  pointwise [angles]
  rfl

/-- The keys' lanes to rotate, at an index. -/
theorem turning_apply (d : FVec Ideal S32x2048x288 .f32) (b : Fin 32) (t : Fin 2048) (j : Fin 32) :
    turning d (ix4 b t 0 j) = d (ix3 b t ⟨256 + j, by omega⟩) := by
  pointwise [turning]

/-- The keys' rotated lanes at an index. -/
theorem turned_apply (a : FVec Ideal S32x2048x1x32 .f32) (b : Fin 32) (t : Fin 2048) (j : Fin 32) :
    turned s a (ix4 b t 0 j) = rope (fun j => a (ix4 b t 0 j)) (angle 0x461C4000#32 (s (ix2 b t))) j := by
  pointwise [turned, cosines, sines, angles_apply]
  unfold rope
  split
  · simp only [Nat.add_comm 16]
  · rename_i e
    simp only [Nat.add_sub_cancel' (not_lt.mp e)]

/-- The rotated lanes of a head at an index. -/
theorem turnedAll_apply (a : FVec Ideal S32x2048x16x32 .f32) (b : Fin 32) (t : Fin 2048) (p : Fin 16) (j : Fin 32) :
    turnedAll s a (ix4 b t p j) = rope (fun j => a (ix4 b t p j)) (angle 0x461C4000#32 (s (ix2 b t))) j := by
  pointwise [turnedAll, cosines, sines, angles_apply]
  unfold rope
  split
  · simp only [Nat.add_comm 16]
  · rename_i e
    simp only [Nat.add_sub_cancel' (not_lt.mp e)]

/-- The padded heads at an index. -/
theorem padded_apply (a : FVec Ideal S32x2048x16x96 .f32) (b : Fin 32) (p : Fin 16) (t : Fin 2048) (l : Fin 128) :
    padded a (ix4 b p t l) = if e : (l : ℕ) < 96 then a (ix4 b t p ⟨l, e⟩) else 0 := by
  pointwise [padded]

/-- The keys at an index. -/
theorem keys_apply (d : FVec Ideal S32x2048x288 .f32) (kv : FVec Ideal S32x2048x2048 .f32) (b : Fin 32) (p : Fin 16)
    (t : Fin 2048) (l : Fin 128) : keys s d kv (ix4 b p t l) = if e : (l : ℕ) < 96 then
      (if (l : ℕ) < 64 then kv (ix3 b t ⟨128 * p + l, by omega⟩)
        else rope (fun j => d (ix3 b t ⟨256 + j, by omega⟩)) (angle 0x461C4000#32 (s (ix2 b t))) ⟨l - 64, by omega⟩) else 0 := by
  unfold keys
  rw [padded_apply]
  split
  · pointwise [turned_apply, turning_apply]
    simp only [Nat.mul_comm (p : ℕ) 128]
    split_ifs <;> rfl
  · rfl

/-- The values at an index. -/
theorem values_apply (kv : FVec Ideal S32x2048x2048 .f32) (b : Fin 32) (p : Fin 16)
    (t : Fin 2048) (l : Fin 128) : values kv (ix4 b p t l) = if (l : ℕ) < 1 then 1 else if (l : ℕ) < 64 then 0 else
      kv (ix3 b t ⟨128 * p + l, by omega⟩) := by
  pointwise [values]
  by_cases e : (l : ℕ) < 1
  · rw [dif_pos e, if_pos e]
  · by_cases e' : (l : ℕ) < 64
    · rw [dif_neg e, if_neg e, dif_pos (by omega), if_pos e']
    · rw [dif_neg e, if_neg e, dif_neg (by omega), if_neg e']
      exact congrArg (fun i => kv (ix3 b t i)) (Fin.ext (by simp only; omega))

/-- The queries at an index. -/
theorem divided_apply (q : FVec Ideal S32x2048x1536 .f32) (b : Fin 32) (p : Fin 16)
    (t : Fin 2048) (l : Fin 128) : divided s q (ix4 b p t l) = if e : (l : ℕ) < 96 then
      Ideal.div (if (l : ℕ) < 64 then q (ix3 b t ⟨96 * p + l, by omega⟩)
        else rope (fun j => q (ix3 b t ⟨96 * p + 64 + j, by omega⟩)) (angle 0x461C4000#32 (s (ix2 b t))) ⟨l - 64, by omega⟩)
      (Ideal.sqrt (Ideal.ofBits .f32 0x42C00000#32) * Ideal.log (Ideal.ofBits .f32 0x40000000#32)) else 0 := by
  unfold divided
  rw [padded_apply]
  split
  · pointwise [rotated, turnedAll_apply]
    congr 1
    by_cases e : (l : ℕ) < 64
    · rw [dif_pos e, if_pos e]
      exact congrArg (fun i => q (ix3 b t i)) (Fin.ext (by simp only; omega))
    · rw [dif_neg e, if_neg e]
      congr 1
      funext j
      exact congrArg (fun i => q (ix3 b t i)) (Fin.ext (by simp only; omega))
  · rfl

/-- The residual stream at an index. -/
theorem stream_apply (b : Fin 32) (t : Fin 2048) (c : Fin 1024) : stream o z x a4 a5 (ix3 b t c) =
    rawH (rawOf a4 a5 a6 a7 a8 a9 a10 a11 a12 a13) (fun k => o (ix4 b t (lane8 k) (lane128 k))) (fun k => z (ix3 b t k))
      (fun k => x (ix3 b t k)) c := by
  show x (ix3 b t c) + hostNorm n1024 0x44800000#32 (proj o z a4) a5 (ix3 b t c) = _
  rw [hostNorm_apply (by norm_num) (by norm_num) (by norm_num)]
  unfold proj
  simp only [dot1024_apply, gated_apply]
  rfl

/-- The down projection at an index. -/
theorem down_apply (b : Fin 32) (t : Fin 2048) (c : Fin 288) : down a6 a7 h (ix3 b t c) =
    rawDown (rawOf a4 a5 a6 a7 a8 a9 a10 a11 a12 a13) (fun k => h (ix3 b t k)) c := by
  unfold down
  rw [dot288_apply]
  simp only [hostNorm_apply (show (32 : ℕ) ≠ 1 by norm_num) (show (2048 : ℕ) ≠ 1 by norm_num) (show (1024 : ℕ) ≠ 1 by norm_num)]
  rfl

/-- The latent keys and values at an index. -/
theorem latent_apply (d : FVec Ideal S32x2048x288 .f32) (b : Fin 32) (t : Fin 2048) (c : Fin 256) :
    latent d (ix3 b t c) = d (ix3 b t ⟨c, by omega⟩) := by
  pointwise [latent]

/-- Keys and values of all heads at an index. -/
theorem keysValues_apply (b : Fin 32) (t : Fin 2048) (c : Fin 2048) : keysValues a8 a9 (down a6 a7 h) (ix3 b t c) =
    rawKv (rawOf a4 a5 a6 a7 a8 a9 a10 a11 a12 a13) (fun k => h (ix3 b t k)) c := by
  unfold keysValues
  rw [dot2048_apply]
  simp only [hostNorm_apply (show (32 : ℕ) ≠ 1 by norm_num) (show (2048 : ℕ) ≠ 1 by norm_num) (show (256 : ℕ) ≠ 1 by norm_num),
    latent_apply, down_apply a4 a5 a6 a7 a8 a9 a10 a11 a12 a13]
  rfl

/-- The second branch's input projection at an index. -/
theorem into_apply (b : Fin 32) (t : Fin 2048) (c : Fin 1408) : into a10 a11 h (ix3 b t c) =
    rawIn (rawOf a4 a5 a6 a7 a8 a9 a10 a11 a12 a13) (fun k => h (ix3 b t k)) c := by
  unfold into
  rw [dot1408_apply]
  simp only [hostNorm_apply (show (32 : ℕ) ≠ 1 by norm_num) (show (2048 : ℕ) ≠ 1 by norm_num) (show (1024 : ℕ) ≠ 1 by norm_num)]
  rfl

/-- The latent queries at an index. -/
theorem latentQ_apply (d : FVec Ideal S32x2048x1408 .f32) (b : Fin 32) (t : Fin 2048) (c : Fin 384) :
    latentQ d (ix3 b t c) = d (ix3 b t ⟨c, by omega⟩) := by
  pointwise [latentQ]

/-- The queries of all heads at an index. -/
theorem queries_apply (b : Fin 32) (t : Fin 2048) (c : Fin 1536) : queries a12 a13 (into a10 a11 h) (ix3 b t c) =
    rawQ (rawOf a4 a5 a6 a7 a8 a9 a10 a11 a12 a13) (fun k => h (ix3 b t k)) c := by
  unfold queries
  rw [dot1536_apply]
  simp only [hostNorm_apply (show (32 : ℕ) ≠ 1 by norm_num) (show (2048 : ℕ) ≠ 1 by norm_num) (show (384 : ℕ) ≠ 1 by norm_num),
    latentQ_apply, into_apply a4 a5 a6 a7 a8 a9 a10 a11 a12 a13]
  rfl

/-- The keys are those of the rows. -/
theorem keys_eq (b : Fin 32) (p : Fin 16) (t : Fin 2048) (l : Fin 128) :
    keys s (down a6 a7 h) (keysValues a8 a9 (down a6 a7 h)) (ix4 b p t l) =
      rawKHead (rawOf a4 a5 a6 a7 a8 a9 a10 a11 a12 a13) (fun k => h (ix3 b t k)) (s (ix2 b t)) p l := by
  rw [keys_apply]
  simp only [down_apply a4 a5 a6 a7 a8 a9 a10 a11 a12 a13, keysValues_apply a4 a5 a6 a7 a8 a9 a10 a11 a12 a13]
  rfl

/-- The values are those of the rows. -/
theorem values_eq (b : Fin 32) (p : Fin 16) (t : Fin 2048) (l : Fin 128) :
    values (keysValues a8 a9 (down a6 a7 h)) (ix4 b p t l) =
      rawVHead (rawOf a4 a5 a6 a7 a8 a9 a10 a11 a12 a13) (fun k => h (ix3 b t k)) p l := by
  rw [values_apply]
  simp only [keysValues_apply a4 a5 a6 a7 a8 a9 a10 a11 a12 a13]
  rfl

/-- The queries are those of the rows. -/
theorem divided_eq (b : Fin 32) (p : Fin 16) (t : Fin 2048) (l : Fin 128) :
    divided s (queries a12 a13 (into a10 a11 h)) (ix4 b p t l) =
      rawQHead (rawOf a4 a5 a6 a7 a8 a9 a10 a11 a12 a13) (fun k => h (ix3 b t k)) (s (ix2 b t)) p l := by
  rw [divided_apply]
  simp only [queries_apply a4 a5 a6 a7 a8 a9 a10 a11 a12 a13]
  rfl

/-- The gate is that of the rows. -/
theorem gateOut_eq (b : Fin 32) (t : Fin 2048) (c : Fin 1024) : gateOut (into a10 a11 h) (ix3 b t c) =
    rawGate (rawOf a4 a5 a6 a7 a8 a9 a10 a11 a12 a13) (fun k => h (ix3 b t k)) c := by
  have e : gateOut (into a10 a11 h) (ix3 b t c) = into a10 a11 h (ix3 b t ⟨384 + c, by omega⟩) := by
    pointwise [gateOut]
  rw [e, into_apply a4 a5 a6 a7 a8 a9 a10 a11 a12 a13]
  rfl

end Cert.MidRef
-- ==== Proof.MidEq.lean ====
module

public import proofs.«01_k».proof.Proof.MidHost
public import proofs.«01_k».proof.Proof.MidRef

@[expose] public section

set_option maxRecDepth 16384

noncomputable section

/-!
The five results between the two attentions: kernel and reference agree.
-/

namespace Cert.Mid

open Cert.Kernel3Ideal Cert.Kernel3Ideal.Gen Cert.Rows Idealize.ShloMosaic Idealize.ShloMosaic.TcCoe Idealize.SL.Sem

variable (m : (ℓ : Loc nD τ sig) → Buf (Elt Ideal) ℓ)

/-- The reference's residual stream of the kernel's arguments. -/
def refStream (c : Dev nD) : FVec Ideal S32x2048x1024 .f32 :=
  MidRef.stream (m ((c.tc : Thread nD τ).loc main_arg0)) (m ((c.tc : Thread nD τ).loc main_arg1))
    (m ((c.tc : Thread nD τ).loc main_arg2)) (m ((c.tc : Thread nD τ).loc main_arg4)) (m ((c.tc : Thread nD τ).loc main_arg5))

/-- The reference's down projection of the kernel's arguments. -/
def refDown (c : Dev nD) : FVec Ideal ⟨3, ![32, 2048, 288]⟩ .f32 :=
  MidRef.down (m ((c.tc : Thread nD τ).loc main_arg6)) (m ((c.tc : Thread nD τ).loc main_arg7)) (refStream m c)

/-- The reference's keys and values of the kernel's arguments. -/
def refKv (c : Dev nD) : FVec Ideal ⟨3, ![32, 2048, 2048]⟩ .f32 :=
  MidRef.keysValues (m ((c.tc : Thread nD τ).loc main_arg8)) (m ((c.tc : Thread nD τ).loc main_arg9)) (refDown m c)

/-- The reference's input projection of the kernel's arguments. -/
def refIn (c : Dev nD) : FVec Ideal ⟨3, ![32, 2048, 1408]⟩ .f32 :=
  MidRef.into (m ((c.tc : Thread nD τ).loc main_arg10)) (m ((c.tc : Thread nD τ).loc main_arg11)) (refStream m c)

/-- The reference's queries of the kernel's arguments. -/
def refQ (c : Dev nD) : FVec Ideal ⟨3, ![32, 2048, 1536]⟩ .f32 :=
  MidRef.queries (m ((c.tc : Thread nD τ).loc main_arg12)) (m ((c.tc : Thread nD τ).loc main_arg13)) (refIn m c)

/-- The residual stream of a token is the reference's. -/
theorem stream_row (c : Dev nD) (b : Fin 32) (t : Fin 2048) : hArr m c b t = fun k => refStream m c (ix3 b t k) := by
  unfold hArr
  rw [h_eq (pads m c)]
  refine Eq.trans (congr (congr (congrArg (rawH (rawArg m c)) (funext fun k => o_apply m c b (lane8 k) t (lane128 k)))
    (funext fun k => z_apply m c b t k)) (funext fun k => congrFun (x_apply m c) (ix3 b t k))) ?_
  funext k
  exact (MidRef.stream_apply _ _ _ _ _ _ _ _ _ _ _ _ _ b t k).symm

/-- The residual streams agree. -/
theorem same16 (c : Dev nD) : out16 m c = refStream m c := by
  funext y
  obtain ⟨b, t, k, rfl⟩ : ∃ (b : Fin 32) (t : Fin 2048) (k : Fin 1024), y = ix3 b t k := ⟨y 0, y 1, y 2, eq_ix3 y⟩
  exact congrFun (stream_row m c b t) k

/-- The keys agree. -/
theorem same17 (c : Dev nD) : out17 m c =
    MidRef.keys (m ((c.tc : Thread nD τ).loc main_arg3)) (refDown m c) (refKv m c) := by
  funext y
  obtain ⟨b, p, t, l, rfl⟩ : ∃ (b : Fin 32) (p : Fin 16) (t : Fin 2048) (l : Fin 128), y = ix4 b p t l :=
    ⟨y 0, y 1, y 2, y 3, eq_ix4 y⟩
  show kRow _ (hArr m c b t) (cosArr m c b t) (sinArr m c b t) p l = _
  rw [k_eq (pads m c) (tables m c b t), stream_row]
  exact (MidRef.keys_eq _ _ _ _ _ _ _ _ _ _ _ _ b p t l).symm

/-- The values agree. -/
theorem same18 (c : Dev nD) : out18 m c = MidRef.values (refKv m c) := by
  funext y
  obtain ⟨b, p, t, l, rfl⟩ : ∃ (b : Fin 32) (p : Fin 16) (t : Fin 2048) (l : Fin 128), y = ix4 b p t l :=
    ⟨y 0, y 1, y 2, y 3, eq_ix4 y⟩
  show vRow _ (hArr m c b t) p l = _
  rw [v_eq (pads m c), stream_row]
  exact (MidRef.values_eq _ _ _ _ _ _ _ _ _ _ _ b p t l).symm

/-- The queries agree. -/
theorem same19 (c : Dev nD) : out19 m c = MidRef.divided (m ((c.tc : Thread nD τ).loc main_arg3)) (refQ m c) := by
  funext y
  obtain ⟨b, p, t, l, rfl⟩ : ∃ (b : Fin 32) (p : Fin 16) (t : Fin 2048) (l : Fin 128), y = ix4 b p t l :=
    ⟨y 0, y 1, y 2, y 3, eq_ix4 y⟩
  show qRow _ (hArr m c b t) (cosArr m c b t) (sinArr m c b t) p l = _
  rw [q_eq (pads m c) (tables m c b t), stream_row]
  exact (MidRef.divided_eq _ _ _ _ _ _ _ _ _ _ _ _ b p t l).symm

/-- The gates agree. -/
theorem same20 (c : Dev nD) : out20 m c = MidRef.gateOut (refIn m c) := by
  funext y
  obtain ⟨b, t, k, rfl⟩ : ∃ (b : Fin 32) (t : Fin 2048) (k : Fin 1024), y = ix3 b t k := ⟨y 0, y 1, y 2, eq_ix3 y⟩
  show gateRow _ (hArr m c b t) k = _
  rw [gate_eq (pads m c), stream_row]
  exact (MidRef.gateOut_eq _ _ _ _ _ _ _ _ _ _ _ b t k).symm

end Cert.Mid
-- ==== Proof.MidClaim.lean ====
module

public import proofs.«01_k».proof.Defs
public import proofs.«01_k».proof.Proof.Gen.Reference3Ideal.Run
public import proofs.«01_k».proof.Proof.MidEq
public import Idealize.ShloMosaic.Adequacy
public import Idealize.ShloMosaic.Init

@[expose] public section

set_option maxRecDepth 16384

noncomputable section

/-!
The claims about the call between the two attentions.
-/

namespace Cert.MidClaim

open Idealize.ShloMosaic Idealize.SL.Sem

/-- The named scale is the rounded literal's real number. -/
theorem preserves : Cert.preserves_Kernel3_Kernel3Ideal :=
  IdealRules.named_const.statement _ _ _ _ _ rfl

/-- The frame of the reference. -/
theorem frame_r : Cert.quiescent_Reference3Ideal (hReference3Ideal := Cert.Reference3Ideal.Gen.facts) := fun m ρ _ =>
  (θ_run Cert.Reference3Ideal.defs _ _).mono
    (fun r h => ⟨fun c => (h c).2.2.2.2.2, sem_eq_zero_of_no_sems (by decide) r.2⟩)
    (Cert.Reference3Ideal.Value.run (F := Ideal) m ρ)

set_option maxHeartbeats 4000000 in
/-- The call and its reference end with equal results. -/
theorem equal : Cert.algebraic_Kernel3Ideal_Reference3Ideal
    (hKernel3Ideal := Cert.Kernel3Ideal.Gen.facts) (hReference3Ideal := Cert.Reference3Ideal.Gen.facts) := by
  intro m ρ m' ρ' _ hagree
  refine ⟨_, _, _, _, _, Cert.Kernel3Ideal.Value.run_blocks m ρ, ?_⟩
  refine (θ_run Cert.Reference3Ideal.defs _ _).mono
    (fun r h c => ⟨(h c).1.trans ?_, (h c).2.1.trans ?_, (h c).2.2.1.trans ?_, (h c).2.2.2.1.trans ?_,
      (h c).2.2.2.2.1.trans ?_, (h c).2.2.2.2.2⟩)
    (Cert.Reference3Ideal.Value.run (F := Ideal) m' ρ')
  all_goals obtain ⟨e₀, e₁, e₂, e₃, e₄, e₅, e₆, e₇, e₈, e₉, f₀, f₁, f₂, f₃⟩ := hagree c
  · refine .trans ?_ ((Cert.Mid.final16 m c).trans (Cert.Mid.same16 m c)).symm
    unfold Cert.Mid.refStream
    rw [← e₀, ← e₁, ← e₂, ← e₄, ← e₅]
    rfl
  · refine .trans ?_ ((Cert.Mid.final17 m c).trans (Cert.Mid.same17 m c)).symm
    unfold Cert.Mid.refKv Cert.Mid.refDown Cert.Mid.refStream
    rw [← e₀, ← e₁, ← e₂, ← e₃, ← e₄, ← e₅, ← e₆, ← e₇, ← e₈, ← e₉]
    rfl
  · refine .trans ?_ ((Cert.Mid.final18 m c).trans (Cert.Mid.same18 m c)).symm
    unfold Cert.Mid.refKv Cert.Mid.refDown Cert.Mid.refStream
    rw [← e₀, ← e₁, ← e₂, ← e₄, ← e₅, ← e₆, ← e₇, ← e₈, ← e₉]
    rfl
  · refine .trans ?_ ((Cert.Mid.final19 m c).trans (Cert.Mid.same19 m c)).symm
    unfold Cert.Mid.refQ Cert.Mid.refIn Cert.Mid.refStream
    rw [← e₀, ← e₁, ← e₂, ← e₃, ← e₄, ← e₅, ← f₀, ← f₁, ← f₂, ← f₃]
    rfl
  · refine .trans ?_ ((Cert.Mid.final20 m c).trans (Cert.Mid.same20 m c)).symm
    unfold Cert.Mid.refIn Cert.Mid.refStream
    rw [← e₀, ← e₁, ← e₂, ← e₄, ← e₅, ← f₀, ← f₁]
    rfl

end Cert.MidClaim

end
-- ==== Proof.FinalArray.lean ====
module

public import proofs.«01_k».proof.Proof.RowOps
public import proofs.«01_k».proof.Proof.Gen.Kernel4Ideal.Value
public import Idealize.ShloMosaic.Lib.Pipeline.ValueKit
public import Idealize.ShloMosaic.Lib.StableHlo.ReadAt

@[expose] public section

set_option maxRecDepth 16384

noncomputable section

/-!
The result of the last call: the residual stream plus the normed projection of the gated attention output.
-/

namespace Cert.Final

open Cert.Kernel4Ideal Cert.Kernel4Ideal.Gen Cert.Rows Idealize.ShloMosaic Idealize.ShloMosaic.TcCoe Idealize.SL.Sem
open Idealize.ShloMosaic.Pipeline (Dat)

/-- What the norm needs of its shapes. -/
theorem normal : Normal 1024 1024 := ⟨reduces_S1024x1024_S1024, shapeCasts_S1024_S1024x1, broadcasts_S1024x1_S1024x1024,
  shapeCasts_S1x1024_S1x1024, broadcasts_S1x1024_S1024x1024⟩

/-- A block lies in itself. -/
theorem in3 (a : Fin 3) : (![0, 0, 0] : Fin 3 → ℕ) a + (⟨3, ![1, 1024, 1024]⟩ : Shape).size a ≤
    (⟨3, ![1, 1024, 1024]⟩ : Shape).size a := by
  match a with
  | ⟨0, _⟩ => show 0 + 1 ≤ 1; omega
  | ⟨1, _⟩ => show 0 + 1024 ≤ 1024; omega
  | ⟨2, _⟩ => show 0 + 1024 ≤ 1024; omega

/-- A pair of heads lies in the block of eight. -/
theorem in4 {p : ℕ} (hp : p < 8) (a : Fin 4) : (![0, p, 0, 0] : Fin 4 → ℕ) a + (⟨4, ![1, 1, 1024, 128]⟩ : Shape).size a ≤
    (⟨4, ![1, 8, 1024, 128]⟩ : Shape).size a := by
  match a with
  | ⟨0, _⟩ => show 0 + 1 ≤ 1; omega
  | ⟨1, _⟩ => exact hp
  | ⟨2, _⟩ => show 0 + 1024 ≤ 1024; omega
  | ⟨3, _⟩ => show 0 + 128 ≤ 128; omega

/-- A matrix lies in itself. -/
theorem in2 {a b : ℕ} (i : Fin 2) : (![0, 0] : Fin 2 → ℕ) i + (Mat a b).size i ≤ (Mat a b).size i := by
  match i with
  | ⟨0, _⟩ => show 0 + a ≤ a; omega
  | ⟨1, _⟩ => show 0 + b ≤ b; omega

variable (x0 : Vec Ideal S1x8x1024x128 .bf16) (x1 : Vec Ideal S1x1024x1024 .bf16) (x2 : Vec Ideal S1x1024x1024 .f32)
  (x3 : Vec Ideal S1024x1024 .bf16) (x4 : Vec Ideal S1x1024 .f32)

/-- The rows the body computes. -/
def rows : FVec Ideal S1024x1024 .f32 :=
  addf (tile 0 in3 shapeCasts_S1x1024x1024_S1024x1024 x2)
    (norm normal 0x44800000#32 (prod shapeCasts_S1024x1024_S1024x1024
      (gated (sideBySide concatenates_S1024x128_S1024x128_S1024x128_S1024x128_S1024x128_S1024x128_S1024x128_S1024x128_S1024x1024_d1
        fun p => headTile (H := 8) p 0 (in4 p.isLt) shapeCasts_S1x1x1024x128_S1024x128 x0)
        (tile 0 in3 shapeCasts_S1x1024x1024_S1024x1024 x1)) (whole in2 x3)) (whole in2 x4))

/-- The block the body leaves. -/
def block : Vec Ideal S1x1024x1024 .f32 := fun y =>
  branch (Ideal.ofBits .f32 0x44800000#32) (fun k => x0 (ix4 0 (lane8 k) (y 1 : Fin 1024) (lane128 k)))
    (fun k => x1 (ix3 0 (y 1 : Fin 1024) k)) (fun k c => x3 (ix2 k c)) (fun c => x2 (ix3 0 (y 1 : Fin 1024) c))
    (fun c => x4 (ix2 0 c)) (y 2)

/-- The rows at an index. -/
theorem rows_apply (r c : Fin 1024) : rows x0 x1 x2 x3 x4 (ix2 r c) = block x0 x1 x2 x3 x4 (ix3 0 r c) := by
  have e : (⟨0 + (r : ℕ), by omega⟩ : Fin 1024) = r := Fin.ext (Nat.zero_add _)
  unfold rows block branch
  show tile 0 _ _ x2 (ix2 r c) + norm _ _ _ _ (ix2 r c) = _
  rw [tile_apply 0 _ _ x2 r c (by omega), norm_apply (by norm_num) (by norm_num)]
  simp only [prod_apply, gated_apply, whole_apply, sideBySide_at,
    headTile_apply _ 0 _ _ x0 (lane8 _).isLt r _ (show 0 + (r : ℕ) < 1024 by omega),
    tile_apply 0 _ _ x1 r _ (show 0 + (r : ℕ) < 1024 by omega), e]
  rfl

/-- What the body leaves in its block. -/
theorem out_eq : out0_5 x0 x1 x2 x3 x4 = block x0 x1 x2 x3 x4 := by
  funext y
  unfold out0_5
  refine View.canon_apply_of_pieces (block x0 x1 x2 x3 x4) _ ?_ y (cover0_5 _ y)
  simp only [List.forall_mem_cons, List.not_mem_nil, false_imp_iff, implies_true, and_true]
  intro x
  obtain ⟨a, r, c, rfl⟩ : ∃ (a : Fin 1) (r c : Fin 1024), x = ix3 a r c := ⟨x 0, x 1, x 2, eq_ix3 x⟩
  refine Eq.trans ?_ (congrArg (block x0 x1 x2 x3 x4) (emb3 in3 a r c (show 0 + (r : ℕ) < 1024 by omega))).symm
  have e : (⟨0 + (r : ℕ), by omega⟩ : Fin 1024) = r := Fin.ext (Nat.zero_add _)
  rw [e, ← rows_apply]
  have e' : shapeCast S1x1024x1024 (rows x0 x1 x2 x3 x4) shapeCasts_S1024x1024_S1x1024x1024 (ix3 a r c) =
      rows x0 x1 x2 x3 x4 (ix2 r c) := by
    pointwise
  exact e'

variable (m : (ℓ : Loc nD τ sig) → Buf (Elt Ideal) ℓ)

/-- Token `r` of block `i`. -/
def tok (i : Fin 2) (r : Fin 1024) : Fin 2048 := ⟨1024 * i + r, by omega⟩

/-- The block index of array 0 at a grid point. -/
theorem idx0 : ∀ t : Fin grid0.N, win0_0.index t = ![(grid0.coords t 0).val, 0, (grid0.coords t 1).val, 0] := by
  decide +kernel

/-- The block index of array 1 at a grid point. -/
theorem idx1 : ∀ t : Fin grid0.N, win0_1.index t = ![(grid0.coords t 0).val, (grid0.coords t 1).val, 0] := by
  decide +kernel

/-- The block index of array 2 at a grid point. -/
theorem idx2 : ∀ t : Fin grid0.N, win0_2.index t = ![(grid0.coords t 0).val, (grid0.coords t 1).val, 0] := by
  decide +kernel

/-- The block index of array 3 at a grid point. -/
theorem idx3 : ∀ t : Fin grid0.N, win0_3.index t = ![0, 0] := by
  decide +kernel

/-- The block index of array 4 at a grid point. -/
theorem idx4 : ∀ t : Fin grid0.N, win0_4.index t = ![0, 0] := by
  decide +kernel

/-- The block index of the result at a grid point. -/
theorem idx5 : ∀ t : Fin grid0.N, win0_5.index t = ![(grid0.coords t 0).val, (grid0.coords t 1).val, 0] := by
  decide +kernel

/-- Array 0 in a block. -/
theorem blk0 (c : Dev nD) (t : Fin cfg0.N) (h : Fin 8) (r : Fin 1024) (d : Fin 128) :
    (iblk m c 0 t : Vec Ideal S1x8x1024x128 .bf16) (ix4 0 h r d) = (V m c main_v2 : Vec Ideal S32x8x2048x128 .bf16)
      (ix4 (grid0.coords t 0 : Fin 32) h (tok (grid0.coords t 1) r) d) := by
  blk_simp [iblk]
  refine congrArg _ ?_
  blk_ext [idx0, tok]

/-- Array 1 in a block. -/
theorem blk1 (c : Dev nD) (t : Fin cfg0.N) (r k : Fin 1024) :
    (iblk m c 1 t : Vec Ideal S1x1024x1024 .bf16) (ix3 0 r k) = (V m c main_v3 : Vec Ideal S32x2048x1024 .bf16)
      (ix3 (grid0.coords t 0 : Fin 32) (tok (grid0.coords t 1) r) k) := by
  blk_simp [iblk]
  refine congrArg _ ?_
  blk_ext [idx1, tok]

/-- Array 2 in a block. -/
theorem blk2 (c : Dev nD) (t : Fin cfg0.N) (r k : Fin 1024) :
    (iblk m c 2 t : Vec Ideal S1x1024x1024 .f32) (ix3 0 r k) = (V m c main_arg2 : Vec Ideal S32x2048x1024 .f32)
      (ix3 (grid0.coords t 0 : Fin 32) (tok (grid0.coords t 1) r) k) := by
  blk_simp [iblk]
  refine congrArg _ ?_
  blk_ext [idx2, tok]

/-- The block of the weights is the weights. -/
theorem blk3 (c : Dev nD) (t : Fin cfg0.N) : iblk m c 3 t = V m c main_v4 := by
  funext y
  blk_simp [iblk]
  refine congrArg _ ?_
  blk_ext [idx3]

/-- The block of the gain is the gain. -/
theorem blk4 (c : Dev nD) (t : Fin cfg0.N) : iblk m c 4 t = V m c main_v5 := by
  funext y
  blk_simp [iblk]
  refine congrArg _ ?_
  blk_ext [idx4]

/-- The result of token `t` of sequence `b`, from the arrays the kernel is handed. -/
def resultRow (c : Dev nD) (b : Fin 32) (t : Fin 2048) : Fin 1024 → EReal :=
  branch (Ideal.ofBits .f32 0x44800000#32)
    (fun k => (V m c main_v2 : Vec Ideal S32x8x2048x128 .bf16) (ix4 b (lane8 k) t (lane128 k)))
    (fun k => (V m c main_v3 : Vec Ideal S32x2048x1024 .bf16) (ix3 b t k))
    (fun k j => (V m c main_v4 : Vec Ideal S1024x1024 .bf16) (ix2 k j))
    (fun j => (V m c main_arg2 : Vec Ideal S32x2048x1024 .f32) (ix3 b t j))
    (fun j => (V m c main_v5 : Vec Ideal S1x1024 .f32) (ix2 0 j))

/-- The result array. -/
def result (c : Dev nD) : Vec Ideal S32x2048x1024 .f32 := fun y => resultRow m c (y 0) (y 1) (y 2)

/-- The result of a block's token. -/
theorem block_row (c : Dev nD) (t : Fin cfg0.N) (r k : Fin 1024) :
    block (iblk m c 0 t) (iblk m c 1 t) (iblk m c 2 t) (iblk m c 3 t) (iblk m c 4 t) (ix3 0 r k) =
      resultRow m c (grid0.coords t 0) (tok (grid0.coords t 1) r) k := by
  rw [blk3, blk4]
  unfold block resultRow
  exact congrFun (congr (congr (congr (congr (congrArg (branch (Ideal.ofBits .f32 0x44800000#32))
    (funext fun k => blk0 m c t (lane8 k) r (lane128 k))) (funext fun k => blk1 m c t r k)) rfl)
    (funext fun j => blk2 m c t r j)) rfl) k

/-- The result array after the run. -/
theorem final (c : Dev nD) : (dats m 0 c).arrAt 5 cfg0.N = result m c := by
  refine (dats m 0 c).arrAt_eq_of_covers 5 _ (by decide +kernel) fun t hf y => ?_
  blk_simp
  rw [after0_5, out_eq]
  have e : (win0_5.blk t).view.emb y = ix3 (grid0.coords t 0 : Fin 32) (tok (grid0.coords t 1) (y 1 : Fin 1024)) (y 2 : Fin 1024) := by
    blk_ext [idx5, tok]
  rw [e]
  exact block_row m c t (y 1) (y 2)

/-- The attention output, in groups of 128 lanes before the tokens. -/
theorem o_apply (c : Dev nD) (b : Fin 32) (t : Fin 2048) (k : Fin 1024) : V m c main_v2 (ix4 b (lane8 k) t (lane128 k)) =
    (m ((c.tc : Thread nD τ).loc main_arg0) : Vec Ideal S32x2048x16x64 .f32)
      (ix4 b t (⟨k / 64, by omega⟩ : Fin 16) (⟨k % 64, by omega⟩ : Fin 64)) := by
  unfold V
  after_reads_at
  refine congrArg _ ?_
  unfold lane8 lane128
  exact congrArg₂ (fun p d => ix4 b t p d) (Fin.ext (by simp only; omega)) (Fin.ext (by simp only; omega))

/-- The gate. -/
theorem z_apply (c : Dev nD) (b : Fin 32) (t : Fin 2048) (d : Fin 1024) : V m c main_v3 (ix3 b t d) =
    (m ((c.tc : Thread nD τ).loc main_arg1) : Vec Ideal S32x2048x1024 .f32) (ix3 b t d) := by
  unfold V
  after_reads_at

/-- The residual stream. -/
theorem h_apply (c : Dev nD) : V m c main_arg2 = (m ((c.tc : Thread nD τ).loc main_arg2) : Vec Ideal S32x2048x1024 .f32) := by
  unfold V
  after_reads_at

/-- The weights. -/
theorem w_apply (c : Dev nD) (i j : Fin 1024) : V m c main_v4 (ix2 i j) =
    (m ((c.tc : Thread nD τ).loc main_arg3) : Vec Ideal S1024x1024 .f32) (ix2 i j) := by
  unfold V
  after_reads_at

/-- The gain. -/
theorem g_apply (c : Dev nD) (i : Fin 1) (j : Fin 1024) : V m c main_v5 (ix2 i j) =
    (m ((c.tc : Thread nD τ).loc main_arg4) : Vec Ideal S1024 .f32) (ix1 j) := by
  unfold V
  after_reads_at

end Cert.Final
-- ==== Proof.FinalRef.lean ====
module

public import proofs.«01_k».proof.Proof.Gen.Reference4Ideal.Run
public import proofs.«01_k».proof.Proof.RefOps
public import Idealize.ShloMosaic.Lib.Pointwise

@[expose] public section

set_option maxRecDepth 16384

noncomputable section

/-!
The result of the last call's reference, at an index.
-/

namespace Cert.FinalRef

open Cert.Reference4Ideal Cert.Reference4Ideal.Gen Cert.Rows Idealize.ShloMosaic Idealize.ShloMosaic.TcCoe Idealize.SL.Sem

/-- What the norm needs of its shapes. -/
theorem normal : HostNormal 32 2048 1024 := ⟨reducesTo_S32x2048x1024_S32x2048_d2, bcast_S32x2048_S32x2048x1_0_1,
  bcast_S_S32x2048x1, bcast_S32x2048x1_S32x2048x1024_0_1_2, bcast_S1024_S1x1x1024_2, bcast_S1x1x1024_S32x2048x1024_0_1_2, h_S_⟩

variable (o : FVec Ideal S32x2048x16x64 .f32) (z h : FVec Ideal S32x2048x1024 .f32) (w : FVec Ideal S1024x1024 .f32)
  (g : FVec Ideal S1024 .f32)

/-- One everywhere. -/
def ones : FVec Ideal S32x2048x1024 .f32 := broadcastInDim S32x2048x1024 ![] bcast_S_S32x2048x1024 (constant S_ .f32 0x3F800000#32)

/-- The gated attention output. -/
def gated : FVec Ideal S32x2048x1024 .f32 :=
  mulf (shapeCast S32x2048x1024 o shapeCasts_S32x2048x16x64_S32x2048x1024)
    (mulf z (Host.divf ones (addf ones (Host.exp (Host.negf z)))))

/-- Its projection. -/
def proj : FVec Ideal S32x2048x1024 .f32 :=
  Host.dotGeneral dot_S32x2048x1024_S1024x1024_S32x2048x1024_2_0_01_1_n_n none (gated o z) w

/-- The result. -/
def result : FVec Ideal S32x2048x1024 .f32 := addf h (hostNorm normal 0x44800000#32 (proj o z w) g)

/-- The projection at an index. -/
theorem proj_apply (y : FVec Ideal S32x2048x1024 .f32) (b : Fin 32) (t : Fin 2048) (c : Fin 1024) :
    Host.dotGeneral dot_S32x2048x1024_S1024x1024_S32x2048x1024_2_0_01_1_n_n none y w (ix3 b t c) =
      dense (fun k => y (ix3 b t k)) (fun k c => w (ix2 k c)) c := by
  pointwise
  rfl

/-- The gated output at an index. -/
theorem gated_apply (b : Fin 32) (t : Fin 2048) (k : Fin 1024) : gated o z (ix3 b t k) =
    gate (o (ix4 b t (⟨k / 64, by omega⟩ : Fin 16) (⟨k % 64, by omega⟩ : Fin 64))) (z (ix3 b t k)) := by
  pointwise [gated, ones]
  rfl

/-- The result at an index. -/
theorem result_apply (b : Fin 32) (t : Fin 2048) (c : Fin 1024) : result o z h w g (ix3 b t c) =
    branch (Ideal.ofBits .f32 0x44800000#32)
      (fun k => o (ix4 b t (⟨k / 64, by omega⟩ : Fin 16) (⟨k % 64, by omega⟩ : Fin 64))) (fun k => z (ix3 b t k))
      (fun k c => w (ix2 k c)) (fun c => h (ix3 b t c)) (fun c => g (ix1 c)) c := by
  show h (ix3 b t c) + hostNorm normal 0x44800000#32 (proj o z w) g (ix3 b t c) = _
  rw [hostNorm_apply (by norm_num) (by norm_num) (by norm_num)]
  unfold proj
  simp only [proj_apply, gated_apply]
  rfl

end Cert.FinalRef
-- ==== Proof.FinalClaim.lean ====
module

public import proofs.«01_k».proof.Defs
public import proofs.«01_k».proof.Proof.FinalArray
public import proofs.«01_k».proof.Proof.FinalRef
public import Idealize.ShloMosaic.Adequacy
public import Idealize.ShloMosaic.Init

@[expose] public section

set_option maxRecDepth 16384

noncomputable section

/-!
The claims about the last call.
-/

namespace Cert.FinalClaim

open Idealize.ShloMosaic Idealize.ShloMosaic.TcCoe Idealize.SL.Sem

section
open Cert.Kernel4Ideal Cert.Rows
variable (m : (ℓ : Loc nD τ sig) → Buf (Elt Ideal) ℓ)

/-- The kernel's result is the reference's of the same arguments. -/
theorem same (c : Dev nD) : Cert.Final.result m c = Cert.FinalRef.result (m ((c.tc : Thread nD τ).loc main_arg0))
    (m ((c.tc : Thread nD τ).loc main_arg1)) (m ((c.tc : Thread nD τ).loc main_arg2))
    (m ((c.tc : Thread nD τ).loc main_arg3)) (m ((c.tc : Thread nD τ).loc main_arg4)) := by
  funext y
  obtain ⟨b, t, k, rfl⟩ : ∃ (b : Fin 32) (t : Fin 2048) (k : Fin 1024), y = ix3 b t k := ⟨y 0, y 1, y 2, eq_ix3 y⟩
  refine Eq.trans ?_ (Cert.FinalRef.result_apply _ _ _ _ _ b t k).symm
  exact congrFun (congr (congr (congr (congr (congrArg (branch (Ideal.ofBits .f32 0x44800000#32))
    (funext fun k => Cert.Final.o_apply m c b t k)) (funext fun k => Cert.Final.z_apply m c b t k))
    (funext fun k => funext fun j => Cert.Final.w_apply m c k j))
    (funext fun j => congrFun (Cert.Final.h_apply m c) (ix3 b t j)))
    (funext fun j => Cert.Final.g_apply m c 0 j)) k

end

/-- The frame of the reference. -/
theorem frame_r : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The call and its reference end with equal results. -/
theorem equal : Cert.algebraic_Kernel4Ideal_Reference4Ideal
    (hKernel4Ideal := Cert.Kernel4Ideal.Gen.facts) (hReference4Ideal := Cert.Reference4Ideal.Gen.facts) := by
  intro m ρ m' ρ' _ hagree
  refine ⟨_, Cert.Kernel4Ideal.Value.run_blocks m ρ, ?_⟩
  refine (θ_run Cert.Reference4Ideal.defs _ _).mono (fun r h c => ⟨(h c).1.trans ?_, (h c).2⟩)
    (Cert.Reference4Ideal.Value.run (F := Ideal) m' ρ')
  obtain ⟨e₀, e₁, e₂, e₃, e₄⟩ := hagree c
  refine .trans ?_ ((Cert.Final.final m c).trans (same m c)).symm
  rw [← e₀, ← e₁, ← e₂, ← e₃, ← e₄]
  rfl

end Cert.FinalClaim

end
-- ==== Proof.ProjTile.lean ====
module

public import proofs.«01_k».proof.Proof.RowOps

@[expose] public section

set_option maxRecDepth 16384

noncomputable section

/-!
What the bodies of the first layer's projection calls compute for a tile of `n` tokens, read at an index: the RMS norm of
the rows, its product with the weights of the queries, keys and values, and the rotation of the rotary lanes of the
queries' and keys' heads.
-/

namespace Cert.Proj

open Cert.Rows Idealize.ShloMosaic Idealize.ShloMosaic.TcCoe

/-- The cosines the rotation of 128 lanes uses: 1 from lane 32 on. -/
def cosRow (cos : Fin 128 → EReal) (l : Fin 128) : EReal := if (l : ℕ) < 32 then cos l else Ideal.ofBits .f32 0x3F800000#32

/-- The sines the rotation of 128 lanes uses: 0 from lane 32 on. -/
def sinRow (sin : Fin 128 → EReal) (l : Fin 128) : EReal := if (l : ℕ) < 32 then sin l else Ideal.ofBits .f32 0x00000000#32

/-- A row's products with the weights, after its RMS norm. -/
def projRow {e : ℕ} (x g : Fin 1024 → EReal) (w : Fin 1024 → Fin e → EReal) : Fin e → EReal :=
  dense (rms (Ideal.ofBits .f32 0x44800000#32) x g) w

/-- Head `p` of the queries, keys and values, eight heads each: the queries rotated and scaled by `s`, the keys
rotated. -/
def headRow (s : EReal) (a : Fin 3072 → EReal) (cos sin : Fin 128 → EReal) (p : Fin 24) (l : Fin 128) : EReal :=
  if (p : ℕ) < 8 then rot 16 (fun l : Fin 128 => a ⟨128 * p + l, by omega⟩) (fun l => cosRow cos l * s)
      (fun l => sinRow sin l * s) l
  else if (p : ℕ) < 16 then rot 16 (fun l : Fin 128 => a ⟨128 * p + l, by omega⟩) (cosRow cos) (sinRow sin) l
  else a ⟨128 * p + l, by omega⟩

/-- A head of the queries. -/
theorem headRow_q (s : EReal) (a : Fin 3072 → EReal) (cos sin : Fin 128 → EReal) (p : Fin 8) (l : Fin 128) :
    headRow s a cos sin ⟨p, by omega⟩ l = rot 16 (fun l : Fin 128 => a ⟨0 + (128 * p + l), by omega⟩)
      (fun l => cosRow cos l * s) (fun l => sinRow sin l * s) l := by
  refine (if_pos p.isLt).trans ?_
  exact congrFun (congr (congr (congrArg (rot 16) (funext fun j => congrArg a (Fin.ext (by simp only; omega)))) rfl) rfl) l

/-- A head of the keys. -/
theorem headRow_k (s : EReal) (a : Fin 3072 → EReal) (cos sin : Fin 128 → EReal) (p : Fin 8) (l : Fin 128) :
    headRow s a cos sin ⟨8 + p, by omega⟩ l = rot 16 (fun l : Fin 128 => a ⟨1024 + (128 * p + l), by omega⟩)
      (cosRow cos) (sinRow sin) l := by
  refine (if_neg (show ¬ 8 + (p : ℕ) < 8 by omega)).trans ((if_pos (show 8 + (p : ℕ) < 16 by omega)).trans ?_)
  exact congrFun (congr (congr (congrArg (rot 16) (funext fun j => congrArg a (Fin.ext (by simp only; omega)))) rfl) rfl) l

/-- A head of the values. -/
theorem headRow_v (s : EReal) (a : Fin 3072 → EReal) (cos sin : Fin 128 → EReal) (p : Fin 8) (l : Fin 128) :
    headRow s a cos sin ⟨16 + p, by omega⟩ l = a ⟨2048 + (128 * p + l), by omega⟩ := by
  refine (if_neg (show ¬ 16 + (p : ℕ) < 8 by omega)).trans ((if_neg (show ¬ 16 + (p : ℕ) < 16 by omega)).trans ?_)
  exact congrArg a (Fin.ext (by simp only; omega))

/-- What the tiles of `n` tokens need to be known of their shapes. -/
structure Tiles (n : ℕ) : Prop where
  norm : Normal n 1024
  lanes : Lanes n
  heads : ∀ p : Fin 8, (Mat n 1024).Slices ![0, 128 * (p : ℕ)] (Mat n 128)
  weights : (Mat 1024 1024).ShapeCasts (Mat 1024 1024)
  rows : n ≠ 1

section
variable {n : ℕ} (f : Tiles n)

/-- The normed rows of a tile. -/
def normTile (x : FVec Ideal (Mat n 1024) .f32) (g : Vec Ideal (Mat 1 1024) .f32) : FVec Ideal (Mat n 1024) .bf16 :=
  truncf .bf16 (norm f.norm 0x44800000#32 x g) narrower

/-- The products of a tile's normed rows with 1024 columns of weights. -/
def accTile (x : FVec Ideal (Mat n 1024) .f32) (g : Vec Ideal (Mat 1 1024) .f32) (w : Vec Ideal (Mat 1024 1024) .bf16) :
    FVec Ideal (Mat n 1024) .f32 := prod f.weights (normTile f x g) w

/-- The cosines of a tile. -/
def cosTile (x : FVec Ideal (Mat n 128) .f32) : FVec Ideal (Mat n 128) .f32 :=
  select (cmpi .slt (lanes f.lanes) (broadcast (Mat n 128) 32#32)) x
    (broadcast (Mat n 128) (Scalar.ofBits (F := Ideal) .f32 0x3F800000#32))

/-- The sines of a tile. -/
def sinTile (x : FVec Ideal (Mat n 128) .f32) : FVec Ideal (Mat n 128) .f32 :=
  select (cmpi .slt (lanes f.lanes) (broadcast (Mat n 128) 32#32)) x
    (broadcast (Mat n 128) (Scalar.ofBits (F := Ideal) .f32 0x00000000#32))

/-- A table times a factor. -/
def scaled (s : EReal) (t : FVec Ideal (Mat n 128) .f32) : FVec Ideal (Mat n 128) .f32 :=
  mulf t (broadcast (Mat n 128) (s : Ideal .f32))

/-- A head's 128 columns. -/
def headCols (a : FVec Ideal (Mat n 1024) .f32) (p : Fin 8) : FVec Ideal (Mat n 128) .f32 :=
  extractStridedSlice (Mat n 128) ![0, 128 * (p : ℕ)] a (f.heads p)

/-- A head's columns rotated by the tables. -/
def turnTile (a : FVec Ideal (Mat n 1024) .f32) (cos sin : FVec Ideal (Mat n 128) .f32) (p : Fin 8) :
    FVec Ideal (Mat n 128) .f32 := turned f.lanes 16 (headCols f a p) cos sin

/-! Each at an index. -/

/-- The products of a tile at an index. -/
theorem accTile_apply (x : FVec Ideal (Mat n 1024) .f32) (g : Vec Ideal (Mat 1 1024) .f32)
    (w : Vec Ideal (Mat 1024 1024) .bf16) (r : Fin n) (c : Fin 1024) : accTile f x g w (ix2 r c) =
      projRow (fun k => x (ix2 r k)) (fun k => g (ix2 0 k)) (fun k c => w (ix2 k c)) c := by
  unfold accTile projRow
  rw [prod_apply]
  congr 1
  funext k
  exact norm_apply f.rows (by norm_num) f.norm _ x g r k

/-- The cosines of a tile at an index. -/
theorem cosTile_apply (x : FVec Ideal (Mat n 128) .f32) (r : Fin n) (l : Fin 128) :
    cosTile f x (ix2 r l) = cosRow (fun l => x (ix2 r l)) l :=
  below_apply f.lanes 32 (by norm_num) _ _ r l

/-- The sines of a tile at an index. -/
theorem sinTile_apply (x : FVec Ideal (Mat n 128) .f32) (r : Fin n) (l : Fin 128) :
    sinTile f x (ix2 r l) = sinRow (fun l => x (ix2 r l)) l :=
  below_apply f.lanes 32 (by norm_num) _ _ r l

/-- A head's columns at an index. -/
theorem headCols_apply (a : FVec Ideal (Mat n 1024) .f32) (p : Fin 8) (r : Fin n) (l : Fin 128) :
    headCols f a p (ix2 r l) = a (ix2 r ⟨128 * p + l, by omega⟩) :=
  slice_apply (f.heads p) a r (by omega) l

/-- A head's rotated columns at an index. -/
theorem turnTile_apply (a : FVec Ideal (Mat n 1024) .f32) (cos sin : FVec Ideal (Mat n 128) .f32) (p : Fin 8)
    (r : Fin n) (l : Fin 128) : turnTile f a cos sin p (ix2 r l) =
      rot 16 (fun l : Fin 128 => a (ix2 r ⟨128 * p + l, by omega⟩)) (fun l => cos (ix2 r l)) (fun l => sin (ix2 r l)) l := by
  unfold turnTile
  rw [turned_apply f.lanes 16 (by norm_num)]
  simp only [headCols_apply]
end

/-- 1024 columns of the weights, from column `lo` on. -/
def cols {d : ℕ} (lo : ℕ) (inb : ∀ a, (![0, lo] : Fin 2 → ℕ) a + (Mat 1024 1024).size a ≤ (Mat 1024 d).size a)
    (w : Vec Ideal (Mat 1024 d) .bf16) : Vec Ideal (Mat 1024 1024) .bf16 :=
  View.ld w (Rect.unit (s := Mat 1024 d) ![0, lo] (Mat 1024 1024).size inb)

/-- Columns of the weights at an index. -/
theorem cols_apply {d : ℕ} (lo : ℕ) (inb : ∀ a, (![0, lo] : Fin 2 → ℕ) a + (Mat 1024 1024).size a ≤ (Mat 1024 d).size a)
    (w : Vec Ideal (Mat 1024 d) .bf16) (k c : Fin 1024) (h : lo + c < d) : cols lo inb w (ix2 k c) = w (ix2 k ⟨lo + c, h⟩) := by
  refine congrArg w (funext fun a' => Fin.ext ?_)
  match a' with
  | ⟨0, _⟩ => show 0 + 1 * (k : ℕ) = k; omega
  | ⟨1, _⟩ => show lo + 1 * (c : ℕ) = lo + c; omega

end Cert.Proj
-- ==== Proof.ProjBlock.lean ====
module

public import proofs.«01_k».proof.Proof.ProjTile
public import proofs.«01_k».proof.Proof.Gen.Kernel2Ideal.Value
public import Idealize.ShloMosaic.Lib.Pipeline.ValueKit

@[expose] public section

set_option maxRecDepth 16384

noncomputable section

/-!
The stores of the body of the first layer's projection at dilation 1 are the tiles of one function of each output block.
-/

namespace Cert.Proj1

open Cert.Kernel2Ideal Cert.Kernel2Ideal.Gen Cert.Rows Cert.Proj Idealize.ShloMosaic Idealize.ShloMosaic.TcCoe

/-- The factor on the queries. -/
def scale : EReal := (Named.named (F := Ideal) κ "scale_a" 0x3E0293EE#32 : Ideal .f32)

/-- What the tiles of 512 tokens need of their shapes. -/
theorem tiles : Tiles 512 := ⟨⟨reduces_S512x1024_S512, shapeCasts_S512_S512x1, broadcasts_S512x1_S512x1024,
  shapeCasts_S1x1024_S1x1024, broadcasts_S1x1024_S512x1024⟩, ⟨iota_S512x128_d1_w32, rotates_S512x128_d1⟩,
  by decide, shapeCasts_S1024x1024_S1024x1024, by norm_num⟩

/-- A tile of 512 tokens lies in the block of 1024. -/
theorem in3 {d lo : ℕ} (h : lo + 512 ≤ 1024) (a : Fin 3) :
    (![0, lo, 0] : Fin 3 → ℕ) a + (⟨3, ![1, 512, d]⟩ : Shape).size a ≤ (⟨3, ![1, 1024, d]⟩ : Shape).size a := by
  match a with
  | ⟨0, _⟩ => show 0 + 1 ≤ 1; omega
  | ⟨1, _⟩ => exact h
  | ⟨2, _⟩ => show 0 + d ≤ d; omega

/-- A head's tile of 512 tokens lies in the block of 1024. -/
theorem in5 {p lo : ℕ} (hp : p < 24) (h : lo + 512 ≤ 1024) (a : Fin 5) :
    (![0, p, 0, lo, 0] : Fin 5 → ℕ) a + S1x1x1x512x128.size a ≤ S1x24x1x1024x128.size a := by
  match a with
  | ⟨0, _⟩ => show 0 + 1 ≤ 1; omega
  | ⟨1, _⟩ => exact hp
  | ⟨2, _⟩ => show 0 + 1 ≤ 1; omega
  | ⟨3, _⟩ => exact h
  | ⟨4, _⟩ => show 0 + 128 ≤ 128; omega

/-- 1024 columns lie in the 3072 of the weights. -/
theorem inCols {lo : ℕ} (h : lo + 1024 ≤ 3072) (i : Fin 2) :
    (![0, lo] : Fin 2 → ℕ) i + (Mat 1024 1024).size i ≤ (Mat 1024 3072).size i := by
  match i with
  | ⟨0, _⟩ => show 0 + 1024 ≤ 1024; omega
  | ⟨1, _⟩ => exact h

/-- The place of an element of a head's tile. -/
theorem emb5 {lo p : ℕ} (hp : p < 24) (h : lo + 512 ≤ 1024) (a b e : Fin 1) (r : Fin 512) (l : Fin 128) :
    (Rect.unit (s := S1x24x1x1024x128) ![0, p, 0, lo, 0] S1x1x1x512x128.size (in5 hp h)).emb (ix5 a b e r l) =
      ix5 0 (⟨p, hp⟩ : Fin 24) 0 (⟨lo + r, by omega⟩ : Fin 1024) l := by
  refine funext fun a' => Fin.ext ?_
  match a' with
  | ⟨0, _⟩ => show 0 + 1 * (a : ℕ) = 0; omega
  | ⟨1, _⟩ => show p + 1 * (b : ℕ) = p; omega
  | ⟨2, _⟩ => show 0 + 1 * (e : ℕ) = 0; omega
  | ⟨3, _⟩ => show lo + 1 * (r : ℕ) = lo + r; omega
  | ⟨4, _⟩ => show 0 + 1 * (l : ℕ) = l; omega

variable (x0 : Vec Ideal S1x1024x1024 .f32) (x1 x2 : Vec Ideal S1x1024x128 .f32) (x3 : Vec Ideal S1x1024 .f32)
  (x4 : Vec Ideal S1024x3072 .bf16) (x5 : Vec Ideal S1024x1024 .bf16)

/-- The block of queries, keys and values. -/
def block6 : Vec Ideal S1x24x1x1024x128 .bf16 := fun y =>
  headRow scale (projRow (fun k => x0 (ix3 0 (y 3 : Fin 1024) k)) (fun k => x3 (ix2 0 k)) (fun k c => x4 (ix2 k c)))
    (fun l => x1 (ix3 0 (y 3 : Fin 1024) l)) (fun l => x2 (ix3 0 (y 3 : Fin 1024) l)) (y 1) (y 4)

/-- The block of the gate. -/
def block7 : Vec Ideal S1x1024x1024 .bf16 := fun y =>
  projRow (fun k => x0 (ix3 0 (y 1 : Fin 1024) k)) (fun k => x3 (ix2 0 k)) (fun k c => x5 (ix2 k c)) (y 2)

section
variable {lo : ℕ} (hlo : lo + 512 ≤ 1024)

/-- The products of a tile with 1024 columns of weights. -/
def acc (w : Vec Ideal S1024x1024 .bf16) : FVec Ideal S512x1024 .f32 :=
  accTile tiles (tile lo (in3 hlo) shapeCasts_S1x512x1024_S512x1024 x0) x3 w

/-- The cosines of a tile. -/
def cosine : FVec Ideal S512x128 .f32 := cosTile tiles (tile lo (in3 hlo) shapeCasts_S1x512x128_S512x128 x1)

/-- The sines of a tile. -/
def sine : FVec Ideal S512x128 .f32 := sinTile tiles (tile lo (in3 hlo) shapeCasts_S1x512x128_S512x128 x2)

/-- The store of a head's tile. -/
def stored (x : FVec Ideal S512x128 .f32) : FVec Ideal S1x1x1x512x128 .bf16 :=
  shapeCast S1x1x1x512x128 (truncf .bf16 x bitsLt_bf16_f32 : FVec Ideal S512x128 .bf16) shapeCasts_S512x128_S1x1x1x512x128

/-- The store of a head's queries. -/
def qStore (p : Fin 8) : FVec Ideal S1x1x1x512x128 .bf16 :=
  stored (turnTile tiles (acc x0 x3 hlo (cols 0 (inCols (by norm_num)) x4)) (scaled scale (cosine x1 hlo)) (scaled scale (sine x2 hlo)) p)

/-- The store of a head's keys. -/
def kStore (p : Fin 8) : FVec Ideal S1x1x1x512x128 .bf16 :=
  stored (turnTile tiles (acc x0 x3 hlo (cols 1024 (inCols (by norm_num)) x4)) (cosine x1 hlo) (sine x2 hlo) p)

/-- The store of a head's values. -/
def vStore (p : Fin 8) : FVec Ideal S1x1x1x512x128 .bf16 :=
  stored (headCols tiles (acc x0 x3 hlo (cols 2048 (inCols (by norm_num)) x4)) p)

/-- The store of the gate. -/
def zStore : FVec Ideal S1x512x1024 .bf16 :=
  shapeCast S1x512x1024 (truncf .bf16 (acc x0 x3 hlo x5) bitsLt_bf16_f32 : FVec Ideal S512x1024 .bf16)
    shapeCasts_S512x1024_S1x512x1024

/-- A stored tile at an index. -/
theorem stored_apply (x : FVec Ideal S512x128 .f32) (a b e : Fin 1) (r : Fin 512) (l : Fin 128) :
    stored x (ix5 a b e r l) = x (ix2 r l) := by
  unfold stored
  pointwise

/-- The products of a tile at an index. -/
theorem acc_apply (w : Vec Ideal S1024x1024 .bf16) (r : Fin 512) (c : Fin 1024) : acc x0 x3 hlo w (ix2 r c) =
    projRow (fun k => x0 (ix3 0 ⟨lo + r, by omega⟩ k)) (fun k => x3 (ix2 0 k)) (fun k c => w (ix2 k c)) c := by
  unfold acc
  rw [accTile_apply]
  simp only [tile_apply lo _ _ x0 r _ (by omega)]

/-- The cosines of a tile at an index. -/
theorem cosine_apply (r : Fin 512) (l : Fin 128) :
    cosine x1 hlo (ix2 r l) = cosRow (fun l => x1 (ix3 0 ⟨lo + r, by omega⟩ l)) l := by
  unfold cosine
  rw [cosTile_apply]
  simp only [tile_apply lo _ _ x1 r _ (by omega)]

/-- The sines of a tile at an index. -/
theorem sine_apply (r : Fin 512) (l : Fin 128) :
    sine x2 hlo (ix2 r l) = sinRow (fun l => x2 (ix3 0 ⟨lo + r, by omega⟩ l)) l := by
  unfold sine
  rw [sinTile_apply]
  simp only [tile_apply lo _ _ x2 r _ (by omega)]

/-- The products of a tile with some of the columns are those columns of the products. -/
theorem acc_cols {lw : ℕ} (hw : lw + 1024 ≤ 3072) (r : Fin 512) (c : Fin 1024) :
    acc x0 x3 hlo (cols lw (inCols hw) x4) (ix2 r c) = projRow (fun k => x0 (ix3 0 ⟨lo + r, by omega⟩ k))
      (fun k => x3 (ix2 0 k)) (fun k c => x4 (ix2 k c)) ⟨lw + c, by omega⟩ := by
  rw [acc_apply]
  unfold projRow dense
  exact Finset.sum_congr rfl fun k _ => congrArg _ (cols_apply lw (inCols hw) x4 k c (by omega))

/-- The store of a head's queries is its tile of the block function. -/
theorem q_piece (p : Fin 8) (x : S1x1x1x512x128.Idx) : qStore x0 x1 x2 x3 x4 hlo p x = block6 x0 x1 x2 x3 x4
    ((Rect.unit (s := S1x24x1x1024x128) ![0, (p : ℕ), 0, lo, 0] S1x1x1x512x128.size (in5 (by omega) hlo)).emb x) := by
  obtain ⟨a, b, e, r, l, rfl⟩ : ∃ (a b e : Fin 1) (r : Fin 512) (l : Fin 128), x = ix5 a b e r l :=
    ⟨x 0, x 1, x 2, x 3, x 4, eq_ix5 x⟩
  rw [emb5 (by omega) hlo]
  refine Eq.trans ?_ (headRow_q _ _ _ _ p l).symm
  unfold qStore
  rw [stored_apply, turnTile_apply]
  refine congrFun (congr (congr (congrArg (rot 16) (funext fun j => ?_)) (funext fun j => ?_)) (funext fun j => ?_)) l
  · exact acc_cols x0 x3 x4 hlo (by norm_num) r _
  · exact congrArg (· * scale) (cosine_apply x1 hlo r j)
  · exact congrArg (· * scale) (sine_apply x2 hlo r j)

/-- The store of a head's keys is its tile of the block function. -/
theorem k_piece (p : Fin 8) (x : S1x1x1x512x128.Idx) : kStore x0 x1 x2 x3 x4 hlo p x = block6 x0 x1 x2 x3 x4
    ((Rect.unit (s := S1x24x1x1024x128) ![0, 8 + (p : ℕ), 0, lo, 0] S1x1x1x512x128.size (in5 (by omega) hlo)).emb x) := by
  obtain ⟨a, b, e, r, l, rfl⟩ : ∃ (a b e : Fin 1) (r : Fin 512) (l : Fin 128), x = ix5 a b e r l :=
    ⟨x 0, x 1, x 2, x 3, x 4, eq_ix5 x⟩
  rw [emb5 (by omega) hlo]
  refine Eq.trans ?_ (headRow_k _ _ _ _ p l).symm
  unfold kStore
  rw [stored_apply, turnTile_apply]
  refine congrFun (congr (congr (congrArg (rot 16) (funext fun j => ?_)) (funext fun j => ?_)) (funext fun j => ?_)) l
  · exact acc_cols x0 x3 x4 hlo (by norm_num) r _
  · exact cosine_apply x1 hlo r j
  · exact sine_apply x2 hlo r j

/-- The store of a head's values is its tile of the block function. -/
theorem v_piece (p : Fin 8) (x : S1x1x1x512x128.Idx) : vStore x0 x3 x4 hlo p x = block6 x0 x1 x2 x3 x4
    ((Rect.unit (s := S1x24x1x1024x128) ![0, 16 + (p : ℕ), 0, lo, 0] S1x1x1x512x128.size (in5 (by omega) hlo)).emb x) := by
  obtain ⟨a, b, e, r, l, rfl⟩ : ∃ (a b e : Fin 1) (r : Fin 512) (l : Fin 128), x = ix5 a b e r l :=
    ⟨x 0, x 1, x 2, x 3, x 4, eq_ix5 x⟩
  rw [emb5 (by omega) hlo]
  refine Eq.trans ?_ (headRow_v _ _ _ _ p l).symm
  unfold vStore
  rw [stored_apply, headCols_apply]
  exact acc_cols x0 x3 x4 hlo (by norm_num) r _

/-- The store of the gate is its tile of the block function. -/
theorem z_piece (x : S1x512x1024.Idx) : zStore x0 x3 x5 hlo x = block7 x0 x3 x5
    ((Rect.unit (s := S1x1024x1024) ![0, lo, 0] S1x512x1024.size (in3 hlo)).emb x) := by
  obtain ⟨a, r, c, rfl⟩ : ∃ (a : Fin 1) (r : Fin 512) (c : Fin 1024), x = ix3 a r c := ⟨x 0, x 1, x 2, eq_ix3 x⟩
  rw [emb3 (in3 hlo) a r c (by omega)]
  have e : zStore x0 x3 x5 hlo (ix3 a r c) = acc x0 x3 hlo x5 (ix2 r c) := by
    unfold zStore
    pointwise
  rw [e, acc_apply]
  rfl
end

/-- The first tile of a block. -/
theorem low : 0 + 512 ≤ 1024 := by norm_num

/-- The second tile of a block. -/
theorem high : 512 + 512 ≤ 1024 := by norm_num

section
variable (c : Dev nD) (i : grid0.Coords) (arg2 : Memref sig .tc .vmem S1x1024x1024 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1024x1024 .bf16) (harg7 : arg7.IsWhole) (arg8 : Memref sig .tc .vmem S1x24x1x1024x128 .bf16) (harg8 : arg8.IsWhole) (arg9 : Memref sig .tc .vmem S1x1024x1024 .bf16) (harg9 : arg9.IsWhole)

/-- What the body leaves in the block of the gate. -/
theorem out7_eq : out0_A_7 c i arg2 harg2 arg3 harg3 arg4 harg4 arg5 harg5 arg6 harg6 arg7 harg7 arg8 harg8 arg9 harg9
    x0 x1 x2 x3 x4 x5 = block7 x0 x3 x5 := by
  funext y
  have hc := cover0_A_7 c i arg2 harg2 arg3 harg3 arg4 harg4 arg5 harg5 arg6 harg6 arg7 harg7 arg8 harg8 arg9 harg9
    x0 x1 x2 x3 x4 x5 y
  revert hc
  frame_out
  intro hc
  refine View.canon_apply_of_pieces (block7 x0 x3 x5) _ ?_ y hc
  simp only [List.forall_mem_cons, List.not_mem_nil, false_imp_iff, implies_true, and_true]
  refine ⟨fun x => ?_, fun x => ?_⟩
  · exact z_piece x0 x3 x5 high x
  · exact z_piece x0 x3 x5 low x

set_option maxHeartbeats 4000000 in
/-- What the body leaves in the block of queries, keys and values. -/
theorem out6_eq : out0_A_6 c i arg2 harg2 arg3 harg3 arg4 harg4 arg5 harg5 arg6 harg6 arg7 harg7 arg8 harg8 arg9 harg9
    x0 x1 x2 x3 x4 x5 = block6 x0 x1 x2 x3 x4 := by
  funext y
  have hc := cover0_A_6 c i arg2 harg2 arg3 harg3 arg4 harg4 arg5 harg5 arg6 harg6 arg7 harg7 arg8 harg8 arg9 harg9
    x0 x1 x2 x3 x4 x5 y
  revert hc
  frame_out
  intro hc
  refine View.canon_apply_of_pieces (block6 x0 x1 x2 x3 x4) _ ?_ y hc
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · exact v_piece x0 x1 x2 x3 x4 high 7 x
  · exact v_piece x0 x1 x2 x3 x4 high 6 x
  · exact v_piece x0 x1 x2 x3 x4 high 5 x
  · exact v_piece x0 x1 x2 x3 x4 high 4 x
  · exact v_piece x0 x1 x2 x3 x4 high 3 x
  · exact v_piece x0 x1 x2 x3 x4 high 2 x
  · exact v_piece x0 x1 x2 x3 x4 high 1 x
  · exact v_piece x0 x1 x2 x3 x4 high 0 x
  · exact k_piece x0 x1 x2 x3 x4 high 7 x
  · exact k_piece x0 x1 x2 x3 x4 high 6 x
  · exact k_piece x0 x1 x2 x3 x4 high 5 x
  · exact k_piece x0 x1 x2 x3 x4 high 4 x
  · exact k_piece x0 x1 x2 x3 x4 high 3 x
  · exact k_piece x0 x1 x2 x3 x4 high 2 x
  · exact k_piece x0 x1 x2 x3 x4 high 1 x
  · exact k_piece x0 x1 x2 x3 x4 high 0 x
  · exact q_piece x0 x1 x2 x3 x4 high 7 x
  · exact q_piece x0 x1 x2 x3 x4 high 6 x
  · exact q_piece x0 x1 x2 x3 x4 high 5 x
  · exact q_piece x0 x1 x2 x3 x4 high 4 x
  · exact q_piece x0 x1 x2 x3 x4 high 3 x
  · exact q_piece x0 x1 x2 x3 x4 high 2 x
  · exact q_piece x0 x1 x2 x3 x4 high 1 x
  · exact q_piece x0 x1 x2 x3 x4 high 0 x
  · exact v_piece x0 x1 x2 x3 x4 low 7 x
  · exact v_piece x0 x1 x2 x3 x4 low 6 x
  · exact v_piece x0 x1 x2 x3 x4 low 5 x
  · exact v_piece x0 x1 x2 x3 x4 low 4 x
  · exact v_piece x0 x1 x2 x3 x4 low 3 x
  · exact v_piece x0 x1 x2 x3 x4 low 2 x
  · exact v_piece x0 x1 x2 x3 x4 low 1 x
  · exact v_piece x0 x1 x2 x3 x4 low 0 x
  · exact k_piece x0 x1 x2 x3 x4 low 7 x
  · exact k_piece x0 x1 x2 x3 x4 low 6 x
  · exact k_piece x0 x1 x2 x3 x4 low 5 x
  · exact k_piece x0 x1 x2 x3 x4 low 4 x
  · exact k_piece x0 x1 x2 x3 x4 low 3 x
  · exact k_piece x0 x1 x2 x3 x4 low 2 x
  · exact k_piece x0 x1 x2 x3 x4 low 1 x
  · exact k_piece x0 x1 x2 x3 x4 low 0 x
  · exact q_piece x0 x1 x2 x3 x4 low 7 x
  · exact q_piece x0 x1 x2 x3 x4 low 6 x
  · exact q_piece x0 x1 x2 x3 x4 low 5 x
  · exact q_piece x0 x1 x2 x3 x4 low 4 x
  · exact q_piece x0 x1 x2 x3 x4 low 3 x
  · exact q_piece x0 x1 x2 x3 x4 low 2 x
  · exact q_piece x0 x1 x2 x3 x4 low 1 x
  · exact q_piece x0 x1 x2 x3 x4 low 0 x
end

end Cert.Proj1
-- ==== Proof.ProjArray.lean ====
module

public import proofs.«01_k».proof.Proof.ProjBlock
public import proofs.«01_k».proof.Proof.Gen.Kernel2Ideal.Value
public import Idealize.ShloMosaic.Lib.Pipeline.ValueKit

@[expose] public section

set_option maxRecDepth 16384

noncomputable section

/-!
The two result arrays of the first projection after the run, as functions of the arrays the kernel is handed.
-/

namespace Cert.Proj1

open Cert.Kernel2Ideal Cert.Kernel2Ideal.Gen Cert.Rows Cert.Proj Idealize.ShloMosaic Idealize.ShloMosaic.TcCoe Idealize.SL.Sem
open Idealize.ShloMosaic.Pipeline (Dat)

variable (m : (ℓ : Loc nD τ sig) → Buf (Elt Ideal) ℓ)

/-- Token `r` of block `i`. -/
def tok (i : Fin 2) (r : Fin 1024) : Fin 2048 := ⟨1024 * i + r, by omega⟩

/-- The block index of array 0 at a grid point. -/
theorem idx0 : ∀ t : Fin grid0.N, win0_0.index t = ![(grid0.coords t 0).val, (grid0.coords t 1).val, 0] := by
  decide +kernel

/-- The block index of array 1 at a grid point. -/
theorem idx1 : ∀ t : Fin grid0.N, win0_1.index t = ![(grid0.coords t 0).val, (grid0.coords t 1).val, 0] := by
  decide +kernel

/-- The block index of array 2 at a grid point. -/
theorem idx2 : ∀ t : Fin grid0.N, win0_2.index t = ![(grid0.coords t 0).val, (grid0.coords t 1).val, 0] := by
  decide +kernel

/-- The block index of array 3 at a grid point. -/
theorem idx3 : ∀ t : Fin grid0.N, win0_3.index t = ![0, 0] := by
  decide +kernel

/-- The block index of array 4 at a grid point. -/
theorem idx4 : ∀ t : Fin grid0.N, win0_4.index t = ![0, 0] := by
  decide +kernel

/-- The block index of array 5 at a grid point. -/
theorem idx5 : ∀ t : Fin grid0.N, win0_5.index t = ![0, 9] := by
  decide +kernel

/-- The block index of the heads at a grid point. -/
theorem idx6 : ∀ t : Fin grid0.N, win0_6.index t = ![(grid0.coords t 0).val, 0, 0, (grid0.coords t 1).val, 0] := by
  decide +kernel

/-- The block index of the gate at a grid point. -/
theorem idx7 : ∀ t : Fin grid0.N, win0_7.index t = ![(grid0.coords t 0).val, (grid0.coords t 1).val, 0] := by
  decide +kernel

/-- The input in a block. -/
theorem blk0 (c : Dev nD) (t : Fin cfg0.N) (r k : Fin 1024) :
    (iblk m c 0 t : Vec Ideal S1x1024x1024 .f32) (ix3 0 r k) = (V m c main_arg0 : Vec Ideal S32x2048x1024 .f32)
      (ix3 (grid0.coords t 0 : Fin 32) (tok (grid0.coords t 1) r) k) := by
  blk_simp [iblk]
  refine congrArg _ ?_
  blk_ext [idx0, tok]

/-- The cosines in a block. -/
theorem blk1 (c : Dev nD) (t : Fin cfg0.N) (r : Fin 1024) (l : Fin 128) :
    (iblk m c 1 t : Vec Ideal S1x1024x128 .f32) (ix3 0 r l) = (V m c main_v29 : Vec Ideal S32x2048x128 .f32)
      (ix3 (grid0.coords t 0 : Fin 32) (tok (grid0.coords t 1) r) l) := by
  blk_simp [iblk]
  refine congrArg _ ?_
  blk_ext [idx1, tok]

/-- The signed sines in a block. -/
theorem blk2 (c : Dev nD) (t : Fin cfg0.N) (r : Fin 1024) (l : Fin 128) :
    (iblk m c 2 t : Vec Ideal S1x1024x128 .f32) (ix3 0 r l) = (V m c main_v33 : Vec Ideal S32x2048x128 .f32)
      (ix3 (grid0.coords t 0 : Fin 32) (tok (grid0.coords t 1) r) l) := by
  blk_simp [iblk]
  refine congrArg _ ?_
  blk_ext [idx2, tok]

/-- The block of the gain is the gain. -/
theorem blk3 (c : Dev nD) (t : Fin cfg0.N) : iblk m c 3 t = V m c main_v35 := by
  funext y
  blk_simp [iblk]
  refine congrArg _ ?_
  blk_ext [idx3]

/-- The first weights block is the first 3072 columns. -/
theorem blk4 (c : Dev nD) (t : Fin cfg0.N) (k : Fin 1024) (j : Fin 3072) :
    (X0_4 m c t : Vec Ideal S1024x3072 .bf16) (ix2 k j) = (V m c main_v34 : Vec Ideal S1024x10240 .bf16)
      (ix2 k ⟨j, by omega⟩) := by
  unfold X0_4 Pipeline.Window.fill
  refine (dif_pos (moved0_4 t _)).trans ?_
  blk_simp [iblk]
  refine congrArg _ ?_
  blk_ext [idx4]

/-- The second weights block is the last 1024 columns. -/
theorem blk5 (c : Dev nD) (t : Fin cfg0.N) (k j : Fin 1024) :
    (iblk m c 5 t : Vec Ideal S1024x1024 .bf16) (ix2 k j) = (V m c main_v34 : Vec Ideal S1024x10240 .bf16)
      (ix2 k ⟨9216 + j, by omega⟩) := by
  blk_simp [iblk]
  refine congrArg _ ?_
  blk_ext [idx5]

/-- The input of token `t` of sequence `b`. -/
def xArr (c : Dev nD) (b : Fin 32) (t : Fin 2048) (k : Fin 1024) : EReal :=
  (V m c main_arg0 : Vec Ideal S32x2048x1024 .f32) (ix3 b t k)

/-- The gain. -/
def gArr (c : Dev nD) (k : Fin 1024) : EReal := (V m c main_v35 : Vec Ideal S1x1024 .f32) (ix2 0 k)

/-- The weights. -/
def wArr (c : Dev nD) (k : Fin 1024) (j : Fin 10240) : EReal := (V m c main_v34 : Vec Ideal S1024x10240 .bf16) (ix2 k j)

/-- The cosines of token `t` of sequence `b`. -/
def cosArr (c : Dev nD) (b : Fin 32) (t : Fin 2048) (l : Fin 128) : EReal :=
  (V m c main_v29 : Vec Ideal S32x2048x128 .f32) (ix3 b t l)

/-- The signed sines of token `t` of sequence `b`. -/
def sinArr (c : Dev nD) (b : Fin 32) (t : Fin 2048) (l : Fin 128) : EReal :=
  (V m c main_v33 : Vec Ideal S32x2048x128 .f32) (ix3 b t l)

/-- The products of token `t` of sequence `b` with the weights. -/
def accArr (c : Dev nD) (b : Fin 32) (t : Fin 2048) : Fin 10240 → EReal := projRow (xArr m c b t) (gArr m c) (wArr m c)

/-- Head `p` of token `t` of sequence `b`. -/
def headArr (c : Dev nD) (b : Fin 32) (t : Fin 2048) (p : Fin 24) : Fin 128 → EReal :=
  headRow scale (fun j : Fin 3072 => accArr m c b t ⟨j, by omega⟩) (cosArr m c b t) (sinArr m c b t) p

/-- The gate of token `t` of sequence `b`. -/
def gateArr (c : Dev nD) (b : Fin 32) (t : Fin 2048) (j : Fin 1024) : EReal := accArr m c b t ⟨9216 + j, by omega⟩

/-- The array of heads. -/
def result6 (c : Dev nD) : Vec Ideal S32x24x1x2048x128 .bf16 := fun y => headArr m c (y 0) (y 3) (y 1) (y 4)

/-- The gate. -/
def result7 (c : Dev nD) : Vec Ideal S32x2048x1024 .bf16 := fun y => gateArr m c (y 0) (y 1) (y 2)

/-- A product of a block's row is one of the token's. -/
theorem acc_eq {e : ℕ} (c : Dev nD) (b : Fin 32) (t : Fin 2048) (x g : Fin 1024 → EReal) (w : Fin 1024 → Fin e → EReal)
    (j : Fin e) (j' : Fin 10240) (hx : x = xArr m c b t) (hg : g = gArr m c) (hw : ∀ k, w k j = wArr m c k j') :
    projRow x g w j = accArr m c b t j' := by
  subst hx hg
  unfold accArr projRow dense
  simp only [hw]

/-- The heads of a block's token. -/
theorem block_heads (c : Dev nD) (t : Fin cfg0.N) (p : Fin 24) (r : Fin 1024) (l : Fin 128) :
    block6 (iblk m c 0 t) (iblk m c 1 t) (iblk m c 2 t) (iblk m c 3 t) (X0_4 m c t) (ix5 0 p 0 r l) =
      headArr m c (grid0.coords t 0) (tok (grid0.coords t 1) r) p l := by
  rw [blk3]
  unfold block6 headArr
  exact congrFun (congrFun (congr (congr (congrArg (headRow scale) (funext fun j =>
    acc_eq m c _ _ _ _ _ _ _ (funext fun k => blk0 m c t r k) rfl fun k => blk4 m c t k j)) (funext fun l => blk1 m c t r l))
    (funext fun l => blk2 m c t r l)) p) l

/-- The gate of a block's token. -/
theorem block_gate (c : Dev nD) (t : Fin cfg0.N) (r j : Fin 1024) :
    block7 (iblk m c 0 t) (iblk m c 3 t) (iblk m c 5 t) (ix3 0 r j) =
      gateArr m c (grid0.coords t 0) (tok (grid0.coords t 1) r) j := by
  rw [blk3]
  unfold block7 gateArr
  exact acc_eq m c _ _ _ _ _ _ _ (funext fun k => blk0 m c t r k) rfl fun k => blk5 m c t k j

/-- The array of heads after the run. -/
theorem final6 (c : Dev nD) : (dats m 0 c).arrAt 6 cfg0.N = result6 m c := by
  refine (dats m 0 c).arrAt_eq_of_covers 6 _ (by decide +kernel) fun t hf y => ?_
  blk_simp
  rw [after0_6]
  unfold outsAt0
  rw [out6_eq]
  have e : (win0_6.blk t).view.emb y = ix5 (grid0.coords t 0 : Fin 32) (y 1 : Fin 24) (0 : Fin 1)
      (tok (grid0.coords t 1) (y 3 : Fin 1024)) (y 4 : Fin 128) := by
    blk_ext [idx6, tok]
  rw [e]
  exact block_heads m c t (y 1) (y 3) (y 4)

/-- The gate after the run. -/
theorem final7 (c : Dev nD) : (dats m 0 c).arrAt 7 cfg0.N = result7 m c := by
  refine (dats m 0 c).arrAt_eq_of_covers 7 _ (by decide +kernel) fun t hf y => ?_
  blk_simp
  rw [after0_7]
  unfold outsAt0
  rw [out7_eq]
  have e : (win0_7.blk t).view.emb y = ix3 (grid0.coords t 0 : Fin 32) (tok (grid0.coords t 1) (y 1 : Fin 1024)) (y 2 : Fin 1024) := by
    blk_ext [idx7, tok]
  rw [e]
  exact block_gate m c t (y 1) (y 2)

end Cert.Proj1

end
-- ==== Proof.ProjMath.lean ====
module

public import proofs.«01_k».proof.Proof.ProjTile
public import proofs.«01_k».proof.Proof.RefOps
public import proofs.«01_k».proof.Proof.MidMath
public import proofs.«01_k».proof.Proof.AttnMath

@[expose] public section

set_option maxRecDepth 16384

noncomputable section

/-!
The rotation of the first 32 lanes of a head, and the factor on the queries.
-/

namespace Cert.Proj

open Cert.Rows Idealize.ShloMosaic

/-- What the tables hold for a token at position `s`, below lane 32. -/
structure Tables (cos sin : Fin 128 → EReal) (s : BitVec 32) : Prop where
  cos₁ : ∀ l : Fin 128, (l : ℕ) < 16 → cos l = Ideal.cos (angle 0x48F42400#32 s l)
  cos₂ : ∀ l : Fin 128, 16 ≤ (l : ℕ) → (l : ℕ) < 32 → cos l = Ideal.cos (angle 0x48F42400#32 s (l - 16))
  sin₁ : ∀ l : Fin 128, (l : ℕ) < 16 → sin l = -Ideal.sin (angle 0x48F42400#32 s l)
  sin₂ : ∀ l : Fin 128, 16 ≤ (l : ℕ) → (l : ℕ) < 32 → sin l = Ideal.sin (angle 0x48F42400#32 s (l - 16))

/-- A head whose first 32 lanes are rotated for a token at position `s`. -/
def part (s : BitVec 32) (a : Fin 128 → EReal) (l : Fin 128) : EReal :=
  if h : (l : ℕ) < 32 then rope (fun j => a ⟨j, by omega⟩) (angle 0x48F42400#32 s) ⟨l, h⟩ else a l

/-- The divisor of the queries. -/
def divisor : EReal := Ideal.sqrt (Ideal.ofBits .f32 0x43000000#32) * Ideal.log (Ideal.ofBits .f32 0x40000000#32)

/-- Head `p` of the queries, keys and values: the queries rotated and divided, the keys rotated. -/
def rawHead (s : BitVec 32) (a : Fin 3072 → EReal) (p : Fin 24) (l : Fin 128) : EReal :=
  if (p : ℕ) < 8 then Ideal.div (part s (fun l => a ⟨128 * p + l, by omega⟩) l) divisor
  else if (p : ℕ) < 16 then part s (fun l => a ⟨128 * p + l, by omega⟩) l
  else a ⟨128 * p + l, by omega⟩

/-- The real factor on the queries. -/
def factor : ℝ := (Real.sqrt 128)⁻¹ * (Real.log 2)⁻¹

/-- The factor is positive. -/
theorem factor_pos : 0 < factor := by
  unfold factor
  have := Real.log_pos (show (1 : ℝ) < 2 by norm_num)
  positivity

/-- The constant 128. -/
theorem const128 : Ideal.ofBits .f32 0x43000000#32 = ((128 : ℝ) : EReal) := by
  simp only [Ideal.ofBits, Ideal.ieee]
  simp
  rw [← EReal.coe_mul]
  norm_num

/-- The root of 128. -/
theorem root : Ideal.sqrt (Ideal.ofBits .f32 0x43000000#32) = ((Real.sqrt 128 : ℝ) : EReal) := by
  rw [const128, Ideal.sqrt_coe, if_neg (by norm_num)]

/-- Dividing by the root and the logarithm is multiplying with the factor. -/
theorem div_eq (x : EReal) : Ideal.div x divisor = x * ((factor : ℝ) : EReal) := by
  have h := Real.log_pos (show (1 : ℝ) < 2 by norm_num)
  unfold divisor
  rw [root, Cert.AttnMath.log2, ← EReal.coe_mul, Cert.AttnMath.div_pos _ _ (by positivity), mul_inv]
  rfl

/-- A rotation with scaled tables is the scaled rotation. -/
theorem rot_scale (hi : ℕ) (a cos sin : Fin 128 → EReal) (l : Fin 128) :
    rot hi a (fun l => cos l * ((factor : ℝ) : EReal)) (fun l => sin l * ((factor : ℝ) : EReal)) l =
      rot hi a cos sin l * ((factor : ℝ) : EReal) := by
  unfold rot
  rw [EReal.right_distrib_of_nonneg_of_ne_top (EReal.coe_nonneg.mpr factor_pos.le) (EReal.coe_ne_top _), mul_assoc, mul_assoc]

/-- The rotation of 128 lanes with the tables is that of the first 32. -/
theorem rot_eq {cos sin : Fin 128 → EReal} {s : BitVec 32} (T : Tables cos sin s) (a : Fin 128 → EReal) (l : Fin 128) :
    rot 16 a (cosRow cos) (sinRow sin) l = part s a l := by
  unfold rot cosRow sinRow part
  by_cases e : (l : ℕ) < 16
  · have e' : (l : ℕ) < 32 := by omega
    rw [if_pos e, if_pos e', if_pos e', dif_pos e', T.cos₁ l e, T.sin₁ l e]
    unfold rope
    rw [dif_pos e, mul_neg, ← sub_eq_add_neg]
    congr 3
    exact Fin.ext (by simp only; omega)
  · by_cases e' : (l : ℕ) < 32
    · rw [if_neg e, if_pos e', if_pos e', dif_pos e', T.cos₂ l (by omega) e', T.sin₂ l (by omega) e']
      unfold rope
      rw [dif_neg e]
      congr 3
      exact Fin.ext (by simp only; omega)
    · rw [if_neg e', if_neg e', dif_neg e', Cert.Mid.one, Cert.Mid.zero, mul_one, mul_zero, add_zero]

/-- The heads with the tables are those of the rows. -/
theorem head_eq {cos sin : Fin 128 → EReal} {s : BitVec 32} (T : Tables cos sin s) (a : Fin 3072 → EReal) (p : Fin 24)
    (l : Fin 128) : headRow ((factor : ℝ) : EReal) a cos sin p l = rawHead s a p l := by
  unfold headRow rawHead
  rw [rot_scale, rot_eq T, div_eq]

/-- The tables built from the lanes' frequencies and signs. -/
theorem tables_of {cos sin : Fin 128 → EReal} {s : BitVec 32} {f g : ℕ → EReal}
    (hc : ∀ l, cos l = Ideal.cos (FloatOps.sitofp (F := Ideal) .f32 s * f l))
    (hs : ∀ l, sin l = Ideal.sin (FloatOps.sitofp (F := Ideal) .f32 s * f l) * g l)
    (f₁ : ∀ l, l < 16 → FloatOps.sitofp (F := Ideal) .f32 s * f l = angle 0x48F42400#32 s l)
    (f₂ : ∀ l, 16 ≤ l → l < 32 → FloatOps.sitofp (F := Ideal) .f32 s * f l = angle 0x48F42400#32 s (l - 16))
    (g₁ : ∀ l, l < 16 → g l = -1) (g₂ : ∀ l, 16 ≤ l → l < 32 → g l = 1) : Tables cos sin s where
  cos₁ l h := by rw [hc, f₁ l h]
  cos₂ l h h' := by rw [hc, f₂ l h h']
  sin₁ l h := by rw [hs, f₁ l h, g₁ l h, mul_neg, mul_one]
  sin₂ l h h' := by rw [hs, f₂ l h h', g₂ l h h', mul_one]

end Cert.Proj

end
-- ==== Proof.ProjHost.lean ====
module

public import proofs.«01_k».proof.Proof.ProjArray
public import proofs.«01_k».proof.Proof.ProjMath
public import proofs.«01_k».proof.Proof.MidHost
public import Idealize.ShloMosaic.Lib.StableHlo.ReadAt

@[expose] public section

set_option maxRecDepth 16384

noncomputable section

/-!
The arrays the first projection is handed, as the host operations before it leave them, at an index.
-/

namespace Cert.Proj1

open Cert.Kernel2Ideal Cert.Kernel2Ideal.Gen Cert.Rows Cert.Proj Idealize.ShloMosaic Idealize.ShloMosaic.TcCoe Idealize.SL.Sem
open Cert.Mid (laneFrequency laneSign)

variable (m : (ℓ : Loc nD τ sig) → Buf (Elt Ideal) ℓ)

/-- The position of token `t` of sequence `b`. -/
def posAt (c : Dev nD) (b : Fin 32) (t : Fin 2048) : BitVec 32 :=
  (m ((c.tc : Thread nD τ).loc main_arg1) : IVec S32x2048 32) (ix2 b t)

/-- The cosines. -/
theorem cos_apply (c : Dev nD) (b : Fin 32) (t : Fin 2048) (l : Fin 128) :
    V m c main_v29 (ix3 b t l) = Ideal.cos (FloatOps.sitofp (F := Ideal) .f32 (posAt m c b t) * laneFrequency l) := by
  unfold V
  after_reads_at
  after_reads_at
  rfl

/-- The signed sines. -/
theorem sin_apply (c : Dev nD) (b : Fin 32) (t : Fin 2048) (l : Fin 128) :
    V m c main_v33 (ix3 b t l) =
      Ideal.sin (FloatOps.sitofp (F := Ideal) .f32 (posAt m c b t) * laneFrequency l) * laneSign l := by
  unfold V
  after_reads_at
  after_reads_at
  rfl

/-- The input. -/
theorem x_apply (c : Dev nD) : V m c main_arg0 = (m ((c.tc : Thread nD τ).loc main_arg0) : Vec Ideal S32x2048x1024 .f32) := by
  unfold V
  after_reads_at

/-- The weights. -/
theorem w_apply (c : Dev nD) (i : Fin 1024) (j : Fin 10240) : V m c main_v34 (ix2 i j) =
    (m ((c.tc : Thread nD τ).loc main_arg3) : Vec Ideal S1024x10240 .f32) (ix2 i j) := by
  unfold V
  after_reads_at

/-- The gain. -/
theorem g_apply (c : Dev nD) (i : Fin 1) (j : Fin 1024) : V m c main_v35 (ix2 i j) =
    (m ((c.tc : Thread nD τ).loc main_arg2) : Vec Ideal S1024 .f32) (ix1 j) := by
  unfold V
  after_reads_at

/-- The tables hold cosines and signed sines. -/
theorem tables (c : Dev nD) (b : Fin 32) (t : Fin 2048) : Tables (cosArr m c b t) (sinArr m c b t) (posAt m c b t) where
  cos₁ l h := by
    refine (cos_apply m c b t l).trans ?_
    unfold laneFrequency
    rw [dif_pos h]
    rfl
  cos₂ l h h' := by
    refine (cos_apply m c b t l).trans ?_
    unfold laneFrequency
    rw [dif_neg (by omega), dif_pos (by omega)]
    rfl
  sin₁ l h := by
    refine (sin_apply m c b t l).trans ?_
    unfold laneFrequency laneSign
    rw [dif_pos h, dif_pos h, mul_neg, mul_one]
    rfl
  sin₂ l h h' := by
    refine (sin_apply m c b t l).trans ?_
    unfold laneFrequency laneSign
    rw [dif_neg (by omega), dif_pos (by omega), dif_neg (by omega), dif_pos (by omega), mul_one]
    rfl

/-- The named factor is its real number. -/
theorem scale_eq : scale = ((factor : ℝ) : EReal) := IdealRules.named_const.ideal_named_scalar _ _ _ _ rfl

/-- The products of token `t` of sequence `b` with the caller's weights. -/
def rawAcc (c : Dev nD) (b : Fin 32) (t : Fin 2048) : Fin 10240 → EReal := projRow
  (fun k => (m ((c.tc : Thread nD τ).loc main_arg0) : Vec Ideal S32x2048x1024 .f32) (ix3 b t k))
  (fun k => (m ((c.tc : Thread nD τ).loc main_arg2) : Vec Ideal S1024 .f32) (ix1 k))
  (fun k j => (m ((c.tc : Thread nD τ).loc main_arg3) : Vec Ideal S1024x10240 .f32) (ix2 k j))

/-- The products agree. -/
theorem accArr_eq (c : Dev nD) (b : Fin 32) (t : Fin 2048) : accArr m c b t = rawAcc m c b t := by
  unfold accArr rawAcc
  exact congr (congr (congrArg projRow (funext fun k => congrFun (x_apply m c) _)) (funext fun k => g_apply m c 0 k))
    (funext fun k => funext fun j => w_apply m c k j)

/-- The heads, from the caller's arrays. -/
theorem headArr_eq (c : Dev nD) (b : Fin 32) (t : Fin 2048) (p : Fin 24) (l : Fin 128) : headArr m c b t p l =
    rawHead (posAt m c b t) (fun j : Fin 3072 => rawAcc m c b t ⟨j, by omega⟩) p l := by
  unfold headArr
  rw [scale_eq, head_eq (tables m c b t), accArr_eq]

end Cert.Proj1

end
-- ==== Proof.ProjRef.lean ====
module

public import proofs.«01_k».proof.Proof.Gen.Reference2Ideal.Run
public import proofs.«01_k».proof.Proof.ProjMath
public import Idealize.ShloMosaic.Lib.Pointwise

@[expose] public section

set_option maxRecDepth 16384

noncomputable section

/-!
The results of the first projection's reference, at an index.
-/

namespace Cert.Proj1Ref

open Cert.Reference2Ideal Cert.Reference2Ideal.Gen Cert.Rows Cert.Proj Idealize.ShloMosaic Idealize.ShloMosaic.TcCoe Idealize.SL.Sem

/-- What the norm needs of its shapes. -/
theorem normal : HostNormal 32 2048 1024 := ⟨reducesTo_S32x2048x1024_S32x2048_d2, bcast_S32x2048_S32x2048x1_0_1,
  bcast_S_S32x2048x1, bcast_S32x2048x1_S32x2048x1024_0_1_2, bcast_S1024_S1x1x1024_2, bcast_S1x1x1024_S32x2048x1024_0_1_2, h_S_⟩

variable (x : FVec Ideal S32x2048x1024 .f32) (s : IVec S32x2048 32) (g : FVec Ideal S1024 .f32)
  (w : FVec Ideal S1024x10240 .f32)

/-- The projection. -/
def proj : FVec Ideal S32x2048x10240 .f32 :=
  Host.dotGeneral dot_S32x2048x1024_S1024x10240_S32x2048x10240_2_0_01_1_n_n none (hostNorm normal 0x44800000#32 x g) w

/-- The columns of queries, keys and values, by group, kind, head and lane. -/
def grouped (a : FVec Ideal S32x2048x10240 .f32) : FVec Ideal S32x2048x3x3x8x128 .f32 :=
  shapeCast S32x2048x3x3x8x128 (extractStridedSlice S32x2048x9216 ![0, 0, 0] a slices_S32x2048x10240_S32x2048x9216_0_0_0)
    shapeCasts_S32x2048x9216_S32x2048x3x3x8x128

/-- The queries. -/
def qPart (a : FVec Ideal S32x2048x10240 .f32) : FVec Ideal S32x2048x8x128 .f32 :=
  shapeCast S32x2048x8x128 (extractStridedSlice S32x2048x1x1x8x128 ![0, 0, 0, 0, 0, 0] (grouped a)
    slices_S32x2048x3x3x8x128_S32x2048x1x1x8x128_0_0_0_0_0_0) shapeCasts_S32x2048x1x1x8x128_S32x2048x8x128

/-- The keys. -/
def kPart (a : FVec Ideal S32x2048x10240 .f32) : FVec Ideal S32x2048x8x128 .f32 :=
  shapeCast S32x2048x8x128 (extractStridedSlice S32x2048x1x1x8x128 ![0, 0, 0, 1, 0, 0] (grouped a)
    slices_S32x2048x3x3x8x128_S32x2048x1x1x8x128_0_0_0_1_0_0) shapeCasts_S32x2048x1x1x8x128_S32x2048x8x128

/-- The values. -/
def vPart (a : FVec Ideal S32x2048x10240 .f32) : FVec Ideal S32x2048x8x128 .f32 :=
  shapeCast S32x2048x8x128 (extractStridedSlice S32x2048x1x1x8x128 ![0, 0, 0, 2, 0, 0] (grouped a)
    slices_S32x2048x3x3x8x128_S32x2048x1x1x8x128_0_0_0_2_0_0) shapeCasts_S32x2048x1x1x8x128_S32x2048x8x128

/-- The angles of every token. -/
def angles : FVec Ideal S32x2048x16 .f32 :=
  mulf (broadcastInDim S32x2048x16 ![0, 1, 2] bcast_S32x2048x1_S32x2048x16_0_1_2
      (broadcastInDim S32x2048x1 ![0, 1] bcast_S32x2048_S32x2048x1_0_1 (sitofp .f32 s)))
    (broadcastInDim S32x2048x16 ![0, 1, 2] bcast_S1x1x16_S32x2048x16_0_1_2 (broadcastInDim S1x1x16 ![2] bcast_S16_S1x1x16_2
      (Host.divf (broadcastInDim S16 ![] bcast_S_S16 (constant S_ .f32 0x3F800000#32))
        (Host.powf (broadcastInDim S16 ![] bcast_S_S16 (constant S_ .f32 0x48F42400#32))
          (mulf (sitofp .f32 (iotaInDim S16 32 0)) (broadcastInDim S16 ![] bcast_S_S16 (constant S_ .f32 0x3D800000#32)))))))

/-- The cosines. -/
def cosines : FVec Ideal S32x2048x1x16 .f32 :=
  broadcastInDim S32x2048x1x16 ![0, 1, 3] bcast_S32x2048x16_S32x2048x1x16_0_1_3 (Host.cos (angles s))

/-- The sines. -/
def sines : FVec Ideal S32x2048x1x16 .f32 :=
  broadcastInDim S32x2048x1x16 ![0, 1, 3] bcast_S32x2048x16_S32x2048x1x16_0_1_3 (Host.sin (angles s))

/-- 32 lanes of every head, rotated. -/
def turnedAll (a : FVec Ideal S32x2048x8x32 .f32) : FVec Ideal S32x2048x8x32 .f32 :=
  concatenate S32x2048x8x32 3
    [⟨S32x2048x8x16, (subf
        (mulf (extractStridedSlice S32x2048x8x16 ![0, 0, 0, 0] a slices_S32x2048x8x32_S32x2048x8x16_0_0_0_0)
          (broadcastInDim S32x2048x8x16 ![0, 1, 2, 3] bcast_S32x2048x1x16_S32x2048x8x16_0_1_2_3 (cosines s)))
        (mulf (extractStridedSlice S32x2048x8x16 ![0, 0, 0, 16] a slices_S32x2048x8x32_S32x2048x8x16_0_0_0_16)
          (broadcastInDim S32x2048x8x16 ![0, 1, 2, 3] bcast_S32x2048x1x16_S32x2048x8x16_0_1_2_3 (sines s))))⟩,
      ⟨S32x2048x8x16, (addf
        (mulf (extractStridedSlice S32x2048x8x16 ![0, 0, 0, 16] a slices_S32x2048x8x32_S32x2048x8x16_0_0_0_16)
          (broadcastInDim S32x2048x8x16 ![0, 1, 2, 3] bcast_S32x2048x1x16_S32x2048x8x16_0_1_2_3 (cosines s)))
        (mulf (extractStridedSlice S32x2048x8x16 ![0, 0, 0, 0] a slices_S32x2048x8x32_S32x2048x8x16_0_0_0_0)
          (broadcastInDim S32x2048x8x16 ![0, 1, 2, 3] bcast_S32x2048x1x16_S32x2048x8x16_0_1_2_3 (sines s))))⟩]
    concatenates_S32x2048x8x16_S32x2048x8x16_S32x2048x8x32_d3

/-- The first 32 lanes of every head rotated. -/
def rotated (a : FVec Ideal S32x2048x8x128 .f32) : FVec Ideal S32x2048x8x128 .f32 :=
  concatenate S32x2048x8x128 3
    [⟨S32x2048x8x32, (turnedAll s (extractStridedSlice S32x2048x8x32 ![0, 0, 0, 0] a slices_S32x2048x8x128_S32x2048x8x32_0_0_0_0))⟩,
      ⟨S32x2048x8x96, (extractStridedSlice S32x2048x8x96 ![0, 0, 0, 32] a slices_S32x2048x8x128_S32x2048x8x96_0_0_0_32)⟩]
    concatenates_S32x2048x8x32_S32x2048x8x96_S32x2048x8x128_d3

/-- Every head divided. -/
def divided (a : FVec Ideal S32x2048x8x128 .f32) : FVec Ideal S32x2048x8x128 .f32 :=
  Host.divf a (broadcastInDim S32x2048x8x128 ![] bcast_S_S32x2048x8x128
    (mulf (Host.sqrt (constant S_ .f32 0x43000000#32)) (Host.log (constant S_ .f32 0x40000000#32))))

/-- The heads of queries, keys and values, after another and before the tokens. -/
def stacked (q k v : FVec Ideal S32x2048x8x128 .f32) : FVec Ideal S32x24x1x2048x128 .bf16 :=
  truncf .bf16 (broadcastInDim S32x24x1x2048x128 ![0, 1, 3, 4] bcast_S32x24x2048x128_S32x24x1x2048x128_0_1_3_4
    (transpose S32x24x2048x128 [0, 2, 1, 3] ((concatenate S32x2048x24x128 2
      [⟨S32x2048x8x128, q⟩, ⟨S32x2048x8x128, k⟩, ⟨S32x2048x8x128, v⟩]
      concatenates_S32x2048x8x128_S32x2048x8x128_S32x2048x8x128_S32x2048x24x128_d2 : FVec Ideal S32x2048x24x128 .f32))
      transposes_S32x2048x24x128_S32x24x2048x128_0_2_1_3)) bitsLt_bf16_f32

/-- The heads. -/
def heads : FVec Ideal S32x24x1x2048x128 .bf16 :=
  stacked (divided (rotated s (qPart (proj x g w)))) (rotated s (kPart (proj x g w))) (vPart (proj x g w))

/-- The gate. -/
def gateOut : FVec Ideal S32x2048x1024 .bf16 :=
  truncf .bf16 (extractStridedSlice S32x2048x1024 ![0, 0, 9216] (proj x g w) slices_S32x2048x10240_S32x2048x1024_0_0_9216)
    bitsLt_bf16_f32

/-- A product with the weights, at an index. -/
theorem dot_apply (y : FVec Ideal S32x2048x1024 .f32) (b : Fin 32) (t : Fin 2048) (c : Fin 10240) :
    Host.dotGeneral dot_S32x2048x1024_S1024x10240_S32x2048x10240_2_0_01_1_n_n none y w (ix3 b t c) =
      dense (fun k => y (ix3 b t k)) (fun k c => w (ix2 k c)) c := by
  pointwise
  rfl

/-- The projection at an index. -/
theorem proj_apply (b : Fin 32) (t : Fin 2048) (c : Fin 10240) : proj x g w (ix3 b t c) =
    projRow (fun k => x (ix3 b t k)) (fun k => g (ix1 k)) (fun k j => w (ix2 k j)) c := by
  unfold proj
  rw [dot_apply]
  simp only [hostNorm_apply (show (32 : ℕ) ≠ 1 by norm_num) (show (2048 : ℕ) ≠ 1 by norm_num) (show (1024 : ℕ) ≠ 1 by norm_num)]
  rfl

/-- The angles at an index. -/
theorem angles_apply (b : Fin 32) (t : Fin 2048) (j : Fin 16) :
    angles s (ix3 b t j) = angle 0x48F42400#32 (s (ix2 b t)) j := by
  pointwise [angles]
  rfl

/-- The rotated lanes of a head at an index. -/
theorem turnedAll_apply (a : FVec Ideal S32x2048x8x32 .f32) (b : Fin 32) (t : Fin 2048) (p : Fin 8) (j : Fin 32) :
    turnedAll s a (ix4 b t p j) = rope (fun j => a (ix4 b t p j)) (angle 0x48F42400#32 (s (ix2 b t))) j := by
  pointwise [turnedAll, cosines, sines, angles_apply]
  unfold rope
  split
  · simp only [Nat.add_comm 16]
  · rename_i e
    simp only [Nat.add_sub_cancel' (not_lt.mp e)]

/-- The rotated heads at an index. -/
theorem rotated_apply (a : FVec Ideal S32x2048x8x128 .f32) (b : Fin 32) (t : Fin 2048) (p : Fin 8) (l : Fin 128) :
    rotated s a (ix4 b t p l) = part (s (ix2 b t)) (fun l => a (ix4 b t p l)) l := by
  pointwise [rotated, turnedAll_apply]
  unfold part
  by_cases e : (l : ℕ) < 32
  · rw [dif_pos e, dif_pos e]
  · rw [dif_neg e, dif_neg e]
    exact congrArg (fun l => a (ix4 b t p l)) (Fin.ext (by simp only; omega))

/-- The divided heads at an index. -/
theorem divided_apply (a : FVec Ideal S32x2048x8x128 .f32) (b : Fin 32) (t : Fin 2048) (p : Fin 8) (l : Fin 128) :
    divided a (ix4 b t p l) = Ideal.div (a (ix4 b t p l)) divisor := by
  pointwise [divided]
  rfl

/-- The queries at an index. -/
theorem qPart_apply (a : FVec Ideal S32x2048x10240 .f32) (b : Fin 32) (t : Fin 2048) (p : Fin 8) (l : Fin 128) :
    qPart a (ix4 b t p l) = a (ix3 b t ⟨128 * p + l, by omega⟩) := by
  pointwise [qPart, grouped]
  exact congrArg (fun l => a (ix3 b t l)) (Fin.ext (by simp only; omega))

/-- The keys at an index. -/
theorem kPart_apply (a : FVec Ideal S32x2048x10240 .f32) (b : Fin 32) (t : Fin 2048) (p : Fin 8) (l : Fin 128) :
    kPart a (ix4 b t p l) = a (ix3 b t ⟨128 * (8 + p) + l, by omega⟩) := by
  pointwise [kPart, grouped]
  exact congrArg (fun l => a (ix3 b t l)) (Fin.ext (by simp only; omega))

/-- The values at an index. -/
theorem vPart_apply (a : FVec Ideal S32x2048x10240 .f32) (b : Fin 32) (t : Fin 2048) (p : Fin 8) (l : Fin 128) :
    vPart a (ix4 b t p l) = a (ix3 b t ⟨128 * (16 + p) + l, by omega⟩) := by
  pointwise [vPart, grouped]
  exact congrArg (fun l => a (ix3 b t l)) (Fin.ext (by simp only; omega))

/-- The stacked heads at an index. -/
theorem stacked_apply (q k v : FVec Ideal S32x2048x8x128 .f32) (b : Fin 32) (p : Fin 24) (t : Fin 2048) (l : Fin 128) :
    stacked q k v (ix5 b p 0 t l) = if h : (p : ℕ) < 8 then q (ix4 b t ⟨p, h⟩ l)
      else if h : (p : ℕ) < 16 then k (ix4 b t ⟨p - 8, by omega⟩ l) else v (ix4 b t ⟨p - 16, by omega⟩ l) := by
  pointwise [stacked]
  by_cases e : (p : ℕ) < 8
  · rw [dif_pos e, dif_pos e]
  · by_cases e' : (p : ℕ) < 16
    · rw [dif_neg e, dif_neg e, dif_pos (by omega), dif_pos e']
    · rw [dif_neg e, dif_neg e, dif_neg (by omega), dif_neg e']
      exact congrArg (fun p => v (ix4 b t p l)) (Fin.ext (by simp only; omega))

/-- The heads at an index. -/
theorem heads_apply (b : Fin 32) (p : Fin 24) (t : Fin 2048) (l : Fin 128) : heads x s g w (ix5 b p 0 t l) =
    rawHead (s (ix2 b t)) (fun j : Fin 3072 => projRow (fun k => x (ix3 b t k)) (fun k => g (ix1 k))
      (fun k j => w (ix2 k j)) ⟨j, by omega⟩) p l := by
  unfold heads rawHead
  rw [stacked_apply]
  by_cases e : (p : ℕ) < 8
  · rw [dif_pos e, if_pos e, divided_apply, rotated_apply]
    simp only [qPart_apply, proj_apply]
  · by_cases e' : (p : ℕ) < 16
    · rw [dif_neg e, if_neg e, dif_pos e', if_pos e', rotated_apply]
      simp only [kPart_apply, proj_apply, show 8 + ((p : ℕ) - 8) = p by omega]
    · rw [dif_neg e, if_neg e, dif_neg e', if_neg e', vPart_apply, proj_apply]
      simp only [show 16 + ((p : ℕ) - 16) = p by omega]

/-- The gate at an index. -/
theorem gateOut_apply (b : Fin 32) (t : Fin 2048) (c : Fin 1024) : gateOut x g w (ix3 b t c) =
    projRow (fun k => x (ix3 b t k)) (fun k => g (ix1 k)) (fun k j => w (ix2 k j)) ⟨9216 + c, by omega⟩ := by
  have e : gateOut x g w (ix3 b t c) = proj x g w (ix3 b t ⟨9216 + c, by omega⟩) := by
    pointwise [gateOut]
  rw [e, proj_apply]

end Cert.Proj1Ref

end
-- ==== Proof.ProjClaim.lean ====
module

public import proofs.«01_k».proof.Defs
public import proofs.«01_k».proof.Proof.ProjHost
public import proofs.«01_k».proof.Proof.ProjRef
public import proofs.«01_k».proof.Proof.Gen.Kernel2Ideal.Value
public import proofs.«01_k».proof.Proof.Gen.Reference2Ideal.Run

@[expose] public section

set_option maxRecDepth 16384

noncomputable section

/-!
The claims about the first projection.
-/

namespace Cert.Proj1

open Cert.Kernel2Ideal Cert.Kernel2Ideal.Gen Cert.Proj Idealize.ShloMosaic Idealize.ShloMosaic.TcCoe Idealize.SL.Sem

variable (m : (ℓ : Loc nD τ sig) → Buf (Elt Ideal) ℓ)

/-- The heads are the reference's. -/
theorem same6 (c : Dev nD) : result6 m c = Cert.Proj1Ref.heads (m ((c.tc : Thread nD τ).loc main_arg0))
    (m ((c.tc : Thread nD τ).loc main_arg1)) (m ((c.tc : Thread nD τ).loc main_arg2)) (m ((c.tc : Thread nD τ).loc main_arg3)) := by
  funext y
  obtain ⟨b, p, o, t, l, rfl⟩ : ∃ (b : Fin 32) (p : Fin 24) (o : Fin 1) (t : Fin 2048) (l : Fin 128), y = ix5 b p o t l :=
    ⟨y 0, y 1, y 2, y 3, y 4, eq_ix5 y⟩
  obtain rfl : o = 0 := Subsingleton.elim _ _
  exact (headArr_eq m c b t p l).trans (Cert.Proj1Ref.heads_apply _ _ _ _ b p t l).symm

/-- The gate is the reference's. -/
theorem same7 (c : Dev nD) : result7 m c = Cert.Proj1Ref.gateOut (m ((c.tc : Thread nD τ).loc main_arg0))
    (m ((c.tc : Thread nD τ).loc main_arg2)) (m ((c.tc : Thread nD τ).loc main_arg3)) := by
  funext y
  obtain ⟨b, t, j, rfl⟩ : ∃ (b : Fin 32) (t : Fin 2048) (j : Fin 1024), y = ix3 b t j := ⟨y 0, y 1, y 2, eq_ix3 y⟩
  refine .trans ?_ (Cert.Proj1Ref.gateOut_apply _ _ _ b t j).symm
  exact congrFun (accArr_eq m c b t) _

end Cert.Proj1

namespace Cert.ProjClaim

open Idealize.ShloMosaic Idealize.SL.Sem

/-- The named scale is the rounded literal's real number. -/
theorem preserves : Cert.preserves_Kernel2_Kernel2Ideal :=
  IdealRules.named_const.statement _ _ _ _ _ rfl

/-- The frame of the reference. -/
theorem frame_r : Cert.quiescent_Reference2Ideal (hReference2Ideal := Cert.Reference2Ideal.Gen.facts) := fun m ρ _ =>
  (θ_run Cert.Reference2Ideal.defs _ _).mono
    (fun r h => ⟨fun c => (h c).2.2, sem_eq_zero_of_no_sems (by decide) r.2⟩)
    (Cert.Reference2Ideal.Value.run (F := Ideal) m ρ)

set_option maxHeartbeats 4000000 in
/-- The call and its reference end with equal results. -/
theorem equal : Cert.algebraic_Kernel2Ideal_Reference2Ideal
    (hKernel2Ideal := Cert.Kernel2Ideal.Gen.facts) (hReference2Ideal := Cert.Reference2Ideal.Gen.facts) := by
  intro m ρ m' ρ' _ hagree
  refine ⟨_, _, Cert.Kernel2Ideal.Value.run_blocks m ρ, ?_⟩
  refine (θ_run Cert.Reference2Ideal.defs _ _).mono
    (fun r h c => ⟨(h c).1.trans ?_, (h c).2.1.trans ?_, (h c).2.2⟩)
    (Cert.Reference2Ideal.Value.run (F := Ideal) m' ρ')
  all_goals obtain ⟨e₀, e₁, e₂, e₃⟩ := hagree c
  · refine .trans ?_ ((Cert.Proj1.final6 m c).trans (Cert.Proj1.same6 m c)).symm
    rw [← e₀, ← e₁, ← e₂, ← e₃]
    rfl
  · refine .trans ?_ ((Cert.Proj1.final7 m c).trans (Cert.Proj1.same7 m c)).symm
    rw [← e₀, ← e₂, ← e₃]
    rfl

end Cert.ProjClaim

end
-- ==== Proof.FourSlabs.lean ====
module

public import proofs.«01_k».proof.Proof.ProjTile
public import proofs.«01_k».proof.Proof.Gen.Kernel5Ideal.Value
public import Idealize.ShloMosaic.Lib.Pipeline.ValueKit
public import Idealize.ShloMosaic.Lib.Pointwise

@[expose] public section

set_option maxRecDepth 16384

noncomputable section

/-!
The scratch of the first layer's projection at dilation 4. The body copies each half of its block there as ten slabs of
128 lanes, eight of the input, one of the cosines and one of the sines, and loads every fourth row of a slab: the rows
of a tile of 512 come out sorted into four classes.
-/

namespace Cert.Proj4

open Cert.Kernel5Ideal Cert.Kernel5Ideal.Gen Cert.Rows Cert.Proj Idealize.ShloMosaic Idealize.ShloMosaic.TcCoe

variable {σ : RefSig} (x0 : Vec Ideal S1x1024x1024 .f32) (x1 x2 : Vec Ideal S1x1024x128 .f32)

/-- Lane `l` of row `r` of slab `c` of half `i`. -/
def slabAt (i : Fin 2) (c : Fin 10) (r : Fin 512) (l : Fin 128) : EReal :=
  if h : (c : ℕ) < 8 then x0 (ix3 0 (⟨512 * i + r, by omega⟩ : Fin 1024) (⟨128 * c + l, by omega⟩ : Fin 1024))
  else if (c : ℕ) = 8 then x1 (ix3 0 (⟨512 * i + r, by omega⟩ : Fin 1024) l)
  else x2 (ix3 0 (⟨512 * i + r, by omega⟩ : Fin 1024) l)

/-- All slabs. -/
def slabs : Vec Ideal S2x10x512x128 .f32 := fun y => slabAt x0 x1 x2 (y 0) (y 1) (y 2) (y 3)

/-- The place of a slab. -/
abbrev slabRect (i c : ℕ) (hi : ∀ a, (![i, 0, 0, 0] : Fin 4 → ℕ) a + S1x10x512x128.size a ≤ S2x10x512x128.size a)
    (hc : ∀ a, (![c, 0, 0] : Fin 3 → ℕ) a + S1x512x128.size a ≤ S10x512x128.size a) : Rect S2x10x512x128 :=
  (Rect.unit (s := S2x10x512x128) ![i, 0, 0, 0] S1x10x512x128.size hi).within
    ((Rect.unit (s := S10x512x128) ![c, 0, 0] S1x512x128.size hc).consLift ![1, 10, 512, 128] rfl (fun _ => rfl)) (fun _ => rfl)

/-- Every fourth row of a slab, from row `r` on. -/
abbrev strided (i c r : ℕ) (hi : ∀ a, (![i, 0, 0, 0] : Fin 4 → ℕ) a + S1x10x512x128.size a ≤ S2x10x512x128.size a)
    (hc : ∀ a, S1x128x128.size a = 0 ∨ (![c, r, 0] : Fin 3 → ℕ) a + (![1, 4, 1] : Fin 3 → ℕ) a * (S1x128x128.size a - 1) < S10x512x128.size a) :
    LoadRect S2x10x512x128 :=
  (Rect.unit (s := S2x10x512x128) ![i, 0, 0, 0] S1x10x512x128.size hi).withinL
    ((⟨![c, r, 0], S1x128x128.size, ![1, 4, 1], hc⟩ : LoadRect S10x512x128).consLift ![1, 10, 512, 128] rfl (fun _ => rfl)) (fun _ => rfl)

section
variable {i : Fin 2} {c : Fin 10}
  (hi : ∀ a, (![(i : ℕ), 0, 0, 0] : Fin 4 → ℕ) a + S1x10x512x128.size a ≤ S2x10x512x128.size a)
  (hc : ∀ a, (![(c : ℕ), 0, 0] : Fin 3 → ℕ) a + S1x512x128.size a ≤ S10x512x128.size a)

/-- The place of an element of a slab. -/
theorem slab_emb (x : (slabRect i c hi hc).shape.Idx) : (slabRect i c hi hc).emb x = ix4 i c (x 2 : Fin 512) (x 3 : Fin 128) := by
  have h0 : (x 0).val < 1 := (x 0).isLt
  have h1 : (x 1).val < 1 := (x 1).isLt
  refine funext fun a' => Fin.ext ?_
  match a' with
  | ⟨0, _⟩ => show (i : ℕ) + 0 + 1 * (x 0).val = i; omega
  | ⟨1, _⟩ => show 0 + (c : ℕ) + 1 * (x 1).val = c; omega
  | ⟨2, _⟩ => show 0 + 0 + 1 * (x 2).val = (x 2).val; omega
  | ⟨3, _⟩ => show 0 + 0 + 1 * (x 3).val = (x 3).val; omega

/-- A store of a slab's rows is a slab. -/
theorem slab_piece (hR) (w : FVec Ideal S1x512x128 .f32) (hw : ∀ r l, w (ix3 0 r l) = slabAt x0 x1 x2 i c r l)
    (x : (slabRect i c hi hc).shape.Idx) : Rect.payAlong (R := slabRect i c hi hc)
      (r := Rect.unit (s := S10x512x128) ![(c : ℕ), 0, 0] S1x512x128.size hc) hR w x =
      slabs x0 x1 x2 ((slabRect i c hi hc).emb x) := by
  rw [slab_emb]
  refine Eq.trans ?_ (hw (x 2) (x 3))
  refine Rect.payAlong_consLift (Rect.unit (s := S10x512x128) ![(c : ℕ), 0, 0] S1x512x128.size hc) ![1, 10, 512, 128] rfl
    (fun _ => rfl) w hR x (ix3 0 (x 2) (x 3)) fun a => ?_
  have h1 : (x 1).val < 1 := (x 1).isLt
  match a with
  | ⟨0, _⟩ => show 0 = (x 1).val; omega
  | ⟨1, _⟩ => rfl
  | ⟨2, _⟩ => rfl
end

/-- 128 lanes of 512 rows of a block, as they are copied, at an index. -/
theorem copied_apply {d : ℕ} (m : Memref σ .tc .vmem ⟨3, ![1, 1024, d]⟩ .f32) (hm : m.IsWhole)
    (X : Vec Ideal ⟨3, ![1, 1024, d]⟩ .f32) (lo col : ℕ)
    (inb : ∀ a, (![0, lo, col] : Fin 3 → ℕ) a + S1x512x128.size a ≤ (⟨3, ![1, 1024, d]⟩ : Shape).size a)
    (h₁ : S1x512x128.ShapeCasts S512x128) (h₂ : S512x128.ShapeCasts S1x512x128) (r : Fin 512) (l : Fin 128)
    (hr : lo + r < 1024) (hl : col + l < d) :
    (shapeCast S1x512x128 (shapeCast S512x128 (View.readAt (Elt Ideal) m.view
      (Rect.unit (s := ⟨3, ![1, 1024, d]⟩) ![0, lo, col] S1x512x128.size inb).toLoadRect (hm.unread X)) h₁ : FVec Ideal S512x128 .f32) h₂ :
      FVec Ideal S1x512x128 .f32) (ix3 0 r l) = X (ix3 0 ⟨lo + r, hr⟩ ⟨col + l, hl⟩) := by
  pointwise
  rw [View.readAt_eq_ld, hm.read_unread]
  refine congrArg X (funext fun a' => Fin.ext ?_)
  match a' with
  | ⟨0, _⟩ => rfl
  | ⟨1, _⟩ => show lo + 1 * (r : ℕ) = lo + r; omega
  | ⟨2, _⟩ => show col + 1 * (l : ℕ) = col + l; omega

section
variable (i : Fin 2)
  (hi : ∀ a, (![(i : ℕ), 0, 0, 0] : Fin 4 → ℕ) a + S1x10x512x128.size a ≤ S2x10x512x128.size a)
  (h₁ : S1x512x128.ShapeCasts S512x128) (h₂ : S512x128.ShapeCasts S1x512x128)

/-- The store of a slab of the input. -/
theorem x_piece (c : Fin 8) (hc : ∀ a, (![(c : ℕ), 0, 0] : Fin 3 → ℕ) a + S1x512x128.size a ≤ S10x512x128.size a)
    (m : Memref σ .tc .vmem S1x1024x1024 .f32) (hm : m.IsWhole)
    (inb : ∀ a, (![0, 512 * (i : ℕ), 128 * (c : ℕ)] : Fin 3 → ℕ) a + S1x512x128.size a ≤ S1x1024x1024.size a) (hR)
    (x : (slabRect i c hi hc).shape.Idx) : Rect.payAlong (R := slabRect i c hi hc)
      (r := Rect.unit (s := S10x512x128) ![(c : ℕ), 0, 0] S1x512x128.size hc) hR
      (shapeCast S1x512x128 (shapeCast S512x128 (View.readAt (Elt Ideal) m.view
      (Rect.unit (s := S1x1024x1024) ![0, 512 * (i : ℕ), 128 * (c : ℕ)] S1x512x128.size inb).toLoadRect (hm.unread x0)) h₁ :
      FVec Ideal S512x128 .f32) h₂ : FVec Ideal S1x512x128 .f32) x = slabs x0 x1 x2 ((slabRect i c hi hc).emb x) := by
  refine slab_piece (c := ⟨c, by omega⟩) x0 x1 x2 hi hc hR _ (fun r l => ?_) x
  rw [copied_apply m hm x0 _ _ inb h₁ h₂ r l (by omega) (by omega)]
  symm
  exact dif_pos c.isLt

/-- The store of a slab of the cosines. -/
theorem cos_piece (hc : ∀ a, (![8, 0, 0] : Fin 3 → ℕ) a + S1x512x128.size a ≤ S10x512x128.size a)
    (m : Memref σ .tc .vmem S1x1024x128 .f32) (hm : m.IsWhole)
    (inb : ∀ a, (![0, 512 * (i : ℕ), 0] : Fin 3 → ℕ) a + S1x512x128.size a ≤ S1x1024x128.size a) (hR)
    (x : (slabRect i 8 hi hc).shape.Idx) : Rect.payAlong (R := slabRect i 8 hi hc)
      (r := Rect.unit (s := S10x512x128) ![8, 0, 0] S1x512x128.size hc) hR
      (shapeCast S1x512x128 (shapeCast S512x128 (View.readAt (Elt Ideal) m.view
      (Rect.unit (s := S1x1024x128) ![0, 512 * (i : ℕ), 0] S1x512x128.size inb).toLoadRect (hm.unread x1)) h₁ :
      FVec Ideal S512x128 .f32) h₂ : FVec Ideal S1x512x128 .f32) x = slabs x0 x1 x2 ((slabRect i 8 hi hc).emb x) := by
  refine slab_piece (c := 8) x0 x1 x2 hi hc hR _ (fun r l => ?_) x
  rw [copied_apply m hm x1 _ _ inb h₁ h₂ r l (by omega) (by omega)]
  simp only [Nat.zero_add]
  rfl

/-- The store of a slab of the sines. -/
theorem sin_piece (hc : ∀ a, (![9, 0, 0] : Fin 3 → ℕ) a + S1x512x128.size a ≤ S10x512x128.size a)
    (m : Memref σ .tc .vmem S1x1024x128 .f32) (hm : m.IsWhole)
    (inb : ∀ a, (![0, 512 * (i : ℕ), 0] : Fin 3 → ℕ) a + S1x512x128.size a ≤ S1x1024x128.size a) (hR)
    (x : (slabRect i 9 hi hc).shape.Idx) : Rect.payAlong (R := slabRect i 9 hi hc)
      (r := Rect.unit (s := S10x512x128) ![9, 0, 0] S1x512x128.size hc) hR
      (shapeCast S1x512x128 (shapeCast S512x128 (View.readAt (Elt Ideal) m.view
      (Rect.unit (s := S1x1024x128) ![0, 512 * (i : ℕ), 0] S1x512x128.size inb).toLoadRect (hm.unread x2)) h₁ :
      FVec Ideal S512x128 .f32) h₂ : FVec Ideal S1x512x128 .f32) x = slabs x0 x1 x2 ((slabRect i 9 hi hc).emb x) := by
  refine slab_piece (c := 9) x0 x1 x2 hi hc hR _ (fun r l => ?_) x
  rw [copied_apply m hm x2 _ _ inb h₁ h₂ r l (by omega) (by omega)]
  simp only [Nat.zero_add]
  rfl
end

/-- Every fourth row of slab `c` of half `i`, from row `r` on. -/
def pick (i : Fin 2) (c : Fin 10) (r : Fin 4) : Vec Ideal S1x128x128 .f32 := fun z =>
  slabAt x0 x1 x2 i c (⟨4 * (z 1).val + r, by have : (z 1).val < 128 := (z 1).isLt; omega⟩ : Fin 512) (z 2)

section
variable {κ : Kind} {sp : Space} (v : View σ κ sp S2x10x512x128 .f32)
  (L : List (View.Piece (Elt Ideal) S2x10x512x128 .f32))
  (hL : ∀ p ∈ L, ∀ x : p.1.shape.Idx, p.2 x = slabs x0 x1 x2 (p.1.emb x))

include hL in
/-- A load of every fourth row of a slab after the slabs were stored. -/
theorem read_eq (i : Fin 2) (c : Fin 10) (r : Fin 4)
    (hi : ∀ a, (![(i : ℕ), 0, 0, 0] : Fin 4 → ℕ) a + S1x10x512x128.size a ≤ S2x10x512x128.size a)
    (hc : ∀ a, (![(c : ℕ), 0, 0] : Fin 3 → ℕ) a + S1x512x128.size a ≤ S10x512x128.size a)
    (hb : ∀ a, S1x128x128.size a = 0 ∨ (![(c : ℕ), (r : ℕ), 0] : Fin 3 → ℕ) a + (![1, 4, 1] : Fin 3 → ℕ) a * (S1x128x128.size a - 1) < S10x512x128.size a)
    (w) (hm : (⟨slabRect i c hi hc, w⟩ : View.Piece (Elt Ideal) S2x10x512x128 .f32) ∈ L) (hV) :
    (LoadRect.valAlong (lr := (⟨![(c : ℕ), (r : ℕ), 0], S1x128x128.size, ![1, 4, 1], hb⟩ : LoadRect S10x512x128))
      (LR := strided i c r hi hb) hV (v.readCov L (strided i c r hi hb)) : Vec Ideal S1x128x128 .f32) = pick x0 x1 x2 i c r := by
  rw [View.readCov_eq_canon']
  funext z
  have hx : Shape.reshapeEquiv hV z = Fin.cons ⟨0, Nat.one_pos⟩ z := Shape.reshapeEquiv_cons_one (d := S1x128x128.size) _ _
  show View.canon L ((strided i c r hi hb).idx (Shape.reshapeEquiv hV z)) = _
  rw [hx]
  have h0 : (z 0).val < 1 := (z 0).isLt
  have h1 : (z 1).val < 128 := (z 1).isLt
  have h2 : (z 2).val < 128 := (z 2).isLt
  have e : (strided i c r hi hb).idx (Fin.cons ⟨0, Nat.one_pos⟩ z) = ix4 i c (⟨4 * (z 1).val + r, by omega⟩ : Fin 512) (z 2 : Fin 128) := by
    refine funext fun a' => Fin.ext ?_
    match a' with
    | ⟨0, _⟩ => show (i : ℕ) + 0 + 1 * 0 = i; omega
    | ⟨1, _⟩ => show 0 + (c : ℕ) + 1 * (z 0).val = c; omega
    | ⟨2, _⟩ => show 0 + (r : ℕ) + 4 * (z 1).val = 4 * (z 1).val + r; omega
    | ⟨3, _⟩ => show 0 + 0 + 1 * (z 2).val = (z 2).val; omega
  rw [e]
  refine (View.canon_apply_of_pieces (slabs x0 x1 x2) L hL _ ⟨_, hm, ?_⟩).trans rfl
  refine (slabRect i c hi hc).mem_set.mpr fun a' => ?_
  match a' with
  | ⟨0, _⟩ => exact ⟨0, Nat.one_pos, show (i : ℕ) = i + 0 + 1 * 0 by omega⟩
  | ⟨1, _⟩ => exact ⟨0, Nat.one_pos, show (c : ℕ) = 0 + c + 1 * 0 by omega⟩
  | ⟨2, _⟩ => exact ⟨4 * (z 1).val + r, show _ < 512 by omega, show _ = 0 + 0 + 1 * (4 * (z 1).val + (r : ℕ)) by
      show 4 * (z 1).val + (r : ℕ) = _; omega⟩
  | ⟨3, _⟩ => exact ⟨(z 2).val, h2, show (z 2).val = 0 + 0 + 1 * (z 2).val by omega⟩
end

/-- A slab of a tile of 512 tokens, sorted into classes. -/
def slabTile (i : Fin 2) (c : Fin 10) : FVec Ideal S512x128 .f32 :=
  concatenate S512x128 0
    [⟨S128x128, (shapeCast S128x128 (pick x0 x1 x2 i c 0) shapeCasts_S1x128x128_S128x128 : FVec Ideal S128x128 .f32)⟩,
      ⟨S128x128, (shapeCast S128x128 (pick x0 x1 x2 i c 1) shapeCasts_S1x128x128_S128x128 : FVec Ideal S128x128 .f32)⟩,
      ⟨S128x128, (shapeCast S128x128 (pick x0 x1 x2 i c 2) shapeCasts_S1x128x128_S128x128 : FVec Ideal S128x128 .f32)⟩,
      ⟨S128x128, (shapeCast S128x128 (pick x0 x1 x2 i c 3) shapeCasts_S1x128x128_S128x128 : FVec Ideal S128x128 .f32)⟩]
    concatenates_S128x128_S128x128_S128x128_S128x128_S512x128_d0

/-- Four loads of a slab, one after another. -/
theorem slabTile_of (i : Fin 2) (c : Fin 10) {a₀ a₁ a₂ a₃ : Vec Ideal S1x128x128 .f32} (h₀ : a₀ = pick x0 x1 x2 i c 0)
    (h₁ : a₁ = pick x0 x1 x2 i c 1) (h₂ : a₂ = pick x0 x1 x2 i c 2) (h₃ : a₃ = pick x0 x1 x2 i c 3) :
    concatenate S512x128 0
      [⟨S128x128, (shapeCast S128x128 a₀ shapeCasts_S1x128x128_S128x128 : FVec Ideal S128x128 .f32)⟩,
        ⟨S128x128, (shapeCast S128x128 a₁ shapeCasts_S1x128x128_S128x128 : FVec Ideal S128x128 .f32)⟩,
        ⟨S128x128, (shapeCast S128x128 a₂ shapeCasts_S1x128x128_S128x128 : FVec Ideal S128x128 .f32)⟩,
        ⟨S128x128, (shapeCast S128x128 a₃ shapeCasts_S1x128x128_S128x128 : FVec Ideal S128x128 .f32)⟩]
      concatenates_S128x128_S128x128_S128x128_S128x128_S512x128_d0 = slabTile x0 x1 x2 i c := by
  subst h₀ h₁ h₂ h₃
  rfl

/-- The row of its half that a sorted row is. -/
def unsorted (r : Fin 512) : Fin 512 := ⟨4 * (r % 128) + r / 128, by omega⟩

/-- A sorted slab at an index. -/
theorem slabTile_apply (i : Fin 2) (c : Fin 10) (r : Fin 512) (l : Fin 128) :
    slabTile x0 x1 x2 i c (ix2 r l) = slabAt x0 x1 x2 i c (unsorted r) l := by
  pointwise [slabTile]
  unfold pick
  by_cases e₁ : (r : ℕ) < 128
  · rw [dif_pos (by omega)]
    exact congrArg (fun r => slabAt x0 x1 x2 i c r l) (Fin.ext (by unfold unsorted; simp; omega))
  · by_cases e₂ : (r : ℕ) < 256
    · rw [dif_neg (by omega), dif_pos (by omega)]
      exact congrArg (fun r => slabAt x0 x1 x2 i c r l) (Fin.ext (by unfold unsorted; simp; omega))
    · by_cases e₃ : (r : ℕ) < 384
      · rw [dif_neg (by omega), dif_neg (by omega), dif_pos (by omega)]
        exact congrArg (fun r => slabAt x0 x1 x2 i c r l) (Fin.ext (by unfold unsorted; simp; omega))
      · rw [dif_neg (by omega), dif_neg (by omega), dif_neg (by omega)]
        exact congrArg (fun r => slabAt x0 x1 x2 i c r l) (Fin.ext (by unfold unsorted; simp; omega))

/-- The input of a tile of 512 tokens, sorted into classes. -/
def xTile (i : Fin 2) : FVec Ideal S512x1024 .f32 :=
  sideBySide concatenates_S512x128_S512x128_S512x128_S512x128_S512x128_S512x128_S512x128_S512x128_S512x1024_d1
    (fun c => slabTile x0 x1 x2 i ⟨c, by omega⟩)

/-- Eight sorted slabs, side by side. -/
theorem xTile_of (i : Fin 2) {a₀ a₁ a₂ a₃ a₄ a₅ a₆ a₇ : FVec Ideal S512x128 .f32} (h₀ : a₀ = slabTile x0 x1 x2 i 0)
    (h₁ : a₁ = slabTile x0 x1 x2 i 1) (h₂ : a₂ = slabTile x0 x1 x2 i 2) (h₃ : a₃ = slabTile x0 x1 x2 i 3)
    (h₄ : a₄ = slabTile x0 x1 x2 i 4) (h₅ : a₅ = slabTile x0 x1 x2 i 5) (h₆ : a₆ = slabTile x0 x1 x2 i 6)
    (h₇ : a₇ = slabTile x0 x1 x2 i 7) : concatenate S512x1024 1 [⟨S512x128, a₀⟩, ⟨S512x128, a₁⟩, ⟨S512x128, a₂⟩,
      ⟨S512x128, a₃⟩, ⟨S512x128, a₄⟩, ⟨S512x128, a₅⟩, ⟨S512x128, a₆⟩, ⟨S512x128, a₇⟩]
      concatenates_S512x128_S512x128_S512x128_S512x128_S512x128_S512x128_S512x128_S512x128_S512x1024_d1 = xTile x0 x1 x2 i := by
  subst h₀ h₁ h₂ h₃ h₄ h₅ h₆ h₇
  rfl

/-- The sorted input at an index. -/
theorem xTile_apply (i : Fin 2) (r : Fin 512) (k : Fin 1024) :
    xTile x0 x1 x2 i (ix2 r k) = x0 (ix3 0 (⟨512 * i + unsorted r, by omega⟩ : Fin 1024) k) := by
  refine (sideBySide_at _ _ r k).trans ((slabTile_apply x0 x1 x2 i _ r _).trans ?_)
  refine (dif_pos (lane8 k).isLt).trans ?_
  exact congrArg (fun k => x0 (ix3 0 _ k)) (Fin.ext (by unfold lane8 lane128; simp; omega))

/-- The sorted cosines at an index. -/
theorem cosSlab_apply (i : Fin 2) (r : Fin 512) (l : Fin 128) :
    slabTile x0 x1 x2 i 8 (ix2 r l) = x1 (ix3 0 (⟨512 * i + unsorted r, by omega⟩ : Fin 1024) l) := slabTile_apply x0 x1 x2 i 8 r l

/-- The sorted sines at an index. -/
theorem sinSlab_apply (i : Fin 2) (r : Fin 512) (l : Fin 128) :
    slabTile x0 x1 x2 i 9 (ix2 r l) = x2 (ix3 0 (⟨512 * i + unsorted r, by omega⟩ : Fin 1024) l) := slabTile_apply x0 x1 x2 i 9 r l

end Cert.Proj4

end
-- ==== Proof.FourReads.lean ====
module

public import proofs.«01_k».proof.Proof.FourSlabs

@[expose] public section

set_option maxRecDepth 16384

noncomputable section

/-!
What the loads of the first layer's projection at dilation 4 find in the scratch: the sorted rows of the input and of the
tables, for either half of the block.
-/

namespace Cert.Proj4

open Cert.Kernel5Ideal Cert.Kernel5Ideal.Gen Cert.Kernel5Ideal.Gen.kernelRun0_A.sl Cert.Rows Cert.Proj Idealize.ShloMosaic Idealize.ShloMosaic.TcCoe

variable (c : Dev nD) (arg2 : Memref sig .tc .vmem S1x1024x1024 .f32) (harg2 : arg2.IsWhole)
  (arg3 : Memref sig .tc .vmem S1x1024x128 .f32) (harg3 : arg3.IsWhole)
  (arg4 : Memref sig .tc .vmem S1x1024x128 .f32) (harg4 : arg4.IsWhole)
  (arg8 : Memref sig .tc .vmem S2x10x512x128 .f32)
  (x0 : Vec Ideal S1x1024x1024 .f32) (x1 x2 : Vec Ideal S1x1024x128 .f32)

/-- What a list of stores holds. -/
def Holds (L : List (View.Piece (Elt Ideal) S2x10x512x128 .f32)) : Prop :=
  ∀ p ∈ L, ∀ x : p.1.shape.Idx, p.2 x = slabs x0 x1 x2 (p.1.emb x)

/-- The stores up to those of the first half are slabs. -/
theorem holds0 : Holds x0 x1 x2 (HS0_10 (F := Ideal) c arg2 harg2 arg3 harg3 arg4 harg4 x0 x1 x2) := by
  unfold Holds HS0_10
  simp only [List.forall_mem_cons, List.not_mem_nil, false_imp_iff, implies_true, and_true]
  refine ⟨?_, ?_, ?_, ?_, ?_, ?_, ?_, ?_, ?_, ?_⟩
  · exact fun x => sin_piece x0 x1 x2 0 _ _ _ _ arg4 harg4 _ _ x
  · exact fun x => cos_piece x0 x1 x2 0 _ _ _ _ arg3 harg3 _ _ x
  · exact fun x => x_piece x0 x1 x2 0 _ _ _ 7 _ arg2 harg2 _ _ x
  · exact fun x => x_piece x0 x1 x2 0 _ _ _ 6 _ arg2 harg2 _ _ x
  · exact fun x => x_piece x0 x1 x2 0 _ _ _ 5 _ arg2 harg2 _ _ x
  · exact fun x => x_piece x0 x1 x2 0 _ _ _ 4 _ arg2 harg2 _ _ x
  · exact fun x => x_piece x0 x1 x2 0 _ _ _ 3 _ arg2 harg2 _ _ x
  · exact fun x => x_piece x0 x1 x2 0 _ _ _ 2 _ arg2 harg2 _ _ x
  · exact fun x => x_piece x0 x1 x2 0 _ _ _ 1 _ arg2 harg2 _ _ x
  · exact fun x => x_piece x0 x1 x2 0 _ _ _ 0 _ arg2 harg2 _ _ x

/-- The stores up to those of the second half are slabs. -/
theorem holds1 : Holds x0 x1 x2 (HS0_20 (F := Ideal) c arg2 harg2 arg3 harg3 arg4 harg4 x0 x1 x2) := by
  unfold Holds HS0_20
  simp only [List.forall_mem_cons, List.not_mem_nil, false_imp_iff, implies_true, and_true]
  refine ⟨?_, ?_, ?_, ?_, ?_, ?_, ?_, ?_, ?_, ?_, ?_⟩
  · exact fun x => sin_piece x0 x1 x2 1 _ _ _ _ arg4 harg4 _ _ x
  · exact fun x => cos_piece x0 x1 x2 1 _ _ _ _ arg3 harg3 _ _ x
  · exact fun x => x_piece x0 x1 x2 1 _ _ _ 7 _ arg2 harg2 _ _ x
  · exact fun x => x_piece x0 x1 x2 1 _ _ _ 6 _ arg2 harg2 _ _ x
  · exact fun x => x_piece x0 x1 x2 1 _ _ _ 5 _ arg2 harg2 _ _ x
  · exact fun x => x_piece x0 x1 x2 1 _ _ _ 4 _ arg2 harg2 _ _ x
  · exact fun x => x_piece x0 x1 x2 1 _ _ _ 3 _ arg2 harg2 _ _ x
  · exact fun x => x_piece x0 x1 x2 1 _ _ _ 2 _ arg2 harg2 _ _ x
  · exact fun x => x_piece x0 x1 x2 1 _ _ _ 1 _ arg2 harg2 _ _ x
  · exact fun x => x_piece x0 x1 x2 1 _ _ _ 0 _ arg2 harg2 _ _ x
  · exact holds0 c arg2 harg2 arg3 harg3 arg4 harg4 x0 x1 x2

/-- The sorted rows of slab 0 of the input, first half. -/
theorem v87_eq : v87 (F := Ideal) c arg2 harg2 arg3 harg3 arg4 harg4 arg8 x0 x1 x2 = slabTile x0 x1 x2 0 0 :=
  slabTile_of x0 x1 x2 0 0
    (read_eq x0 x1 x2 _ _ (holds0 c arg2 harg2 arg3 harg3 arg4 harg4 x0 x1 x2) 0 0 0 _ _ _ _ (.tail _ (.tail _ (.tail _ (.tail _ (.tail _ (.tail _ (.tail _ (.tail _ (.tail _ (.head _)))))))))) _)
    (read_eq x0 x1 x2 _ _ (holds0 c arg2 harg2 arg3 harg3 arg4 harg4 x0 x1 x2) 0 0 1 _ _ _ _ (.tail _ (.tail _ (.tail _ (.tail _ (.tail _ (.tail _ (.tail _ (.tail _ (.tail _ (.head _)))))))))) _)
    (read_eq x0 x1 x2 _ _ (holds0 c arg2 harg2 arg3 harg3 arg4 harg4 x0 x1 x2) 0 0 2 _ _ _ _ (.tail _ (.tail _ (.tail _ (.tail _ (.tail _ (.tail _ (.tail _ (.tail _ (.tail _ (.head _)))))))))) _)
    (read_eq x0 x1 x2 _ _ (holds0 c arg2 harg2 arg3 harg3 arg4 harg4 x0 x1 x2) 0 0 3 _ _ _ _ (.tail _ (.tail _ (.tail _ (.tail _ (.tail _ (.tail _ (.tail _ (.tail _ (.tail _ (.head _)))))))))) _)

/-- The sorted rows of slab 1 of the input, first half. -/
theorem v104_eq : v104 (F := Ideal) c arg2 harg2 arg3 harg3 arg4 harg4 arg8 x0 x1 x2 = slabTile x0 x1 x2 0 1 :=
  slabTile_of x0 x1 x2 0 1
    (read_eq x0 x1 x2 _ _ (holds0 c arg2 harg2 arg3 harg3 arg4 harg4 x0 x1 x2) 0 1 0 _ _ _ _ (.tail _ (.tail _ (.tail _ (.tail _ (.tail _ (.tail _ (.tail _ (.tail _ (.head _))))))))) _)
    (read_eq x0 x1 x2 _ _ (holds0 c arg2 harg2 arg3 harg3 arg4 harg4 x0 x1 x2) 0 1 1 _ _ _ _ (.tail _ (.tail _ (.tail _ (.tail _ (.tail _ (.tail _ (.tail _ (.tail _ (.head _))))))))) _)
    (read_eq x0 x1 x2 _ _ (holds0 c arg2 harg2 arg3 harg3 arg4 harg4 x0 x1 x2) 0 1 2 _ _ _ _ (.tail _ (.tail _ (.tail _ (.tail _ (.tail _ (.tail _ (.tail _ (.tail _ (.head _))))))))) _)
    (read_eq x0 x1 x2 _ _ (holds0 c arg2 harg2 arg3 harg3 arg4 harg4 x0 x1 x2) 0 1 3 _ _ _ _ (.tail _ (.tail _ (.tail _ (.tail _ (.tail _ (.tail _ (.tail _ (.tail _ (.head _))))))))) _)

/-- The sorted rows of slab 2 of the input, first half. -/
theorem v121_eq : v121 (F := Ideal) c arg2 harg2 arg3 harg3 arg4 harg4 arg8 x0 x1 x2 = slabTile x0 x1 x2 0 2 :=
  slabTile_of x0 x1 x2 0 2
    (read_eq x0 x1 x2 _ _ (holds0 c arg2 harg2 arg3 harg3 arg4 harg4 x0 x1 x2) 0 2 0 _ _ _ _ (.tail _ (.tail _ (.tail _ (.tail _ (.tail _ (.tail _ (.tail _ (.head _)))))))) _)
    (read_eq x0 x1 x2 _ _ (holds0 c arg2 harg2 arg3 harg3 arg4 harg4 x0 x1 x2) 0 2 1 _ _ _ _ (.tail _ (.tail _ (.tail _ (.tail _ (.tail _ (.tail _ (.tail _ (.head _)))))))) _)
    (read_eq x0 x1 x2 _ _ (holds0 c arg2 harg2 arg3 harg3 arg4 harg4 x0 x1 x2) 0 2 2 _ _ _ _ (.tail _ (.tail _ (.tail _ (.tail _ (.tail _ (.tail _ (.tail _ (.head _)))))))) _)
    (read_eq x0 x1 x2 _ _ (holds0 c arg2 harg2 arg3 harg3 arg4 harg4 x0 x1 x2) 0 2 3 _ _ _ _ (.tail _ (.tail _ (.tail _ (.tail _ (.tail _ (.tail _ (.tail _ (.head _)))))))) _)

/-- The sorted rows of slab 3 of the input, first half. -/
theorem v138_eq : v138 (F := Ideal) c arg2 harg2 arg3 harg3 arg4 harg4 arg8 x0 x1 x2 = slabTile x0 x1 x2 0 3 :=
  slabTile_of x0 x1 x2 0 3
    (read_eq x0 x1 x2 _ _ (holds0 c arg2 harg2 arg3 harg3 arg4 harg4 x0 x1 x2) 0 3 0 _ _ _ _ (.tail _ (.tail _ (.tail _ (.tail _ (.tail _ (.tail _ (.head _))))))) _)
    (read_eq x0 x1 x2 _ _ (holds0 c arg2 harg2 arg3 harg3 arg4 harg4 x0 x1 x2) 0 3 1 _ _ _ _ (.tail _ (.tail _ (.tail _ (.tail _ (.tail _ (.tail _ (.head _))))))) _)
    (read_eq x0 x1 x2 _ _ (holds0 c arg2 harg2 arg3 harg3 arg4 harg4 x0 x1 x2) 0 3 2 _ _ _ _ (.tail _ (.tail _ (.tail _ (.tail _ (.tail _ (.tail _ (.head _))))))) _)
    (read_eq x0 x1 x2 _ _ (holds0 c arg2 harg2 arg3 harg3 arg4 harg4 x0 x1 x2) 0 3 3 _ _ _ _ (.tail _ (.tail _ (.tail _ (.tail _ (.tail _ (.tail _ (.head _))))))) _)

/-- The sorted rows of slab 4 of the input, first half. -/
theorem v155_eq : v155 (F := Ideal) c arg2 harg2 arg3 harg3 arg4 harg4 arg8 x0 x1 x2 = slabTile x0 x1 x2 0 4 :=
  slabTile_of x0 x1 x2 0 4
    (read_eq x0 x1 x2 _ _ (holds0 c arg2 harg2 arg3 harg3 arg4 harg4 x0 x1 x2) 0 4 0 _ _ _ _ (.tail _ (.tail _ (.tail _ (.tail _ (.tail _ (.head _)))))) _)
    (read_eq x0 x1 x2 _ _ (holds0 c arg2 harg2 arg3 harg3 arg4 harg4 x0 x1 x2) 0 4 1 _ _ _ _ (.tail _ (.tail _ (.tail _ (.tail _ (.tail _ (.head _)))))) _)
    (read_eq x0 x1 x2 _ _ (holds0 c arg2 harg2 arg3 harg3 arg4 harg4 x0 x1 x2) 0 4 2 _ _ _ _ (.tail _ (.tail _ (.tail _ (.tail _ (.tail _ (.head _)))))) _)
    (read_eq x0 x1 x2 _ _ (holds0 c arg2 harg2 arg3 harg3 arg4 harg4 x0 x1 x2) 0 4 3 _ _ _ _ (.tail _ (.tail _ (.tail _ (.tail _ (.tail _ (.head _)))))) _)

/-- The sorted rows of slab 5 of the input, first half. -/
theorem v172_eq : v172 (F := Ideal) c arg2 harg2 arg3 harg3 arg4 harg4 arg8 x0 x1 x2 = slabTile x0 x1 x2 0 5 :=
  slabTile_of x0 x1 x2 0 5
    (read_eq x0 x1 x2 _ _ (holds0 c arg2 harg2 arg3 harg3 arg4 harg4 x0 x1 x2) 0 5 0 _ _ _ _ (.tail _ (.tail _ (.tail _ (.tail _ (.head _))))) _)
    (read_eq x0 x1 x2 _ _ (holds0 c arg2 harg2 arg3 harg3 arg4 harg4 x0 x1 x2) 0 5 1 _ _ _ _ (.tail _ (.tail _ (.tail _ (.tail _ (.head _))))) _)
    (read_eq x0 x1 x2 _ _ (holds0 c arg2 harg2 arg3 harg3 arg4 harg4 x0 x1 x2) 0 5 2 _ _ _ _ (.tail _ (.tail _ (.tail _ (.tail _ (.head _))))) _)
    (read_eq x0 x1 x2 _ _ (holds0 c arg2 harg2 arg3 harg3 arg4 harg4 x0 x1 x2) 0 5 3 _ _ _ _ (.tail _ (.tail _ (.tail _ (.tail _ (.head _))))) _)

/-- The sorted rows of slab 6 of the input, first half. -/
theorem v189_eq : v189 (F := Ideal) c arg2 harg2 arg3 harg3 arg4 harg4 arg8 x0 x1 x2 = slabTile x0 x1 x2 0 6 :=
  slabTile_of x0 x1 x2 0 6
    (read_eq x0 x1 x2 _ _ (holds0 c arg2 harg2 arg3 harg3 arg4 harg4 x0 x1 x2) 0 6 0 _ _ _ _ (.tail _ (.tail _ (.tail _ (.head _)))) _)
    (read_eq x0 x1 x2 _ _ (holds0 c arg2 harg2 arg3 harg3 arg4 harg4 x0 x1 x2) 0 6 1 _ _ _ _ (.tail _ (.tail _ (.tail _ (.head _)))) _)
    (read_eq x0 x1 x2 _ _ (holds0 c arg2 harg2 arg3 harg3 arg4 harg4 x0 x1 x2) 0 6 2 _ _ _ _ (.tail _ (.tail _ (.tail _ (.head _)))) _)
    (read_eq x0 x1 x2 _ _ (holds0 c arg2 harg2 arg3 harg3 arg4 harg4 x0 x1 x2) 0 6 3 _ _ _ _ (.tail _ (.tail _ (.tail _ (.head _)))) _)

/-- The sorted rows of slab 7 of the input, first half. -/
theorem v206_eq : v206 (F := Ideal) c arg2 harg2 arg3 harg3 arg4 harg4 arg8 x0 x1 x2 = slabTile x0 x1 x2 0 7 :=
  slabTile_of x0 x1 x2 0 7
    (read_eq x0 x1 x2 _ _ (holds0 c arg2 harg2 arg3 harg3 arg4 harg4 x0 x1 x2) 0 7 0 _ _ _ _ (.tail _ (.tail _ (.head _))) _)
    (read_eq x0 x1 x2 _ _ (holds0 c arg2 harg2 arg3 harg3 arg4 harg4 x0 x1 x2) 0 7 1 _ _ _ _ (.tail _ (.tail _ (.head _))) _)
    (read_eq x0 x1 x2 _ _ (holds0 c arg2 harg2 arg3 harg3 arg4 harg4 x0 x1 x2) 0 7 2 _ _ _ _ (.tail _ (.tail _ (.head _))) _)
    (read_eq x0 x1 x2 _ _ (holds0 c arg2 harg2 arg3 harg3 arg4 harg4 x0 x1 x2) 0 7 3 _ _ _ _ (.tail _ (.tail _ (.head _))) _)

/-- The sorted rows of the cosines, first half. -/
theorem v223_eq : v223 (F := Ideal) c arg2 harg2 arg3 harg3 arg4 harg4 arg8 x0 x1 x2 = slabTile x0 x1 x2 0 8 :=
  slabTile_of x0 x1 x2 0 8
    (read_eq x0 x1 x2 _ _ (holds0 c arg2 harg2 arg3 harg3 arg4 harg4 x0 x1 x2) 0 8 0 _ _ _ _ (.tail _ (.head _)) _)
    (read_eq x0 x1 x2 _ _ (holds0 c arg2 harg2 arg3 harg3 arg4 harg4 x0 x1 x2) 0 8 1 _ _ _ _ (.tail _ (.head _)) _)
    (read_eq x0 x1 x2 _ _ (holds0 c arg2 harg2 arg3 harg3 arg4 harg4 x0 x1 x2) 0 8 2 _ _ _ _ (.tail _ (.head _)) _)
    (read_eq x0 x1 x2 _ _ (holds0 c arg2 harg2 arg3 harg3 arg4 harg4 x0 x1 x2) 0 8 3 _ _ _ _ (.tail _ (.head _)) _)

/-- The sorted rows of the sines, first half. -/
theorem v240_eq : v240 (F := Ideal) c arg2 harg2 arg3 harg3 arg4 harg4 arg8 x0 x1 x2 = slabTile x0 x1 x2 0 9 :=
  slabTile_of x0 x1 x2 0 9
    (read_eq x0 x1 x2 _ _ (holds0 c arg2 harg2 arg3 harg3 arg4 harg4 x0 x1 x2) 0 9 0 _ _ _ _ (.head _) _)
    (read_eq x0 x1 x2 _ _ (holds0 c arg2 harg2 arg3 harg3 arg4 harg4 x0 x1 x2) 0 9 1 _ _ _ _ (.head _) _)
    (read_eq x0 x1 x2 _ _ (holds0 c arg2 harg2 arg3 harg3 arg4 harg4 x0 x1 x2) 0 9 2 _ _ _ _ (.head _) _)
    (read_eq x0 x1 x2 _ _ (holds0 c arg2 harg2 arg3 harg3 arg4 harg4 x0 x1 x2) 0 9 3 _ _ _ _ (.head _) _)

/-- The sorted rows of slab 0 of the input, second half. -/
theorem v328_eq : v328 (F := Ideal) c arg2 harg2 arg3 harg3 arg4 harg4 arg8 x0 x1 x2 = slabTile x0 x1 x2 1 0 :=
  slabTile_of x0 x1 x2 1 0
    (read_eq x0 x1 x2 _ _ (holds1 c arg2 harg2 arg3 harg3 arg4 harg4 x0 x1 x2) 1 0 0 _ _ _ _ (.tail _ (.tail _ (.tail _ (.tail _ (.tail _ (.tail _ (.tail _ (.tail _ (.tail _ (.head _)))))))))) _)
    (read_eq x0 x1 x2 _ _ (holds1 c arg2 harg2 arg3 harg3 arg4 harg4 x0 x1 x2) 1 0 1 _ _ _ _ (.tail _ (.tail _ (.tail _ (.tail _ (.tail _ (.tail _ (.tail _ (.tail _ (.tail _ (.head _)))))))))) _)
    (read_eq x0 x1 x2 _ _ (holds1 c arg2 harg2 arg3 harg3 arg4 harg4 x0 x1 x2) 1 0 2 _ _ _ _ (.tail _ (.tail _ (.tail _ (.tail _ (.tail _ (.tail _ (.tail _ (.tail _ (.tail _ (.head _)))))))))) _)
    (read_eq x0 x1 x2 _ _ (holds1 c arg2 harg2 arg3 harg3 arg4 harg4 x0 x1 x2) 1 0 3 _ _ _ _ (.tail _ (.tail _ (.tail _ (.tail _ (.tail _ (.tail _ (.tail _ (.tail _ (.tail _ (.head _)))))))))) _)

/-- The sorted rows of slab 1 of the input, second half. -/
theorem v345_eq : v345 (F := Ideal) c arg2 harg2 arg3 harg3 arg4 harg4 arg8 x0 x1 x2 = slabTile x0 x1 x2 1 1 :=
  slabTile_of x0 x1 x2 1 1
    (read_eq x0 x1 x2 _ _ (holds1 c arg2 harg2 arg3 harg3 arg4 harg4 x0 x1 x2) 1 1 0 _ _ _ _ (.tail _ (.tail _ (.tail _ (.tail _ (.tail _ (.tail _ (.tail _ (.tail _ (.head _))))))))) _)
    (read_eq x0 x1 x2 _ _ (holds1 c arg2 harg2 arg3 harg3 arg4 harg4 x0 x1 x2) 1 1 1 _ _ _ _ (.tail _ (.tail _ (.tail _ (.tail _ (.tail _ (.tail _ (.tail _ (.tail _ (.head _))))))))) _)
    (read_eq x0 x1 x2 _ _ (holds1 c arg2 harg2 arg3 harg3 arg4 harg4 x0 x1 x2) 1 1 2 _ _ _ _ (.tail _ (.tail _ (.tail _ (.tail _ (.tail _ (.tail _ (.tail _ (.tail _ (.head _))))))))) _)
    (read_eq x0 x1 x2 _ _ (holds1 c arg2 harg2 arg3 harg3 arg4 harg4 x0 x1 x2) 1 1 3 _ _ _ _ (.tail _ (.tail _ (.tail _ (.tail _ (.tail _ (.tail _ (.tail _ (.tail _ (.head _))))))))) _)

/-- The sorted rows of slab 2 of the input, second half. -/
theorem v362_eq : v362 (F := Ideal) c arg2 harg2 arg3 harg3 arg4 harg4 arg8 x0 x1 x2 = slabTile x0 x1 x2 1 2 :=
  slabTile_of x0 x1 x2 1 2
    (read_eq x0 x1 x2 _ _ (holds1 c arg2 harg2 arg3 harg3 arg4 harg4 x0 x1 x2) 1 2 0 _ _ _ _ (.tail _ (.tail _ (.tail _ (.tail _ (.tail _ (.tail _ (.tail _ (.head _)))))))) _)
    (read_eq x0 x1 x2 _ _ (holds1 c arg2 harg2 arg3 harg3 arg4 harg4 x0 x1 x2) 1 2 1 _ _ _ _ (.tail _ (.tail _ (.tail _ (.tail _ (.tail _ (.tail _ (.tail _ (.head _)))))))) _)
    (read_eq x0 x1 x2 _ _ (holds1 c arg2 harg2 arg3 harg3 arg4 harg4 x0 x1 x2) 1 2 2 _ _ _ _ (.tail _ (.tail _ (.tail _ (.tail _ (.tail _ (.tail _ (.tail _ (.head _)))))))) _)
    (read_eq x0 x1 x2 _ _ (holds1 c arg2 harg2 arg3 harg3 arg4 harg4 x0 x1 x2) 1 2 3 _ _ _ _ (.tail _ (.tail _ (.tail _ (.tail _ (.tail _ (.tail _ (.tail _ (.head _)))))))) _)

/-- The sorted rows of slab 3 of the input, second half. -/
theorem v379_eq : v379 (F := Ideal) c arg2 harg2 arg3 harg3 arg4 harg4 arg8 x0 x1 x2 = slabTile x0 x1 x2 1 3 :=
  slabTile_of x0 x1 x2 1 3
    (read_eq x0 x1 x2 _ _ (holds1 c arg2 harg2 arg3 harg3 arg4 harg4 x0 x1 x2) 1 3 0 _ _ _ _ (.tail _ (.tail _ (.tail _ (.tail _ (.tail _ (.tail _ (.head _))))))) _)
    (read_eq x0 x1 x2 _ _ (holds1 c arg2 harg2 arg3 harg3 arg4 harg4 x0 x1 x2) 1 3 1 _ _ _ _ (.tail _ (.tail _ (.tail _ (.tail _ (.tail _ (.tail _ (.head _))))))) _)
    (read_eq x0 x1 x2 _ _ (holds1 c arg2 harg2 arg3 harg3 arg4 harg4 x0 x1 x2) 1 3 2 _ _ _ _ (.tail _ (.tail _ (.tail _ (.tail _ (.tail _ (.tail _ (.head _))))))) _)
    (read_eq x0 x1 x2 _ _ (holds1 c arg2 harg2 arg3 harg3 arg4 harg4 x0 x1 x2) 1 3 3 _ _ _ _ (.tail _ (.tail _ (.tail _ (.tail _ (.tail _ (.tail _ (.head _))))))) _)

/-- The sorted rows of slab 4 of the input, second half. -/
theorem v396_eq : v396 (F := Ideal) c arg2 harg2 arg3 harg3 arg4 harg4 arg8 x0 x1 x2 = slabTile x0 x1 x2 1 4 :=
  slabTile_of x0 x1 x2 1 4
    (read_eq x0 x1 x2 _ _ (holds1 c arg2 harg2 arg3 harg3 arg4 harg4 x0 x1 x2) 1 4 0 _ _ _ _ (.tail _ (.tail _ (.tail _ (.tail _ (.tail _ (.head _)))))) _)
    (read_eq x0 x1 x2 _ _ (holds1 c arg2 harg2 arg3 harg3 arg4 harg4 x0 x1 x2) 1 4 1 _ _ _ _ (.tail _ (.tail _ (.tail _ (.tail _ (.tail _ (.head _)))))) _)
    (read_eq x0 x1 x2 _ _ (holds1 c arg2 harg2 arg3 harg3 arg4 harg4 x0 x1 x2) 1 4 2 _ _ _ _ (.tail _ (.tail _ (.tail _ (.tail _ (.tail _ (.head _)))))) _)
    (read_eq x0 x1 x2 _ _ (holds1 c arg2 harg2 arg3 harg3 arg4 harg4 x0 x1 x2) 1 4 3 _ _ _ _ (.tail _ (.tail _ (.tail _ (.tail _ (.tail _ (.head _)))))) _)

/-- The sorted rows of slab 5 of the input, second half. -/
theorem v413_eq : v413 (F := Ideal) c arg2 harg2 arg3 harg3 arg4 harg4 arg8 x0 x1 x2 = slabTile x0 x1 x2 1 5 :=
  slabTile_of x0 x1 x2 1 5
    (read_eq x0 x1 x2 _ _ (holds1 c arg2 harg2 arg3 harg3 arg4 harg4 x0 x1 x2) 1 5 0 _ _ _ _ (.tail _ (.tail _ (.tail _ (.tail _ (.head _))))) _)
    (read_eq x0 x1 x2 _ _ (holds1 c arg2 harg2 arg3 harg3 arg4 harg4 x0 x1 x2) 1 5 1 _ _ _ _ (.tail _ (.tail _ (.tail _ (.tail _ (.head _))))) _)
    (read_eq x0 x1 x2 _ _ (holds1 c arg2 harg2 arg3 harg3 arg4 harg4 x0 x1 x2) 1 5 2 _ _ _ _ (.tail _ (.tail _ (.tail _ (.tail _ (.head _))))) _)
    (read_eq x0 x1 x2 _ _ (holds1 c arg2 harg2 arg3 harg3 arg4 harg4 x0 x1 x2) 1 5 3 _ _ _ _ (.tail _ (.tail _ (.tail _ (.tail _ (.head _))))) _)

/-- The sorted rows of slab 6 of the input, second half. -/
theorem v430_eq : v430 (F := Ideal) c arg2 harg2 arg3 harg3 arg4 harg4 arg8 x0 x1 x2 = slabTile x0 x1 x2 1 6 :=
  slabTile_of x0 x1 x2 1 6
    (read_eq x0 x1 x2 _ _ (holds1 c arg2 harg2 arg3 harg3 arg4 harg4 x0 x1 x2) 1 6 0 _ _ _ _ (.tail _ (.tail _ (.tail _ (.head _)))) _)
    (read_eq x0 x1 x2 _ _ (holds1 c arg2 harg2 arg3 harg3 arg4 harg4 x0 x1 x2) 1 6 1 _ _ _ _ (.tail _ (.tail _ (.tail _ (.head _)))) _)
    (read_eq x0 x1 x2 _ _ (holds1 c arg2 harg2 arg3 harg3 arg4 harg4 x0 x1 x2) 1 6 2 _ _ _ _ (.tail _ (.tail _ (.tail _ (.head _)))) _)
    (read_eq x0 x1 x2 _ _ (holds1 c arg2 harg2 arg3 harg3 arg4 harg4 x0 x1 x2) 1 6 3 _ _ _ _ (.tail _ (.tail _ (.tail _ (.head _)))) _)

/-- The sorted rows of slab 7 of the input, second half. -/
theorem v447_eq : v447 (F := Ideal) c arg2 harg2 arg3 harg3 arg4 harg4 arg8 x0 x1 x2 = slabTile x0 x1 x2 1 7 :=
  slabTile_of x0 x1 x2 1 7
    (read_eq x0 x1 x2 _ _ (holds1 c arg2 harg2 arg3 harg3 arg4 harg4 x0 x1 x2) 1 7 0 _ _ _ _ (.tail _ (.tail _ (.head _))) _)
    (read_eq x0 x1 x2 _ _ (holds1 c arg2 harg2 arg3 harg3 arg4 harg4 x0 x1 x2) 1 7 1 _ _ _ _ (.tail _ (.tail _ (.head _))) _)
    (read_eq x0 x1 x2 _ _ (holds1 c arg2 harg2 arg3 harg3 arg4 harg4 x0 x1 x2) 1 7 2 _ _ _ _ (.tail _ (.tail _ (.head _))) _)
    (read_eq x0 x1 x2 _ _ (holds1 c arg2 harg2 arg3 harg3 arg4 harg4 x0 x1 x2) 1 7 3 _ _ _ _ (.tail _ (.tail _ (.head _))) _)

/-- The sorted rows of the cosines, second half. -/
theorem v464_eq : v464 (F := Ideal) c arg2 harg2 arg3 harg3 arg4 harg4 arg8 x0 x1 x2 = slabTile x0 x1 x2 1 8 :=
  slabTile_of x0 x1 x2 1 8
    (read_eq x0 x1 x2 _ _ (holds1 c arg2 harg2 arg3 harg3 arg4 harg4 x0 x1 x2) 1 8 0 _ _ _ _ (.tail _ (.head _)) _)
    (read_eq x0 x1 x2 _ _ (holds1 c arg2 harg2 arg3 harg3 arg4 harg4 x0 x1 x2) 1 8 1 _ _ _ _ (.tail _ (.head _)) _)
    (read_eq x0 x1 x2 _ _ (holds1 c arg2 harg2 arg3 harg3 arg4 harg4 x0 x1 x2) 1 8 2 _ _ _ _ (.tail _ (.head _)) _)
    (read_eq x0 x1 x2 _ _ (holds1 c arg2 harg2 arg3 harg3 arg4 harg4 x0 x1 x2) 1 8 3 _ _ _ _ (.tail _ (.head _)) _)

/-- The sorted rows of the sines, second half. -/
theorem r_1_eq : r_1 (F := Ideal) c arg2 harg2 arg3 harg3 arg4 harg4 arg8 x0 x1 x2 = slabTile x0 x1 x2 1 9 :=
  slabTile_of x0 x1 x2 1 9
    (read_eq x0 x1 x2 _ _ (holds1 c arg2 harg2 arg3 harg3 arg4 harg4 x0 x1 x2) 1 9 0 _ _ _ _ (.head _) _)
    (read_eq x0 x1 x2 _ _ (holds1 c arg2 harg2 arg3 harg3 arg4 harg4 x0 x1 x2) 1 9 1 _ _ _ _ (.head _) _)
    (read_eq x0 x1 x2 _ _ (holds1 c arg2 harg2 arg3 harg3 arg4 harg4 x0 x1 x2) 1 9 2 _ _ _ _ (.head _) _)
    (read_eq x0 x1 x2 _ _ (holds1 c arg2 harg2 arg3 harg3 arg4 harg4 x0 x1 x2) 1 9 3 _ _ _ _ (.head _) _)

/-- The sorted rows of the input, first half. -/
theorem v241_eq : v241 (F := Ideal) c arg2 harg2 arg3 harg3 arg4 harg4 arg8 x0 x1 x2 = xTile x0 x1 x2 0 :=
  xTile_of x0 x1 x2 0 (v87_eq c arg2 harg2 arg3 harg3 arg4 harg4 arg8 x0 x1 x2) (v104_eq c arg2 harg2 arg3 harg3 arg4 harg4 arg8 x0 x1 x2) (v121_eq c arg2 harg2 arg3 harg3 arg4 harg4 arg8 x0 x1 x2) (v138_eq c arg2 harg2 arg3 harg3 arg4 harg4 arg8 x0 x1 x2) (v155_eq c arg2 harg2 arg3 harg3 arg4 harg4 arg8 x0 x1 x2) (v172_eq c arg2 harg2 arg3 harg3 arg4 harg4 arg8 x0 x1 x2) (v189_eq c arg2 harg2 arg3 harg3 arg4 harg4 arg8 x0 x1 x2) (v206_eq c arg2 harg2 arg3 harg3 arg4 harg4 arg8 x0 x1 x2)

/-- The sorted rows of the input, second half. -/
theorem r_2_eq : r_2 (F := Ideal) c arg2 harg2 arg3 harg3 arg4 harg4 arg8 x0 x1 x2 = xTile x0 x1 x2 1 :=
  xTile_of x0 x1 x2 1 (v328_eq c arg2 harg2 arg3 harg3 arg4 harg4 arg8 x0 x1 x2) (v345_eq c arg2 harg2 arg3 harg3 arg4 harg4 arg8 x0 x1 x2) (v362_eq c arg2 harg2 arg3 harg3 arg4 harg4 arg8 x0 x1 x2) (v379_eq c arg2 harg2 arg3 harg3 arg4 harg4 arg8 x0 x1 x2) (v396_eq c arg2 harg2 arg3 harg3 arg4 harg4 arg8 x0 x1 x2) (v413_eq c arg2 harg2 arg3 harg3 arg4 harg4 arg8 x0 x1 x2) (v430_eq c arg2 harg2 arg3 harg3 arg4 harg4 arg8 x0 x1 x2) (v447_eq c arg2 harg2 arg3 harg3 arg4 harg4 arg8 x0 x1 x2)

end Cert.Proj4

end
-- ==== Proof.FourBlock.lean ====
module

public import proofs.«01_k».proof.Proof.FourReads

@[expose] public section

set_option maxRecDepth 16384

noncomputable section

/-!
The stores of the body of the first layer's projection at dilation 4 are the tiles of one function of the output block.
-/

namespace Cert.Proj4

open Cert.Kernel5Ideal Cert.Kernel5Ideal.Gen Cert.Kernel5Ideal.Gen.kernelRun0_A.sl Cert.Rows Cert.Proj Idealize.ShloMosaic Idealize.ShloMosaic.TcCoe

/-- The factor on the queries. -/
def scale : EReal := (Named.named (F := Ideal) κ "scale_a" 0x3E0293EE#32 : Ideal .f32)

/-- What the tiles of 512 tokens need of their shapes. -/
theorem tiles : Tiles 512 := ⟨⟨reduces_S512x1024_S512, shapeCasts_S512_S512x1, broadcasts_S512x1_S512x1024,
  shapeCasts_S1x1024_S1x1024, broadcasts_S1x1024_S512x1024⟩, ⟨iota_S512x128_d1_w32, rotates_S512x128_d1⟩,
  by decide, shapeCasts_S1024x1024_S1024x1024, by norm_num⟩

/-- A head's tokens of a class lie in the block. -/
theorem in5 {p : ℕ} (hp : p < 24) (i : Fin 2) (r : Fin 4) (a : Fin 5) :
    (![0, p, (r : ℕ), 128 * (i : ℕ), 0] : Fin 5 → ℕ) a + S1x1x1x128x128.size a ≤ S1x24x4x256x128.size a := by
  have hi := i.isLt
  match a with
  | ⟨0, _⟩ => show 0 + 1 ≤ 1; omega
  | ⟨1, _⟩ => exact hp
  | ⟨2, _⟩ => exact r.isLt
  | ⟨3, _⟩ => show 128 * (i : ℕ) + 128 ≤ 256; omega
  | ⟨4, _⟩ => show 0 + 128 ≤ 128; omega

/-- 1024 columns lie in the 3072 of the weights. -/
theorem inCols {lo : ℕ} (h : lo + 1024 ≤ 3072) (i : Fin 2) :
    (![0, lo] : Fin 2 → ℕ) i + (Mat 1024 1024).size i ≤ (Mat 1024 3072).size i := by
  match i with
  | ⟨0, _⟩ => show 0 + 1024 ≤ 1024; omega
  | ⟨1, _⟩ => exact h

/-- A class lies in a sorted tile. -/
theorem inClass : ∀ r : Fin 4, S512x128.Slices ![128 * (r : ℕ), 0] S128x128 := by decide

/-- The gain is loaded whole. -/
theorem inGain (i : Fin 2) : (![0, 0] : Fin 2 → ℕ) i + S1x1024.size i ≤ S1x1024.size i := by
  match i with
  | ⟨0, _⟩ => show 0 + 1 ≤ 1; omega
  | ⟨1, _⟩ => show 0 + 1024 ≤ 1024; omega

/-- The place of an element of a head's tokens of a class. -/
theorem emb5 {p : ℕ} (hp : p < 24) (i : Fin 2) (r : Fin 4) (a b e : Fin 1) (j : Fin 128) (l : Fin 128) :
    (Rect.unit (s := S1x24x4x256x128) ![0, p, (r : ℕ), 128 * (i : ℕ), 0] S1x1x1x128x128.size (in5 hp i r)).emb (ix5 a b e j l) =
      ix5 0 (⟨p, hp⟩ : Fin 24) r (⟨128 * i + j, by omega⟩ : Fin 256) l := by
  refine funext fun a' => Fin.ext ?_
  match a' with
  | ⟨0, _⟩ => show 0 + 1 * (a : ℕ) = 0; omega
  | ⟨1, _⟩ => show p + 1 * (b : ℕ) = p; omega
  | ⟨2, _⟩ => show (r : ℕ) + 1 * (e : ℕ) = r; omega
  | ⟨3, _⟩ => show 128 * (i : ℕ) + 1 * (j : ℕ) = 128 * i + j; omega
  | ⟨4, _⟩ => show 0 + 1 * (l : ℕ) = l; omega

/-- The token of a class. -/
def token (j : Fin 256) (r : Fin 4) : Fin 1024 := ⟨4 * j + r, by omega⟩

/-- The row of a sorted tile that holds a token of a class. -/
def sorted (r : Fin 4) (j : Fin 128) : Fin 512 := ⟨128 * r + j, by omega⟩

/-- The token in a row of a sorted tile. -/
theorem token_eq (i : Fin 2) (r : Fin 4) (j : Fin 128) :
    (⟨512 * i + unsorted (sorted r j), by omega⟩ : Fin 1024) = token ⟨128 * i + j, by omega⟩ r :=
  Fin.ext (by unfold token unsorted sorted; simp only; omega)

section
variable (x0 : Vec Ideal S1x1024x1024 .f32) (x1 x2 : Vec Ideal S1x1024x128 .f32) (x3 : Vec Ideal S1x1024 .f32)
  (x4 : Vec Ideal S1024x3072 .bf16)

/-- The block of queries, keys and values. -/
def block5 : Vec Ideal S1x24x4x256x128 .bf16 := fun y =>
  headRow scale (projRow (fun k => x0 (ix3 0 (token (y 3) (y 2)) k)) (fun k => x3 (ix2 0 k)) (fun k c => x4 (ix2 k c)))
    (fun l => x1 (ix3 0 (token (y 3) (y 2)) l)) (fun l => x2 (ix3 0 (token (y 3) (y 2)) l)) (y 1) (y 4)

/-- The store of a class of a tile. -/
def stored {r : Fin 4} (h : S512x128.Slices ![128 * (r : ℕ), 0] S128x128) (x : FVec Ideal S512x128 .f32) :
    FVec Ideal S1x1x1x128x128 .bf16 :=
  shapeCast S1x1x1x128x128 (extractStridedSlice S128x128 ![128 * (r : ℕ), 0]
    (truncf .bf16 x bitsLt_bf16_f32 : FVec Ideal S512x128 .bf16) h) shapeCasts_S128x128_S1x1x1x128x128

/-- A stored class at an index. -/
theorem stored_apply {r : Fin 4} (h) (x : FVec Ideal S512x128 .f32) (a b e : Fin 1) (j l : Fin 128) :
    stored (r := r) h x (ix5 a b e j l) = x (ix2 (sorted r j) l) := by
  pointwise [stored]
  exact congrArg₂ (fun j l => x (ix2 j l)) (Fin.ext (by simp [sorted])) (Fin.ext (by simp))

variable {X : FVec Ideal S512x1024 .f32} {g : Vec Ideal S1x1024 .f32} {W : Vec Ideal S1024x1024 .bf16}
  {C S : FVec Ideal S512x128 .f32} (i : Fin 2) (r : Fin 4) (h : S512x128.Slices ![128 * (r : ℕ), 0] S128x128)

/-- The products of a sorted tile at an index. -/
theorem acc_apply {lw : ℕ} (hw : lw + 1024 ≤ 3072) (hX : X = xTile x0 x1 x2 i) (hg : g = x3)
    (hW : W = cols lw (inCols hw) x4) (j : Fin 128) (c : Fin 1024) : accTile tiles X g W (ix2 (sorted r j) c) =
      projRow (fun k => x0 (ix3 0 (token ⟨128 * i + j, by omega⟩ r) k)) (fun k => x3 (ix2 0 k)) (fun k c => x4 (ix2 k c))
        ⟨lw + c, by omega⟩ := by
  subst hX hg hW
  rw [accTile_apply]
  simp only [xTile_apply, token_eq]
  unfold projRow dense
  exact Finset.sum_congr rfl fun k _ => congrArg _ (cols_apply lw (inCols hw) x4 k c (by omega))

/-- The cosines of a sorted tile at an index. -/
theorem cosine_apply (hC : C = slabTile x0 x1 x2 i 8) (j l : Fin 128) : cosTile tiles C (ix2 (sorted r j) l) =
    cosRow (fun l => x1 (ix3 0 (token ⟨128 * i + j, by omega⟩ r) l)) l := by
  subst hC
  rw [cosTile_apply]
  simp only [cosSlab_apply, token_eq]

/-- The sines of a sorted tile at an index. -/
theorem sine_apply (hS : S = slabTile x0 x1 x2 i 9) (j l : Fin 128) : sinTile tiles S (ix2 (sorted r j) l) =
    sinRow (fun l => x2 (ix3 0 (token ⟨128 * i + j, by omega⟩ r) l)) l := by
  subst hS
  rw [sinTile_apply]
  simp only [sinSlab_apply, token_eq]

/-- The store of a head's queries is its tile of the block function. -/
theorem q_piece (p : Fin 8) (hX : X = xTile x0 x1 x2 i) (hg : g = x3) (hW : W = cols 0 (inCols (by norm_num)) x4)
    (hC : C = slabTile x0 x1 x2 i 8) (hS : S = slabTile x0 x1 x2 i 9) (x : S1x1x1x128x128.Idx) :
    stored h (turnTile tiles (accTile tiles X g W) (scaled scale (cosTile tiles C)) (scaled scale (sinTile tiles S)) p) x =
      block5 x0 x1 x2 x3 x4 ((Rect.unit (s := S1x24x4x256x128) ![0, (p : ℕ), (r : ℕ), 128 * (i : ℕ), 0] S1x1x1x128x128.size
        (in5 (by omega) i r)).emb x) := by
  obtain ⟨a, b, e, j, l, rfl⟩ : ∃ (a b e : Fin 1) (j : Fin 128) (l : Fin 128), x = ix5 a b e j l :=
    ⟨x 0, x 1, x 2, x 3, x 4, eq_ix5 x⟩
  rw [emb5 (by omega) i r]
  refine Eq.trans ?_ (headRow_q _ _ _ _ p l).symm
  rw [stored_apply, turnTile_apply]
  refine congrFun (congr (congr (congrArg (rot 16) (funext fun l => ?_)) (funext fun l => ?_)) (funext fun l => ?_)) l
  · exact acc_apply x0 x1 x2 x3 x4 i r (by norm_num) hX hg hW j _
  · exact congrArg (· * scale) (cosine_apply x0 x1 x2 i r hC j l)
  · exact congrArg (· * scale) (sine_apply x0 x1 x2 i r hS j l)

/-- The store of a head's keys is its tile of the block function. -/
theorem k_piece (p : Fin 8) (hX : X = xTile x0 x1 x2 i) (hg : g = x3) (hW : W = cols 1024 (inCols (by norm_num)) x4)
    (hC : C = slabTile x0 x1 x2 i 8) (hS : S = slabTile x0 x1 x2 i 9) (x : S1x1x1x128x128.Idx) :
    stored h (turnTile tiles (accTile tiles X g W) (cosTile tiles C) (sinTile tiles S) p) x =
      block5 x0 x1 x2 x3 x4 ((Rect.unit (s := S1x24x4x256x128) ![0, 8 + (p : ℕ), (r : ℕ), 128 * (i : ℕ), 0] S1x1x1x128x128.size
        (in5 (by omega) i r)).emb x) := by
  obtain ⟨a, b, e, j, l, rfl⟩ : ∃ (a b e : Fin 1) (j : Fin 128) (l : Fin 128), x = ix5 a b e j l :=
    ⟨x 0, x 1, x 2, x 3, x 4, eq_ix5 x⟩
  rw [emb5 (by omega) i r]
  refine Eq.trans ?_ (headRow_k _ _ _ _ p l).symm
  rw [stored_apply, turnTile_apply]
  refine congrFun (congr (congr (congrArg (rot 16) (funext fun l => ?_)) (funext fun l => ?_)) (funext fun l => ?_)) l
  · exact acc_apply x0 x1 x2 x3 x4 i r (by norm_num) hX hg hW j _
  · exact cosine_apply x0 x1 x2 i r hC j l
  · exact sine_apply x0 x1 x2 i r hS j l

/-- The store of a head's values is its tile of the block function. -/
theorem v_piece (p : Fin 8) (hX : X = xTile x0 x1 x2 i) (hg : g = x3) (hW : W = cols 2048 (inCols (by norm_num)) x4)
    (x : S1x1x1x128x128.Idx) : stored h (headCols tiles (accTile tiles X g W) p) x =
      block5 x0 x1 x2 x3 x4 ((Rect.unit (s := S1x24x4x256x128) ![0, 16 + (p : ℕ), (r : ℕ), 128 * (i : ℕ), 0] S1x1x1x128x128.size
        (in5 (by omega) i r)).emb x) := by
  obtain ⟨a, b, e, j, l, rfl⟩ : ∃ (a b e : Fin 1) (j : Fin 128) (l : Fin 128), x = ix5 a b e j l :=
    ⟨x 0, x 1, x 2, x 3, x 4, eq_ix5 x⟩
  rw [emb5 (by omega) i r]
  refine Eq.trans ?_ (headRow_v _ _ _ _ p l).symm
  rw [stored_apply, headCols_apply]
  exact acc_apply x0 x1 x2 x3 x4 i r (by norm_num) hX hg hW j _

/-- The gain as the body loads it. -/
theorem gain_eq (m : Memref sig .tc .vmem S1x1024 .f32) (hm : m.IsWhole) (inb) :
    (View.readAt (Elt Ideal) m.view (Rect.unit (s := S1x1024) ![0, 0] S1x1024.size inb).toLoadRect (hm.unread x3) : Vec Ideal S1x1024 .f32) = x3 := by
  rw [View.readAt_eq_ld, hm.read_unread]
  exact View.ld_unit_zero (funext fun a => by fin_cases a <;> rfl) inb x3

/-- The weights as the body loads them. -/
theorem weights_eq {lw : ℕ} (hw : lw + 1024 ≤ 3072) (m : Memref sig .tc .vmem S1024x3072 .bf16) (hm : m.IsWhole) (inb) :
    (View.readAt (Elt Ideal) m.view (Rect.unit (s := S1024x3072) ![0, lw] S1024x1024.size inb).toLoadRect (hm.unread x4) :
      Vec Ideal S1024x1024 .bf16) = cols lw (inCols hw) x4 := by
  rw [View.readAt_eq_ld, hm.read_unread]
  rfl
end

section
variable (c : Dev nD) (i : grid0.Coords) (arg2 : Memref sig .tc .vmem S1x1024x1024 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1x24x4x256x128 .bf16) (harg7 : arg7.IsWhole) (arg8 : Memref sig .tc .vmem S2x10x512x128 .f32) (harg8 : arg8.IsWhole) (arg9 : Memref sig .tc .vmem S2x10x512x128 .f32) (harg9 : arg9.IsWhole)
  (x0 : Vec Ideal S1x1024x1024 .f32) (x1 x2 : Vec Ideal S1x1024x128 .f32) (x3 : Vec Ideal S1x1024 .f32)
  (x4 : Vec Ideal S1024x3072 .bf16)

set_option maxHeartbeats 4000000 in
/-- What the body leaves in the output block. -/
theorem out5_eq : out0_A_5 c i arg2 harg2 arg3 harg3 arg4 harg4 arg5 harg5 arg6 harg6 arg7 harg7 arg8 harg8 arg9 harg9
    x0 x1 x2 x3 x4 = block5 x0 x1 x2 x3 x4 := by
  funext y
  have q0 (r : Fin 4) (p : Fin 8) := q_piece x0 x1 x2 x3 x4 0 r (inClass r) p (v241_eq c arg2 harg2 arg3 harg3 arg4 harg4 arg8 x0 x1 x2) (gain_eq x3 arg5 harg5 inGain) (weights_eq x4 (by norm_num) arg6 harg6 (inCols (lo := 0) (by norm_num)))
    (v223_eq c arg2 harg2 arg3 harg3 arg4 harg4 arg8 x0 x1 x2) (v240_eq c arg2 harg2 arg3 harg3 arg4 harg4 arg8 x0 x1 x2)
  have k0 (r : Fin 4) (p : Fin 8) := k_piece x0 x1 x2 x3 x4 0 r (inClass r) p (v241_eq c arg2 harg2 arg3 harg3 arg4 harg4 arg8 x0 x1 x2) (gain_eq x3 arg5 harg5 inGain) (weights_eq x4 (by norm_num) arg6 harg6 (inCols (lo := 1024) (by norm_num)))
    (v223_eq c arg2 harg2 arg3 harg3 arg4 harg4 arg8 x0 x1 x2) (v240_eq c arg2 harg2 arg3 harg3 arg4 harg4 arg8 x0 x1 x2)
  have v0 (r : Fin 4) (p : Fin 8) := v_piece x0 x1 x2 x3 x4 0 r (inClass r) p (v241_eq c arg2 harg2 arg3 harg3 arg4 harg4 arg8 x0 x1 x2) (gain_eq x3 arg5 harg5 inGain) (weights_eq x4 (by norm_num) arg6 harg6 (inCols (lo := 2048) (by norm_num)))
  have q1 (r : Fin 4) (p : Fin 8) := q_piece x0 x1 x2 x3 x4 1 r (inClass r) p (r_2_eq c arg2 harg2 arg3 harg3 arg4 harg4 arg8 x0 x1 x2) (gain_eq x3 arg5 harg5 inGain) (weights_eq x4 (by norm_num) arg6 harg6 (inCols (lo := 0) (by norm_num)))
    (v464_eq c arg2 harg2 arg3 harg3 arg4 harg4 arg8 x0 x1 x2) (r_1_eq c arg2 harg2 arg3 harg3 arg4 harg4 arg8 x0 x1 x2)
  have k1 (r : Fin 4) (p : Fin 8) := k_piece x0 x1 x2 x3 x4 1 r (inClass r) p (r_2_eq c arg2 harg2 arg3 harg3 arg4 harg4 arg8 x0 x1 x2) (gain_eq x3 arg5 harg5 inGain) (weights_eq x4 (by norm_num) arg6 harg6 (inCols (lo := 1024) (by norm_num)))
    (v464_eq c arg2 harg2 arg3 harg3 arg4 harg4 arg8 x0 x1 x2) (r_1_eq c arg2 harg2 arg3 harg3 arg4 harg4 arg8 x0 x1 x2)
  have v1 (r : Fin 4) (p : Fin 8) := v_piece x0 x1 x2 x3 x4 1 r (inClass r) p (r_2_eq c arg2 harg2 arg3 harg3 arg4 harg4 arg8 x0 x1 x2) (gain_eq x3 arg5 harg5 inGain) (weights_eq x4 (by norm_num) arg6 harg6 (inCols (lo := 2048) (by norm_num)))
  have hc := cover0_A_5 c i arg2 harg2 arg3 harg3 arg4 harg4 arg5 harg5 arg6 harg6 arg7 harg7 arg8 harg8 arg9 harg9
    x0 x1 x2 x3 x4 y
  unfold out0_A_5
  rw [View.read_writes_junk_eq_canon]
  refine View.canon_apply_of_pieces (block5 x0 x1 x2 x3 x4) _ ?_ y hc
  unfold kernelRun0_A
  dsimp only
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · exact v1 3 7 x
  · exact v1 2 7 x
  · exact v1 1 7 x
  · exact v1 0 7 x
  · exact v1 3 6 x
  · exact v1 2 6 x
  · exact v1 1 6 x
  · exact v1 0 6 x
  · exact v1 3 5 x
  · exact v1 2 5 x
  · exact v1 1 5 x
  · exact v1 0 5 x
  · exact v1 3 4 x
  · exact v1 2 4 x
  · exact v1 1 4 x
  · exact v1 0 4 x
  · exact v1 3 3 x
  · exact v1 2 3 x
  · exact v1 1 3 x
  · exact v1 0 3 x
  · exact v1 3 2 x
  · exact v1 2 2 x
  · exact v1 1 2 x
  · exact v1 0 2 x
  · exact v1 3 1 x
  · exact v1 2 1 x
  · exact v1 1 1 x
  · exact v1 0 1 x
  · exact v1 3 0 x
  · exact v1 2 0 x
  · exact v1 1 0 x
  · exact v1 0 0 x
  · exact k1 3 7 x
  · exact k1 2 7 x
  · exact k1 1 7 x
  · exact k1 0 7 x
  · exact k1 3 6 x
  · exact k1 2 6 x
  · exact k1 1 6 x
  · exact k1 0 6 x
  · exact k1 3 5 x
  · exact k1 2 5 x
  · exact k1 1 5 x
  · exact k1 0 5 x
  · exact k1 3 4 x
  · exact k1 2 4 x
  · exact k1 1 4 x
  · exact k1 0 4 x
  · exact k1 3 3 x
  · exact k1 2 3 x
  · exact k1 1 3 x
  · exact k1 0 3 x
  · exact k1 3 2 x
  · exact k1 2 2 x
  · exact k1 1 2 x
  · exact k1 0 2 x
  · exact k1 3 1 x
  · exact k1 2 1 x
  · exact k1 1 1 x
  · exact k1 0 1 x
  · exact k1 3 0 x
  · exact k1 2 0 x
  · exact k1 1 0 x
  · exact k1 0 0 x
  · exact q1 3 7 x
  · exact q1 2 7 x
  · exact q1 1 7 x
  · exact q1 0 7 x
  · exact q1 3 6 x
  · exact q1 2 6 x
  · exact q1 1 6 x
  · exact q1 0 6 x
  · exact q1 3 5 x
  · exact q1 2 5 x
  · exact q1 1 5 x
  · exact q1 0 5 x
  · exact q1 3 4 x
  · exact q1 2 4 x
  · exact q1 1 4 x
  · exact q1 0 4 x
  · exact q1 3 3 x
  · exact q1 2 3 x
  · exact q1 1 3 x
  · exact q1 0 3 x
  · exact q1 3 2 x
  · exact q1 2 2 x
  · exact q1 1 2 x
  · exact q1 0 2 x
  · exact q1 3 1 x
  · exact q1 2 1 x
  · exact q1 1 1 x
  · exact q1 0 1 x
  · exact q1 3 0 x
  · exact q1 2 0 x
  · exact q1 1 0 x
  · exact q1 0 0 x
  · exact v0 3 7 x
  · exact v0 2 7 x
  · exact v0 1 7 x
  · exact v0 0 7 x
  · exact v0 3 6 x
  · exact v0 2 6 x
  · exact v0 1 6 x
  · exact v0 0 6 x
  · exact v0 3 5 x
  · exact v0 2 5 x
  · exact v0 1 5 x
  · exact v0 0 5 x
  · exact v0 3 4 x
  · exact v0 2 4 x
  · exact v0 1 4 x
  · exact v0 0 4 x
  · exact v0 3 3 x
  · exact v0 2 3 x
  · exact v0 1 3 x
  · exact v0 0 3 x
  · exact v0 3 2 x
  · exact v0 2 2 x
  · exact v0 1 2 x
  · exact v0 0 2 x
  · exact v0 3 1 x
  · exact v0 2 1 x
  · exact v0 1 1 x
  · exact v0 0 1 x
  · exact v0 3 0 x
  · exact v0 2 0 x
  · exact v0 1 0 x
  · exact v0 0 0 x
  · exact k0 3 7 x
  · exact k0 2 7 x
  · exact k0 1 7 x
  · exact k0 0 7 x
  · exact k0 3 6 x
  · exact k0 2 6 x
  · exact k0 1 6 x
  · exact k0 0 6 x
  · exact k0 3 5 x
  · exact k0 2 5 x
  · exact k0 1 5 x
  · exact k0 0 5 x
  · exact k0 3 4 x
  · exact k0 2 4 x
  · exact k0 1 4 x
  · exact k0 0 4 x
  · exact k0 3 3 x
  · exact k0 2 3 x
  · exact k0 1 3 x
  · exact k0 0 3 x
  · exact k0 3 2 x
  · exact k0 2 2 x
  · exact k0 1 2 x
  · exact k0 0 2 x
  · exact k0 3 1 x
  · exact k0 2 1 x
  · exact k0 1 1 x
  · exact k0 0 1 x
  · exact k0 3 0 x
  · exact k0 2 0 x
  · exact k0 1 0 x
  · exact k0 0 0 x
  · exact q0 3 7 x
  · exact q0 2 7 x
  · exact q0 1 7 x
  · exact q0 0 7 x
  · exact q0 3 6 x
  · exact q0 2 6 x
  · exact q0 1 6 x
  · exact q0 0 6 x
  · exact q0 3 5 x
  · exact q0 2 5 x
  · exact q0 1 5 x
  · exact q0 0 5 x
  · exact q0 3 4 x
  · exact q0 2 4 x
  · exact q0 1 4 x
  · exact q0 0 4 x
  · exact q0 3 3 x
  · exact q0 2 3 x
  · exact q0 1 3 x
  · exact q0 0 3 x
  · exact q0 3 2 x
  · exact q0 2 2 x
  · exact q0 1 2 x
  · exact q0 0 2 x
  · exact q0 3 1 x
  · exact q0 2 1 x
  · exact q0 1 1 x
  · exact q0 0 1 x
  · exact q0 3 0 x
  · exact q0 2 0 x
  · exact q0 1 0 x
  · exact q0 0 0 x
end

end Cert.Proj4

end
-- ==== Proof.FourArray.lean ====
module

public import proofs.«01_k».proof.Proof.FourBlock
public import proofs.«01_k».proof.Proof.Gen.Kernel5Ideal.Value
public import Idealize.ShloMosaic.Lib.Pipeline.ValueKit

@[expose] public section

set_option maxRecDepth 16384

noncomputable section

/-!
The result array of the first layer's projection at dilation 4 after the run, as a function of the arrays the kernel is
handed.
-/

namespace Cert.Proj4

open Cert.Kernel5Ideal Cert.Kernel5Ideal.Gen Cert.Rows Cert.Proj Idealize.ShloMosaic Idealize.ShloMosaic.TcCoe Idealize.SL.Sem
open Idealize.ShloMosaic.Pipeline (Dat)

variable (m : (ℓ : Loc nD τ sig) → Buf (Elt Ideal) ℓ)

/-- Token `r` of block `i`. -/
def tok (i : Fin 2) (r : Fin 1024) : Fin 2048 := ⟨1024 * i + r, by omega⟩

/-- The block index of array 0 at a grid point. -/
theorem idx0 : ∀ t : Fin grid0.N, win0_0.index t = ![(grid0.coords t 0).val, (grid0.coords t 1).val, 0] := by
  decide +kernel

/-- The block index of array 1 at a grid point. -/
theorem idx1 : ∀ t : Fin grid0.N, win0_1.index t = ![(grid0.coords t 0).val, (grid0.coords t 1).val, 0] := by
  decide +kernel

/-- The block index of array 2 at a grid point. -/
theorem idx2 : ∀ t : Fin grid0.N, win0_2.index t = ![(grid0.coords t 0).val, (grid0.coords t 1).val, 0] := by
  decide +kernel

/-- The block index of array 3 at a grid point. -/
theorem idx3 : ∀ t : Fin grid0.N, win0_3.index t = ![0, 0] := by
  decide +kernel

/-- The block index of array 4 at a grid point. -/
theorem idx4 : ∀ t : Fin grid0.N, win0_4.index t = ![0, 1] := by
  decide +kernel

/-- The block index of the heads at a grid point. -/
theorem idx5 : ∀ t : Fin grid0.N, win0_5.index t = ![(grid0.coords t 0).val, 0, 0, (grid0.coords t 1).val, 0] := by
  decide +kernel

/-- The input in a block. -/
theorem blk0 (c : Dev nD) (t : Fin cfg0.N) (r k : Fin 1024) :
    (iblk m c 0 t : Vec Ideal S1x1024x1024 .f32) (ix3 0 r k) = (V m c main_arg0 : Vec Ideal S32x2048x1024 .f32)
      (ix3 (grid0.coords t 0 : Fin 32) (tok (grid0.coords t 1) r) k) := by
  blk_simp [iblk]
  refine congrArg _ ?_
  blk_ext [idx0, tok]

/-- The cosines in a block. -/
theorem blk1 (c : Dev nD) (t : Fin cfg0.N) (r : Fin 1024) (l : Fin 128) :
    (iblk m c 1 t : Vec Ideal S1x1024x128 .f32) (ix3 0 r l) = (V m c main_v29 : Vec Ideal S32x2048x128 .f32)
      (ix3 (grid0.coords t 0 : Fin 32) (tok (grid0.coords t 1) r) l) := by
  blk_simp [iblk]
  refine congrArg _ ?_
  blk_ext [idx1, tok]

/-- The signed sines in a block. -/
theorem blk2 (c : Dev nD) (t : Fin cfg0.N) (r : Fin 1024) (l : Fin 128) :
    (iblk m c 2 t : Vec Ideal S1x1024x128 .f32) (ix3 0 r l) = (V m c main_v33 : Vec Ideal S32x2048x128 .f32)
      (ix3 (grid0.coords t 0 : Fin 32) (tok (grid0.coords t 1) r) l) := by
  blk_simp [iblk]
  refine congrArg _ ?_
  blk_ext [idx2, tok]

/-- The block of the gain is the gain. -/
theorem blk3 (c : Dev nD) (t : Fin cfg0.N) : iblk m c 3 t = V m c main_v35 := by
  funext y
  blk_simp [iblk]
  refine congrArg _ ?_
  blk_ext [idx3]

/-- The weights block is the second 3072 columns. -/
theorem blk4 (c : Dev nD) (t : Fin cfg0.N) (k : Fin 1024) (j : Fin 3072) :
    (X0_4 m c t : Vec Ideal S1024x3072 .bf16) (ix2 k j) = (V m c main_v34 : Vec Ideal S1024x10240 .bf16)
      (ix2 k ⟨3072 + j, by omega⟩) := by
  unfold X0_4 Pipeline.Window.fill
  refine (dif_pos (moved0_4 t _)).trans ?_
  blk_simp [iblk]
  refine congrArg _ ?_
  blk_ext [idx4]

/-- The input of token `t` of sequence `b`. -/
def xArr (c : Dev nD) (b : Fin 32) (t : Fin 2048) (k : Fin 1024) : EReal :=
  (V m c main_arg0 : Vec Ideal S32x2048x1024 .f32) (ix3 b t k)

/-- The gain. -/
def gArr (c : Dev nD) (k : Fin 1024) : EReal := (V m c main_v35 : Vec Ideal S1x1024 .f32) (ix2 0 k)

/-- The weights. -/
def wArr (c : Dev nD) (k : Fin 1024) (j : Fin 10240) : EReal := (V m c main_v34 : Vec Ideal S1024x10240 .bf16) (ix2 k j)

/-- The cosines of token `t` of sequence `b`. -/
def cosArr (c : Dev nD) (b : Fin 32) (t : Fin 2048) (l : Fin 128) : EReal :=
  (V m c main_v29 : Vec Ideal S32x2048x128 .f32) (ix3 b t l)

/-- The signed sines of token `t` of sequence `b`. -/
def sinArr (c : Dev nD) (b : Fin 32) (t : Fin 2048) (l : Fin 128) : EReal :=
  (V m c main_v33 : Vec Ideal S32x2048x128 .f32) (ix3 b t l)

/-- The products of token `t` of sequence `b` with the weights. -/
def accArr (c : Dev nD) (b : Fin 32) (t : Fin 2048) : Fin 10240 → EReal := projRow (xArr m c b t) (gArr m c) (wArr m c)

/-- Head `p` of token `t` of sequence `b`. -/
def headArr (c : Dev nD) (b : Fin 32) (t : Fin 2048) (p : Fin 24) : Fin 128 → EReal :=
  headRow scale (fun j : Fin 3072 => accArr m c b t ⟨3072 + j, by omega⟩) (cosArr m c b t) (sinArr m c b t) p

/-- The token of a class of a sequence. -/
def seqToken (j : Fin 512) (r : Fin 4) : Fin 2048 := ⟨4 * j + r, by omega⟩

/-- The place of a block's tokens among those of a class. -/
def place (i : Fin 2) (j : Fin 256) : Fin 512 := ⟨256 * i + j, by omega⟩

/-- A block's token of a class. -/
theorem tok_token (i : Fin 2) (j : Fin 256) (r : Fin 4) : tok i (token j r) = seqToken (place i j) r :=
  Fin.ext (by unfold tok token seqToken place; simp only; omega)

/-- The array of heads. -/
def result5 (c : Dev nD) : Vec Ideal S32x24x4x512x128 .bf16 := fun y => headArr m c (y 0) (seqToken (y 3) (y 2)) (y 1) (y 4)

/-- A product of a block's row is one of the token's. -/
theorem acc_eq {e : ℕ} (c : Dev nD) (b : Fin 32) (t : Fin 2048) (x g : Fin 1024 → EReal) (w : Fin 1024 → Fin e → EReal)
    (j : Fin e) (j' : Fin 10240) (hx : x = xArr m c b t) (hg : g = gArr m c) (hw : ∀ k, w k j = wArr m c k j') :
    projRow x g w j = accArr m c b t j' := by
  subst hx hg
  unfold accArr projRow dense
  simp only [hw]

/-- The heads of a block's token. -/
theorem block_heads (c : Dev nD) (t : Fin cfg0.N) (p : Fin 24) (r : Fin 4) (j : Fin 256) (l : Fin 128) :
    block5 (iblk m c 0 t) (iblk m c 1 t) (iblk m c 2 t) (iblk m c 3 t) (X0_4 m c t) (ix5 0 p r j l) =
      headArr m c (grid0.coords t 0) (tok (grid0.coords t 1) (token j r)) p l := by
  rw [blk3]
  unfold block5 headArr
  exact congrFun (congrFun (congr (congr (congrArg (headRow scale) (funext fun q =>
    acc_eq m c _ _ _ _ _ _ _ (funext fun k => blk0 m c t (token j r) k) rfl fun k => blk4 m c t k q))
    (funext fun l => blk1 m c t (token j r) l)) (funext fun l => blk2 m c t (token j r) l)) p) l

/-- The array of heads after the run. -/
theorem final5 (c : Dev nD) : (dats m 0 c).arrAt 5 cfg0.N = result5 m c := by
  refine (dats m 0 c).arrAt_eq_of_covers 5 _ (by decide +kernel) fun t hf y => ?_
  blk_simp
  rw [after0_5]
  unfold outsAt0
  rw [out5_eq]
  have e : (win0_5.blk t).view.emb y = ix5 (grid0.coords t 0 : Fin 32) (y 1 : Fin 24) (y 2 : Fin 4)
      (place (grid0.coords t 1) (y 3 : Fin 256)) (y 4 : Fin 128) := by
    blk_ext [idx5, place]
  rw [e]
  exact (block_heads m c t (y 1) (y 2) (y 3) (y 4)).trans (congrArg (fun t' => headArr m c (grid0.coords t 0) t' (y 1) (y 4))
    (tok_token (grid0.coords t 1) (y 3) (y 2)))

end Cert.Proj4

end
-- ==== Proof.FourHost.lean ====
module

public import proofs.«01_k».proof.Proof.FourArray
public import proofs.«01_k».proof.Proof.ProjMath
public import proofs.«01_k».proof.Proof.MidHost
public import Idealize.ShloMosaic.Lib.StableHlo.ReadAt

@[expose] public section

set_option maxRecDepth 16384

noncomputable section

/-!
The arrays the first layer's projection at dilation 4 is handed, as the host operations before it leave them, at an index.
-/

namespace Cert.Proj4

open Cert.Kernel5Ideal Cert.Kernel5Ideal.Gen Cert.Rows Cert.Proj Idealize.ShloMosaic Idealize.ShloMosaic.TcCoe Idealize.SL.Sem
open Cert.Mid (laneFrequency laneSign)

variable (m : (ℓ : Loc nD τ sig) → Buf (Elt Ideal) ℓ)

/-- The position of token `t` of sequence `b`. -/
def posAt (c : Dev nD) (b : Fin 32) (t : Fin 2048) : BitVec 32 :=
  (m ((c.tc : Thread nD τ).loc main_arg1) : IVec S32x2048 32) (ix2 b t)

/-- The cosines. -/
theorem cos_apply (c : Dev nD) (b : Fin 32) (t : Fin 2048) (l : Fin 128) :
    V m c main_v29 (ix3 b t l) = Ideal.cos (FloatOps.sitofp (F := Ideal) .f32 (posAt m c b t) * laneFrequency l) := by
  unfold V
  after_reads_at
  after_reads_at
  rfl

/-- The signed sines. -/
theorem sin_apply (c : Dev nD) (b : Fin 32) (t : Fin 2048) (l : Fin 128) :
    V m c main_v33 (ix3 b t l) =
      Ideal.sin (FloatOps.sitofp (F := Ideal) .f32 (posAt m c b t) * laneFrequency l) * laneSign l := by
  unfold V
  after_reads_at
  after_reads_at
  rfl

/-- The input. -/
theorem x_apply (c : Dev nD) : V m c main_arg0 = (m ((c.tc : Thread nD τ).loc main_arg0) : Vec Ideal S32x2048x1024 .f32) := by
  unfold V
  after_reads_at

/-- The weights. -/
theorem w_apply (c : Dev nD) (i : Fin 1024) (j : Fin 10240) : V m c main_v34 (ix2 i j) =
    (m ((c.tc : Thread nD τ).loc main_arg3) : Vec Ideal S1024x10240 .f32) (ix2 i j) := by
  unfold V
  after_reads_at

/-- The gain. -/
theorem g_apply (c : Dev nD) (i : Fin 1) (j : Fin 1024) : V m c main_v35 (ix2 i j) =
    (m ((c.tc : Thread nD τ).loc main_arg2) : Vec Ideal S1024 .f32) (ix1 j) := by
  unfold V
  after_reads_at

/-- The tables hold cosines and signed sines. -/
theorem tables (c : Dev nD) (b : Fin 32) (t : Fin 2048) : Tables (cosArr m c b t) (sinArr m c b t) (posAt m c b t) where
  cos₁ l h := by
    refine (cos_apply m c b t l).trans ?_
    unfold laneFrequency
    rw [dif_pos h]
    rfl
  cos₂ l h h' := by
    refine (cos_apply m c b t l).trans ?_
    unfold laneFrequency
    rw [dif_neg (by omega), dif_pos (by omega)]
    rfl
  sin₁ l h := by
    refine (sin_apply m c b t l).trans ?_
    unfold laneFrequency laneSign
    rw [dif_pos h, dif_pos h, mul_neg, mul_one]
    rfl
  sin₂ l h h' := by
    refine (sin_apply m c b t l).trans ?_
    unfold laneFrequency laneSign
    rw [dif_neg (by omega), dif_pos (by omega), dif_neg (by omega), dif_pos (by omega), mul_one]
    rfl

/-- The named factor is its real number. -/
theorem scale_eq : scale = ((factor : ℝ) : EReal) := IdealRules.named_const.ideal_named_scalar _ _ _ _ rfl

/-- The products of token `t` of sequence `b` with the caller's weights. -/
def rawAcc (c : Dev nD) (b : Fin 32) (t : Fin 2048) : Fin 10240 → EReal := projRow
  (fun k => (m ((c.tc : Thread nD τ).loc main_arg0) : Vec Ideal S32x2048x1024 .f32) (ix3 b t k))
  (fun k => (m ((c.tc : Thread nD τ).loc main_arg2) : Vec Ideal S1024 .f32) (ix1 k))
  (fun k j => (m ((c.tc : Thread nD τ).loc main_arg3) : Vec Ideal S1024x10240 .f32) (ix2 k j))

/-- The products agree. -/
theorem accArr_eq (c : Dev nD) (b : Fin 32) (t : Fin 2048) : accArr m c b t = rawAcc m c b t := by
  unfold accArr rawAcc
  exact congr (congr (congrArg projRow (funext fun k => congrFun (x_apply m c) _)) (funext fun k => g_apply m c 0 k))
    (funext fun k => funext fun j => w_apply m c k j)

/-- The heads, from the caller's arrays. -/
theorem headArr_eq (c : Dev nD) (b : Fin 32) (t : Fin 2048) (p : Fin 24) (l : Fin 128) : headArr m c b t p l =
    rawHead (posAt m c b t) (fun j : Fin 3072 => rawAcc m c b t ⟨3072 + j, by omega⟩) p l := by
  unfold headArr
  rw [scale_eq, head_eq (tables m c b t), accArr_eq]

end Cert.Proj4

end
-- ==== Proof.FourRef.lean ====
module

public import proofs.«01_k».proof.Proof.Gen.Reference5Ideal.Run
public import proofs.«01_k».proof.Proof.ProjRef

@[expose] public section

set_option maxRecDepth 16384

noncomputable section

/-!
The result of the second projection's reference, at an index: the columns of its group taken out of the
projection as those of the first are, the tokens then dealt into four classes.
-/

namespace Cert.Proj4Ref

open Cert.Reference5Ideal Cert.Reference5Ideal.Gen Cert.Rows Cert.Proj Idealize.ShloMosaic Idealize.ShloMosaic.TcCoe Idealize.SL.Sem

variable (x : FVec Ideal S32x2048x1024 .f32) (s : IVec S32x2048 32) (g : FVec Ideal S1024 .f32)
  (w : FVec Ideal S1024x10240 .f32)

/-- The queries. -/
def qPart (a : FVec Ideal S32x2048x10240 .f32) : FVec Ideal S32x2048x8x128 .f32 :=
  shapeCast S32x2048x8x128 (extractStridedSlice S32x2048x1x1x8x128 ![0, 0, 1, 0, 0, 0] (Proj1Ref.grouped a)
    slices_S32x2048x3x3x8x128_S32x2048x1x1x8x128_0_0_1_0_0_0) shapeCasts_S32x2048x1x1x8x128_S32x2048x8x128

/-- The keys. -/
def kPart (a : FVec Ideal S32x2048x10240 .f32) : FVec Ideal S32x2048x8x128 .f32 :=
  shapeCast S32x2048x8x128 (extractStridedSlice S32x2048x1x1x8x128 ![0, 0, 1, 1, 0, 0] (Proj1Ref.grouped a)
    slices_S32x2048x3x3x8x128_S32x2048x1x1x8x128_0_0_1_1_0_0) shapeCasts_S32x2048x1x1x8x128_S32x2048x8x128

/-- The values. -/
def vPart (a : FVec Ideal S32x2048x10240 .f32) : FVec Ideal S32x2048x8x128 .f32 :=
  shapeCast S32x2048x8x128 (extractStridedSlice S32x2048x1x1x8x128 ![0, 0, 1, 2, 0, 0] (Proj1Ref.grouped a)
    slices_S32x2048x3x3x8x128_S32x2048x1x1x8x128_0_0_1_2_0_0) shapeCasts_S32x2048x1x1x8x128_S32x2048x8x128

/-- The heads of queries, keys and values, one after another. -/
def joined (q k v : FVec Ideal S32x2048x8x128 .f32) : FVec Ideal S32x2048x24x128 .f32 :=
  concatenate S32x2048x24x128 2 [⟨S32x2048x8x128, q⟩, ⟨S32x2048x8x128, k⟩, ⟨S32x2048x8x128, v⟩]
    concatenates_S32x2048x8x128_S32x2048x8x128_S32x2048x8x128_S32x2048x24x128_d2

/-- The tokens of each of four classes, after the heads. -/
def classes (a : FVec Ideal S32x2048x24x128 .f32) : FVec Ideal S32x24x4x512x128 .f32 :=
  transpose S32x24x4x512x128 [0, 3, 2, 1, 4] (shapeCast S32x512x4x24x128 a shapeCasts_S32x2048x24x128_S32x512x4x24x128)
    transposes_S32x512x4x24x128_S32x24x4x512x128_0_3_2_1_4

/-- The heads before the tokens of each of four classes. -/
def stacked (q k v : FVec Ideal S32x2048x8x128 .f32) : FVec Ideal S32x24x4x512x128 .bf16 :=
  truncf .bf16 (classes (joined q k v)) bitsLt_bf16_f32

/-- The heads. -/
def heads : FVec Ideal S32x24x4x512x128 .bf16 :=
  stacked (Proj1Ref.divided (Proj1Ref.rotated s (qPart (Proj1Ref.proj x g w))))
    (Proj1Ref.rotated s (kPart (Proj1Ref.proj x g w))) (vPart (Proj1Ref.proj x g w))

/-- The queries at an index. -/
theorem qPart_apply (a : FVec Ideal S32x2048x10240 .f32) (b : Fin 32) (t : Fin 2048) (p : Fin 8) (l : Fin 128) :
    qPart a (ix4 b t p l) = a (ix3 b t ⟨3072 + (128 * p + l), by omega⟩) := by
  pointwise [qPart, Proj1Ref.grouped]
  exact congrArg (fun l => a (ix3 b t l)) (Fin.ext (by simp only; omega))

/-- The keys at an index. -/
theorem kPart_apply (a : FVec Ideal S32x2048x10240 .f32) (b : Fin 32) (t : Fin 2048) (p : Fin 8) (l : Fin 128) :
    kPart a (ix4 b t p l) = a (ix3 b t ⟨3072 + (128 * (8 + p) + l), by omega⟩) := by
  pointwise [kPart, Proj1Ref.grouped]
  exact congrArg (fun l => a (ix3 b t l)) (Fin.ext (by simp only; omega))

/-- The values at an index. -/
theorem vPart_apply (a : FVec Ideal S32x2048x10240 .f32) (b : Fin 32) (t : Fin 2048) (p : Fin 8) (l : Fin 128) :
    vPart a (ix4 b t p l) = a (ix3 b t ⟨3072 + (128 * (16 + p) + l), by omega⟩) := by
  pointwise [vPart, Proj1Ref.grouped]
  exact congrArg (fun l => a (ix3 b t l)) (Fin.ext (by simp only; omega))

/-- The joined heads at an index. -/
theorem joined_apply (q k v : FVec Ideal S32x2048x8x128 .f32) (b : Fin 32) (t : Fin 2048) (p : Fin 24) (l : Fin 128) :
    joined q k v (ix4 b t p l) = if h : (p : ℕ) < 8 then q (ix4 b t ⟨p, h⟩ l)
      else if h : (p : ℕ) < 16 then k (ix4 b t ⟨p - 8, by omega⟩ l) else v (ix4 b t ⟨p - 16, by omega⟩ l) := by
  pointwise [joined]
  by_cases e : (p : ℕ) < 8
  · rw [dif_pos e, dif_pos e]
  · by_cases e' : (p : ℕ) < 16
    · rw [dif_neg e, dif_neg e, dif_pos (by omega), dif_pos e']
    · rw [dif_neg e, dif_neg e, dif_neg (by omega), dif_neg e']
      exact congrArg (fun p => v (ix4 b t p l)) (Fin.ext (by simp only; omega))

/-- Tokens split into four classes, at an index. -/
theorem split_apply (a : FVec Ideal S32x2048x24x128 .f32) (b : Fin 32) (n : Fin 512) (r : Fin 4) (p : Fin 24) (l : Fin 128) :
    shapeCast S32x512x4x24x128 a shapeCasts_S32x2048x24x128_S32x512x4x24x128 (ix5 b n r p l) =
      a (ix4 b (⟨4 * n + r, by omega⟩ : Fin 2048) p l) := by
  refine shapeCast_apply a _ (ix5 b n r p l) (ix4 b (⟨4 * n + r, by omega⟩ : Fin 2048) p l) ?_
  rw [Shape.rowMajor_val_four, Shape.rowMajor_val_five]
  have e (b n r p l : ℕ) : ((b * 2048 + (4 * n + r)) * 24 + p) * 128 + l = (((b * 512 + n) * 4 + r) * 24 + p) * 128 + l := by omega
  exact e b n r p l

/-- Heads and tokens exchanged, at an index. -/
theorem swap_apply (a : FVec Ideal S32x512x4x24x128 .f32) (b : Fin 32) (p : Fin 24) (r : Fin 4) (n : Fin 512) (l : Fin 128) :
    transpose S32x24x4x512x128 [0, 3, 2, 1, 4] a transposes_S32x512x4x24x128_S32x24x4x512x128_0_3_2_1_4 (ix5 b p r n l) =
      a (ix5 b n r p l) := by
  pointwise

/-- The classes at an index. -/
theorem classes_apply (a : FVec Ideal S32x2048x24x128 .f32) (b : Fin 32) (p : Fin 24) (r : Fin 4) (n : Fin 512) (l : Fin 128) :
    classes a (ix5 b p r n l) = a (ix4 b (⟨4 * n + r, by omega⟩ : Fin 2048) p l) :=
  (swap_apply _ b p r n l).trans (split_apply a b n r p l)

/-- A narrowed array at an index. -/
theorem narrow_apply (a : FVec Ideal S32x24x4x512x128 .f32) (y : S32x24x4x512x128.Idx) :
    (truncf .bf16 a bitsLt_bf16_f32 : FVec Ideal S32x24x4x512x128 .bf16) y = a y := rfl

/-- The stacked heads at an index, by their kind. -/
theorem stacked_apply (q k v : FVec Ideal S32x2048x8x128 .f32) (b : Fin 32) (p : Fin 24) (r : Fin 4) (n : Fin 512) (l : Fin 128) :
    stacked q k v (ix5 b p r n l) = if h : (p : ℕ) < 8 then q (ix4 b ⟨4 * n + r, by omega⟩ ⟨p, h⟩ l)
      else if h : (p : ℕ) < 16 then k (ix4 b ⟨4 * n + r, by omega⟩ ⟨p - 8, by omega⟩ l)
      else v (ix4 b ⟨4 * n + r, by omega⟩ ⟨p - 16, by omega⟩ l) :=
  (narrow_apply (classes (joined q k v)) _).trans
    ((classes_apply (joined q k v) b p r n l).trans (joined_apply q k v b (⟨4 * n + r, by omega⟩ : Fin 2048) p l))

/-- The heads at an index. -/
theorem heads_apply (b : Fin 32) (p : Fin 24) (r : Fin 4) (n : Fin 512) (l : Fin 128) : heads x s g w (ix5 b p r n l) =
    rawHead (s (ix2 b ⟨4 * n + r, by omega⟩)) (fun j : Fin 3072 => projRow (fun k => x (ix3 b ⟨4 * n + r, by omega⟩ k))
      (fun k => g (ix1 k)) (fun k j => w (ix2 k j)) ⟨3072 + j, by omega⟩) p l := by
  unfold heads rawHead
  rw [stacked_apply]
  by_cases e : (p : ℕ) < 8
  · rw [dif_pos e, if_pos e, Proj1Ref.divided_apply, Proj1Ref.rotated_apply]
    simp only [qPart_apply, Proj1Ref.proj_apply]
  · by_cases e' : (p : ℕ) < 16
    · rw [dif_neg e, if_neg e, dif_pos e', if_pos e', Proj1Ref.rotated_apply]
      simp only [kPart_apply, Proj1Ref.proj_apply, show 8 + ((p : ℕ) - 8) = p by omega]
    · rw [dif_neg e, if_neg e, dif_neg e', if_neg e', vPart_apply, Proj1Ref.proj_apply]
      simp only [show 16 + ((p : ℕ) - 16) = p by omega]

end Cert.Proj4Ref

end
-- ==== Proof.FourClaim.lean ====
module

public import proofs.«01_k».proof.Defs
public import proofs.«01_k».proof.Proof.FourHost
public import proofs.«01_k».proof.Proof.FourRef
public import proofs.«01_k».proof.Proof.Gen.Kernel5Ideal.Value
public import proofs.«01_k».proof.Proof.Gen.Reference5Ideal.Run

@[expose] public section

set_option maxRecDepth 16384

noncomputable section

/-!
The claims about the first layer's projection at dilation 4.
-/

namespace Cert.Proj4

open Cert.Kernel5Ideal Cert.Kernel5Ideal.Gen Cert.Proj Idealize.ShloMosaic Idealize.ShloMosaic.TcCoe Idealize.SL.Sem

variable (m : (ℓ : Loc nD τ sig) → Buf (Elt Ideal) ℓ)

/-- The heads are the reference's. -/
theorem same5 (c : Dev nD) : result5 m c = Cert.Proj4Ref.heads (m ((c.tc : Thread nD τ).loc main_arg0))
    (m ((c.tc : Thread nD τ).loc main_arg1)) (m ((c.tc : Thread nD τ).loc main_arg2)) (m ((c.tc : Thread nD τ).loc main_arg3)) := by
  funext y
  obtain ⟨b, p, r, n, l, rfl⟩ : ∃ (b : Fin 32) (p : Fin 24) (r : Fin 4) (n : Fin 512) (l : Fin 128), y = ix5 b p r n l :=
    ⟨y 0, y 1, y 2, y 3, y 4, eq_ix5 y⟩
  exact (headArr_eq m c b (seqToken n r) p l).trans (Cert.Proj4Ref.heads_apply _ _ _ _ b p r n l).symm

end Cert.Proj4

namespace Cert.FourClaim

open Idealize.ShloMosaic Idealize.SL.Sem

/-- The named scale is the rounded literal's real number. -/
theorem preserves : Cert.preserves_Kernel5_Kernel5Ideal :=
  IdealRules.named_const.statement _ _ _ _ _ rfl

/-- The frame of the reference. -/
theorem frame_r : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩)
    (Cert.Reference5Ideal.Value.run (F := Ideal) m ρ)

set_option maxHeartbeats 4000000 in
/-- The call and its reference end with equal results. -/
theorem equal : Cert.algebraic_Kernel5Ideal_Reference5Ideal
    (hKernel5Ideal := Cert.Kernel5Ideal.Gen.facts) (hReference5Ideal := Cert.Reference5Ideal.Gen.facts) := by
  intro m ρ m' ρ' _ hagree
  refine ⟨_, Cert.Kernel5Ideal.Value.run_blocks m ρ, ?_⟩
  refine (θ_run Cert.Reference5Ideal.defs _ _).mono
    (fun r h c => ⟨(h c).1.trans ?_, (h c).2⟩)
    (Cert.Reference5Ideal.Value.run (F := Ideal) m' ρ')
  obtain ⟨e₀, e₁, e₂, e₃⟩ := hagree c
  refine .trans ?_ ((Cert.Proj4.final5 m c).trans (Cert.Proj4.same5 m c)).symm
  rw [← e₀, ← e₁, ← e₂, ← e₃]
  rfl

end Cert.FourClaim

end
-- ==== Proof.SixteenSlabs.lean ====
module

public import proofs.«01_k».proof.Proof.FourSlabs
public import proofs.«01_k».proof.Proof.Gen.Kernel6Ideal.Frame.Runs

@[expose] public section

set_option maxRecDepth 16384

noncomputable section

/-!
The second scratch of the first layer's projection at dilation 16. The body sorts a slab of the first scratch into four
classes, stores those one after another in the second scratch, and loads every fourth row of each again: the rows of a
tile of 512 come out sorted into sixteen classes.
-/

namespace Cert.Proj16

open Cert.Kernel6Ideal Cert.Kernel6Ideal.Gen Cert.Rows Cert.Proj Cert.Proj4 Idealize.ShloMosaic Idealize.ShloMosaic.TcCoe

variable {σ : RefSig} (x0 : Vec Ideal S1x1024x1024 .f32) (x1 x2 : Vec Ideal S1x1024x128 .f32)

/-- The second scratch. -/
def stages : Vec Ideal S2x10x512x128 .f32 := fun y => slabAt x0 x1 x2 (y 0) (y 1) (Cert.Proj4.unsorted (y 2)) (y 3)

/-- The place of a class of four in a slab of the second scratch. -/
abbrev stageRect (i c q : ℕ) (hi : ∀ a, (![i, 0, 0, 0] : Fin 4 → ℕ) a + S1x10x512x128.size a ≤ S2x10x512x128.size a)
    (hc : ∀ a, (![c, 0, 0] : Fin 3 → ℕ) a + S1x512x128.size a ≤ S10x512x128.size a)
    (hq : ∀ a, (![128 * q, 0] : Fin 2 → ℕ) a + S128x128.size a ≤ S512x128.size a) : Rect S2x10x512x128 :=
  (Rect.unit (s := S2x10x512x128) ![i, 0, 0, 0] S1x10x512x128.size hi).within
    (((Rect.unit (s := S10x512x128) ![c, 0, 0] S1x512x128.size hc).within
      ((Rect.unit (s := S512x128) ![128 * q, 0] S128x128.size hq).consLift ![1, 512, 128] rfl (fun _ => rfl)) (fun _ => rfl)).consLift
      ![1, 10, 512, 128] rfl (fun _ => rfl)) (fun _ => rfl)

/-- Every fourth row of a class of four, from row `q1` on. -/
abbrev stageLoad (i c q q1 : ℕ) (hi : ∀ a, (![i, 0, 0, 0] : Fin 4 → ℕ) a + S1x10x512x128.size a ≤ S2x10x512x128.size a)
    (hc : ∀ a, (![c, 0, 0] : Fin 3 → ℕ) a + S1x512x128.size a ≤ S10x512x128.size a)
    (hb : ∀ a, S32x128.size a = 0 ∨ (![128 * q + q1, 0] : Fin 2 → ℕ) a + (![4, 1] : Fin 2 → ℕ) a * (S32x128.size a - 1) < S512x128.size a) :
    LoadRect S2x10x512x128 :=
  (Rect.unit (s := S2x10x512x128) ![i, 0, 0, 0] S1x10x512x128.size hi).withinL
    (((Rect.unit (s := S10x512x128) ![c, 0, 0] S1x512x128.size hc).withinL
      ((⟨![128 * q + q1, 0], S32x128.size, ![4, 1], hb⟩ : LoadRect S512x128).consLift ![1, 512, 128] rfl (fun _ => rfl)) (fun _ => rfl)).consLift
      ![1, 10, 512, 128] rfl (fun _ => rfl)) (fun _ => rfl)

section
variable {i : Fin 2} {c : Fin 10} {q : Fin 4}
  (hi : ∀ a, (![(i : ℕ), 0, 0, 0] : Fin 4 → ℕ) a + S1x10x512x128.size a ≤ S2x10x512x128.size a)
  (hc : ∀ a, (![(c : ℕ), 0, 0] : Fin 3 → ℕ) a + S1x512x128.size a ≤ S10x512x128.size a)
  (hq : ∀ a, (![128 * (q : ℕ), 0] : Fin 2 → ℕ) a + S128x128.size a ≤ S512x128.size a)

/-- The place of an element of a class of four. -/
theorem stage_emb (x : (stageRect i c q hi hc hq).shape.Idx) : (stageRect i c q hi hc hq).emb x =
    ix4 i c (⟨128 * q + (x 2).val, by have : (x 2).val < 128 := (x 2).isLt; omega⟩ : Fin 512) (x 3 : Fin 128) := by
  have h0 : (x 0).val < 1 := (x 0).isLt
  have h1 : (x 1).val < 1 := (x 1).isLt
  refine funext fun a' => Fin.ext ?_
  match a' with
  | ⟨0, _⟩ => show (i : ℕ) + 0 + 1 * (x 0).val = i; omega
  | ⟨1, _⟩ => show 0 + ((c : ℕ) + 0) + 1 * (x 1).val = c; omega
  | ⟨2, _⟩ => show 0 + (0 + 128 * (q : ℕ)) + 1 * (x 2).val = 128 * q + (x 2).val; omega
  | ⟨3, _⟩ => show 0 + (0 + 0) + 1 * (x 3).val = (x 3).val; omega

/-- The store of a class of four. -/
theorem stage_piece (hR₁) (hR₂) {P : Vec Ideal S1x128x128 .f32} (hP : P = pick x0 x1 x2 i c q) (h₁ : S1x128x128.ShapeCasts S128x128)
    (h₂ : S128x128.ShapeCasts S128x128) (x : (stageRect i c q hi hc hq).shape.Idx) :
    Rect.payAlong (R := stageRect i c q hi hc hq)
      (r := (Rect.unit (s := S10x512x128) ![(c : ℕ), 0, 0] S1x512x128.size hc).within
        ((Rect.unit (s := S512x128) ![128 * (q : ℕ), 0] S128x128.size hq).consLift ![1, 512, 128] rfl (fun _ => rfl)) (fun _ => rfl)) hR₁
      (Rect.payAlong (R := (Rect.unit (s := S512x128) ![128 * (q : ℕ), 0] S128x128.size hq).consLift ![1, 512, 128] rfl (fun _ => rfl))
        (r := Rect.unit (s := S512x128) ![128 * (q : ℕ), 0] S128x128.size hq) hR₂
        (shapeCast S128x128 (shapeCast S128x128 P h₁ : FVec Ideal S128x128 .f32) h₂ : FVec Ideal S128x128 .f32)) x =
      stages x0 x1 x2 ((stageRect i c q hi hc hq).emb x) := by
  subst hP
  rw [stage_emb]
  have hx1 : (x 1).val < 1 := (x 1).isLt
  have hx2 : (x 2).val < 128 := (x 2).isLt
  refine (Rect.payAlong_consLift ((Rect.unit (s := S10x512x128) ![(c : ℕ), 0, 0] S1x512x128.size hc).within
        ((Rect.unit (s := S512x128) ![128 * (q : ℕ), 0] S128x128.size hq).consLift ![1, 512, 128] rfl (fun _ => rfl)) (fun _ => rfl))
    ![1, 10, 512, 128] rfl (fun _ => rfl) _ hR₁ x (ix3 (0 : Fin 1) (x 2 : Fin 128) (x 3 : Fin 128)) fun a => ?_).trans ?_
  · match a with
    | ⟨0, _⟩ => show 0 = (x 1).val; omega
    | ⟨1, _⟩ => rfl
    | ⟨2, _⟩ => rfl
  refine (Rect.payAlong_consLift (Rect.unit (s := S512x128) ![128 * (q : ℕ), 0] S128x128.size hq) ![1, 512, 128] rfl (fun _ => rfl) _ hR₂
    (ix3 (0 : Fin 1) (x 2 : Fin 128) (x 3 : Fin 128)) (ix2 (x 2 : Fin 128) (x 3 : Fin 128)) fun a => ?_).trans ?_
  · match a with
    | ⟨0, _⟩ => rfl
    | ⟨1, _⟩ => rfl
  have e : (shapeCast S128x128 (shapeCast S128x128 (pick x0 x1 x2 i c q) h₁ : FVec Ideal S128x128 .f32) h₂ : FVec Ideal S128x128 .f32)
      (ix2 (x 2 : Fin 128) (x 3 : Fin 128)) = pick x0 x1 x2 i c q (ix3 0 (x 2) (x 3)) := by
    pointwise
  refine e.trans ?_
  show slabAt x0 x1 x2 i c _ _ = slabAt x0 x1 x2 i c _ _
  exact congrArg (fun r => slabAt x0 x1 x2 i c r (x 3)) (Fin.ext (by
    show 4 * (x 2).val + (q : ℕ) = 4 * ((128 * (q : ℕ) + (x 2).val) % 128) + (128 * (q : ℕ) + (x 2).val) / 128
    omega))
end

/-- Every sixteenth row of slab `c` of half `i`, from row `r` on. -/
def pick16 (i : Fin 2) (c : Fin 10) (r : Fin 16) : FVec Ideal S32x128 .f32 := fun z =>
  slabAt x0 x1 x2 i c (⟨16 * (z 0).val + r, by have : (z 0).val < 32 := (z 0).isLt; omega⟩ : Fin 512) (z 1)

section
variable {κ : Kind} {sp : Space} (v : View σ κ sp S2x10x512x128 .f32)
  (L : List (View.Piece (Elt Ideal) S2x10x512x128 .f32))
  (hL : ∀ p ∈ L, ∀ x : p.1.shape.Idx, p.2 x = stages x0 x1 x2 (p.1.emb x))

include hL in
/-- A load of every fourth row of a class of four after the classes were stored. -/
theorem stage_eq (i : Fin 2) (c : Fin 10) (q q1 : Fin 4)
    (hi : ∀ a, (![(i : ℕ), 0, 0, 0] : Fin 4 → ℕ) a + S1x10x512x128.size a ≤ S2x10x512x128.size a)
    (hc : ∀ a, (![(c : ℕ), 0, 0] : Fin 3 → ℕ) a + S1x512x128.size a ≤ S10x512x128.size a)
    (hq : ∀ a, (![128 * (q : ℕ), 0] : Fin 2 → ℕ) a + S128x128.size a ≤ S512x128.size a)
    (hb : ∀ a, S32x128.size a = 0 ∨ (![128 * (q : ℕ) + (q1 : ℕ), 0] : Fin 2 → ℕ) a + (![4, 1] : Fin 2 → ℕ) a * (S32x128.size a - 1) < S512x128.size a)
    (w) (hm : (⟨stageRect i c q hi hc hq, w⟩ : View.Piece (Elt Ideal) S2x10x512x128 .f32) ∈ L) (hV₁) (hV₂) :
    (LoadRect.valAlong (lr := (⟨![128 * (q : ℕ) + (q1 : ℕ), 0], S32x128.size, ![4, 1], hb⟩ : LoadRect S512x128))
      (LR := (⟨![128 * (q : ℕ) + (q1 : ℕ), 0], S32x128.size, ![4, 1], hb⟩ : LoadRect S512x128).consLift ![1, 512, 128] rfl (fun _ => rfl)) hV₂
      (LoadRect.valAlong (lr := (Rect.unit (s := S10x512x128) ![(c : ℕ), 0, 0] S1x512x128.size hc).withinL
          ((⟨![128 * (q : ℕ) + (q1 : ℕ), 0], S32x128.size, ![4, 1], hb⟩ : LoadRect S512x128).consLift ![1, 512, 128] rfl (fun _ => rfl)) (fun _ => rfl))
        (LR := stageLoad i c q q1 hi hc hb) hV₁ (v.readCov L (stageLoad i c q q1 hi hc hb))) : Vec Ideal S32x128 .f32) =
      pick16 x0 x1 x2 i c ⟨4 * q1 + q, by omega⟩ := by
  rw [View.readCov_eq_canon']
  funext z
  have hx₂ : Shape.reshapeEquiv hV₂ z = Fin.cons ⟨0, Nat.one_pos⟩ z := Shape.reshapeEquiv_cons_one (d := S32x128.size) _ _
  show View.canon L ((stageLoad i c q q1 hi hc hb).idx (Shape.reshapeEquiv hV₁ (Shape.reshapeEquiv hV₂ z))) = _
  have hx₁ : Shape.reshapeEquiv hV₁ (Fin.cons ⟨0, Nat.one_pos⟩ z) = Fin.cons ⟨0, Nat.one_pos⟩ (Fin.cons ⟨0, Nat.one_pos⟩ z) :=
    Shape.reshapeEquiv_cons_one (d := (Fin.cons 1 S32x128.size : Fin 3 → ℕ)) _ _
  have h0 : (z 0).val < 32 := (z 0).isLt
  have h1 : (z 1).val < 128 := (z 1).isLt
  have e : (stageLoad i c q q1 hi hc hb).idx (Fin.cons ⟨0, Nat.one_pos⟩ (Fin.cons ⟨0, Nat.one_pos⟩ z)) =
      ix4 i c (⟨128 * q + (q1 + 4 * (z 0).val), by omega⟩ : Fin 512) (z 1 : Fin 128) := by
    refine funext fun a' => Fin.ext ?_
    match a' with
    | ⟨0, _⟩ => show (i : ℕ) + 0 + 1 * 0 = i; omega
    | ⟨1, _⟩ => show 0 + ((c : ℕ) + 0) + 1 * 0 = c; omega
    | ⟨2, _⟩ => show 0 + (0 + (128 * (q : ℕ) + q1)) + 4 * (z 0).val = 128 * q + (q1 + 4 * (z 0).val); omega
    | ⟨3, _⟩ => show 0 + (0 + 0) + 1 * (z 1).val = (z 1).val; omega
  refine (congrArg (View.canon L) ((congrArg (stageLoad i c q q1 hi hc hb).idx ((congrArg (Shape.reshapeEquiv hV₁) hx₂).trans hx₁)).trans e)).trans ?_
  refine (View.canon_apply_of_pieces (stages x0 x1 x2) L hL _ ⟨_, hm, ?_⟩).trans ?_
  · refine (stageRect i c q hi hc hq).mem_set.mpr fun a' => ?_
    match a' with
    | ⟨0, _⟩ => exact ⟨0, Nat.one_pos, show (i : ℕ) = i + 0 + 1 * 0 by omega⟩
    | ⟨1, _⟩ => exact ⟨0, Nat.one_pos, show (c : ℕ) = 0 + ((c : ℕ) + 0) + 1 * 0 by omega⟩
    | ⟨2, _⟩ => exact ⟨q1 + 4 * (z 0).val, show _ < 128 by omega,
        show 128 * (q : ℕ) + (q1 + 4 * (z 0).val) = 0 + (0 + 128 * (q : ℕ)) + 1 * (q1 + 4 * (z 0).val) by omega⟩
    | ⟨3, _⟩ => exact ⟨(z 1).val, h1, show (z 1).val = 0 + (0 + 0) + 1 * (z 1).val by omega⟩
  · show slabAt x0 x1 x2 i c _ _ = slabAt x0 x1 x2 i c _ _
    exact congrArg (fun r => slabAt x0 x1 x2 i c r (z 1)) (Fin.ext (by
      show 4 * ((128 * (q : ℕ) + (q1 + 4 * (z 0).val)) % 128) + (128 * (q : ℕ) + (q1 + 4 * (z 0).val)) / 128 = 16 * (z 0).val + (4 * q1 + q)
      omega))
end

/-- Sixteen tiles of 32 rows, one after another. -/
def stack16 (o : Fin 16 → FVec Ideal S32x128 .f32) : FVec Ideal S512x128 .f32 :=
  concatenate S512x128 0 [⟨S32x128, o 0⟩, ⟨S32x128, o 1⟩, ⟨S32x128, o 2⟩, ⟨S32x128, o 3⟩, ⟨S32x128, o 4⟩,
    ⟨S32x128, o 5⟩, ⟨S32x128, o 6⟩, ⟨S32x128, o 7⟩, ⟨S32x128, o 8⟩, ⟨S32x128, o 9⟩, ⟨S32x128, o 10⟩,
    ⟨S32x128, o 11⟩, ⟨S32x128, o 12⟩, ⟨S32x128, o 13⟩, ⟨S32x128, o 14⟩, ⟨S32x128, o 15⟩]
    concatenates_S32x128_S32x128_S32x128_S32x128_S32x128_S32x128_S32x128_S32x128_S32x128_S32x128_S32x128_S32x128_S32x128_S32x128_S32x128_S32x128_S512x128_d0

/-- Sixteen tiles, at an index. -/
theorem stack16_apply (o : Fin 16 → FVec Ideal S32x128 .f32) (r : Fin 512) (l : Fin 128) :
    stack16 o (ix2 r l) = o ⟨r / 32, by omega⟩ (ix2 (⟨r % 32, by omega⟩ : Fin 32) l) := by
  refine concatenate_ofFn_apply (t := S512x128) (s₁ := S32x128) 0 o
    concatenates_S32x128_S32x128_S32x128_S32x128_S32x128_S32x128_S32x128_S32x128_S32x128_S32x128_S32x128_S32x128_S32x128_S32x128_S32x128_S32x128_S512x128_d0
    rfl 32 rfl (ix2 r l) ⟨r / 32, by omega⟩ rfl (ix2 (⟨r % 32, by omega⟩ : Fin 32) l) rfl fun b hb => ?_
  match b with
  | ⟨0, _⟩ => exact absurd rfl hb
  | ⟨1, _⟩ => rfl

/-- A slab of a tile of 512 tokens, sorted into sixteen classes. -/
def slabTile (i : Fin 2) (c : Fin 10) : FVec Ideal S512x128 .f32 := stack16 (pick16 x0 x1 x2 i c)

/-- Sixteen loads of a slab, one after another. -/
theorem slabTile_of (i : Fin 2) (c : Fin 10) {a0 a1 a2 a3 a4 a5 a6 a7 a8 a9 a10 a11 a12 a13 a14 a15 : Vec Ideal S32x128 .f32}
    (h0 : a0 = pick16 x0 x1 x2 i c 0) (h1 : a1 = pick16 x0 x1 x2 i c 1) (h2 : a2 = pick16 x0 x1 x2 i c 2)
    (h3 : a3 = pick16 x0 x1 x2 i c 3) (h4 : a4 = pick16 x0 x1 x2 i c 4) (h5 : a5 = pick16 x0 x1 x2 i c 5)
    (h6 : a6 = pick16 x0 x1 x2 i c 6) (h7 : a7 = pick16 x0 x1 x2 i c 7) (h8 : a8 = pick16 x0 x1 x2 i c 8)
    (h9 : a9 = pick16 x0 x1 x2 i c 9) (h10 : a10 = pick16 x0 x1 x2 i c 10) (h11 : a11 = pick16 x0 x1 x2 i c 11)
    (h12 : a12 = pick16 x0 x1 x2 i c 12) (h13 : a13 = pick16 x0 x1 x2 i c 13) (h14 : a14 = pick16 x0 x1 x2 i c 14)
    (h15 : a15 = pick16 x0 x1 x2 i c 15) :
    concatenate S512x128 0 [⟨S32x128, a0⟩, ⟨S32x128, a1⟩, ⟨S32x128, a2⟩, ⟨S32x128, a3⟩, ⟨S32x128, a4⟩, ⟨S32x128, a5⟩, ⟨S32x128, a6⟩, ⟨S32x128, a7⟩, ⟨S32x128, a8⟩, ⟨S32x128, a9⟩, ⟨S32x128, a10⟩, ⟨S32x128, a11⟩, ⟨S32x128, a12⟩, ⟨S32x128, a13⟩, ⟨S32x128, a14⟩, ⟨S32x128, a15⟩]
      concatenates_S32x128_S32x128_S32x128_S32x128_S32x128_S32x128_S32x128_S32x128_S32x128_S32x128_S32x128_S32x128_S32x128_S32x128_S32x128_S32x128_S512x128_d0 = slabTile x0 x1 x2 i c := by
  subst h0 h1 h2 h3 h4 h5 h6 h7 h8 h9 h10 h11 h12 h13 h14 h15
  rfl

/-- The row of its half that a sorted row is. -/
def unsorted (r : Fin 512) : Fin 512 := ⟨16 * (r % 32) + r / 32, by omega⟩

/-- A sorted slab at an index. -/
theorem slabTile_apply (i : Fin 2) (c : Fin 10) (r : Fin 512) (l : Fin 128) :
    slabTile x0 x1 x2 i c (ix2 r l) = slabAt x0 x1 x2 i c (unsorted r) l := stack16_apply _ r l

/-- The input of a tile of 512 tokens, sorted into classes. -/
def xTile (i : Fin 2) : FVec Ideal S512x1024 .f32 :=
  sideBySide concatenates_S512x128_S512x128_S512x128_S512x128_S512x128_S512x128_S512x128_S512x128_S512x1024_d1
    (fun c => slabTile x0 x1 x2 i ⟨c, by omega⟩)

/-- Eight sorted slabs, side by side. -/
theorem xTile_of (i : Fin 2) {a₀ a₁ a₂ a₃ a₄ a₅ a₆ a₇ : FVec Ideal S512x128 .f32} (h₀ : a₀ = slabTile x0 x1 x2 i 0)
    (h₁ : a₁ = slabTile x0 x1 x2 i 1) (h₂ : a₂ = slabTile x0 x1 x2 i 2) (h₃ : a₃ = slabTile x0 x1 x2 i 3)
    (h₄ : a₄ = slabTile x0 x1 x2 i 4) (h₅ : a₅ = slabTile x0 x1 x2 i 5) (h₆ : a₆ = slabTile x0 x1 x2 i 6)
    (h₇ : a₇ = slabTile x0 x1 x2 i 7) : concatenate S512x1024 1 [⟨S512x128, a₀⟩, ⟨S512x128, a₁⟩, ⟨S512x128, a₂⟩,
      ⟨S512x128, a₃⟩, ⟨S512x128, a₄⟩, ⟨S512x128, a₅⟩, ⟨S512x128, a₆⟩, ⟨S512x128, a₇⟩]
      concatenates_S512x128_S512x128_S512x128_S512x128_S512x128_S512x128_S512x128_S512x128_S512x1024_d1 = xTile x0 x1 x2 i := by
  subst h₀ h₁ h₂ h₃ h₄ h₅ h₆ h₇
  rfl

/-- The sorted input at an index. -/
theorem xTile_apply (i : Fin 2) (r : Fin 512) (k : Fin 1024) :
    xTile x0 x1 x2 i (ix2 r k) = x0 (ix3 0 (⟨512 * i + unsorted r, by omega⟩ : Fin 1024) k) := by
  refine (sideBySide_at _ _ r k).trans ((slabTile_apply x0 x1 x2 i _ r _).trans ?_)
  refine (dif_pos (lane8 k).isLt).trans ?_
  exact congrArg (fun k => x0 (ix3 0 _ k)) (Fin.ext (by unfold lane8 lane128; simp; omega))

/-- The sorted cosines at an index. -/
theorem cosSlab_apply (i : Fin 2) (r : Fin 512) (l : Fin 128) :
    slabTile x0 x1 x2 i 8 (ix2 r l) = x1 (ix3 0 (⟨512 * i + unsorted r, by omega⟩ : Fin 1024) l) := slabTile_apply x0 x1 x2 i 8 r l

/-- The sorted sines at an index. -/
theorem sinSlab_apply (i : Fin 2) (r : Fin 512) (l : Fin 128) :
    slabTile x0 x1 x2 i 9 (ix2 r l) = x2 (ix3 0 (⟨512 * i + unsorted r, by omega⟩ : Fin 1024) l) := slabTile_apply x0 x1 x2 i 9 r l

end Cert.Proj16

end
-- ==== Proof.SixteenReads.lean ====
module

public import proofs.«01_k».proof.Proof.SixteenSlabs
public import proofs.«01_k».proof.Proof.Gen.Kernel6Ideal.Value

@[expose] public section

set_option maxRecDepth 16384

noncomputable section

/-!
What the loads of the first layer's projection at dilation 16 find in the two scratches: the sorted rows of the input and
of the tables, for either half of the block.
-/

namespace Cert.Proj16

open Cert.Kernel6Ideal Cert.Kernel6Ideal.Gen Cert.Kernel6Ideal.Gen.kernelRun0_A.sl Cert.Rows Cert.Proj Idealize.ShloMosaic Idealize.ShloMosaic.TcCoe
open Cert.Proj4 (slabs slabAt pick x_piece cos_piece sin_piece read_eq)

variable (c : Dev nD) (arg2 : Memref sig .tc .vmem S1x1024x1024 .f32) (harg2 : arg2.IsWhole)
  (arg3 : Memref sig .tc .vmem S1x1024x128 .f32) (harg3 : arg3.IsWhole)
  (arg4 : Memref sig .tc .vmem S1x1024x128 .f32) (harg4 : arg4.IsWhole)
  (arg8 arg9 : Memref sig .tc .vmem S2x10x512x128 .f32)
  (x0 : Vec Ideal S1x1024x1024 .f32) (x1 x2 : Vec Ideal S1x1024x128 .f32)

/-- What a list of stores holds. -/
def Holds (f : Vec Ideal S2x10x512x128 .f32) (L : List (View.Piece (Elt Ideal) S2x10x512x128 .f32)) : Prop :=
  ∀ p ∈ L, ∀ x : p.1.shape.Idx, p.2 x = f (p.1.emb x)

/-- Four more stores. -/
theorem holds_four {f : Vec Ideal S2x10x512x128 .f32} {p₀ p₁ p₂ p₃ : View.Piece (Elt Ideal) S2x10x512x128 .f32}
    {L : List (View.Piece (Elt Ideal) S2x10x512x128 .f32)} (hL : Holds f L) (h₀ : ∀ x : p₀.1.shape.Idx, p₀.2 x = f (p₀.1.emb x))
    (h₁ : ∀ x : p₁.1.shape.Idx, p₁.2 x = f (p₁.1.emb x)) (h₂ : ∀ x : p₂.1.shape.Idx, p₂.2 x = f (p₂.1.emb x))
    (h₃ : ∀ x : p₃.1.shape.Idx, p₃.2 x = f (p₃.1.emb x)) : Holds f (p₃ :: p₂ :: p₁ :: p₀ :: L) :=
  List.forall_mem_cons.mpr ⟨h₃, List.forall_mem_cons.mpr ⟨h₂, List.forall_mem_cons.mpr ⟨h₁, List.forall_mem_cons.mpr ⟨h₀, hL⟩⟩⟩⟩

/-- The stores up to those of the first half are slabs. -/
theorem holds0 : Holds (slabs x0 x1 x2) (HS0_10 (F := Ideal) c arg2 harg2 arg3 harg3 arg4 harg4 x0 x1 x2) := by
  unfold Holds HS0_10
  simp only [List.forall_mem_cons, List.not_mem_nil, false_imp_iff, implies_true, and_true]
  refine ⟨?_, ?_, ?_, ?_, ?_, ?_, ?_, ?_, ?_, ?_⟩
  · exact fun x => sin_piece x0 x1 x2 0 _ _ _ _ arg4 harg4 _ _ x
  · exact fun x => cos_piece x0 x1 x2 0 _ _ _ _ arg3 harg3 _ _ x
  · exact fun x => x_piece x0 x1 x2 0 _ _ _ 7 _ arg2 harg2 _ _ x
  · exact fun x => x_piece x0 x1 x2 0 _ _ _ 6 _ arg2 harg2 _ _ x
  · exact fun x => x_piece x0 x1 x2 0 _ _ _ 5 _ arg2 harg2 _ _ x
  · exact fun x => x_piece x0 x1 x2 0 _ _ _ 4 _ arg2 harg2 _ _ x
  · exact fun x => x_piece x0 x1 x2 0 _ _ _ 3 _ arg2 harg2 _ _ x
  · exact fun x => x_piece x0 x1 x2 0 _ _ _ 2 _ arg2 harg2 _ _ x
  · exact fun x => x_piece x0 x1 x2 0 _ _ _ 1 _ arg2 harg2 _ _ x
  · exact fun x => x_piece x0 x1 x2 0 _ _ _ 0 _ arg2 harg2 _ _ x

/-- The stores up to those of the second half are slabs. -/
theorem holds1 : Holds (slabs x0 x1 x2) (HS0_20 (F := Ideal) c arg2 harg2 arg3 harg3 arg4 harg4 x0 x1 x2) := by
  unfold Holds HS0_20
  simp only [List.forall_mem_cons, List.not_mem_nil, false_imp_iff, implies_true, and_true]
  refine ⟨?_, ?_, ?_, ?_, ?_, ?_, ?_, ?_, ?_, ?_, ?_⟩
  · exact fun x => sin_piece x0 x1 x2 1 _ _ _ _ arg4 harg4 _ _ x
  · exact fun x => cos_piece x0 x1 x2 1 _ _ _ _ arg3 harg3 _ _ x
  · exact fun x => x_piece x0 x1 x2 1 _ _ _ 7 _ arg2 harg2 _ _ x
  · exact fun x => x_piece x0 x1 x2 1 _ _ _ 6 _ arg2 harg2 _ _ x
  · exact fun x => x_piece x0 x1 x2 1 _ _ _ 5 _ arg2 harg2 _ _ x
  · exact fun x => x_piece x0 x1 x2 1 _ _ _ 4 _ arg2 harg2 _ _ x
  · exact fun x => x_piece x0 x1 x2 1 _ _ _ 3 _ arg2 harg2 _ _ x
  · exact fun x => x_piece x0 x1 x2 1 _ _ _ 2 _ arg2 harg2 _ _ x
  · exact fun x => x_piece x0 x1 x2 1 _ _ _ 1 _ arg2 harg2 _ _ x
  · exact fun x => x_piece x0 x1 x2 1 _ _ _ 0 _ arg2 harg2 _ _ x
  · exact holds0 c arg2 harg2 arg3 harg3 arg4 harg4 x0 x1 x2

/-- The second scratch up to slab 0 of the input, first half. -/
theorem stage4 : Holds (stages x0 x1 x2) (HS1_4 (F := Ideal) c arg2 harg2 arg3 harg3 arg4 harg4 arg8 x0 x1 x2) :=
  holds_four (fun _ h => absurd h List.not_mem_nil)
    (fun x => stage_piece (i := 0) (c := 0) (q := 0) x0 x1 x2 _ _ _ _ _
      (read_eq x0 x1 x2 _ _ (holds0 c arg2 harg2 arg3 harg3 arg4 harg4 x0 x1 x2) 0 0 0 _ _ _ _ (.tail _ (.tail _ (.tail _ (.tail _ (.tail _ (.tail _ (.tail _ (.tail _ (.tail _ (.head _)))))))))) _) _ _ x)
    (fun x => stage_piece (i := 0) (c := 0) (q := 1) x0 x1 x2 _ _ _ _ _
      (read_eq x0 x1 x2 _ _ (holds0 c arg2 harg2 arg3 harg3 arg4 harg4 x0 x1 x2) 0 0 1 _ _ _ _ (.tail _ (.tail _ (.tail _ (.tail _ (.tail _ (.tail _ (.tail _ (.tail _ (.tail _ (.head _)))))))))) _) _ _ x)
    (fun x => stage_piece (i := 0) (c := 0) (q := 2) x0 x1 x2 _ _ _ _ _
      (read_eq x0 x1 x2 _ _ (holds0 c arg2 harg2 arg3 harg3 arg4 harg4 x0 x1 x2) 0 0 2 _ _ _ _ (.tail _ (.tail _ (.tail _ (.tail _ (.tail _ (.tail _ (.tail _ (.tail _ (.tail _ (.head _)))))))))) _) _ _ x)
    (fun x => stage_piece (i := 0) (c := 0) (q := 3) x0 x1 x2 _ _ _ _ _
      (read_eq x0 x1 x2 _ _ (holds0 c arg2 harg2 arg3 harg3 arg4 harg4 x0 x1 x2) 0 0 3 _ _ _ _ (.tail _ (.tail _ (.tail _ (.tail _ (.tail _ (.tail _ (.tail _ (.tail _ (.tail _ (.head _)))))))))) _) _ _ x)

/-- The sorted rows of slab 0 of the input, first half. -/
theorem v195_eq : v195 (F := Ideal) c arg2 harg2 arg3 harg3 arg4 harg4 arg8 arg9 x0 x1 x2 = slabTile x0 x1 x2 0 0 := by
  have H := stage4 c arg2 harg2 arg3 harg3 arg4 harg4 arg8 x0 x1 x2
  exact slabTile_of x0 x1 x2 0 0
    (stage_eq x0 x1 x2 _ _ H 0 0 0 0 _ _ _ _ _ (.tail _ (.tail _ (.tail _ (.head _)))) _ _)
    (stage_eq x0 x1 x2 _ _ H 0 0 1 0 _ _ _ _ _ (.tail _ (.tail _ (.head _))) _ _)
    (stage_eq x0 x1 x2 _ _ H 0 0 2 0 _ _ _ _ _ (.tail _ (.head _)) _ _)
    (stage_eq x0 x1 x2 _ _ H 0 0 3 0 _ _ _ _ _ (.head _) _ _)
    (stage_eq x0 x1 x2 _ _ H 0 0 0 1 _ _ _ _ _ (.tail _ (.tail _ (.tail _ (.head _)))) _ _)
    (stage_eq x0 x1 x2 _ _ H 0 0 1 1 _ _ _ _ _ (.tail _ (.tail _ (.head _))) _ _)
    (stage_eq x0 x1 x2 _ _ H 0 0 2 1 _ _ _ _ _ (.tail _ (.head _)) _ _)
    (stage_eq x0 x1 x2 _ _ H 0 0 3 1 _ _ _ _ _ (.head _) _ _)
    (stage_eq x0 x1 x2 _ _ H 0 0 0 2 _ _ _ _ _ (.tail _ (.tail _ (.tail _ (.head _)))) _ _)
    (stage_eq x0 x1 x2 _ _ H 0 0 1 2 _ _ _ _ _ (.tail _ (.tail _ (.head _))) _ _)
    (stage_eq x0 x1 x2 _ _ H 0 0 2 2 _ _ _ _ _ (.tail _ (.head _)) _ _)
    (stage_eq x0 x1 x2 _ _ H 0 0 3 2 _ _ _ _ _ (.head _) _ _)
    (stage_eq x0 x1 x2 _ _ H 0 0 0 3 _ _ _ _ _ (.tail _ (.tail _ (.tail _ (.head _)))) _ _)
    (stage_eq x0 x1 x2 _ _ H 0 0 1 3 _ _ _ _ _ (.tail _ (.tail _ (.head _))) _ _)
    (stage_eq x0 x1 x2 _ _ H 0 0 2 3 _ _ _ _ _ (.tail _ (.head _)) _ _)
    (stage_eq x0 x1 x2 _ _ H 0 0 3 3 _ _ _ _ _ (.head _) _ _)

/-- The second scratch up to slab 1 of the input, first half. -/
theorem stage8 : Holds (stages x0 x1 x2) (HS1_8 (F := Ideal) c arg2 harg2 arg3 harg3 arg4 harg4 arg8 x0 x1 x2) :=
  holds_four (stage4 c arg2 harg2 arg3 harg3 arg4 harg4 arg8 x0 x1 x2)
    (fun x => stage_piece (i := 0) (c := 1) (q := 0) x0 x1 x2 _ _ _ _ _
      (read_eq x0 x1 x2 _ _ (holds0 c arg2 harg2 arg3 harg3 arg4 harg4 x0 x1 x2) 0 1 0 _ _ _ _ (.tail _ (.tail _ (.tail _ (.tail _ (.tail _ (.tail _ (.tail _ (.tail _ (.head _))))))))) _) _ _ x)
    (fun x => stage_piece (i := 0) (c := 1) (q := 1) x0 x1 x2 _ _ _ _ _
      (read_eq x0 x1 x2 _ _ (holds0 c arg2 harg2 arg3 harg3 arg4 harg4 x0 x1 x2) 0 1 1 _ _ _ _ (.tail _ (.tail _ (.tail _ (.tail _ (.tail _ (.tail _ (.tail _ (.tail _ (.head _))))))))) _) _ _ x)
    (fun x => stage_piece (i := 0) (c := 1) (q := 2) x0 x1 x2 _ _ _ _ _
      (read_eq x0 x1 x2 _ _ (holds0 c arg2 harg2 arg3 harg3 arg4 harg4 x0 x1 x2) 0 1 2 _ _ _ _ (.tail _ (.tail _ (.tail _ (.tail _ (.tail _ (.tail _ (.tail _ (.tail _ (.head _))))))))) _) _ _ x)
    (fun x => stage_piece (i := 0) (c := 1) (q := 3) x0 x1 x2 _ _ _ _ _
      (read_eq x0 x1 x2 _ _ (holds0 c arg2 harg2 arg3 harg3 arg4 harg4 x0 x1 x2) 0 1 3 _ _ _ _ (.tail _ (.tail _ (.tail _ (.tail _ (.tail _ (.tail _ (.tail _ (.tail _ (.head _))))))))) _) _ _ x)

/-- The sorted rows of slab 1 of the input, first half. -/
theorem v320_eq : v320 (F := Ideal) c arg2 harg2 arg3 harg3 arg4 harg4 arg8 arg9 x0 x1 x2 = slabTile x0 x1 x2 0 1 := by
  have H := stage8 c arg2 harg2 arg3 harg3 arg4 harg4 arg8 x0 x1 x2
  exact slabTile_of x0 x1 x2 0 1
    (stage_eq x0 x1 x2 _ _ H 0 1 0 0 _ _ _ _ _ (.tail _ (.tail _ (.tail _ (.head _)))) _ _)
    (stage_eq x0 x1 x2 _ _ H 0 1 1 0 _ _ _ _ _ (.tail _ (.tail _ (.head _))) _ _)
    (stage_eq x0 x1 x2 _ _ H 0 1 2 0 _ _ _ _ _ (.tail _ (.head _)) _ _)
    (stage_eq x0 x1 x2 _ _ H 0 1 3 0 _ _ _ _ _ (.head _) _ _)
    (stage_eq x0 x1 x2 _ _ H 0 1 0 1 _ _ _ _ _ (.tail _ (.tail _ (.tail _ (.head _)))) _ _)
    (stage_eq x0 x1 x2 _ _ H 0 1 1 1 _ _ _ _ _ (.tail _ (.tail _ (.head _))) _ _)
    (stage_eq x0 x1 x2 _ _ H 0 1 2 1 _ _ _ _ _ (.tail _ (.head _)) _ _)
    (stage_eq x0 x1 x2 _ _ H 0 1 3 1 _ _ _ _ _ (.head _) _ _)
    (stage_eq x0 x1 x2 _ _ H 0 1 0 2 _ _ _ _ _ (.tail _ (.tail _ (.tail _ (.head _)))) _ _)
    (stage_eq x0 x1 x2 _ _ H 0 1 1 2 _ _ _ _ _ (.tail _ (.tail _ (.head _))) _ _)
    (stage_eq x0 x1 x2 _ _ H 0 1 2 2 _ _ _ _ _ (.tail _ (.head _)) _ _)
    (stage_eq x0 x1 x2 _ _ H 0 1 3 2 _ _ _ _ _ (.head _) _ _)
    (stage_eq x0 x1 x2 _ _ H 0 1 0 3 _ _ _ _ _ (.tail _ (.tail _ (.tail _ (.head _)))) _ _)
    (stage_eq x0 x1 x2 _ _ H 0 1 1 3 _ _ _ _ _ (.tail _ (.tail _ (.head _))) _ _)
    (stage_eq x0 x1 x2 _ _ H 0 1 2 3 _ _ _ _ _ (.tail _ (.head _)) _ _)
    (stage_eq x0 x1 x2 _ _ H 0 1 3 3 _ _ _ _ _ (.head _) _ _)

/-- The second scratch up to slab 2 of the input, first half. -/
theorem stage12 : Holds (stages x0 x1 x2) (HS1_12 (F := Ideal) c arg2 harg2 arg3 harg3 arg4 harg4 arg8 x0 x1 x2) :=
  holds_four (stage8 c arg2 harg2 arg3 harg3 arg4 harg4 arg8 x0 x1 x2)
    (fun x => stage_piece (i := 0) (c := 2) (q := 0) x0 x1 x2 _ _ _ _ _
      (read_eq x0 x1 x2 _ _ (holds0 c arg2 harg2 arg3 harg3 arg4 harg4 x0 x1 x2) 0 2 0 _ _ _ _ (.tail _ (.tail _ (.tail _ (.tail _ (.tail _ (.tail _ (.tail _ (.head _)))))))) _) _ _ x)
    (fun x => stage_piece (i := 0) (c := 2) (q := 1) x0 x1 x2 _ _ _ _ _
      (read_eq x0 x1 x2 _ _ (holds0 c arg2 harg2 arg3 harg3 arg4 harg4 x0 x1 x2) 0 2 1 _ _ _ _ (.tail _ (.tail _ (.tail _ (.tail _ (.tail _ (.tail _ (.tail _ (.head _)))))))) _) _ _ x)
    (fun x => stage_piece (i := 0) (c := 2) (q := 2) x0 x1 x2 _ _ _ _ _
      (read_eq x0 x1 x2 _ _ (holds0 c arg2 harg2 arg3 harg3 arg4 harg4 x0 x1 x2) 0 2 2 _ _ _ _ (.tail _ (.tail _ (.tail _ (.tail _ (.tail _ (.tail _ (.tail _ (.head _)))))))) _) _ _ x)
    (fun x => stage_piece (i := 0) (c := 2) (q := 3) x0 x1 x2 _ _ _ _ _
      (read_eq x0 x1 x2 _ _ (holds0 c arg2 harg2 arg3 harg3 arg4 harg4 x0 x1 x2) 0 2 3 _ _ _ _ (.tail _ (.tail _ (.tail _ (.tail _ (.tail _ (.tail _ (.tail _ (.head _)))))))) _) _ _ x)

/-- The sorted rows of slab 2 of the input, first half. -/
theorem v445_eq : v445 (F := Ideal) c arg2 harg2 arg3 harg3 arg4 harg4 arg8 arg9 x0 x1 x2 = slabTile x0 x1 x2 0 2 := by
  have H := stage12 c arg2 harg2 arg3 harg3 arg4 harg4 arg8 x0 x1 x2
  exact slabTile_of x0 x1 x2 0 2
    (stage_eq x0 x1 x2 _ _ H 0 2 0 0 _ _ _ _ _ (.tail _ (.tail _ (.tail _ (.head _)))) _ _)
    (stage_eq x0 x1 x2 _ _ H 0 2 1 0 _ _ _ _ _ (.tail _ (.tail _ (.head _))) _ _)
    (stage_eq x0 x1 x2 _ _ H 0 2 2 0 _ _ _ _ _ (.tail _ (.head _)) _ _)
    (stage_eq x0 x1 x2 _ _ H 0 2 3 0 _ _ _ _ _ (.head _) _ _)
    (stage_eq x0 x1 x2 _ _ H 0 2 0 1 _ _ _ _ _ (.tail _ (.tail _ (.tail _ (.head _)))) _ _)
    (stage_eq x0 x1 x2 _ _ H 0 2 1 1 _ _ _ _ _ (.tail _ (.tail _ (.head _))) _ _)
    (stage_eq x0 x1 x2 _ _ H 0 2 2 1 _ _ _ _ _ (.tail _ (.head _)) _ _)
    (stage_eq x0 x1 x2 _ _ H 0 2 3 1 _ _ _ _ _ (.head _) _ _)
    (stage_eq x0 x1 x2 _ _ H 0 2 0 2 _ _ _ _ _ (.tail _ (.tail _ (.tail _ (.head _)))) _ _)
    (stage_eq x0 x1 x2 _ _ H 0 2 1 2 _ _ _ _ _ (.tail _ (.tail _ (.head _))) _ _)
    (stage_eq x0 x1 x2 _ _ H 0 2 2 2 _ _ _ _ _ (.tail _ (.head _)) _ _)
    (stage_eq x0 x1 x2 _ _ H 0 2 3 2 _ _ _ _ _ (.head _) _ _)
    (stage_eq x0 x1 x2 _ _ H 0 2 0 3 _ _ _ _ _ (.tail _ (.tail _ (.tail _ (.head _)))) _ _)
    (stage_eq x0 x1 x2 _ _ H 0 2 1 3 _ _ _ _ _ (.tail _ (.tail _ (.head _))) _ _)
    (stage_eq x0 x1 x2 _ _ H 0 2 2 3 _ _ _ _ _ (.tail _ (.head _)) _ _)
    (stage_eq x0 x1 x2 _ _ H 0 2 3 3 _ _ _ _ _ (.head _) _ _)

/-- The second scratch up to slab 3 of the input, first half. -/
theorem stage16 : Holds (stages x0 x1 x2) (HS1_16 (F := Ideal) c arg2 harg2 arg3 harg3 arg4 harg4 arg8 x0 x1 x2) :=
  holds_four (stage12 c arg2 harg2 arg3 harg3 arg4 harg4 arg8 x0 x1 x2)
    (fun x => stage_piece (i := 0) (c := 3) (q := 0) x0 x1 x2 _ _ _ _ _
      (read_eq x0 x1 x2 _ _ (holds0 c arg2 harg2 arg3 harg3 arg4 harg4 x0 x1 x2) 0 3 0 _ _ _ _ (.tail _ (.tail _ (.tail _ (.tail _ (.tail _ (.tail _ (.head _))))))) _) _ _ x)
    (fun x => stage_piece (i := 0) (c := 3) (q := 1) x0 x1 x2 _ _ _ _ _
      (read_eq x0 x1 x2 _ _ (holds0 c arg2 harg2 arg3 harg3 arg4 harg4 x0 x1 x2) 0 3 1 _ _ _ _ (.tail _ (.tail _ (.tail _ (.tail _ (.tail _ (.tail _ (.head _))))))) _) _ _ x)
    (fun x => stage_piece (i := 0) (c := 3) (q := 2) x0 x1 x2 _ _ _ _ _
      (read_eq x0 x1 x2 _ _ (holds0 c arg2 harg2 arg3 harg3 arg4 harg4 x0 x1 x2) 0 3 2 _ _ _ _ (.tail _ (.tail _ (.tail _ (.tail _ (.tail _ (.tail _ (.head _))))))) _) _ _ x)
    (fun x => stage_piece (i := 0) (c := 3) (q := 3) x0 x1 x2 _ _ _ _ _
      (read_eq x0 x1 x2 _ _ (holds0 c arg2 harg2 arg3 harg3 arg4 harg4 x0 x1 x2) 0 3 3 _ _ _ _ (.tail _ (.tail _ (.tail _ (.tail _ (.tail _ (.tail _ (.head _))))))) _) _ _ x)

/-- The sorted rows of slab 3 of the input, first half. -/
theorem v570_eq : v570 (F := Ideal) c arg2 harg2 arg3 harg3 arg4 harg4 arg8 arg9 x0 x1 x2 = slabTile x0 x1 x2 0 3 := by
  have H := stage16 c arg2 harg2 arg3 harg3 arg4 harg4 arg8 x0 x1 x2
  exact slabTile_of x0 x1 x2 0 3
    (stage_eq x0 x1 x2 _ _ H 0 3 0 0 _ _ _ _ _ (.tail _ (.tail _ (.tail _ (.head _)))) _ _)
    (stage_eq x0 x1 x2 _ _ H 0 3 1 0 _ _ _ _ _ (.tail _ (.tail _ (.head _))) _ _)
    (stage_eq x0 x1 x2 _ _ H 0 3 2 0 _ _ _ _ _ (.tail _ (.head _)) _ _)
    (stage_eq x0 x1 x2 _ _ H 0 3 3 0 _ _ _ _ _ (.head _) _ _)
    (stage_eq x0 x1 x2 _ _ H 0 3 0 1 _ _ _ _ _ (.tail _ (.tail _ (.tail _ (.head _)))) _ _)
    (stage_eq x0 x1 x2 _ _ H 0 3 1 1 _ _ _ _ _ (.tail _ (.tail _ (.head _))) _ _)
    (stage_eq x0 x1 x2 _ _ H 0 3 2 1 _ _ _ _ _ (.tail _ (.head _)) _ _)
    (stage_eq x0 x1 x2 _ _ H 0 3 3 1 _ _ _ _ _ (.head _) _ _)
    (stage_eq x0 x1 x2 _ _ H 0 3 0 2 _ _ _ _ _ (.tail _ (.tail _ (.tail _ (.head _)))) _ _)
    (stage_eq x0 x1 x2 _ _ H 0 3 1 2 _ _ _ _ _ (.tail _ (.tail _ (.head _))) _ _)
    (stage_eq x0 x1 x2 _ _ H 0 3 2 2 _ _ _ _ _ (.tail _ (.head _)) _ _)
    (stage_eq x0 x1 x2 _ _ H 0 3 3 2 _ _ _ _ _ (.head _) _ _)
    (stage_eq x0 x1 x2 _ _ H 0 3 0 3 _ _ _ _ _ (.tail _ (.tail _ (.tail _ (.head _)))) _ _)
    (stage_eq x0 x1 x2 _ _ H 0 3 1 3 _ _ _ _ _ (.tail _ (.tail _ (.head _))) _ _)
    (stage_eq x0 x1 x2 _ _ H 0 3 2 3 _ _ _ _ _ (.tail _ (.head _)) _ _)
    (stage_eq x0 x1 x2 _ _ H 0 3 3 3 _ _ _ _ _ (.head _) _ _)

/-- The second scratch up to slab 4 of the input, first half. -/
theorem stage20 : Holds (stages x0 x1 x2) (HS1_20 (F := Ideal) c arg2 harg2 arg3 harg3 arg4 harg4 arg8 x0 x1 x2) :=
  holds_four (stage16 c arg2 harg2 arg3 harg3 arg4 harg4 arg8 x0 x1 x2)
    (fun x => stage_piece (i := 0) (c := 4) (q := 0) x0 x1 x2 _ _ _ _ _
      (read_eq x0 x1 x2 _ _ (holds0 c arg2 harg2 arg3 harg3 arg4 harg4 x0 x1 x2) 0 4 0 _ _ _ _ (.tail _ (.tail _ (.tail _ (.tail _ (.tail _ (.head _)))))) _) _ _ x)
    (fun x => stage_piece (i := 0) (c := 4) (q := 1) x0 x1 x2 _ _ _ _ _
      (read_eq x0 x1 x2 _ _ (holds0 c arg2 harg2 arg3 harg3 arg4 harg4 x0 x1 x2) 0 4 1 _ _ _ _ (.tail _ (.tail _ (.tail _ (.tail _ (.tail _ (.head _)))))) _) _ _ x)
    (fun x => stage_piece (i := 0) (c := 4) (q := 2) x0 x1 x2 _ _ _ _ _
      (read_eq x0 x1 x2 _ _ (holds0 c arg2 harg2 arg3 harg3 arg4 harg4 x0 x1 x2) 0 4 2 _ _ _ _ (.tail _ (.tail _ (.tail _ (.tail _ (.tail _ (.head _)))))) _) _ _ x)
    (fun x => stage_piece (i := 0) (c := 4) (q := 3) x0 x1 x2 _ _ _ _ _
      (read_eq x0 x1 x2 _ _ (holds0 c arg2 harg2 arg3 harg3 arg4 harg4 x0 x1 x2) 0 4 3 _ _ _ _ (.tail _ (.tail _ (.tail _ (.tail _ (.tail _ (.head _)))))) _) _ _ x)

/-- The sorted rows of slab 4 of the input, first half. -/
theorem v695_eq : v695 (F := Ideal) c arg2 harg2 arg3 harg3 arg4 harg4 arg8 arg9 x0 x1 x2 = slabTile x0 x1 x2 0 4 := by
  have H := stage20 c arg2 harg2 arg3 harg3 arg4 harg4 arg8 x0 x1 x2
  exact slabTile_of x0 x1 x2 0 4
    (stage_eq x0 x1 x2 _ _ H 0 4 0 0 _ _ _ _ _ (.tail _ (.tail _ (.tail _ (.head _)))) _ _)
    (stage_eq x0 x1 x2 _ _ H 0 4 1 0 _ _ _ _ _ (.tail _ (.tail _ (.head _))) _ _)
    (stage_eq x0 x1 x2 _ _ H 0 4 2 0 _ _ _ _ _ (.tail _ (.head _)) _ _)
    (stage_eq x0 x1 x2 _ _ H 0 4 3 0 _ _ _ _ _ (.head _) _ _)
    (stage_eq x0 x1 x2 _ _ H 0 4 0 1 _ _ _ _ _ (.tail _ (.tail _ (.tail _ (.head _)))) _ _)
    (stage_eq x0 x1 x2 _ _ H 0 4 1 1 _ _ _ _ _ (.tail _ (.tail _ (.head _))) _ _)
    (stage_eq x0 x1 x2 _ _ H 0 4 2 1 _ _ _ _ _ (.tail _ (.head _)) _ _)
    (stage_eq x0 x1 x2 _ _ H 0 4 3 1 _ _ _ _ _ (.head _) _ _)
    (stage_eq x0 x1 x2 _ _ H 0 4 0 2 _ _ _ _ _ (.tail _ (.tail _ (.tail _ (.head _)))) _ _)
    (stage_eq x0 x1 x2 _ _ H 0 4 1 2 _ _ _ _ _ (.tail _ (.tail _ (.head _))) _ _)
    (stage_eq x0 x1 x2 _ _ H 0 4 2 2 _ _ _ _ _ (.tail _ (.head _)) _ _)
    (stage_eq x0 x1 x2 _ _ H 0 4 3 2 _ _ _ _ _ (.head _) _ _)
    (stage_eq x0 x1 x2 _ _ H 0 4 0 3 _ _ _ _ _ (.tail _ (.tail _ (.tail _ (.head _)))) _ _)
    (stage_eq x0 x1 x2 _ _ H 0 4 1 3 _ _ _ _ _ (.tail _ (.tail _ (.head _))) _ _)
    (stage_eq x0 x1 x2 _ _ H 0 4 2 3 _ _ _ _ _ (.tail _ (.head _)) _ _)
    (stage_eq x0 x1 x2 _ _ H 0 4 3 3 _ _ _ _ _ (.head _) _ _)

/-- The second scratch up to slab 5 of the input, first half. -/
theorem stage24 : Holds (stages x0 x1 x2) (HS1_24 (F := Ideal) c arg2 harg2 arg3 harg3 arg4 harg4 arg8 x0 x1 x2) :=
  holds_four (stage20 c arg2 harg2 arg3 harg3 arg4 harg4 arg8 x0 x1 x2)
    (fun x => stage_piece (i := 0) (c := 5) (q := 0) x0 x1 x2 _ _ _ _ _
      (read_eq x0 x1 x2 _ _ (holds0 c arg2 harg2 arg3 harg3 arg4 harg4 x0 x1 x2) 0 5 0 _ _ _ _ (.tail _ (.tail _ (.tail _ (.tail _ (.head _))))) _) _ _ x)
    (fun x => stage_piece (i := 0) (c := 5) (q := 1) x0 x1 x2 _ _ _ _ _
      (read_eq x0 x1 x2 _ _ (holds0 c arg2 harg2 arg3 harg3 arg4 harg4 x0 x1 x2) 0 5 1 _ _ _ _ (.tail _ (.tail _ (.tail _ (.tail _ (.head _))))) _) _ _ x)
    (fun x => stage_piece (i := 0) (c := 5) (q := 2) x0 x1 x2 _ _ _ _ _
      (read_eq x0 x1 x2 _ _ (holds0 c arg2 harg2 arg3 harg3 arg4 harg4 x0 x1 x2) 0 5 2 _ _ _ _ (.tail _ (.tail _ (.tail _ (.tail _ (.head _))))) _) _ _ x)
    (fun x => stage_piece (i := 0) (c := 5) (q := 3) x0 x1 x2 _ _ _ _ _
      (read_eq x0 x1 x2 _ _ (holds0 c arg2 harg2 arg3 harg3 arg4 harg4 x0 x1 x2) 0 5 3 _ _ _ _ (.tail _ (.tail _ (.tail _ (.tail _ (.head _))))) _) _ _ x)

/-- The sorted rows of slab 5 of the input, first half. -/
theorem v820_eq : v820 (F := Ideal) c arg2 harg2 arg3 harg3 arg4 harg4 arg8 arg9 x0 x1 x2 = slabTile x0 x1 x2 0 5 := by
  have H := stage24 c arg2 harg2 arg3 harg3 arg4 harg4 arg8 x0 x1 x2
  exact slabTile_of x0 x1 x2 0 5
    (stage_eq x0 x1 x2 _ _ H 0 5 0 0 _ _ _ _ _ (.tail _ (.tail _ (.tail _ (.head _)))) _ _)
    (stage_eq x0 x1 x2 _ _ H 0 5 1 0 _ _ _ _ _ (.tail _ (.tail _ (.head _))) _ _)
    (stage_eq x0 x1 x2 _ _ H 0 5 2 0 _ _ _ _ _ (.tail _ (.head _)) _ _)
    (stage_eq x0 x1 x2 _ _ H 0 5 3 0 _ _ _ _ _ (.head _) _ _)
    (stage_eq x0 x1 x2 _ _ H 0 5 0 1 _ _ _ _ _ (.tail _ (.tail _ (.tail _ (.head _)))) _ _)
    (stage_eq x0 x1 x2 _ _ H 0 5 1 1 _ _ _ _ _ (.tail _ (.tail _ (.head _))) _ _)
    (stage_eq x0 x1 x2 _ _ H 0 5 2 1 _ _ _ _ _ (.tail _ (.head _)) _ _)
    (stage_eq x0 x1 x2 _ _ H 0 5 3 1 _ _ _ _ _ (.head _) _ _)
    (stage_eq x0 x1 x2 _ _ H 0 5 0 2 _ _ _ _ _ (.tail _ (.tail _ (.tail _ (.head _)))) _ _)
    (stage_eq x0 x1 x2 _ _ H 0 5 1 2 _ _ _ _ _ (.tail _ (.tail _ (.head _))) _ _)
    (stage_eq x0 x1 x2 _ _ H 0 5 2 2 _ _ _ _ _ (.tail _ (.head _)) _ _)
    (stage_eq x0 x1 x2 _ _ H 0 5 3 2 _ _ _ _ _ (.head _) _ _)
    (stage_eq x0 x1 x2 _ _ H 0 5 0 3 _ _ _ _ _ (.tail _ (.tail _ (.tail _ (.head _)))) _ _)
    (stage_eq x0 x1 x2 _ _ H 0 5 1 3 _ _ _ _ _ (.tail _ (.tail _ (.head _))) _ _)
    (stage_eq x0 x1 x2 _ _ H 0 5 2 3 _ _ _ _ _ (.tail _ (.head _)) _ _)
    (stage_eq x0 x1 x2 _ _ H 0 5 3 3 _ _ _ _ _ (.head _) _ _)

/-- The second scratch up to slab 6 of the input, first half. -/
theorem stage28 : Holds (stages x0 x1 x2) (HS1_28 (F := Ideal) c arg2 harg2 arg3 harg3 arg4 harg4 arg8 x0 x1 x2) :=
  holds_four (stage24 c arg2 harg2 arg3 harg3 arg4 harg4 arg8 x0 x1 x2)
    (fun x => stage_piece (i := 0) (c := 6) (q := 0) x0 x1 x2 _ _ _ _ _
      (read_eq x0 x1 x2 _ _ (holds0 c arg2 harg2 arg3 harg3 arg4 harg4 x0 x1 x2) 0 6 0 _ _ _ _ (.tail _ (.tail _ (.tail _ (.head _)))) _) _ _ x)
    (fun x => stage_piece (i := 0) (c := 6) (q := 1) x0 x1 x2 _ _ _ _ _
      (read_eq x0 x1 x2 _ _ (holds0 c arg2 harg2 arg3 harg3 arg4 harg4 x0 x1 x2) 0 6 1 _ _ _ _ (.tail _ (.tail _ (.tail _ (.head _)))) _) _ _ x)
    (fun x => stage_piece (i := 0) (c := 6) (q := 2) x0 x1 x2 _ _ _ _ _
      (read_eq x0 x1 x2 _ _ (holds0 c arg2 harg2 arg3 harg3 arg4 harg4 x0 x1 x2) 0 6 2 _ _ _ _ (.tail _ (.tail _ (.tail _ (.head _)))) _) _ _ x)
    (fun x => stage_piece (i := 0) (c := 6) (q := 3) x0 x1 x2 _ _ _ _ _
      (read_eq x0 x1 x2 _ _ (holds0 c arg2 harg2 arg3 harg3 arg4 harg4 x0 x1 x2) 0 6 3 _ _ _ _ (.tail _ (.tail _ (.tail _ (.head _)))) _) _ _ x)

/-- The sorted rows of slab 6 of the input, first half. -/
theorem v945_eq : v945 (F := Ideal) c arg2 harg2 arg3 harg3 arg4 harg4 arg8 arg9 x0 x1 x2 = slabTile x0 x1 x2 0 6 := by
  have H := stage28 c arg2 harg2 arg3 harg3 arg4 harg4 arg8 x0 x1 x2
  exact slabTile_of x0 x1 x2 0 6
    (stage_eq x0 x1 x2 _ _ H 0 6 0 0 _ _ _ _ _ (.tail _ (.tail _ (.tail _ (.head _)))) _ _)
    (stage_eq x0 x1 x2 _ _ H 0 6 1 0 _ _ _ _ _ (.tail _ (.tail _ (.head _))) _ _)
    (stage_eq x0 x1 x2 _ _ H 0 6 2 0 _ _ _ _ _ (.tail _ (.head _)) _ _)
    (stage_eq x0 x1 x2 _ _ H 0 6 3 0 _ _ _ _ _ (.head _) _ _)
    (stage_eq x0 x1 x2 _ _ H 0 6 0 1 _ _ _ _ _ (.tail _ (.tail _ (.tail _ (.head _)))) _ _)
    (stage_eq x0 x1 x2 _ _ H 0 6 1 1 _ _ _ _ _ (.tail _ (.tail _ (.head _))) _ _)
    (stage_eq x0 x1 x2 _ _ H 0 6 2 1 _ _ _ _ _ (.tail _ (.head _)) _ _)
    (stage_eq x0 x1 x2 _ _ H 0 6 3 1 _ _ _ _ _ (.head _) _ _)
    (stage_eq x0 x1 x2 _ _ H 0 6 0 2 _ _ _ _ _ (.tail _ (.tail _ (.tail _ (.head _)))) _ _)
    (stage_eq x0 x1 x2 _ _ H 0 6 1 2 _ _ _ _ _ (.tail _ (.tail _ (.head _))) _ _)
    (stage_eq x0 x1 x2 _ _ H 0 6 2 2 _ _ _ _ _ (.tail _ (.head _)) _ _)
    (stage_eq x0 x1 x2 _ _ H 0 6 3 2 _ _ _ _ _ (.head _) _ _)
    (stage_eq x0 x1 x2 _ _ H 0 6 0 3 _ _ _ _ _ (.tail _ (.tail _ (.tail _ (.head _)))) _ _)
    (stage_eq x0 x1 x2 _ _ H 0 6 1 3 _ _ _ _ _ (.tail _ (.tail _ (.head _))) _ _)
    (stage_eq x0 x1 x2 _ _ H 0 6 2 3 _ _ _ _ _ (.tail _ (.head _)) _ _)
    (stage_eq x0 x1 x2 _ _ H 0 6 3 3 _ _ _ _ _ (.head _) _ _)

/-- The second scratch up to slab 7 of the input, first half. -/
theorem stage32 : Holds (stages x0 x1 x2) (HS1_32 (F := Ideal) c arg2 harg2 arg3 harg3 arg4 harg4 arg8 x0 x1 x2) :=
  holds_four (stage28 c arg2 harg2 arg3 harg3 arg4 harg4 arg8 x0 x1 x2)
    (fun x => stage_piece (i := 0) (c := 7) (q := 0) x0 x1 x2 _ _ _ _ _
      (read_eq x0 x1 x2 _ _ (holds0 c arg2 harg2 arg3 harg3 arg4 harg4 x0 x1 x2) 0 7 0 _ _ _ _ (.tail _ (.tail _ (.head _))) _) _ _ x)
    (fun x => stage_piece (i := 0) (c := 7) (q := 1) x0 x1 x2 _ _ _ _ _
      (read_eq x0 x1 x2 _ _ (holds0 c arg2 harg2 arg3 harg3 arg4 harg4 x0 x1 x2) 0 7 1 _ _ _ _ (.tail _ (.tail _ (.head _))) _) _ _ x)
    (fun x => stage_piece (i := 0) (c := 7) (q := 2) x0 x1 x2 _ _ _ _ _
      (read_eq x0 x1 x2 _ _ (holds0 c arg2 harg2 arg3 harg3 arg4 harg4 x0 x1 x2) 0 7 2 _ _ _ _ (.tail _ (.tail _ (.head _))) _) _ _ x)
    (fun x => stage_piece (i := 0) (c := 7) (q := 3) x0 x1 x2 _ _ _ _ _
      (read_eq x0 x1 x2 _ _ (holds0 c arg2 harg2 arg3 harg3 arg4 harg4 x0 x1 x2) 0 7 3 _ _ _ _ (.tail _ (.tail _ (.head _))) _) _ _ x)

/-- The sorted rows of slab 7 of the input, first half. -/
theorem v1070_eq : v1070 (F := Ideal) c arg2 harg2 arg3 harg3 arg4 harg4 arg8 arg9 x0 x1 x2 = slabTile x0 x1 x2 0 7 := by
  have H := stage32 c arg2 harg2 arg3 harg3 arg4 harg4 arg8 x0 x1 x2
  exact slabTile_of x0 x1 x2 0 7
    (stage_eq x0 x1 x2 _ _ H 0 7 0 0 _ _ _ _ _ (.tail _ (.tail _ (.tail _ (.head _)))) _ _)
    (stage_eq x0 x1 x2 _ _ H 0 7 1 0 _ _ _ _ _ (.tail _ (.tail _ (.head _))) _ _)
    (stage_eq x0 x1 x2 _ _ H 0 7 2 0 _ _ _ _ _ (.tail _ (.head _)) _ _)
    (stage_eq x0 x1 x2 _ _ H 0 7 3 0 _ _ _ _ _ (.head _) _ _)
    (stage_eq x0 x1 x2 _ _ H 0 7 0 1 _ _ _ _ _ (.tail _ (.tail _ (.tail _ (.head _)))) _ _)
    (stage_eq x0 x1 x2 _ _ H 0 7 1 1 _ _ _ _ _ (.tail _ (.tail _ (.head _))) _ _)
    (stage_eq x0 x1 x2 _ _ H 0 7 2 1 _ _ _ _ _ (.tail _ (.head _)) _ _)
    (stage_eq x0 x1 x2 _ _ H 0 7 3 1 _ _ _ _ _ (.head _) _ _)
    (stage_eq x0 x1 x2 _ _ H 0 7 0 2 _ _ _ _ _ (.tail _ (.tail _ (.tail _ (.head _)))) _ _)
    (stage_eq x0 x1 x2 _ _ H 0 7 1 2 _ _ _ _ _ (.tail _ (.tail _ (.head _))) _ _)
    (stage_eq x0 x1 x2 _ _ H 0 7 2 2 _ _ _ _ _ (.tail _ (.head _)) _ _)
    (stage_eq x0 x1 x2 _ _ H 0 7 3 2 _ _ _ _ _ (.head _) _ _)
    (stage_eq x0 x1 x2 _ _ H 0 7 0 3 _ _ _ _ _ (.tail _ (.tail _ (.tail _ (.head _)))) _ _)
    (stage_eq x0 x1 x2 _ _ H 0 7 1 3 _ _ _ _ _ (.tail _ (.tail _ (.head _))) _ _)
    (stage_eq x0 x1 x2 _ _ H 0 7 2 3 _ _ _ _ _ (.tail _ (.head _)) _ _)
    (stage_eq x0 x1 x2 _ _ H 0 7 3 3 _ _ _ _ _ (.head _) _ _)

/-- The second scratch up to the cosines, first half. -/
theorem stage36 : Holds (stages x0 x1 x2) (HS1_36 (F := Ideal) c arg2 harg2 arg3 harg3 arg4 harg4 arg8 x0 x1 x2) :=
  holds_four (stage32 c arg2 harg2 arg3 harg3 arg4 harg4 arg8 x0 x1 x2)
    (fun x => stage_piece (i := 0) (c := 8) (q := 0) x0 x1 x2 _ _ _ _ _
      (read_eq x0 x1 x2 _ _ (holds0 c arg2 harg2 arg3 harg3 arg4 harg4 x0 x1 x2) 0 8 0 _ _ _ _ (.tail _ (.head _)) _) _ _ x)
    (fun x => stage_piece (i := 0) (c := 8) (q := 1) x0 x1 x2 _ _ _ _ _
      (read_eq x0 x1 x2 _ _ (holds0 c arg2 harg2 arg3 harg3 arg4 harg4 x0 x1 x2) 0 8 1 _ _ _ _ (.tail _ (.head _)) _) _ _ x)
    (fun x => stage_piece (i := 0) (c := 8) (q := 2) x0 x1 x2 _ _ _ _ _
      (read_eq x0 x1 x2 _ _ (holds0 c arg2 harg2 arg3 harg3 arg4 harg4 x0 x1 x2) 0 8 2 _ _ _ _ (.tail _ (.head _)) _) _ _ x)
    (fun x => stage_piece (i := 0) (c := 8) (q := 3) x0 x1 x2 _ _ _ _ _
      (read_eq x0 x1 x2 _ _ (holds0 c arg2 harg2 arg3 harg3 arg4 harg4 x0 x1 x2) 0 8 3 _ _ _ _ (.tail _ (.head _)) _) _ _ x)

/-- The sorted rows of the cosines, first half. -/
theorem v1195_eq : v1195 (F := Ideal) c arg2 harg2 arg3 harg3 arg4 harg4 arg8 arg9 x0 x1 x2 = slabTile x0 x1 x2 0 8 := by
  have H := stage36 c arg2 harg2 arg3 harg3 arg4 harg4 arg8 x0 x1 x2
  exact slabTile_of x0 x1 x2 0 8
    (stage_eq x0 x1 x2 _ _ H 0 8 0 0 _ _ _ _ _ (.tail _ (.tail _ (.tail _ (.head _)))) _ _)
    (stage_eq x0 x1 x2 _ _ H 0 8 1 0 _ _ _ _ _ (.tail _ (.tail _ (.head _))) _ _)
    (stage_eq x0 x1 x2 _ _ H 0 8 2 0 _ _ _ _ _ (.tail _ (.head _)) _ _)
    (stage_eq x0 x1 x2 _ _ H 0 8 3 0 _ _ _ _ _ (.head _) _ _)
    (stage_eq x0 x1 x2 _ _ H 0 8 0 1 _ _ _ _ _ (.tail _ (.tail _ (.tail _ (.head _)))) _ _)
    (stage_eq x0 x1 x2 _ _ H 0 8 1 1 _ _ _ _ _ (.tail _ (.tail _ (.head _))) _ _)
    (stage_eq x0 x1 x2 _ _ H 0 8 2 1 _ _ _ _ _ (.tail _ (.head _)) _ _)
    (stage_eq x0 x1 x2 _ _ H 0 8 3 1 _ _ _ _ _ (.head _) _ _)
    (stage_eq x0 x1 x2 _ _ H 0 8 0 2 _ _ _ _ _ (.tail _ (.tail _ (.tail _ (.head _)))) _ _)
    (stage_eq x0 x1 x2 _ _ H 0 8 1 2 _ _ _ _ _ (.tail _ (.tail _ (.head _))) _ _)
    (stage_eq x0 x1 x2 _ _ H 0 8 2 2 _ _ _ _ _ (.tail _ (.head _)) _ _)
    (stage_eq x0 x1 x2 _ _ H 0 8 3 2 _ _ _ _ _ (.head _) _ _)
    (stage_eq x0 x1 x2 _ _ H 0 8 0 3 _ _ _ _ _ (.tail _ (.tail _ (.tail _ (.head _)))) _ _)
    (stage_eq x0 x1 x2 _ _ H 0 8 1 3 _ _ _ _ _ (.tail _ (.tail _ (.head _))) _ _)
    (stage_eq x0 x1 x2 _ _ H 0 8 2 3 _ _ _ _ _ (.tail _ (.head _)) _ _)
    (stage_eq x0 x1 x2 _ _ H 0 8 3 3 _ _ _ _ _ (.head _) _ _)

/-- The second scratch up to the sines, first half. -/
theorem stage40 : Holds (stages x0 x1 x2) (HS1_40 (F := Ideal) c arg2 harg2 arg3 harg3 arg4 harg4 arg8 x0 x1 x2) :=
  holds_four (stage36 c arg2 harg2 arg3 harg3 arg4 harg4 arg8 x0 x1 x2)
    (fun x => stage_piece (i := 0) (c := 9) (q := 0) x0 x1 x2 _ _ _ _ _
      (read_eq x0 x1 x2 _ _ (holds0 c arg2 harg2 arg3 harg3 arg4 harg4 x0 x1 x2) 0 9 0 _ _ _ _ (.head _) _) _ _ x)
    (fun x => stage_piece (i := 0) (c := 9) (q := 1) x0 x1 x2 _ _ _ _ _
      (read_eq x0 x1 x2 _ _ (holds0 c arg2 harg2 arg3 harg3 arg4 harg4 x0 x1 x2) 0 9 1 _ _ _ _ (.head _) _) _ _ x)
    (fun x => stage_piece (i := 0) (c := 9) (q := 2) x0 x1 x2 _ _ _ _ _
      (read_eq x0 x1 x2 _ _ (holds0 c arg2 harg2 arg3 harg3 arg4 harg4 x0 x1 x2) 0 9 2 _ _ _ _ (.head _) _) _ _ x)
    (fun x => stage_piece (i := 0) (c := 9) (q := 3) x0 x1 x2 _ _ _ _ _
      (read_eq x0 x1 x2 _ _ (holds0 c arg2 harg2 arg3 harg3 arg4 harg4 x0 x1 x2) 0 9 3 _ _ _ _ (.head _) _) _ _ x)

/-- The sorted rows of the sines, first half. -/
theorem v1320_eq : v1320 (F := Ideal) c arg2 harg2 arg3 harg3 arg4 harg4 arg8 arg9 x0 x1 x2 = slabTile x0 x1 x2 0 9 := by
  have H := stage40 c arg2 harg2 arg3 harg3 arg4 harg4 arg8 x0 x1 x2
  exact slabTile_of x0 x1 x2 0 9
    (stage_eq x0 x1 x2 _ _ H 0 9 0 0 _ _ _ _ _ (.tail _ (.tail _ (.tail _ (.head _)))) _ _)
    (stage_eq x0 x1 x2 _ _ H 0 9 1 0 _ _ _ _ _ (.tail _ (.tail _ (.head _))) _ _)
    (stage_eq x0 x1 x2 _ _ H 0 9 2 0 _ _ _ _ _ (.tail _ (.head _)) _ _)
    (stage_eq x0 x1 x2 _ _ H 0 9 3 0 _ _ _ _ _ (.head _) _ _)
    (stage_eq x0 x1 x2 _ _ H 0 9 0 1 _ _ _ _ _ (.tail _ (.tail _ (.tail _ (.head _)))) _ _)
    (stage_eq x0 x1 x2 _ _ H 0 9 1 1 _ _ _ _ _ (.tail _ (.tail _ (.head _))) _ _)
    (stage_eq x0 x1 x2 _ _ H 0 9 2 1 _ _ _ _ _ (.tail _ (.head _)) _ _)
    (stage_eq x0 x1 x2 _ _ H 0 9 3 1 _ _ _ _ _ (.head _) _ _)
    (stage_eq x0 x1 x2 _ _ H 0 9 0 2 _ _ _ _ _ (.tail _ (.tail _ (.tail _ (.head _)))) _ _)
    (stage_eq x0 x1 x2 _ _ H 0 9 1 2 _ _ _ _ _ (.tail _ (.tail _ (.head _))) _ _)
    (stage_eq x0 x1 x2 _ _ H 0 9 2 2 _ _ _ _ _ (.tail _ (.head _)) _ _)
    (stage_eq x0 x1 x2 _ _ H 0 9 3 2 _ _ _ _ _ (.head _) _ _)
    (stage_eq x0 x1 x2 _ _ H 0 9 0 3 _ _ _ _ _ (.tail _ (.tail _ (.tail _ (.head _)))) _ _)
    (stage_eq x0 x1 x2 _ _ H 0 9 1 3 _ _ _ _ _ (.tail _ (.tail _ (.head _))) _ _)
    (stage_eq x0 x1 x2 _ _ H 0 9 2 3 _ _ _ _ _ (.tail _ (.head _)) _ _)
    (stage_eq x0 x1 x2 _ _ H 0 9 3 3 _ _ _ _ _ (.head _) _ _)

/-- The second scratch up to slab 0 of the input, second half. -/
theorem stage44 : Holds (stages x0 x1 x2) (HS1_44 (F := Ideal) c arg2 harg2 arg3 harg3 arg4 harg4 arg8 x0 x1 x2) :=
  holds_four (stage40 c arg2 harg2 arg3 harg3 arg4 harg4 arg8 x0 x1 x2)
    (fun x => stage_piece (i := 1) (c := 0) (q := 0) x0 x1 x2 _ _ _ _ _
      (read_eq x0 x1 x2 _ _ (holds1 c arg2 harg2 arg3 harg3 arg4 harg4 x0 x1 x2) 1 0 0 _ _ _ _ (.tail _ (.tail _ (.tail _ (.tail _ (.tail _ (.tail _ (.tail _ (.tail _ (.tail _ (.head _)))))))))) _) _ _ x)
    (fun x => stage_piece (i := 1) (c := 0) (q := 1) x0 x1 x2 _ _ _ _ _
      (read_eq x0 x1 x2 _ _ (holds1 c arg2 harg2 arg3 harg3 arg4 harg4 x0 x1 x2) 1 0 1 _ _ _ _ (.tail _ (.tail _ (.tail _ (.tail _ (.tail _ (.tail _ (.tail _ (.tail _ (.tail _ (.head _)))))))))) _) _ _ x)
    (fun x => stage_piece (i := 1) (c := 0) (q := 2) x0 x1 x2 _ _ _ _ _
      (read_eq x0 x1 x2 _ _ (holds1 c arg2 harg2 arg3 harg3 arg4 harg4 x0 x1 x2) 1 0 2 _ _ _ _ (.tail _ (.tail _ (.tail _ (.tail _ (.tail _ (.tail _ (.tail _ (.tail _ (.tail _ (.head _)))))))))) _) _ _ x)
    (fun x => stage_piece (i := 1) (c := 0) (q := 3) x0 x1 x2 _ _ _ _ _
      (read_eq x0 x1 x2 _ _ (holds1 c arg2 harg2 arg3 harg3 arg4 harg4 x0 x1 x2) 1 0 3 _ _ _ _ (.tail _ (.tail _ (.tail _ (.tail _ (.tail _ (.tail _ (.tail _ (.tail _ (.tail _ (.head _)))))))))) _) _ _ x)

/-- The sorted rows of slab 0 of the input, second half. -/
theorem v1516_eq : v1516 (F := Ideal) c arg2 harg2 arg3 harg3 arg4 harg4 arg8 arg9 x0 x1 x2 = slabTile x0 x1 x2 1 0 := by
  have H := stage44 c arg2 harg2 arg3 harg3 arg4 harg4 arg8 x0 x1 x2
  exact slabTile_of x0 x1 x2 1 0
    (stage_eq x0 x1 x2 _ _ H 1 0 0 0 _ _ _ _ _ (.tail _ (.tail _ (.tail _ (.head _)))) _ _)
    (stage_eq x0 x1 x2 _ _ H 1 0 1 0 _ _ _ _ _ (.tail _ (.tail _ (.head _))) _ _)
    (stage_eq x0 x1 x2 _ _ H 1 0 2 0 _ _ _ _ _ (.tail _ (.head _)) _ _)
    (stage_eq x0 x1 x2 _ _ H 1 0 3 0 _ _ _ _ _ (.head _) _ _)
    (stage_eq x0 x1 x2 _ _ H 1 0 0 1 _ _ _ _ _ (.tail _ (.tail _ (.tail _ (.head _)))) _ _)
    (stage_eq x0 x1 x2 _ _ H 1 0 1 1 _ _ _ _ _ (.tail _ (.tail _ (.head _))) _ _)
    (stage_eq x0 x1 x2 _ _ H 1 0 2 1 _ _ _ _ _ (.tail _ (.head _)) _ _)
    (stage_eq x0 x1 x2 _ _ H 1 0 3 1 _ _ _ _ _ (.head _) _ _)
    (stage_eq x0 x1 x2 _ _ H 1 0 0 2 _ _ _ _ _ (.tail _ (.tail _ (.tail _ (.head _)))) _ _)
    (stage_eq x0 x1 x2 _ _ H 1 0 1 2 _ _ _ _ _ (.tail _ (.tail _ (.head _))) _ _)
    (stage_eq x0 x1 x2 _ _ H 1 0 2 2 _ _ _ _ _ (.tail _ (.head _)) _ _)
    (stage_eq x0 x1 x2 _ _ H 1 0 3 2 _ _ _ _ _ (.head _) _ _)
    (stage_eq x0 x1 x2 _ _ H 1 0 0 3 _ _ _ _ _ (.tail _ (.tail _ (.tail _ (.head _)))) _ _)
    (stage_eq x0 x1 x2 _ _ H 1 0 1 3 _ _ _ _ _ (.tail _ (.tail _ (.head _))) _ _)
    (stage_eq x0 x1 x2 _ _ H 1 0 2 3 _ _ _ _ _ (.tail _ (.head _)) _ _)
    (stage_eq x0 x1 x2 _ _ H 1 0 3 3 _ _ _ _ _ (.head _) _ _)

/-- The second scratch up to slab 1 of the input, second half. -/
theorem stage48 : Holds (stages x0 x1 x2) (HS1_48 (F := Ideal) c arg2 harg2 arg3 harg3 arg4 harg4 arg8 x0 x1 x2) :=
  holds_four (stage44 c arg2 harg2 arg3 harg3 arg4 harg4 arg8 x0 x1 x2)
    (fun x => stage_piece (i := 1) (c := 1) (q := 0) x0 x1 x2 _ _ _ _ _
      (read_eq x0 x1 x2 _ _ (holds1 c arg2 harg2 arg3 harg3 arg4 harg4 x0 x1 x2) 1 1 0 _ _ _ _ (.tail _ (.tail _ (.tail _ (.tail _ (.tail _ (.tail _ (.tail _ (.tail _ (.head _))))))))) _) _ _ x)
    (fun x => stage_piece (i := 1) (c := 1) (q := 1) x0 x1 x2 _ _ _ _ _
      (read_eq x0 x1 x2 _ _ (holds1 c arg2 harg2 arg3 harg3 arg4 harg4 x0 x1 x2) 1 1 1 _ _ _ _ (.tail _ (.tail _ (.tail _ (.tail _ (.tail _ (.tail _ (.tail _ (.tail _ (.head _))))))))) _) _ _ x)
    (fun x => stage_piece (i := 1) (c := 1) (q := 2) x0 x1 x2 _ _ _ _ _
      (read_eq x0 x1 x2 _ _ (holds1 c arg2 harg2 arg3 harg3 arg4 harg4 x0 x1 x2) 1 1 2 _ _ _ _ (.tail _ (.tail _ (.tail _ (.tail _ (.tail _ (.tail _ (.tail _ (.tail _ (.head _))))))))) _) _ _ x)
    (fun x => stage_piece (i := 1) (c := 1) (q := 3) x0 x1 x2 _ _ _ _ _
      (read_eq x0 x1 x2 _ _ (holds1 c arg2 harg2 arg3 harg3 arg4 harg4 x0 x1 x2) 1 1 3 _ _ _ _ (.tail _ (.tail _ (.tail _ (.tail _ (.tail _ (.tail _ (.tail _ (.tail _ (.head _))))))))) _) _ _ x)

/-- The sorted rows of slab 1 of the input, second half. -/
theorem v1641_eq : v1641 (F := Ideal) c arg2 harg2 arg3 harg3 arg4 harg4 arg8 arg9 x0 x1 x2 = slabTile x0 x1 x2 1 1 := by
  have H := stage48 c arg2 harg2 arg3 harg3 arg4 harg4 arg8 x0 x1 x2
  exact slabTile_of x0 x1 x2 1 1
    (stage_eq x0 x1 x2 _ _ H 1 1 0 0 _ _ _ _ _ (.tail _ (.tail _ (.tail _ (.head _)))) _ _)
    (stage_eq x0 x1 x2 _ _ H 1 1 1 0 _ _ _ _ _ (.tail _ (.tail _ (.head _))) _ _)
    (stage_eq x0 x1 x2 _ _ H 1 1 2 0 _ _ _ _ _ (.tail _ (.head _)) _ _)
    (stage_eq x0 x1 x2 _ _ H 1 1 3 0 _ _ _ _ _ (.head _) _ _)
    (stage_eq x0 x1 x2 _ _ H 1 1 0 1 _ _ _ _ _ (.tail _ (.tail _ (.tail _ (.head _)))) _ _)
    (stage_eq x0 x1 x2 _ _ H 1 1 1 1 _ _ _ _ _ (.tail _ (.tail _ (.head _))) _ _)
    (stage_eq x0 x1 x2 _ _ H 1 1 2 1 _ _ _ _ _ (.tail _ (.head _)) _ _)
    (stage_eq x0 x1 x2 _ _ H 1 1 3 1 _ _ _ _ _ (.head _) _ _)
    (stage_eq x0 x1 x2 _ _ H 1 1 0 2 _ _ _ _ _ (.tail _ (.tail _ (.tail _ (.head _)))) _ _)
    (stage_eq x0 x1 x2 _ _ H 1 1 1 2 _ _ _ _ _ (.tail _ (.tail _ (.head _))) _ _)
    (stage_eq x0 x1 x2 _ _ H 1 1 2 2 _ _ _ _ _ (.tail _ (.head _)) _ _)
    (stage_eq x0 x1 x2 _ _ H 1 1 3 2 _ _ _ _ _ (.head _) _ _)
    (stage_eq x0 x1 x2 _ _ H 1 1 0 3 _ _ _ _ _ (.tail _ (.tail _ (.tail _ (.head _)))) _ _)
    (stage_eq x0 x1 x2 _ _ H 1 1 1 3 _ _ _ _ _ (.tail _ (.tail _ (.head _))) _ _)
    (stage_eq x0 x1 x2 _ _ H 1 1 2 3 _ _ _ _ _ (.tail _ (.head _)) _ _)
    (stage_eq x0 x1 x2 _ _ H 1 1 3 3 _ _ _ _ _ (.head _) _ _)

/-- The second scratch up to slab 2 of the input, second half. -/
theorem stage52 : Holds (stages x0 x1 x2) (HS1_52 (F := Ideal) c arg2 harg2 arg3 harg3 arg4 harg4 arg8 x0 x1 x2) :=
  holds_four (stage48 c arg2 harg2 arg3 harg3 arg4 harg4 arg8 x0 x1 x2)
    (fun x => stage_piece (i := 1) (c := 2) (q := 0) x0 x1 x2 _ _ _ _ _
      (read_eq x0 x1 x2 _ _ (holds1 c arg2 harg2 arg3 harg3 arg4 harg4 x0 x1 x2) 1 2 0 _ _ _ _ (.tail _ (.tail _ (.tail _ (.tail _ (.tail _ (.tail _ (.tail _ (.head _)))))))) _) _ _ x)
    (fun x => stage_piece (i := 1) (c := 2) (q := 1) x0 x1 x2 _ _ _ _ _
      (read_eq x0 x1 x2 _ _ (holds1 c arg2 harg2 arg3 harg3 arg4 harg4 x0 x1 x2) 1 2 1 _ _ _ _ (.tail _ (.tail _ (.tail _ (.tail _ (.tail _ (.tail _ (.tail _ (.head _)))))))) _) _ _ x)
    (fun x => stage_piece (i := 1) (c := 2) (q := 2) x0 x1 x2 _ _ _ _ _
      (read_eq x0 x1 x2 _ _ (holds1 c arg2 harg2 arg3 harg3 arg4 harg4 x0 x1 x2) 1 2 2 _ _ _ _ (.tail _ (.tail _ (.tail _ (.tail _ (.tail _ (.tail _ (.tail _ (.head _)))))))) _) _ _ x)
    (fun x => stage_piece (i := 1) (c := 2) (q := 3) x0 x1 x2 _ _ _ _ _
      (read_eq x0 x1 x2 _ _ (holds1 c arg2 harg2 arg3 harg3 arg4 harg4 x0 x1 x2) 1 2 3 _ _ _ _ (.tail _ (.tail _ (.tail _ (.tail _ (.tail _ (.tail _ (.tail _ (.head _)))))))) _) _ _ x)

/-- The sorted rows of slab 2 of the input, second half. -/
theorem v1766_eq : v1766 (F := Ideal) c arg2 harg2 arg3 harg3 arg4 harg4 arg8 arg9 x0 x1 x2 = slabTile x0 x1 x2 1 2 := by
  have H := stage52 c arg2 harg2 arg3 harg3 arg4 harg4 arg8 x0 x1 x2
  exact slabTile_of x0 x1 x2 1 2
    (stage_eq x0 x1 x2 _ _ H 1 2 0 0 _ _ _ _ _ (.tail _ (.tail _ (.tail _ (.head _)))) _ _)
    (stage_eq x0 x1 x2 _ _ H 1 2 1 0 _ _ _ _ _ (.tail _ (.tail _ (.head _))) _ _)
    (stage_eq x0 x1 x2 _ _ H 1 2 2 0 _ _ _ _ _ (.tail _ (.head _)) _ _)
    (stage_eq x0 x1 x2 _ _ H 1 2 3 0 _ _ _ _ _ (.head _) _ _)
    (stage_eq x0 x1 x2 _ _ H 1 2 0 1 _ _ _ _ _ (.tail _ (.tail _ (.tail _ (.head _)))) _ _)
    (stage_eq x0 x1 x2 _ _ H 1 2 1 1 _ _ _ _ _ (.tail _ (.tail _ (.head _))) _ _)
    (stage_eq x0 x1 x2 _ _ H 1 2 2 1 _ _ _ _ _ (.tail _ (.head _)) _ _)
    (stage_eq x0 x1 x2 _ _ H 1 2 3 1 _ _ _ _ _ (.head _) _ _)
    (stage_eq x0 x1 x2 _ _ H 1 2 0 2 _ _ _ _ _ (.tail _ (.tail _ (.tail _ (.head _)))) _ _)
    (stage_eq x0 x1 x2 _ _ H 1 2 1 2 _ _ _ _ _ (.tail _ (.tail _ (.head _))) _ _)
    (stage_eq x0 x1 x2 _ _ H 1 2 2 2 _ _ _ _ _ (.tail _ (.head _)) _ _)
    (stage_eq x0 x1 x2 _ _ H 1 2 3 2 _ _ _ _ _ (.head _) _ _)
    (stage_eq x0 x1 x2 _ _ H 1 2 0 3 _ _ _ _ _ (.tail _ (.tail _ (.tail _ (.head _)))) _ _)
    (stage_eq x0 x1 x2 _ _ H 1 2 1 3 _ _ _ _ _ (.tail _ (.tail _ (.head _))) _ _)
    (stage_eq x0 x1 x2 _ _ H 1 2 2 3 _ _ _ _ _ (.tail _ (.head _)) _ _)
    (stage_eq x0 x1 x2 _ _ H 1 2 3 3 _ _ _ _ _ (.head _) _ _)

/-- The second scratch up to slab 3 of the input, second half. -/
theorem stage56 : Holds (stages x0 x1 x2) (HS1_56 (F := Ideal) c arg2 harg2 arg3 harg3 arg4 harg4 arg8 x0 x1 x2) :=
  holds_four (stage52 c arg2 harg2 arg3 harg3 arg4 harg4 arg8 x0 x1 x2)
    (fun x => stage_piece (i := 1) (c := 3) (q := 0) x0 x1 x2 _ _ _ _ _
      (read_eq x0 x1 x2 _ _ (holds1 c arg2 harg2 arg3 harg3 arg4 harg4 x0 x1 x2) 1 3 0 _ _ _ _ (.tail _ (.tail _ (.tail _ (.tail _ (.tail _ (.tail _ (.head _))))))) _) _ _ x)
    (fun x => stage_piece (i := 1) (c := 3) (q := 1) x0 x1 x2 _ _ _ _ _
      (read_eq x0 x1 x2 _ _ (holds1 c arg2 harg2 arg3 harg3 arg4 harg4 x0 x1 x2) 1 3 1 _ _ _ _ (.tail _ (.tail _ (.tail _ (.tail _ (.tail _ (.tail _ (.head _))))))) _) _ _ x)
    (fun x => stage_piece (i := 1) (c := 3) (q := 2) x0 x1 x2 _ _ _ _ _
      (read_eq x0 x1 x2 _ _ (holds1 c arg2 harg2 arg3 harg3 arg4 harg4 x0 x1 x2) 1 3 2 _ _ _ _ (.tail _ (.tail _ (.tail _ (.tail _ (.tail _ (.tail _ (.head _))))))) _) _ _ x)
    (fun x => stage_piece (i := 1) (c := 3) (q := 3) x0 x1 x2 _ _ _ _ _
      (read_eq x0 x1 x2 _ _ (holds1 c arg2 harg2 arg3 harg3 arg4 harg4 x0 x1 x2) 1 3 3 _ _ _ _ (.tail _ (.tail _ (.tail _ (.tail _ (.tail _ (.tail _ (.head _))))))) _) _ _ x)

/-- The sorted rows of slab 3 of the input, second half. -/
theorem v1891_eq : v1891 (F := Ideal) c arg2 harg2 arg3 harg3 arg4 harg4 arg8 arg9 x0 x1 x2 = slabTile x0 x1 x2 1 3 := by
  have H := stage56 c arg2 harg2 arg3 harg3 arg4 harg4 arg8 x0 x1 x2
  exact slabTile_of x0 x1 x2 1 3
    (stage_eq x0 x1 x2 _ _ H 1 3 0 0 _ _ _ _ _ (.tail _ (.tail _ (.tail _ (.head _)))) _ _)
    (stage_eq x0 x1 x2 _ _ H 1 3 1 0 _ _ _ _ _ (.tail _ (.tail _ (.head _))) _ _)
    (stage_eq x0 x1 x2 _ _ H 1 3 2 0 _ _ _ _ _ (.tail _ (.head _)) _ _)
    (stage_eq x0 x1 x2 _ _ H 1 3 3 0 _ _ _ _ _ (.head _) _ _)
    (stage_eq x0 x1 x2 _ _ H 1 3 0 1 _ _ _ _ _ (.tail _ (.tail _ (.tail _ (.head _)))) _ _)
    (stage_eq x0 x1 x2 _ _ H 1 3 1 1 _ _ _ _ _ (.tail _ (.tail _ (.head _))) _ _)
    (stage_eq x0 x1 x2 _ _ H 1 3 2 1 _ _ _ _ _ (.tail _ (.head _)) _ _)
    (stage_eq x0 x1 x2 _ _ H 1 3 3 1 _ _ _ _ _ (.head _) _ _)
    (stage_eq x0 x1 x2 _ _ H 1 3 0 2 _ _ _ _ _ (.tail _ (.tail _ (.tail _ (.head _)))) _ _)
    (stage_eq x0 x1 x2 _ _ H 1 3 1 2 _ _ _ _ _ (.tail _ (.tail _ (.head _))) _ _)
    (stage_eq x0 x1 x2 _ _ H 1 3 2 2 _ _ _ _ _ (.tail _ (.head _)) _ _)
    (stage_eq x0 x1 x2 _ _ H 1 3 3 2 _ _ _ _ _ (.head _) _ _)
    (stage_eq x0 x1 x2 _ _ H 1 3 0 3 _ _ _ _ _ (.tail _ (.tail _ (.tail _ (.head _)))) _ _)
    (stage_eq x0 x1 x2 _ _ H 1 3 1 3 _ _ _ _ _ (.tail _ (.tail _ (.head _))) _ _)
    (stage_eq x0 x1 x2 _ _ H 1 3 2 3 _ _ _ _ _ (.tail _ (.head _)) _ _)
    (stage_eq x0 x1 x2 _ _ H 1 3 3 3 _ _ _ _ _ (.head _) _ _)

/-- The second scratch up to slab 4 of the input, second half. -/
theorem stage60 : Holds (stages x0 x1 x2) (HS1_60 (F := Ideal) c arg2 harg2 arg3 harg3 arg4 harg4 arg8 x0 x1 x2) :=
  holds_four (stage56 c arg2 harg2 arg3 harg3 arg4 harg4 arg8 x0 x1 x2)
    (fun x => stage_piece (i := 1) (c := 4) (q := 0) x0 x1 x2 _ _ _ _ _
      (read_eq x0 x1 x2 _ _ (holds1 c arg2 harg2 arg3 harg3 arg4 harg4 x0 x1 x2) 1 4 0 _ _ _ _ (.tail _ (.tail _ (.tail _ (.tail _ (.tail _ (.head _)))))) _) _ _ x)
    (fun x => stage_piece (i := 1) (c := 4) (q := 1) x0 x1 x2 _ _ _ _ _
      (read_eq x0 x1 x2 _ _ (holds1 c arg2 harg2 arg3 harg3 arg4 harg4 x0 x1 x2) 1 4 1 _ _ _ _ (.tail _ (.tail _ (.tail _ (.tail _ (.tail _ (.head _)))))) _) _ _ x)
    (fun x => stage_piece (i := 1) (c := 4) (q := 2) x0 x1 x2 _ _ _ _ _
      (read_eq x0 x1 x2 _ _ (holds1 c arg2 harg2 arg3 harg3 arg4 harg4 x0 x1 x2) 1 4 2 _ _ _ _ (.tail _ (.tail _ (.tail _ (.tail _ (.tail _ (.head _)))))) _) _ _ x)
    (fun x => stage_piece (i := 1) (c := 4) (q := 3) x0 x1 x2 _ _ _ _ _
      (read_eq x0 x1 x2 _ _ (holds1 c arg2 harg2 arg3 harg3 arg4 harg4 x0 x1 x2) 1 4 3 _ _ _ _ (.tail _ (.tail _ (.tail _ (.tail _ (.tail _ (.head _)))))) _) _ _ x)

/-- The sorted rows of slab 4 of the input, second half. -/
theorem v2016_eq : v2016 (F := Ideal) c arg2 harg2 arg3 harg3 arg4 harg4 arg8 arg9 x0 x1 x2 = slabTile x0 x1 x2 1 4 := by
  have H := stage60 c arg2 harg2 arg3 harg3 arg4 harg4 arg8 x0 x1 x2
  exact slabTile_of x0 x1 x2 1 4
    (stage_eq x0 x1 x2 _ _ H 1 4 0 0 _ _ _ _ _ (.tail _ (.tail _ (.tail _ (.head _)))) _ _)
    (stage_eq x0 x1 x2 _ _ H 1 4 1 0 _ _ _ _ _ (.tail _ (.tail _ (.head _))) _ _)
    (stage_eq x0 x1 x2 _ _ H 1 4 2 0 _ _ _ _ _ (.tail _ (.head _)) _ _)
    (stage_eq x0 x1 x2 _ _ H 1 4 3 0 _ _ _ _ _ (.head _) _ _)
    (stage_eq x0 x1 x2 _ _ H 1 4 0 1 _ _ _ _ _ (.tail _ (.tail _ (.tail _ (.head _)))) _ _)
    (stage_eq x0 x1 x2 _ _ H 1 4 1 1 _ _ _ _ _ (.tail _ (.tail _ (.head _))) _ _)
    (stage_eq x0 x1 x2 _ _ H 1 4 2 1 _ _ _ _ _ (.tail _ (.head _)) _ _)
    (stage_eq x0 x1 x2 _ _ H 1 4 3 1 _ _ _ _ _ (.head _) _ _)
    (stage_eq x0 x1 x2 _ _ H 1 4 0 2 _ _ _ _ _ (.tail _ (.tail _ (.tail _ (.head _)))) _ _)
    (stage_eq x0 x1 x2 _ _ H 1 4 1 2 _ _ _ _ _ (.tail _ (.tail _ (.head _))) _ _)
    (stage_eq x0 x1 x2 _ _ H 1 4 2 2 _ _ _ _ _ (.tail _ (.head _)) _ _)
    (stage_eq x0 x1 x2 _ _ H 1 4 3 2 _ _ _ _ _ (.head _) _ _)
    (stage_eq x0 x1 x2 _ _ H 1 4 0 3 _ _ _ _ _ (.tail _ (.tail _ (.tail _ (.head _)))) _ _)
    (stage_eq x0 x1 x2 _ _ H 1 4 1 3 _ _ _ _ _ (.tail _ (.tail _ (.head _))) _ _)
    (stage_eq x0 x1 x2 _ _ H 1 4 2 3 _ _ _ _ _ (.tail _ (.head _)) _ _)
    (stage_eq x0 x1 x2 _ _ H 1 4 3 3 _ _ _ _ _ (.head _) _ _)

/-- The second scratch up to slab 5 of the input, second half. -/
theorem stage64 : Holds (stages x0 x1 x2) (HS1_64 (F := Ideal) c arg2 harg2 arg3 harg3 arg4 harg4 arg8 x0 x1 x2) :=
  holds_four (stage60 c arg2 harg2 arg3 harg3 arg4 harg4 arg8 x0 x1 x2)
    (fun x => stage_piece (i := 1) (c := 5) (q := 0) x0 x1 x2 _ _ _ _ _
      (read_eq x0 x1 x2 _ _ (holds1 c arg2 harg2 arg3 harg3 arg4 harg4 x0 x1 x2) 1 5 0 _ _ _ _ (.tail _ (.tail _ (.tail _ (.tail _ (.head _))))) _) _ _ x)
    (fun x => stage_piece (i := 1) (c := 5) (q := 1) x0 x1 x2 _ _ _ _ _
      (read_eq x0 x1 x2 _ _ (holds1 c arg2 harg2 arg3 harg3 arg4 harg4 x0 x1 x2) 1 5 1 _ _ _ _ (.tail _ (.tail _ (.tail _ (.tail _ (.head _))))) _) _ _ x)
    (fun x => stage_piece (i := 1) (c := 5) (q := 2) x0 x1 x2 _ _ _ _ _
      (read_eq x0 x1 x2 _ _ (holds1 c arg2 harg2 arg3 harg3 arg4 harg4 x0 x1 x2) 1 5 2 _ _ _ _ (.tail _ (.tail _ (.tail _ (.tail _ (.head _))))) _) _ _ x)
    (fun x => stage_piece (i := 1) (c := 5) (q := 3) x0 x1 x2 _ _ _ _ _
      (read_eq x0 x1 x2 _ _ (holds1 c arg2 harg2 arg3 harg3 arg4 harg4 x0 x1 x2) 1 5 3 _ _ _ _ (.tail _ (.tail _ (.tail _ (.tail _ (.head _))))) _) _ _ x)

/-- The sorted rows of slab 5 of the input, second half. -/
theorem v2141_eq : v2141 (F := Ideal) c arg2 harg2 arg3 harg3 arg4 harg4 arg8 arg9 x0 x1 x2 = slabTile x0 x1 x2 1 5 := by
  have H := stage64 c arg2 harg2 arg3 harg3 arg4 harg4 arg8 x0 x1 x2
  exact slabTile_of x0 x1 x2 1 5
    (stage_eq x0 x1 x2 _ _ H 1 5 0 0 _ _ _ _ _ (.tail _ (.tail _ (.tail _ (.head _)))) _ _)
    (stage_eq x0 x1 x2 _ _ H 1 5 1 0 _ _ _ _ _ (.tail _ (.tail _ (.head _))) _ _)
    (stage_eq x0 x1 x2 _ _ H 1 5 2 0 _ _ _ _ _ (.tail _ (.head _)) _ _)
    (stage_eq x0 x1 x2 _ _ H 1 5 3 0 _ _ _ _ _ (.head _) _ _)
    (stage_eq x0 x1 x2 _ _ H 1 5 0 1 _ _ _ _ _ (.tail _ (.tail _ (.tail _ (.head _)))) _ _)
    (stage_eq x0 x1 x2 _ _ H 1 5 1 1 _ _ _ _ _ (.tail _ (.tail _ (.head _))) _ _)
    (stage_eq x0 x1 x2 _ _ H 1 5 2 1 _ _ _ _ _ (.tail _ (.head _)) _ _)
    (stage_eq x0 x1 x2 _ _ H 1 5 3 1 _ _ _ _ _ (.head _) _ _)
    (stage_eq x0 x1 x2 _ _ H 1 5 0 2 _ _ _ _ _ (.tail _ (.tail _ (.tail _ (.head _)))) _ _)
    (stage_eq x0 x1 x2 _ _ H 1 5 1 2 _ _ _ _ _ (.tail _ (.tail _ (.head _))) _ _)
    (stage_eq x0 x1 x2 _ _ H 1 5 2 2 _ _ _ _ _ (.tail _ (.head _)) _ _)
    (stage_eq x0 x1 x2 _ _ H 1 5 3 2 _ _ _ _ _ (.head _) _ _)
    (stage_eq x0 x1 x2 _ _ H 1 5 0 3 _ _ _ _ _ (.tail _ (.tail _ (.tail _ (.head _)))) _ _)
    (stage_eq x0 x1 x2 _ _ H 1 5 1 3 _ _ _ _ _ (.tail _ (.tail _ (.head _))) _ _)
    (stage_eq x0 x1 x2 _ _ H 1 5 2 3 _ _ _ _ _ (.tail _ (.head _)) _ _)
    (stage_eq x0 x1 x2 _ _ H 1 5 3 3 _ _ _ _ _ (.head _) _ _)

/-- The second scratch up to slab 6 of the input, second half. -/
theorem stage68 : Holds (stages x0 x1 x2) (HS1_68 (F := Ideal) c arg2 harg2 arg3 harg3 arg4 harg4 arg8 x0 x1 x2) :=
  holds_four (stage64 c arg2 harg2 arg3 harg3 arg4 harg4 arg8 x0 x1 x2)
    (fun x => stage_piece (i := 1) (c := 6) (q := 0) x0 x1 x2 _ _ _ _ _
      (read_eq x0 x1 x2 _ _ (holds1 c arg2 harg2 arg3 harg3 arg4 harg4 x0 x1 x2) 1 6 0 _ _ _ _ (.tail _ (.tail _ (.tail _ (.head _)))) _) _ _ x)
    (fun x => stage_piece (i := 1) (c := 6) (q := 1) x0 x1 x2 _ _ _ _ _
      (read_eq x0 x1 x2 _ _ (holds1 c arg2 harg2 arg3 harg3 arg4 harg4 x0 x1 x2) 1 6 1 _ _ _ _ (.tail _ (.tail _ (.tail _ (.head _)))) _) _ _ x)
    (fun x => stage_piece (i := 1) (c := 6) (q := 2) x0 x1 x2 _ _ _ _ _
      (read_eq x0 x1 x2 _ _ (holds1 c arg2 harg2 arg3 harg3 arg4 harg4 x0 x1 x2) 1 6 2 _ _ _ _ (.tail _ (.tail _ (.tail _ (.head _)))) _) _ _ x)
    (fun x => stage_piece (i := 1) (c := 6) (q := 3) x0 x1 x2 _ _ _ _ _
      (read_eq x0 x1 x2 _ _ (holds1 c arg2 harg2 arg3 harg3 arg4 harg4 x0 x1 x2) 1 6 3 _ _ _ _ (.tail _ (.tail _ (.tail _ (.head _)))) _) _ _ x)

/-- The sorted rows of slab 6 of the input, second half. -/
theorem v2266_eq : v2266 (F := Ideal) c arg2 harg2 arg3 harg3 arg4 harg4 arg8 arg9 x0 x1 x2 = slabTile x0 x1 x2 1 6 := by
  have H := stage68 c arg2 harg2 arg3 harg3 arg4 harg4 arg8 x0 x1 x2
  exact slabTile_of x0 x1 x2 1 6
    (stage_eq x0 x1 x2 _ _ H 1 6 0 0 _ _ _ _ _ (.tail _ (.tail _ (.tail _ (.head _)))) _ _)
    (stage_eq x0 x1 x2 _ _ H 1 6 1 0 _ _ _ _ _ (.tail _ (.tail _ (.head _))) _ _)
    (stage_eq x0 x1 x2 _ _ H 1 6 2 0 _ _ _ _ _ (.tail _ (.head _)) _ _)
    (stage_eq x0 x1 x2 _ _ H 1 6 3 0 _ _ _ _ _ (.head _) _ _)
    (stage_eq x0 x1 x2 _ _ H 1 6 0 1 _ _ _ _ _ (.tail _ (.tail _ (.tail _ (.head _)))) _ _)
    (stage_eq x0 x1 x2 _ _ H 1 6 1 1 _ _ _ _ _ (.tail _ (.tail _ (.head _))) _ _)
    (stage_eq x0 x1 x2 _ _ H 1 6 2 1 _ _ _ _ _ (.tail _ (.head _)) _ _)
    (stage_eq x0 x1 x2 _ _ H 1 6 3 1 _ _ _ _ _ (.head _) _ _)
    (stage_eq x0 x1 x2 _ _ H 1 6 0 2 _ _ _ _ _ (.tail _ (.tail _ (.tail _ (.head _)))) _ _)
    (stage_eq x0 x1 x2 _ _ H 1 6 1 2 _ _ _ _ _ (.tail _ (.tail _ (.head _))) _ _)
    (stage_eq x0 x1 x2 _ _ H 1 6 2 2 _ _ _ _ _ (.tail _ (.head _)) _ _)
    (stage_eq x0 x1 x2 _ _ H 1 6 3 2 _ _ _ _ _ (.head _) _ _)
    (stage_eq x0 x1 x2 _ _ H 1 6 0 3 _ _ _ _ _ (.tail _ (.tail _ (.tail _ (.head _)))) _ _)
    (stage_eq x0 x1 x2 _ _ H 1 6 1 3 _ _ _ _ _ (.tail _ (.tail _ (.head _))) _ _)
    (stage_eq x0 x1 x2 _ _ H 1 6 2 3 _ _ _ _ _ (.tail _ (.head _)) _ _)
    (stage_eq x0 x1 x2 _ _ H 1 6 3 3 _ _ _ _ _ (.head _) _ _)

/-- The second scratch up to slab 7 of the input, second half. -/
theorem stage72 : Holds (stages x0 x1 x2) (HS1_72 (F := Ideal) c arg2 harg2 arg3 harg3 arg4 harg4 arg8 x0 x1 x2) :=
  holds_four (stage68 c arg2 harg2 arg3 harg3 arg4 harg4 arg8 x0 x1 x2)
    (fun x => stage_piece (i := 1) (c := 7) (q := 0) x0 x1 x2 _ _ _ _ _
      (read_eq x0 x1 x2 _ _ (holds1 c arg2 harg2 arg3 harg3 arg4 harg4 x0 x1 x2) 1 7 0 _ _ _ _ (.tail _ (.tail _ (.head _))) _) _ _ x)
    (fun x => stage_piece (i := 1) (c := 7) (q := 1) x0 x1 x2 _ _ _ _ _
      (read_eq x0 x1 x2 _ _ (holds1 c arg2 harg2 arg3 harg3 arg4 harg4 x0 x1 x2) 1 7 1 _ _ _ _ (.tail _ (.tail _ (.head _))) _) _ _ x)
    (fun x => stage_piece (i := 1) (c := 7) (q := 2) x0 x1 x2 _ _ _ _ _
      (read_eq x0 x1 x2 _ _ (holds1 c arg2 harg2 arg3 harg3 arg4 harg4 x0 x1 x2) 1 7 2 _ _ _ _ (.tail _ (.tail _ (.head _))) _) _ _ x)
    (fun x => stage_piece (i := 1) (c := 7) (q := 3) x0 x1 x2 _ _ _ _ _
      (read_eq x0 x1 x2 _ _ (holds1 c arg2 harg2 arg3 harg3 arg4 harg4 x0 x1 x2) 1 7 3 _ _ _ _ (.tail _ (.tail _ (.head _))) _) _ _ x)

/-- The sorted rows of slab 7 of the input, second half. -/
theorem v2391_eq : v2391 (F := Ideal) c arg2 harg2 arg3 harg3 arg4 harg4 arg8 arg9 x0 x1 x2 = slabTile x0 x1 x2 1 7 := by
  have H := stage72 c arg2 harg2 arg3 harg3 arg4 harg4 arg8 x0 x1 x2
  exact slabTile_of x0 x1 x2 1 7
    (stage_eq x0 x1 x2 _ _ H 1 7 0 0 _ _ _ _ _ (.tail _ (.tail _ (.tail _ (.head _)))) _ _)
    (stage_eq x0 x1 x2 _ _ H 1 7 1 0 _ _ _ _ _ (.tail _ (.tail _ (.head _))) _ _)
    (stage_eq x0 x1 x2 _ _ H 1 7 2 0 _ _ _ _ _ (.tail _ (.head _)) _ _)
    (stage_eq x0 x1 x2 _ _ H 1 7 3 0 _ _ _ _ _ (.head _) _ _)
    (stage_eq x0 x1 x2 _ _ H 1 7 0 1 _ _ _ _ _ (.tail _ (.tail _ (.tail _ (.head _)))) _ _)
    (stage_eq x0 x1 x2 _ _ H 1 7 1 1 _ _ _ _ _ (.tail _ (.tail _ (.head _))) _ _)
    (stage_eq x0 x1 x2 _ _ H 1 7 2 1 _ _ _ _ _ (.tail _ (.head _)) _ _)
    (stage_eq x0 x1 x2 _ _ H 1 7 3 1 _ _ _ _ _ (.head _) _ _)
    (stage_eq x0 x1 x2 _ _ H 1 7 0 2 _ _ _ _ _ (.tail _ (.tail _ (.tail _ (.head _)))) _ _)
    (stage_eq x0 x1 x2 _ _ H 1 7 1 2 _ _ _ _ _ (.tail _ (.tail _ (.head _))) _ _)
    (stage_eq x0 x1 x2 _ _ H 1 7 2 2 _ _ _ _ _ (.tail _ (.head _)) _ _)
    (stage_eq x0 x1 x2 _ _ H 1 7 3 2 _ _ _ _ _ (.head _) _ _)
    (stage_eq x0 x1 x2 _ _ H 1 7 0 3 _ _ _ _ _ (.tail _ (.tail _ (.tail _ (.head _)))) _ _)
    (stage_eq x0 x1 x2 _ _ H 1 7 1 3 _ _ _ _ _ (.tail _ (.tail _ (.head _))) _ _)
    (stage_eq x0 x1 x2 _ _ H 1 7 2 3 _ _ _ _ _ (.tail _ (.head _)) _ _)
    (stage_eq x0 x1 x2 _ _ H 1 7 3 3 _ _ _ _ _ (.head _) _ _)

/-- The second scratch up to the cosines, second half. -/
theorem stage76 : Holds (stages x0 x1 x2) (HS1_76 (F := Ideal) c arg2 harg2 arg3 harg3 arg4 harg4 arg8 x0 x1 x2) :=
  holds_four (stage72 c arg2 harg2 arg3 harg3 arg4 harg4 arg8 x0 x1 x2)
    (fun x => stage_piece (i := 1) (c := 8) (q := 0) x0 x1 x2 _ _ _ _ _
      (read_eq x0 x1 x2 _ _ (holds1 c arg2 harg2 arg3 harg3 arg4 harg4 x0 x1 x2) 1 8 0 _ _ _ _ (.tail _ (.head _)) _) _ _ x)
    (fun x => stage_piece (i := 1) (c := 8) (q := 1) x0 x1 x2 _ _ _ _ _
      (read_eq x0 x1 x2 _ _ (holds1 c arg2 harg2 arg3 harg3 arg4 harg4 x0 x1 x2) 1 8 1 _ _ _ _ (.tail _ (.head _)) _) _ _ x)
    (fun x => stage_piece (i := 1) (c := 8) (q := 2) x0 x1 x2 _ _ _ _ _
      (read_eq x0 x1 x2 _ _ (holds1 c arg2 harg2 arg3 harg3 arg4 harg4 x0 x1 x2) 1 8 2 _ _ _ _ (.tail _ (.head _)) _) _ _ x)
    (fun x => stage_piece (i := 1) (c := 8) (q := 3) x0 x1 x2 _ _ _ _ _
      (read_eq x0 x1 x2 _ _ (holds1 c arg2 harg2 arg3 harg3 arg4 harg4 x0 x1 x2) 1 8 3 _ _ _ _ (.tail _ (.head _)) _) _ _ x)

/-- The sorted rows of the cosines, second half. -/
theorem v2516_eq : v2516 (F := Ideal) c arg2 harg2 arg3 harg3 arg4 harg4 arg8 arg9 x0 x1 x2 = slabTile x0 x1 x2 1 8 := by
  have H := stage76 c arg2 harg2 arg3 harg3 arg4 harg4 arg8 x0 x1 x2
  exact slabTile_of x0 x1 x2 1 8
    (stage_eq x0 x1 x2 _ _ H 1 8 0 0 _ _ _ _ _ (.tail _ (.tail _ (.tail _ (.head _)))) _ _)
    (stage_eq x0 x1 x2 _ _ H 1 8 1 0 _ _ _ _ _ (.tail _ (.tail _ (.head _))) _ _)
    (stage_eq x0 x1 x2 _ _ H 1 8 2 0 _ _ _ _ _ (.tail _ (.head _)) _ _)
    (stage_eq x0 x1 x2 _ _ H 1 8 3 0 _ _ _ _ _ (.head _) _ _)
    (stage_eq x0 x1 x2 _ _ H 1 8 0 1 _ _ _ _ _ (.tail _ (.tail _ (.tail _ (.head _)))) _ _)
    (stage_eq x0 x1 x2 _ _ H 1 8 1 1 _ _ _ _ _ (.tail _ (.tail _ (.head _))) _ _)
    (stage_eq x0 x1 x2 _ _ H 1 8 2 1 _ _ _ _ _ (.tail _ (.head _)) _ _)
    (stage_eq x0 x1 x2 _ _ H 1 8 3 1 _ _ _ _ _ (.head _) _ _)
    (stage_eq x0 x1 x2 _ _ H 1 8 0 2 _ _ _ _ _ (.tail _ (.tail _ (.tail _ (.head _)))) _ _)
    (stage_eq x0 x1 x2 _ _ H 1 8 1 2 _ _ _ _ _ (.tail _ (.tail _ (.head _))) _ _)
    (stage_eq x0 x1 x2 _ _ H 1 8 2 2 _ _ _ _ _ (.tail _ (.head _)) _ _)
    (stage_eq x0 x1 x2 _ _ H 1 8 3 2 _ _ _ _ _ (.head _) _ _)
    (stage_eq x0 x1 x2 _ _ H 1 8 0 3 _ _ _ _ _ (.tail _ (.tail _ (.tail _ (.head _)))) _ _)
    (stage_eq x0 x1 x2 _ _ H 1 8 1 3 _ _ _ _ _ (.tail _ (.tail _ (.head _))) _ _)
    (stage_eq x0 x1 x2 _ _ H 1 8 2 3 _ _ _ _ _ (.tail _ (.head _)) _ _)
    (stage_eq x0 x1 x2 _ _ H 1 8 3 3 _ _ _ _ _ (.head _) _ _)

/-- The second scratch up to the sines, second half. -/
theorem stage80 : Holds (stages x0 x1 x2) (HS1_80 (F := Ideal) c arg2 harg2 arg3 harg3 arg4 harg4 arg8 x0 x1 x2) :=
  holds_four (stage76 c arg2 harg2 arg3 harg3 arg4 harg4 arg8 x0 x1 x2)
    (fun x => stage_piece (i := 1) (c := 9) (q := 0) x0 x1 x2 _ _ _ _ _
      (read_eq x0 x1 x2 _ _ (holds1 c arg2 harg2 arg3 harg3 arg4 harg4 x0 x1 x2) 1 9 0 _ _ _ _ (.head _) _) _ _ x)
    (fun x => stage_piece (i := 1) (c := 9) (q := 1) x0 x1 x2 _ _ _ _ _
      (read_eq x0 x1 x2 _ _ (holds1 c arg2 harg2 arg3 harg3 arg4 harg4 x0 x1 x2) 1 9 1 _ _ _ _ (.head _) _) _ _ x)
    (fun x => stage_piece (i := 1) (c := 9) (q := 2) x0 x1 x2 _ _ _ _ _
      (read_eq x0 x1 x2 _ _ (holds1 c arg2 harg2 arg3 harg3 arg4 harg4 x0 x1 x2) 1 9 2 _ _ _ _ (.head _) _) _ _ x)
    (fun x => stage_piece (i := 1) (c := 9) (q := 3) x0 x1 x2 _ _ _ _ _
      (read_eq x0 x1 x2 _ _ (holds1 c arg2 harg2 arg3 harg3 arg4 harg4 x0 x1 x2) 1 9 3 _ _ _ _ (.head _) _) _ _ x)

/-- The sorted rows of the sines, second half. -/
theorem v2641_eq : v2641 (F := Ideal) c arg2 harg2 arg3 harg3 arg4 harg4 arg8 arg9 x0 x1 x2 = slabTile x0 x1 x2 1 9 := by
  have H := stage80 c arg2 harg2 arg3 harg3 arg4 harg4 arg8 x0 x1 x2
  exact slabTile_of x0 x1 x2 1 9
    (stage_eq x0 x1 x2 _ _ H 1 9 0 0 _ _ _ _ _ (.tail _ (.tail _ (.tail _ (.head _)))) _ _)
    (stage_eq x0 x1 x2 _ _ H 1 9 1 0 _ _ _ _ _ (.tail _ (.tail _ (.head _))) _ _)
    (stage_eq x0 x1 x2 _ _ H 1 9 2 0 _ _ _ _ _ (.tail _ (.head _)) _ _)
    (stage_eq x0 x1 x2 _ _ H 1 9 3 0 _ _ _ _ _ (.head _) _ _)
    (stage_eq x0 x1 x2 _ _ H 1 9 0 1 _ _ _ _ _ (.tail _ (.tail _ (.tail _ (.head _)))) _ _)
    (stage_eq x0 x1 x2 _ _ H 1 9 1 1 _ _ _ _ _ (.tail _ (.tail _ (.head _))) _ _)
    (stage_eq x0 x1 x2 _ _ H 1 9 2 1 _ _ _ _ _ (.tail _ (.head _)) _ _)
    (stage_eq x0 x1 x2 _ _ H 1 9 3 1 _ _ _ _ _ (.head _) _ _)
    (stage_eq x0 x1 x2 _ _ H 1 9 0 2 _ _ _ _ _ (.tail _ (.tail _ (.tail _ (.head _)))) _ _)
    (stage_eq x0 x1 x2 _ _ H 1 9 1 2 _ _ _ _ _ (.tail _ (.tail _ (.head _))) _ _)
    (stage_eq x0 x1 x2 _ _ H 1 9 2 2 _ _ _ _ _ (.tail _ (.head _)) _ _)
    (stage_eq x0 x1 x2 _ _ H 1 9 3 2 _ _ _ _ _ (.head _) _ _)
    (stage_eq x0 x1 x2 _ _ H 1 9 0 3 _ _ _ _ _ (.tail _ (.tail _ (.tail _ (.head _)))) _ _)
    (stage_eq x0 x1 x2 _ _ H 1 9 1 3 _ _ _ _ _ (.tail _ (.tail _ (.head _))) _ _)
    (stage_eq x0 x1 x2 _ _ H 1 9 2 3 _ _ _ _ _ (.tail _ (.head _)) _ _)
    (stage_eq x0 x1 x2 _ _ H 1 9 3 3 _ _ _ _ _ (.head _) _ _)

/-- The sorted rows of the input, first half. -/
theorem v1321_eq : v1321 (F := Ideal) c arg2 harg2 arg3 harg3 arg4 harg4 arg8 arg9 x0 x1 x2 = xTile x0 x1 x2 0 :=
  xTile_of x0 x1 x2 0 (v195_eq c arg2 harg2 arg3 harg3 arg4 harg4 arg8 arg9 x0 x1 x2) (v320_eq c arg2 harg2 arg3 harg3 arg4 harg4 arg8 arg9 x0 x1 x2) (v445_eq c arg2 harg2 arg3 harg3 arg4 harg4 arg8 arg9 x0 x1 x2) (v570_eq c arg2 harg2 arg3 harg3 arg4 harg4 arg8 arg9 x0 x1 x2) (v695_eq c arg2 harg2 arg3 harg3 arg4 harg4 arg8 arg9 x0 x1 x2) (v820_eq c arg2 harg2 arg3 harg3 arg4 harg4 arg8 arg9 x0 x1 x2) (v945_eq c arg2 harg2 arg3 harg3 arg4 harg4 arg8 arg9 x0 x1 x2) (v1070_eq c arg2 harg2 arg3 harg3 arg4 harg4 arg8 arg9 x0 x1 x2)

/-- The sorted rows of the input, second half. -/
theorem v2642_eq : v2642 (F := Ideal) c arg2 harg2 arg3 harg3 arg4 harg4 arg8 arg9 x0 x1 x2 = xTile x0 x1 x2 1 :=
  xTile_of x0 x1 x2 1 (v1516_eq c arg2 harg2 arg3 harg3 arg4 harg4 arg8 arg9 x0 x1 x2) (v1641_eq c arg2 harg2 arg3 harg3 arg4 harg4 arg8 arg9 x0 x1 x2) (v1766_eq c arg2 harg2 arg3 harg3 arg4 harg4 arg8 arg9 x0 x1 x2) (v1891_eq c arg2 harg2 arg3 harg3 arg4 harg4 arg8 arg9 x0 x1 x2) (v2016_eq c arg2 harg2 arg3 harg3 arg4 harg4 arg8 arg9 x0 x1 x2) (v2141_eq c arg2 harg2 arg3 harg3 arg4 harg4 arg8 arg9 x0 x1 x2) (v2266_eq c arg2 harg2 arg3 harg3 arg4 harg4 arg8 arg9 x0 x1 x2) (v2391_eq c arg2 harg2 arg3 harg3 arg4 harg4 arg8 arg9 x0 x1 x2)

end Cert.Proj16

end
-- ==== Proof.SixteenBlock.lean ====
module

public import proofs.«01_k».proof.Proof.SixteenReads

@[expose] public section

set_option maxRecDepth 16384

noncomputable section

/-!
The stores of the body of the first layer's projection at dilation 16 are the tiles of one function of the output block.
-/

namespace Cert.Proj16

open Cert.Kernel6Ideal Cert.Kernel6Ideal.Gen Cert.Kernel6Ideal.Gen.kernelRun0_A.sl Cert.Rows Cert.Proj Idealize.ShloMosaic Idealize.ShloMosaic.TcCoe

/-- The factor on the queries. -/
def scale : EReal := (Named.named (F := Ideal) κ "scale_a" 0x3E0293EE#32 : Ideal .f32)

/-- What the tiles of 512 tokens need of their shapes. -/
theorem tiles : Tiles 512 := ⟨⟨reduces_S512x1024_S512, shapeCasts_S512_S512x1, broadcasts_S512x1_S512x1024,
  shapeCasts_S1x1024_S1x1024, broadcasts_S1x1024_S512x1024⟩, ⟨iota_S512x128_d1_w32, rotates_S512x128_d1⟩,
  by decide, shapeCasts_S1024x1024_S1024x1024, by norm_num⟩

/-- A head's tokens lie in the block. -/
theorem in5 {p : ℕ} (hp : p < 24) (i : Fin 2) (a : Fin 5) :
    (![0, p, 0, 32 * (i : ℕ), 0] : Fin 5 → ℕ) a + S1x1x16x32x128.size a ≤ S1x24x16x64x128.size a := by
  have hi := i.isLt
  match a with
  | ⟨0, _⟩ => show 0 + 1 ≤ 1; omega
  | ⟨1, _⟩ => exact hp
  | ⟨2, _⟩ => show 0 + 16 ≤ 16; omega
  | ⟨3, _⟩ => show 32 * (i : ℕ) + 32 ≤ 64; omega
  | ⟨4, _⟩ => show 0 + 128 ≤ 128; omega

/-- 1024 columns lie in the 3072 of the weights. -/
theorem inCols {lo : ℕ} (h : lo + 1024 ≤ 3072) (i : Fin 2) :
    (![0, lo] : Fin 2 → ℕ) i + (Mat 1024 1024).size i ≤ (Mat 1024 3072).size i := by
  match i with
  | ⟨0, _⟩ => show 0 + 1024 ≤ 1024; omega
  | ⟨1, _⟩ => exact h

/-- The gain is loaded whole. -/
theorem inGain (i : Fin 2) : (![0, 0] : Fin 2 → ℕ) i + S1x1024.size i ≤ S1x1024.size i := by
  match i with
  | ⟨0, _⟩ => show 0 + 1 ≤ 1; omega
  | ⟨1, _⟩ => show 0 + 1024 ≤ 1024; omega

/-- The place of an element of a head's tokens. -/
theorem emb5 {p : ℕ} (hp : p < 24) (i : Fin 2) (a b : Fin 1) (r : Fin 16) (j : Fin 32) (l : Fin 128) :
    (Rect.unit (s := S1x24x16x64x128) ![0, p, 0, 32 * (i : ℕ), 0] S1x1x16x32x128.size (in5 hp i)).emb (ix5 a b r j l) =
      ix5 0 (⟨p, hp⟩ : Fin 24) r (⟨32 * i + j, by omega⟩ : Fin 64) l := by
  refine funext fun a' => Fin.ext ?_
  match a' with
  | ⟨0, _⟩ => show 0 + 1 * (a : ℕ) = 0; omega
  | ⟨1, _⟩ => show p + 1 * (b : ℕ) = p; omega
  | ⟨2, _⟩ => show 0 + 1 * (r : ℕ) = r; omega
  | ⟨3, _⟩ => show 32 * (i : ℕ) + 1 * (j : ℕ) = 32 * i + j; omega
  | ⟨4, _⟩ => show 0 + 1 * (l : ℕ) = l; omega

/-- The token of a class. -/
def token (j : Fin 64) (r : Fin 16) : Fin 1024 := ⟨16 * j + r, by omega⟩

/-- The row of a sorted tile that holds a token of a class. -/
def sorted (r : Fin 16) (j : Fin 32) : Fin 512 := ⟨32 * r + j, by omega⟩

/-- The token in a row of a sorted tile. -/
theorem token_eq (i : Fin 2) (r : Fin 16) (j : Fin 32) :
    (⟨512 * i + unsorted (sorted r j), by omega⟩ : Fin 1024) = token ⟨32 * i + j, by omega⟩ r :=
  Fin.ext (by unfold token unsorted sorted; simp only; omega)

section
variable (x0 : Vec Ideal S1x1024x1024 .f32) (x1 x2 : Vec Ideal S1x1024x128 .f32) (x3 : Vec Ideal S1x1024 .f32)
  (x4 : Vec Ideal S1024x3072 .bf16)

/-- The block of queries, keys and values. -/
def block5 : Vec Ideal S1x24x16x64x128 .bf16 := fun y =>
  headRow scale (projRow (fun k => x0 (ix3 0 (token (y 3) (y 2)) k)) (fun k => x3 (ix2 0 k)) (fun k c => x4 (ix2 k c)))
    (fun l => x1 (ix3 0 (token (y 3) (y 2)) l)) (fun l => x2 (ix3 0 (token (y 3) (y 2)) l)) (y 1) (y 4)

/-- The store of a sorted tile, as sixteen classes. -/
def stored (x : FVec Ideal S512x128 .f32) : FVec Ideal S1x1x16x32x128 .bf16 :=
  shapeCast S1x1x16x32x128 (shapeCast S16x32x128
    (truncf .bf16 x bitsLt_bf16_f32 : FVec Ideal S512x128 .bf16) shapeCasts_S512x128_S16x32x128 : FVec Ideal S16x32x128 .bf16)
    shapeCasts_S16x32x128_S1x1x16x32x128

/-- A stored tile at an index. -/
theorem stored_apply (x : FVec Ideal S512x128 .f32) (a b : Fin 1) (r : Fin 16) (j : Fin 32) (l : Fin 128) :
    stored x (ix5 a b r j l) = x (ix2 (sorted r j) l) := by
  unfold stored
  rw [shapeCast_apply _ _ (ix5 a b r j l) (ix3 r j l) (by
    rw [Shape.rowMajor_val_five, Shape.rowMajor_val_three]
    show (((r : ℕ) * 32 + j) * 128 + l) = ((((a : ℕ) * 1 + b) * 16 + r) * 32 + j) * 128 + l
    omega)]
  rw [shapeCast_apply _ _ (ix3 r j l) (ix2 (sorted r j) l) (by
    rw [Shape.rowMajor_val_three, Shape.rowMajor_val_two]
    show (32 * (r : ℕ) + j) * 128 + l = ((r : ℕ) * 32 + j) * 128 + l
    omega)]
  rfl

variable {X : FVec Ideal S512x1024 .f32} {g : Vec Ideal S1x1024 .f32} {W : Vec Ideal S1024x1024 .bf16}
  {C S : FVec Ideal S512x128 .f32} (i : Fin 2)

/-- The products of a sorted tile at an index. -/
theorem acc_apply {lw : ℕ} (hw : lw + 1024 ≤ 3072) (hX : X = xTile x0 x1 x2 i) (hg : g = x3)
    (hW : W = cols lw (inCols hw) x4) (r : Fin 16) (j : Fin 32) (c : Fin 1024) : accTile tiles X g W (ix2 (sorted r j) c) =
      projRow (fun k => x0 (ix3 0 (token ⟨32 * i + j, by omega⟩ r) k)) (fun k => x3 (ix2 0 k)) (fun k c => x4 (ix2 k c))
        ⟨lw + c, by omega⟩ := by
  subst hX hg hW
  rw [accTile_apply]
  simp only [xTile_apply, token_eq]
  unfold projRow dense
  exact Finset.sum_congr rfl fun k _ => congrArg _ (cols_apply lw (inCols hw) x4 k c (by omega))

/-- The cosines of a sorted tile at an index. -/
theorem cosine_apply (hC : C = slabTile x0 x1 x2 i 8) (r : Fin 16) (j : Fin 32) (l : Fin 128) : cosTile tiles C (ix2 (sorted r j) l) =
    cosRow (fun l => x1 (ix3 0 (token ⟨32 * i + j, by omega⟩ r) l)) l := by
  subst hC
  rw [cosTile_apply]
  simp only [cosSlab_apply, token_eq]

/-- The sines of a sorted tile at an index. -/
theorem sine_apply (hS : S = slabTile x0 x1 x2 i 9) (r : Fin 16) (j : Fin 32) (l : Fin 128) : sinTile tiles S (ix2 (sorted r j) l) =
    sinRow (fun l => x2 (ix3 0 (token ⟨32 * i + j, by omega⟩ r) l)) l := by
  subst hS
  rw [sinTile_apply]
  simp only [sinSlab_apply, token_eq]

/-- The store of a head's queries is its tile of the block function. -/
theorem q_piece (p : Fin 8) (hX : X = xTile x0 x1 x2 i) (hg : g = x3) (hW : W = cols 0 (inCols (by norm_num)) x4)
    (hC : C = slabTile x0 x1 x2 i 8) (hS : S = slabTile x0 x1 x2 i 9) (x : S1x1x16x32x128.Idx) :
    stored (turnTile tiles (accTile tiles X g W) (scaled scale (cosTile tiles C)) (scaled scale (sinTile tiles S)) p) x =
      block5 x0 x1 x2 x3 x4 ((Rect.unit (s := S1x24x16x64x128) ![0, (p : ℕ), 0, 32 * (i : ℕ), 0] S1x1x16x32x128.size
        (in5 (by omega) i)).emb x) := by
  obtain ⟨a, b, r, j, l, rfl⟩ : ∃ (a b : Fin 1) (r : Fin 16) (j : Fin 32) (l : Fin 128), x = ix5 a b r j l :=
    ⟨x 0, x 1, x 2, x 3, x 4, eq_ix5 x⟩
  rw [emb5 (by omega) i]
  refine Eq.trans ?_ (headRow_q _ _ _ _ p l).symm
  rw [stored_apply, turnTile_apply]
  refine congrFun (congr (congr (congrArg (rot 16) (funext fun l => ?_)) (funext fun l => ?_)) (funext fun l => ?_)) l
  · exact acc_apply x0 x1 x2 x3 x4 i (by norm_num) hX hg hW r j _
  · exact congrArg (· * scale) (cosine_apply x0 x1 x2 i hC r j l)
  · exact congrArg (· * scale) (sine_apply x0 x1 x2 i hS r j l)

/-- The store of a head's keys is its tile of the block function. -/
theorem k_piece (p : Fin 8) (hX : X = xTile x0 x1 x2 i) (hg : g = x3) (hW : W = cols 1024 (inCols (by norm_num)) x4)
    (hC : C = slabTile x0 x1 x2 i 8) (hS : S = slabTile x0 x1 x2 i 9) (x : S1x1x16x32x128.Idx) :
    stored (turnTile tiles (accTile tiles X g W) (cosTile tiles C) (sinTile tiles S) p) x =
      block5 x0 x1 x2 x3 x4 ((Rect.unit (s := S1x24x16x64x128) ![0, 8 + (p : ℕ), 0, 32 * (i : ℕ), 0] S1x1x16x32x128.size
        (in5 (by omega) i)).emb x) := by
  obtain ⟨a, b, r, j, l, rfl⟩ : ∃ (a b : Fin 1) (r : Fin 16) (j : Fin 32) (l : Fin 128), x = ix5 a b r j l :=
    ⟨x 0, x 1, x 2, x 3, x 4, eq_ix5 x⟩
  rw [emb5 (by omega) i]
  refine Eq.trans ?_ (headRow_k _ _ _ _ p l).symm
  rw [stored_apply, turnTile_apply]
  refine congrFun (congr (congr (congrArg (rot 16) (funext fun l => ?_)) (funext fun l => ?_)) (funext fun l => ?_)) l
  · exact acc_apply x0 x1 x2 x3 x4 i (by norm_num) hX hg hW r j _
  · exact cosine_apply x0 x1 x2 i hC r j l
  · exact sine_apply x0 x1 x2 i hS r j l

/-- The store of a head's values is its tile of the block function. -/
theorem v_piece (p : Fin 8) (hX : X = xTile x0 x1 x2 i) (hg : g = x3) (hW : W = cols 2048 (inCols (by norm_num)) x4)
    (x : S1x1x16x32x128.Idx) : stored (headCols tiles (accTile tiles X g W) p) x =
      block5 x0 x1 x2 x3 x4 ((Rect.unit (s := S1x24x16x64x128) ![0, 16 + (p : ℕ), 0, 32 * (i : ℕ), 0] S1x1x16x32x128.size
        (in5 (by omega) i)).emb x) := by
  obtain ⟨a, b, r, j, l, rfl⟩ : ∃ (a b : Fin 1) (r : Fin 16) (j : Fin 32) (l : Fin 128), x = ix5 a b r j l :=
    ⟨x 0, x 1, x 2, x 3, x 4, eq_ix5 x⟩
  rw [emb5 (by omega) i]
  refine Eq.trans ?_ (headRow_v _ _ _ _ p l).symm
  rw [stored_apply, headCols_apply]
  exact acc_apply x0 x1 x2 x3 x4 i (by norm_num) hX hg hW r j _

/-- The gain as the body loads it. -/
theorem gain_eq (m : Memref sig .tc .vmem S1x1024 .f32) (hm : m.IsWhole) (inb) :
    (View.readAt (Elt Ideal) m.view (Rect.unit (s := S1x1024) ![0, 0] S1x1024.size inb).toLoadRect (hm.unread x3) : Vec Ideal S1x1024 .f32) = x3 := by
  rw [View.readAt_eq_ld, hm.read_unread]
  exact View.ld_unit_zero (funext fun a => by fin_cases a <;> rfl) inb x3

/-- The weights as the body loads them. -/
theorem weights_eq {lw : ℕ} (hw : lw + 1024 ≤ 3072) (m : Memref sig .tc .vmem S1024x3072 .bf16) (hm : m.IsWhole) (inb) :
    (View.readAt (Elt Ideal) m.view (Rect.unit (s := S1024x3072) ![0, lw] S1024x1024.size inb).toLoadRect (hm.unread x4) :
      Vec Ideal S1024x1024 .bf16) = cols lw (inCols hw) x4 := by
  rw [View.readAt_eq_ld, hm.read_unread]
  rfl
end

section
variable (c : Dev nD) (i : grid0.Coords) (arg2 : Memref sig .tc .vmem S1x1024x1024 .f32) (harg2 : arg2.IsWhole) (arg3 : Memref sig .tc .vmem S1x1024x128 .f32) (harg3 : arg3.IsWhole) (arg4 : Memref sig .tc .vmem S1x1024x128 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1x24x16x64x128 .bf16) (harg7 : arg7.IsWhole) (arg8 : Memref sig .tc .vmem S2x10x512x128 .f32) (harg8 : arg8.IsWhole) (arg9 : Memref sig .tc .vmem S2x10x512x128 .f32) (harg9 : arg9.IsWhole)
  (x0 : Vec Ideal S1x1024x1024 .f32) (x1 x2 : Vec Ideal S1x1024x128 .f32) (x3 : Vec Ideal S1x1024 .f32)
  (x4 : Vec Ideal S1024x3072 .bf16)

set_option maxHeartbeats 4000000 in
/-- What the body leaves in the output block. -/
theorem out5_eq : out0_A_5 c i arg2 harg2 arg3 harg3 arg4 harg4 arg5 harg5 arg6 harg6 arg7 harg7 arg8 harg8 arg9 harg9
    x0 x1 x2 x3 x4 = block5 x0 x1 x2 x3 x4 := by
  funext y
  have q0 (p : Fin 8) := q_piece x0 x1 x2 x3 x4 0 p (v1321_eq c arg2 harg2 arg3 harg3 arg4 harg4 arg8 arg9 x0 x1 x2) (gain_eq x3 arg5 harg5 inGain) (weights_eq x4 (by norm_num) arg6 harg6 (inCols (lo := 0) (by norm_num)))
    (v1195_eq c arg2 harg2 arg3 harg3 arg4 harg4 arg8 arg9 x0 x1 x2) (v1320_eq c arg2 harg2 arg3 harg3 arg4 harg4 arg8 arg9 x0 x1 x2)
  have k0 (p : Fin 8) := k_piece x0 x1 x2 x3 x4 0 p (v1321_eq c arg2 harg2 arg3 harg3 arg4 harg4 arg8 arg9 x0 x1 x2) (gain_eq x3 arg5 harg5 inGain) (weights_eq x4 (by norm_num) arg6 harg6 (inCols (lo := 1024) (by norm_num)))
    (v1195_eq c arg2 harg2 arg3 harg3 arg4 harg4 arg8 arg9 x0 x1 x2) (v1320_eq c arg2 harg2 arg3 harg3 arg4 harg4 arg8 arg9 x0 x1 x2)
  have v0 (p : Fin 8) := v_piece x0 x1 x2 x3 x4 0 p (v1321_eq c arg2 harg2 arg3 harg3 arg4 harg4 arg8 arg9 x0 x1 x2) (gain_eq x3 arg5 harg5 inGain) (weights_eq x4 (by norm_num) arg6 harg6 (inCols (lo := 2048) (by norm_num)))
  have q1 (p : Fin 8) := q_piece x0 x1 x2 x3 x4 1 p (v2642_eq c arg2 harg2 arg3 harg3 arg4 harg4 arg8 arg9 x0 x1 x2) (gain_eq x3 arg5 harg5 inGain) (weights_eq x4 (by norm_num) arg6 harg6 (inCols (lo := 0) (by norm_num)))
    (v2516_eq c arg2 harg2 arg3 harg3 arg4 harg4 arg8 arg9 x0 x1 x2) (v2641_eq c arg2 harg2 arg3 harg3 arg4 harg4 arg8 arg9 x0 x1 x2)
  have k1 (p : Fin 8) := k_piece x0 x1 x2 x3 x4 1 p (v2642_eq c arg2 harg2 arg3 harg3 arg4 harg4 arg8 arg9 x0 x1 x2) (gain_eq x3 arg5 harg5 inGain) (weights_eq x4 (by norm_num) arg6 harg6 (inCols (lo := 1024) (by norm_num)))
    (v2516_eq c arg2 harg2 arg3 harg3 arg4 harg4 arg8 arg9 x0 x1 x2) (v2641_eq c arg2 harg2 arg3 harg3 arg4 harg4 arg8 arg9 x0 x1 x2)
  have v1 (p : Fin 8) := v_piece x0 x1 x2 x3 x4 1 p (v2642_eq c arg2 harg2 arg3 harg3 arg4 harg4 arg8 arg9 x0 x1 x2) (gain_eq x3 arg5 harg5 inGain) (weights_eq x4 (by norm_num) arg6 harg6 (inCols (lo := 2048) (by norm_num)))
  have hc := cover0_A_5 c i arg2 harg2 arg3 harg3 arg4 harg4 arg5 harg5 arg6 harg6 arg7 harg7 arg8 harg8 arg9 harg9
    x0 x1 x2 x3 x4 y
  unfold out0_A_5
  rw [View.read_writes_junk_eq_canon]
  refine View.canon_apply_of_pieces (block5 x0 x1 x2 x3 x4) _ ?_ y hc
  unfold kernelRun0_A
  dsimp only
  simp only [List.forall_mem_cons, List.not_mem_nil, false_imp_iff, implies_true, and_true]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
  · exact v1 7 x
  · exact v1 6 x
  · exact v1 5 x
  · exact v1 4 x
  · exact v1 3 x
  · exact v1 2 x
  · exact v1 1 x
  · exact v1 0 x
  · exact k1 7 x
  · exact k1 6 x
  · exact k1 5 x
  · exact k1 4 x
  · exact k1 3 x
  · exact k1 2 x
  · exact k1 1 x
  · exact k1 0 x
  · exact q1 7 x
  · exact q1 6 x
  · exact q1 5 x
  · exact q1 4 x
  · exact q1 3 x
  · exact q1 2 x
  · exact q1 1 x
  · exact q1 0 x
  · exact v0 7 x
  · exact v0 6 x
  · exact v0 5 x
  · exact v0 4 x
  · exact v0 3 x
  · exact v0 2 x
  · exact v0 1 x
  · exact v0 0 x
  · exact k0 7 x
  · exact k0 6 x
  · exact k0 5 x
  · exact k0 4 x
  · exact k0 3 x
  · exact k0 2 x
  · exact k0 1 x
  · exact k0 0 x
  · exact q0 7 x
  · exact q0 6 x
  · exact q0 5 x
  · exact q0 4 x
  · exact q0 3 x
  · exact q0 2 x
  · exact q0 1 x
  · exact q0 0 x
end

end Cert.Proj16

end
-- ==== Proof.SixteenArray.lean ====
module

public import proofs.«01_k».proof.Proof.SixteenBlock
public import proofs.«01_k».proof.Proof.Gen.Kernel6Ideal.Value
public import Idealize.ShloMosaic.Lib.Pipeline.ValueKit

@[expose] public section

set_option maxRecDepth 16384

noncomputable section

/-!
The result array of the first layer's projection at dilation 16 after the run, as a function of the arrays the kernel is
handed.
-/

namespace Cert.Proj16

open Cert.Kernel6Ideal Cert.Kernel6Ideal.Gen Cert.Rows Cert.Proj Idealize.ShloMosaic Idealize.ShloMosaic.TcCoe Idealize.SL.Sem
open Idealize.ShloMosaic.Pipeline (Dat)

variable (m : (ℓ : Loc nD τ sig) → Buf (Elt Ideal) ℓ)

/-- Token `r` of block `i`. -/
def tok (i : Fin 2) (r : Fin 1024) : Fin 2048 := ⟨1024 * i + r, by omega⟩

/-- The block index of array 0 at a grid point. -/
theorem idx0 : ∀ t : Fin grid0.N, win0_0.index t = ![(grid0.coords t 0).val, (grid0.coords t 1).val, 0] := by
  decide +kernel

/-- The block index of array 1 at a grid point. -/
theorem idx1 : ∀ t : Fin grid0.N, win0_1.index t = ![(grid0.coords t 0).val, (grid0.coords t 1).val, 0] := by
  decide +kernel

/-- The block index of array 2 at a grid point. -/
theorem idx2 : ∀ t : Fin grid0.N, win0_2.index t = ![(grid0.coords t 0).val, (grid0.coords t 1).val, 0] := by
  decide +kernel

/-- The block index of array 3 at a grid point. -/
theorem idx3 : ∀ t : Fin grid0.N, win0_3.index t = ![0, 0] := by
  decide +kernel

/-- The block index of array 4 at a grid point. -/
theorem idx4 : ∀ t : Fin grid0.N, win0_4.index t = ![0, 2] := by
  decide +kernel

/-- The block index of the heads at a grid point. -/
theorem idx5 : ∀ t : Fin grid0.N, win0_5.index t = ![(grid0.coords t 0).val, 0, 0, (grid0.coords t 1).val, 0] := by
  decide +kernel

/-- The input in a block. -/
theorem blk0 (c : Dev nD) (t : Fin cfg0.N) (r k : Fin 1024) :
    (iblk m c 0 t : Vec Ideal S1x1024x1024 .f32) (ix3 0 r k) = (V m c main_arg0 : Vec Ideal S32x2048x1024 .f32)
      (ix3 (grid0.coords t 0 : Fin 32) (tok (grid0.coords t 1) r) k) := by
  blk_simp [iblk]
  refine congrArg _ ?_
  blk_ext [idx0, tok]

/-- The cosines in a block. -/
theorem blk1 (c : Dev nD) (t : Fin cfg0.N) (r : Fin 1024) (l : Fin 128) :
    (iblk m c 1 t : Vec Ideal S1x1024x128 .f32) (ix3 0 r l) = (V m c main_v29 : Vec Ideal S32x2048x128 .f32)
      (ix3 (grid0.coords t 0 : Fin 32) (tok (grid0.coords t 1) r) l) := by
  blk_simp [iblk]
  refine congrArg _ ?_
  blk_ext [idx1, tok]

/-- The signed sines in a block. -/
theorem blk2 (c : Dev nD) (t : Fin cfg0.N) (r : Fin 1024) (l : Fin 128) :
    (iblk m c 2 t : Vec Ideal S1x1024x128 .f32) (ix3 0 r l) = (V m c main_v33 : Vec Ideal S32x2048x128 .f32)
      (ix3 (grid0.coords t 0 : Fin 32) (tok (grid0.coords t 1) r) l) := by
  blk_simp [iblk]
  refine congrArg _ ?_
  blk_ext [idx2, tok]

/-- The block of the gain is the gain. -/
theorem blk3 (c : Dev nD) (t : Fin cfg0.N) : iblk m c 3 t = V m c main_v35 := by
  funext y
  blk_simp [iblk]
  refine congrArg _ ?_
  blk_ext [idx3]

/-- The weights block is the third 3072 columns. -/
theorem blk4 (c : Dev nD) (t : Fin cfg0.N) (k : Fin 1024) (j : Fin 3072) :
    (X0_4 m c t : Vec Ideal S1024x3072 .bf16) (ix2 k j) = (V m c main_v34 : Vec Ideal S1024x10240 .bf16)
      (ix2 k ⟨6144 + j, by omega⟩) := by
  unfold X0_4 Pipeline.Window.fill
  refine (dif_pos (moved0_4 t _)).trans ?_
  blk_simp [iblk]
  refine congrArg _ ?_
  blk_ext [idx4]

/-- The input of token `t` of sequence `b`. -/
def xArr (c : Dev nD) (b : Fin 32) (t : Fin 2048) (k : Fin 1024) : EReal :=
  (V m c main_arg0 : Vec Ideal S32x2048x1024 .f32) (ix3 b t k)

/-- The gain. -/
def gArr (c : Dev nD) (k : Fin 1024) : EReal := (V m c main_v35 : Vec Ideal S1x1024 .f32) (ix2 0 k)

/-- The weights. -/
def wArr (c : Dev nD) (k : Fin 1024) (j : Fin 10240) : EReal := (V m c main_v34 : Vec Ideal S1024x10240 .bf16) (ix2 k j)

/-- The cosines of token `t` of sequence `b`. -/
def cosArr (c : Dev nD) (b : Fin 32) (t : Fin 2048) (l : Fin 128) : EReal :=
  (V m c main_v29 : Vec Ideal S32x2048x128 .f32) (ix3 b t l)

/-- The signed sines of token `t` of sequence `b`. -/
def sinArr (c : Dev nD) (b : Fin 32) (t : Fin 2048) (l : Fin 128) : EReal :=
  (V m c main_v33 : Vec Ideal S32x2048x128 .f32) (ix3 b t l)

/-- The products of token `t` of sequence `b` with the weights. -/
def accArr (c : Dev nD) (b : Fin 32) (t : Fin 2048) : Fin 10240 → EReal := projRow (xArr m c b t) (gArr m c) (wArr m c)

/-- Head `p` of token `t` of sequence `b`. -/
def headArr (c : Dev nD) (b : Fin 32) (t : Fin 2048) (p : Fin 24) : Fin 128 → EReal :=
  headRow scale (fun j : Fin 3072 => accArr m c b t ⟨6144 + j, by omega⟩) (cosArr m c b t) (sinArr m c b t) p

/-- The token of a class of a sequence. -/
def seqToken (j : Fin 128) (r : Fin 16) : Fin 2048 := ⟨16 * j + r, by omega⟩

/-- The place of a block's tokens among those of a class. -/
def place (i : Fin 2) (j : Fin 64) : Fin 128 := ⟨64 * i + j, by omega⟩

/-- A block's token of a class. -/
theorem tok_token (i : Fin 2) (j : Fin 64) (r : Fin 16) : tok i (token j r) = seqToken (place i j) r :=
  Fin.ext (by unfold tok token seqToken place; simp only; omega)

/-- The array of heads. -/
def result5 (c : Dev nD) : Vec Ideal S32x24x16x128x128 .bf16 := fun y => headArr m c (y 0) (seqToken (y 3) (y 2)) (y 1) (y 4)

/-- A product of a block's row is one of the token's. -/
theorem acc_eq {e : ℕ} (c : Dev nD) (b : Fin 32) (t : Fin 2048) (x g : Fin 1024 → EReal) (w : Fin 1024 → Fin e → EReal)
    (j : Fin e) (j' : Fin 10240) (hx : x = xArr m c b t) (hg : g = gArr m c) (hw : ∀ k, w k j = wArr m c k j') :
    projRow x g w j = accArr m c b t j' := by
  subst hx hg
  unfold accArr projRow dense
  simp only [hw]

/-- The heads of a block's token. -/
theorem block_heads (c : Dev nD) (t : Fin cfg0.N) (p : Fin 24) (r : Fin 16) (j : Fin 64) (l : Fin 128) :
    block5 (iblk m c 0 t) (iblk m c 1 t) (iblk m c 2 t) (iblk m c 3 t) (X0_4 m c t) (ix5 0 p r j l) =
      headArr m c (grid0.coords t 0) (tok (grid0.coords t 1) (token j r)) p l := by
  rw [blk3]
  unfold block5 headArr
  exact congrFun (congrFun (congr (congr (congrArg (headRow scale) (funext fun q =>
    acc_eq m c _ _ _ _ _ _ _ (funext fun k => blk0 m c t (token j r) k) rfl fun k => blk4 m c t k q))
    (funext fun l => blk1 m c t (token j r) l)) (funext fun l => blk2 m c t (token j r) l)) p) l

/-- The array of heads after the run. -/
theorem final5 (c : Dev nD) : (dats m 0 c).arrAt 5 cfg0.N = result5 m c := by
  refine (dats m 0 c).arrAt_eq_of_covers 5 _ (by decide +kernel) fun t hf y => ?_
  blk_simp
  rw [after0_5]
  unfold outsAt0
  rw [out5_eq]
  have e : (win0_5.blk t).view.emb y = ix5 (grid0.coords t 0 : Fin 32) (y 1 : Fin 24) (y 2 : Fin 16)
      (place (grid0.coords t 1) (y 3 : Fin 64)) (y 4 : Fin 128) := by
    blk_ext [idx5, place]
  rw [e]
  exact (block_heads m c t (y 1) (y 2) (y 3) (y 4)).trans (congrArg (fun t' => headArr m c (grid0.coords t 0) t' (y 1) (y 4))
    (tok_token (grid0.coords t 1) (y 3) (y 2)))

end Cert.Proj16

end
-- ==== Proof.SixteenHost.lean ====
module

public import proofs.«01_k».proof.Proof.SixteenArray
public import proofs.«01_k».proof.Proof.ProjMath
public import proofs.«01_k».proof.Proof.MidHost
public import Idealize.ShloMosaic.Lib.StableHlo.ReadAt

@[expose] public section

set_option maxRecDepth 16384

noncomputable section

/-!
The arrays the first layer's projection at dilation 16 is handed, as the host operations before it leave them, at an index.
-/

namespace Cert.Proj16

open Cert.Kernel6Ideal Cert.Kernel6Ideal.Gen Cert.Rows Cert.Proj Idealize.ShloMosaic Idealize.ShloMosaic.TcCoe Idealize.SL.Sem
open Cert.Mid (laneFrequency laneSign)

variable (m : (ℓ : Loc nD τ sig) → Buf (Elt Ideal) ℓ)

/-- The position of token `t` of sequence `b`. -/
def posAt (c : Dev nD) (b : Fin 32) (t : Fin 2048) : BitVec 32 :=
  (m ((c.tc : Thread nD τ).loc main_arg1) : IVec S32x2048 32) (ix2 b t)

/-- The cosines. -/
theorem cos_apply (c : Dev nD) (b : Fin 32) (t : Fin 2048) (l : Fin 128) :
    V m c main_v29 (ix3 b t l) = Ideal.cos (FloatOps.sitofp (F := Ideal) .f32 (posAt m c b t) * laneFrequency l) := by
  unfold V
  after_reads_at
  after_reads_at
  rfl

/-- The signed sines. -/
theorem sin_apply (c : Dev nD) (b : Fin 32) (t : Fin 2048) (l : Fin 128) :
    V m c main_v33 (ix3 b t l) =
      Ideal.sin (FloatOps.sitofp (F := Ideal) .f32 (posAt m c b t) * laneFrequency l) * laneSign l := by
  unfold V
  after_reads_at
  after_reads_at
  rfl

/-- The input. -/
theorem x_apply (c : Dev nD) : V m c main_arg0 = (m ((c.tc : Thread nD τ).loc main_arg0) : Vec Ideal S32x2048x1024 .f32) := by
  unfold V
  after_reads_at

/-- The weights. -/
theorem w_apply (c : Dev nD) (i : Fin 1024) (j : Fin 10240) : V m c main_v34 (ix2 i j) =
    (m ((c.tc : Thread nD τ).loc main_arg3) : Vec Ideal S1024x10240 .f32) (ix2 i j) := by
  unfold V
  after_reads_at

/-- The gain. -/
theorem g_apply (c : Dev nD) (i : Fin 1) (j : Fin 1024) : V m c main_v35 (ix2 i j) =
    (m ((c.tc : Thread nD τ).loc main_arg2) : Vec Ideal S1024 .f32) (ix1 j) := by
  unfold V
  after_reads_at

/-- The tables hold cosines and signed sines. -/
theorem tables (c : Dev nD) (b : Fin 32) (t : Fin 2048) : Tables (cosArr m c b t) (sinArr m c b t) (posAt m c b t) where
  cos₁ l h := by
    refine (cos_apply m c b t l).trans ?_
    unfold laneFrequency
    rw [dif_pos h]
    rfl
  cos₂ l h h' := by
    refine (cos_apply m c b t l).trans ?_
    unfold laneFrequency
    rw [dif_neg (by omega), dif_pos (by omega)]
    rfl
  sin₁ l h := by
    refine (sin_apply m c b t l).trans ?_
    unfold laneFrequency laneSign
    rw [dif_pos h, dif_pos h, mul_neg, mul_one]
    rfl
  sin₂ l h h' := by
    refine (sin_apply m c b t l).trans ?_
    unfold laneFrequency laneSign
    rw [dif_neg (by omega), dif_pos (by omega), dif_neg (by omega), dif_pos (by omega), mul_one]
    rfl

/-- The named factor is its real number. -/
theorem scale_eq : scale = ((factor : ℝ) : EReal) := IdealRules.named_const.ideal_named_scalar _ _ _ _ rfl

/-- The products of token `t` of sequence `b` with the caller's weights. -/
def rawAcc (c : Dev nD) (b : Fin 32) (t : Fin 2048) : Fin 10240 → EReal := projRow
  (fun k => (m ((c.tc : Thread nD τ).loc main_arg0) : Vec Ideal S32x2048x1024 .f32) (ix3 b t k))
  (fun k => (m ((c.tc : Thread nD τ).loc main_arg2) : Vec Ideal S1024 .f32) (ix1 k))
  (fun k j => (m ((c.tc : Thread nD τ).loc main_arg3) : Vec Ideal S1024x10240 .f32) (ix2 k j))

/-- The products agree. -/
theorem accArr_eq (c : Dev nD) (b : Fin 32) (t : Fin 2048) : accArr m c b t = rawAcc m c b t := by
  unfold accArr rawAcc
  exact congr (congr (congrArg projRow (funext fun k => congrFun (x_apply m c) _)) (funext fun k => g_apply m c 0 k))
    (funext fun k => funext fun j => w_apply m c k j)

/-- The heads, from the caller's arrays. -/
theorem headArr_eq (c : Dev nD) (b : Fin 32) (t : Fin 2048) (p : Fin 24) (l : Fin 128) : headArr m c b t p l =
    rawHead (posAt m c b t) (fun j : Fin 3072 => rawAcc m c b t ⟨6144 + j, by omega⟩) p l := by
  unfold headArr
  rw [scale_eq, head_eq (tables m c b t), accArr_eq]

end Cert.Proj16

end
-- ==== Proof.SixteenRef.lean ====
module

public import proofs.«01_k».proof.Proof.Gen.Reference6Ideal.Run
public import proofs.«01_k».proof.Proof.ProjRef

@[expose] public section

set_option maxRecDepth 16384

noncomputable section

/-!
The result of the second projection's reference, at an index: the columns of its group taken out of the
projection as those of the first are, the tokens then dealt into sixteen classes.
-/

namespace Cert.Proj16Ref

open Cert.Reference6Ideal Cert.Reference6Ideal.Gen Cert.Rows Cert.Proj Idealize.ShloMosaic Idealize.ShloMosaic.TcCoe Idealize.SL.Sem

variable (x : FVec Ideal S32x2048x1024 .f32) (s : IVec S32x2048 32) (g : FVec Ideal S1024 .f32)
  (w : FVec Ideal S1024x10240 .f32)

/-- The queries. -/
def qPart (a : FVec Ideal S32x2048x10240 .f32) : FVec Ideal S32x2048x8x128 .f32 :=
  shapeCast S32x2048x8x128 (extractStridedSlice S32x2048x1x1x8x128 ![0, 0, 2, 0, 0, 0] (Proj1Ref.grouped a)
    slices_S32x2048x3x3x8x128_S32x2048x1x1x8x128_0_0_2_0_0_0) shapeCasts_S32x2048x1x1x8x128_S32x2048x8x128

/-- The keys. -/
def kPart (a : FVec Ideal S32x2048x10240 .f32) : FVec Ideal S32x2048x8x128 .f32 :=
  shapeCast S32x2048x8x128 (extractStridedSlice S32x2048x1x1x8x128 ![0, 0, 2, 1, 0, 0] (Proj1Ref.grouped a)
    slices_S32x2048x3x3x8x128_S32x2048x1x1x8x128_0_0_2_1_0_0) shapeCasts_S32x2048x1x1x8x128_S32x2048x8x128

/-- The values. -/
def vPart (a : FVec Ideal S32x2048x10240 .f32) : FVec Ideal S32x2048x8x128 .f32 :=
  shapeCast S32x2048x8x128 (extractStridedSlice S32x2048x1x1x8x128 ![0, 0, 2, 2, 0, 0] (Proj1Ref.grouped a)
    slices_S32x2048x3x3x8x128_S32x2048x1x1x8x128_0_0_2_2_0_0) shapeCasts_S32x2048x1x1x8x128_S32x2048x8x128

/-- The heads of queries, keys and values, one after another. -/
def joined (q k v : FVec Ideal S32x2048x8x128 .f32) : FVec Ideal S32x2048x24x128 .f32 :=
  concatenate S32x2048x24x128 2 [⟨S32x2048x8x128, q⟩, ⟨S32x2048x8x128, k⟩, ⟨S32x2048x8x128, v⟩]
    concatenates_S32x2048x8x128_S32x2048x8x128_S32x2048x8x128_S32x2048x24x128_d2

/-- The tokens of each of sixteen classes, after the heads. -/
def classes (a : FVec Ideal S32x2048x24x128 .f32) : FVec Ideal S32x24x16x128x128 .f32 :=
  transpose S32x24x16x128x128 [0, 3, 2, 1, 4] (shapeCast S32x128x16x24x128 a shapeCasts_S32x2048x24x128_S32x128x16x24x128)
    transposes_S32x128x16x24x128_S32x24x16x128x128_0_3_2_1_4

/-- The heads before the tokens of each of sixteen classes. -/
def stacked (q k v : FVec Ideal S32x2048x8x128 .f32) : FVec Ideal S32x24x16x128x128 .bf16 :=
  truncf .bf16 (classes (joined q k v)) bitsLt_bf16_f32

/-- The heads. -/
def heads : FVec Ideal S32x24x16x128x128 .bf16 :=
  stacked (Proj1Ref.divided (Proj1Ref.rotated s (qPart (Proj1Ref.proj x g w))))
    (Proj1Ref.rotated s (kPart (Proj1Ref.proj x g w))) (vPart (Proj1Ref.proj x g w))

/-- The queries at an index. -/
theorem qPart_apply (a : FVec Ideal S32x2048x10240 .f32) (b : Fin 32) (t : Fin 2048) (p : Fin 8) (l : Fin 128) :
    qPart a (ix4 b t p l) = a (ix3 b t ⟨6144 + (128 * p + l), by omega⟩) := by
  pointwise [qPart, Proj1Ref.grouped]
  exact congrArg (fun l => a (ix3 b t l)) (Fin.ext (by simp only; omega))

/-- The keys at an index. -/
theorem kPart_apply (a : FVec Ideal S32x2048x10240 .f32) (b : Fin 32) (t : Fin 2048) (p : Fin 8) (l : Fin 128) :
    kPart a (ix4 b t p l) = a (ix3 b t ⟨6144 + (128 * (8 + p) + l), by omega⟩) := by
  pointwise [kPart, Proj1Ref.grouped]
  exact congrArg (fun l => a (ix3 b t l)) (Fin.ext (by simp only; omega))

/-- The values at an index. -/
theorem vPart_apply (a : FVec Ideal S32x2048x10240 .f32) (b : Fin 32) (t : Fin 2048) (p : Fin 8) (l : Fin 128) :
    vPart a (ix4 b t p l) = a (ix3 b t ⟨6144 + (128 * (16 + p) + l), by omega⟩) := by
  pointwise [vPart, Proj1Ref.grouped]
  exact congrArg (fun l => a (ix3 b t l)) (Fin.ext (by simp only; omega))

/-- The joined heads at an index. -/
theorem joined_apply (q k v : FVec Ideal S32x2048x8x128 .f32) (b : Fin 32) (t : Fin 2048) (p : Fin 24) (l : Fin 128) :
    joined q k v (ix4 b t p l) = if h : (p : ℕ) < 8 then q (ix4 b t ⟨p, h⟩ l)
      else if h : (p : ℕ) < 16 then k (ix4 b t ⟨p - 8, by omega⟩ l) else v (ix4 b t ⟨p - 16, by omega⟩ l) := by
  pointwise [joined]
  by_cases e : (p : ℕ) < 8
  · rw [dif_pos e, dif_pos e]
  · by_cases e' : (p : ℕ) < 16
    · rw [dif_neg e, dif_neg e, dif_pos (by omega), dif_pos e']
    · rw [dif_neg e, dif_neg e, dif_neg (by omega), dif_neg e']
      exact congrArg (fun p => v (ix4 b t p l)) (Fin.ext (by simp only; omega))

/-- Tokens split into sixteen classes, at an index. -/
theorem split_apply (a : FVec Ideal S32x2048x24x128 .f32) (b : Fin 32) (n : Fin 128) (r : Fin 16) (p : Fin 24) (l : Fin 128) :
    shapeCast S32x128x16x24x128 a shapeCasts_S32x2048x24x128_S32x128x16x24x128 (ix5 b n r p l) =
      a (ix4 b (⟨16 * n + r, by omega⟩ : Fin 2048) p l) := by
  refine shapeCast_apply a _ (ix5 b n r p l) (ix4 b (⟨16 * n + r, by omega⟩ : Fin 2048) p l) ?_
  rw [Shape.rowMajor_val_four, Shape.rowMajor_val_five]
  have e (b n r p l : ℕ) : ((b * 2048 + (16 * n + r)) * 24 + p) * 128 + l = (((b * 128 + n) * 16 + r) * 24 + p) * 128 + l := by omega
  exact e b n r p l

/-- Heads and tokens exchanged, at an index. -/
theorem swap_apply (a : FVec Ideal S32x128x16x24x128 .f32) (b : Fin 32) (p : Fin 24) (r : Fin 16) (n : Fin 128) (l : Fin 128) :
    transpose S32x24x16x128x128 [0, 3, 2, 1, 4] a transposes_S32x128x16x24x128_S32x24x16x128x128_0_3_2_1_4 (ix5 b p r n l) =
      a (ix5 b n r p l) := by
  pointwise

/-- The classes at an index. -/
theorem classes_apply (a : FVec Ideal S32x2048x24x128 .f32) (b : Fin 32) (p : Fin 24) (r : Fin 16) (n : Fin 128) (l : Fin 128) :
    classes a (ix5 b p r n l) = a (ix4 b (⟨16 * n + r, by omega⟩ : Fin 2048) p l) :=
  (swap_apply _ b p r n l).trans (split_apply a b n r p l)

/-- A narrowed array at an index. -/
theorem narrow_apply (a : FVec Ideal S32x24x16x128x128 .f32) (y : S32x24x16x128x128.Idx) :
    (truncf .bf16 a bitsLt_bf16_f32 : FVec Ideal S32x24x16x128x128 .bf16) y = a y := rfl

/-- The stacked heads at an index, by their kind. -/
theorem stacked_apply (q k v : FVec Ideal S32x2048x8x128 .f32) (b : Fin 32) (p : Fin 24) (r : Fin 16) (n : Fin 128) (l : Fin 128) :
    stacked q k v (ix5 b p r n l) = if h : (p : ℕ) < 8 then q (ix4 b ⟨16 * n + r, by omega⟩ ⟨p, h⟩ l)
      else if h : (p : ℕ) < 16 then k (ix4 b ⟨16 * n + r, by omega⟩ ⟨p - 8, by omega⟩ l)
      else v (ix4 b ⟨16 * n + r, by omega⟩ ⟨p - 16, by omega⟩ l) :=
  (narrow_apply (classes (joined q k v)) _).trans
    ((classes_apply (joined q k v) b p r n l).trans (joined_apply q k v b (⟨16 * n + r, by omega⟩ : Fin 2048) p l))

/-- The heads at an index. -/
theorem heads_apply (b : Fin 32) (p : Fin 24) (r : Fin 16) (n : Fin 128) (l : Fin 128) : heads x s g w (ix5 b p r n l) =
    rawHead (s (ix2 b ⟨16 * n + r, by omega⟩)) (fun j : Fin 3072 => projRow (fun k => x (ix3 b ⟨16 * n + r, by omega⟩ k))
      (fun k => g (ix1 k)) (fun k j => w (ix2 k j)) ⟨6144 + j, by omega⟩) p l := by
  unfold heads rawHead
  rw [stacked_apply]
  by_cases e : (p : ℕ) < 8
  · rw [dif_pos e, if_pos e, Proj1Ref.divided_apply, Proj1Ref.rotated_apply]
    simp only [qPart_apply, Proj1Ref.proj_apply]
  · by_cases e' : (p : ℕ) < 16
    · rw [dif_neg e, if_neg e, dif_pos e', if_pos e', Proj1Ref.rotated_apply]
      simp only [kPart_apply, Proj1Ref.proj_apply, show 8 + ((p : ℕ) - 8) = p by omega]
    · rw [dif_neg e, if_neg e, dif_neg e', if_neg e', vPart_apply, Proj1Ref.proj_apply]
      simp only [show 16 + ((p : ℕ) - 16) = p by omega]

end Cert.Proj16Ref

end
-- ==== Proof.SixteenClaim.lean ====
module

public import proofs.«01_k».proof.Defs
public import proofs.«01_k».proof.Proof.SixteenHost
public import proofs.«01_k».proof.Proof.SixteenRef
public import proofs.«01_k».proof.Proof.Gen.Kernel6Ideal.Value
public import proofs.«01_k».proof.Proof.Gen.Reference6Ideal.Run

@[expose] public section

set_option maxRecDepth 16384

noncomputable section

/-!
The claims about the first layer's projection at dilation 16.
-/

namespace Cert.Proj16

open Cert.Kernel6Ideal Cert.Kernel6Ideal.Gen Cert.Proj Idealize.ShloMosaic Idealize.ShloMosaic.TcCoe Idealize.SL.Sem

variable (m : (ℓ : Loc nD τ sig) → Buf (Elt Ideal) ℓ)

/-- The heads are the reference's. -/
theorem same5 (c : Dev nD) : result5 m c = Cert.Proj16Ref.heads (m ((c.tc : Thread nD τ).loc main_arg0))
    (m ((c.tc : Thread nD τ).loc main_arg1)) (m ((c.tc : Thread nD τ).loc main_arg2)) (m ((c.tc : Thread nD τ).loc main_arg3)) := by
  funext y
  obtain ⟨b, p, r, n, l, rfl⟩ : ∃ (b : Fin 32) (p : Fin 24) (r : Fin 16) (n : Fin 128) (l : Fin 128), y = ix5 b p r n l :=
    ⟨y 0, y 1, y 2, y 3, y 4, eq_ix5 y⟩
  exact (headArr_eq m c b (seqToken n r) p l).trans (Cert.Proj16Ref.heads_apply _ _ _ _ b p r n l).symm

end Cert.Proj16

namespace Cert.SixteenClaim

open Idealize.ShloMosaic Idealize.SL.Sem

/-- The named scale is the rounded literal's real number. -/
theorem preserves : Cert.preserves_Kernel6_Kernel6Ideal :=
  IdealRules.named_const.statement _ _ _ _ _ rfl

/-- The frame of the reference. -/
theorem frame_r : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩)
    (Cert.Reference6Ideal.Value.run (F := Ideal) m ρ)

set_option maxHeartbeats 4000000 in
/-- The call and its reference end with equal results. -/
theorem equal : Cert.algebraic_Kernel6Ideal_Reference6Ideal
    (hKernel6Ideal := Cert.Kernel6Ideal.Gen.facts) (hReference6Ideal := Cert.Reference6Ideal.Gen.facts) := by
  intro m ρ m' ρ' _ hagree
  refine ⟨_, Cert.Kernel6Ideal.Value.run_blocks m ρ, ?_⟩
  refine (θ_run Cert.Reference6Ideal.defs _ _).mono
    (fun r h c => ⟨(h c).1.trans ?_, (h c).2⟩)
    (Cert.Reference6Ideal.Value.run (F := Ideal) m' ρ')
  obtain ⟨e₀, e₁, e₂, e₃⟩ := hagree c
  refine .trans ?_ ((Cert.Proj16.final5 m c).trans (Cert.Proj16.same5 m c)).symm
  rw [← e₀, ← e₁, ← e₂, ← e₃]
  rfl

end Cert.SixteenClaim

end
-- ==== Proof.lean ====
module

public import proofs.«01_k».proof.Defs
public import proofs.«01_k».proof.Proof.Gen.Kernel
public import proofs.«01_k».proof.Proof.Gen.Kernel.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.AttnClaim
public import proofs.«01_k».proof.Proof.MidClaim
public import proofs.«01_k».proof.Proof.Gen.Kernel5
public import proofs.«01_k».proof.Proof.Gen.Kernel5.Frame
public import proofs.«01_k».proof.Proof.Gen.Kernel2
public import proofs.«01_k».proof.Proof.Gen.Kernel2.Frame
public import proofs.«01_k».proof.Proof.FinalClaim
public import proofs.«01_k».proof.Proof.ProjClaim
public import proofs.«01_k».proof.Proof.FourClaim
public import proofs.«01_k».proof.Proof.Gen.Kernel6
public import proofs.«01_k».proof.Proof.Gen.Kernel6.Frame
public import proofs.«01_k».proof.Proof.SixteenClaim

@[expose] public section

noncomputable section

/-!
All claims, put together.
-/

namespace Cert.Proof

/-- Every claim of the certificate. -/
theorem claim : Cert.Claim :=
  ⟨Cert.Kernel.Gen.facts, Cert.KernelIdeal.Gen.facts, Cert.ReferenceIdeal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel2.Gen.facts, Cert.Kernel2Ideal.Gen.facts, Cert.Reference2Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.AttnClaim.finite_facts,
    fun m ρ _ => Cert.Kernel.Gen.frame m ρ, fun m ρ _ => Cert.KernelIdeal.Gen.frame m ρ,
    fun m ρ _ => Cert.KernelIdeal.Gen.frame m ρ, Cert.AttnClaim.frame_r, fun m ρ _ => Cert.AttnClaim.frame_r m ρ trivial,
    fun m ρ _ => Cert.Kernel3.Gen.frame m ρ, fun m ρ _ => Cert.Kernel3Ideal.Gen.frame m ρ, Cert.MidClaim.frame_r,
    fun m ρ _ => Cert.Kernel4.Gen.frame m ρ, fun m ρ _ => Cert.Kernel4Ideal.Gen.frame m ρ, Cert.FinalClaim.frame_r,
    fun m ρ _ => Cert.Kernel2.Gen.frame m ρ, fun m ρ _ => Cert.Kernel2Ideal.Gen.frame m ρ, Cert.ProjClaim.frame_r,
    fun m ρ _ => Cert.Kernel5.Gen.frame m ρ, fun m ρ _ => Cert.Kernel5Ideal.Gen.frame m ρ, Cert.FourClaim.frame_r,
    fun m ρ _ => Cert.Kernel6.Gen.frame m ρ, fun m ρ _ => Cert.Kernel6Ideal.Gen.frame m ρ, Cert.SixteenClaim.frame_r,
    trivial, letI := Cert.AttnClaim.finite_facts; Cert.AttnClaim.equal,
    Cert.MidClaim.preserves, Cert.MidClaim.equal, trivial, Cert.FinalClaim.equal,
    Cert.ProjClaim.preserves, Cert.ProjClaim.equal,
    Cert.FourClaim.preserves, Cert.FourClaim.equal,
    Cert.SixteenClaim.preserves, Cert.SixteenClaim.equal⟩

end Cert.Proof

end
